-- ==== Defs.lean ====
def Pre_Layer (m : (ℓ : Loc Cert.Layer.nD Cert.Layer.τ Cert.Layer.sig) → Buf (Elt Bits) ℓ) : Prop :=
  True

def Pre_LayerIdeal (m : (ℓ : Loc Cert.LayerIdeal.nD Cert.LayerIdeal.τ Cert.LayerIdeal.sig) → Buf (Elt Ideal) ℓ) : Prop :=
  True

def Pre_LayerIdeal_finite [hPre_finite : Cert.Pre_finite.Facts] (m : (ℓ : Loc Cert.LayerIdeal.nD Cert.LayerIdeal.τ Cert.LayerIdeal.sig) → Buf (Elt Ideal) ℓ) : Prop :=
  ∀ c : Dev Cert.LayerIdeal.nD,
    (Cert.Pre_finite.fn (F := Ideal) (m ((c.tc : Thread Cert.LayerIdeal.nD Cert.LayerIdeal.τ).loc Cert.LayerIdeal.main_arg0)) (m ((c.tc : Thread Cert.LayerIdeal.nD Cert.LayerIdeal.τ).loc Cert.LayerIdeal.main_arg1)) (m ((c.tc : Thread Cert.LayerIdeal.nD Cert.LayerIdeal.τ).loc Cert.LayerIdeal.main_arg2)) (m ((c.tc : Thread Cert.LayerIdeal.nD Cert.LayerIdeal.τ).loc Cert.LayerIdeal.main_arg3)) (m ((c.tc : Thread Cert.LayerIdeal.nD Cert.LayerIdeal.τ).loc Cert.LayerIdeal.main_arg4)) (m ((c.tc : Thread Cert.LayerIdeal.nD Cert.LayerIdeal.τ).loc Cert.LayerIdeal.main_arg5)) (m ((c.tc : Thread Cert.LayerIdeal.nD Cert.LayerIdeal.τ).loc Cert.LayerIdeal.main_arg6))) = (fun _ => 1#1)

def Pre_LayerReferenceIdeal (m : (ℓ : Loc Cert.LayerReferenceIdeal.nD Cert.LayerReferenceIdeal.τ Cert.LayerReferenceIdeal.sig) → Buf (Elt Ideal) ℓ) : Prop :=
  True

def Pre_LayerReferenceIdeal_finite [hPre_finite : Cert.Pre_finite.Facts] (m : (ℓ : Loc Cert.LayerReferenceIdeal.nD Cert.LayerReferenceIdeal.τ Cert.LayerReferenceIdeal.sig) → Buf (Elt Ideal) ℓ) : Prop :=
  ∀ c : Dev Cert.LayerReferenceIdeal.nD,
    (Cert.Pre_finite.fn (F := Ideal) (m ((c.tc : Thread Cert.LayerReferenceIdeal.nD Cert.LayerReferenceIdeal.τ).loc Cert.LayerReferenceIdeal.main_arg0)) (m ((c.tc : Thread Cert.LayerReferenceIdeal.nD Cert.LayerReferenceIdeal.τ).loc Cert.LayerReferenceIdeal.main_arg1)) (m ((c.tc : Thread Cert.LayerReferenceIdeal.nD Cert.LayerReferenceIdeal.τ).loc Cert.LayerReferenceIdeal.main_arg2)) (m ((c.tc : Thread Cert.LayerReferenceIdeal.nD Cert.LayerReferenceIdeal.τ).loc Cert.LayerReferenceIdeal.main_arg3)) (m ((c.tc : Thread Cert.LayerReferenceIdeal.nD Cert.LayerReferenceIdeal.τ).loc Cert.LayerReferenceIdeal.main_arg4)) (m ((c.tc : Thread Cert.LayerReferenceIdeal.nD Cert.LayerReferenceIdeal.τ).loc Cert.LayerReferenceIdeal.main_arg5)) (m ((c.tc : Thread Cert.LayerReferenceIdeal.nD Cert.LayerReferenceIdeal.τ).loc Cert.LayerReferenceIdeal.main_arg6))) = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjReferenceIdeal (m : (ℓ : Loc Cert.InProjReferenceIdeal.nD Cert.InProjReferenceIdeal.τ Cert.InProjReferenceIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjReferenceIdeal (m : (ℓ : Loc Cert.OutProjReferenceIdeal.nD Cert.OutProjReferenceIdeal.τ Cert.OutProjReferenceIdeal.sig) → Buf (Elt Ideal) ℓ) : Prop :=
  True

def quiescent_Layer [hLayer : Cert.Layer.Facts] : Prop :=
  ∀ (m : (ℓ : Loc Cert.Layer.nD Cert.Layer.τ Cert.Layer.sig) → Buf (Elt Bits) ℓ) (g : Dev Cert.Layer.nD → PrngReg), Pre_Layer m →
    θ_run (Cert.Layer.defs (F := Bits)) (onTc (τ := Cert.Layer.τ) (Cert.Layer.main (F := Bits))) ⟨m, fun _ => 0, g⟩ (fun r => (∀ c : Dev Cert.Layer.nD,
      r.2.mem ((c.tc : Thread Cert.Layer.nD Cert.Layer.τ).loc Cert.Layer.main_arg0) = m ((c.tc : Thread Cert.Layer.nD Cert.Layer.τ).loc Cert.Layer.main_arg0)
      ∧ r.2.mem ((c.tc : Thread Cert.Layer.nD Cert.Layer.τ).loc Cert.Layer.main_arg1) = m ((c.tc : Thread Cert.Layer.nD Cert.Layer.τ).loc Cert.Layer.main_arg1)
      ∧ r.2.mem ((c.tc : Thread Cert.Layer.nD Cert.Layer.τ).loc Cert.Layer.main_arg2) = m ((c.tc : Thread Cert.Layer.nD Cert.Layer.τ).loc Cert.Layer.main_arg2)
      ∧ r.2.mem ((c.tc : Thread Cert.Layer.nD Cert.Layer.τ).loc Cert.Layer.main_arg3) = m ((c.tc : Thread Cert.Layer.nD Cert.Layer.τ).loc Cert.Layer.main_arg3)
      ∧ r.2.mem ((c.tc : Thread Cert.Layer.nD Cert.Layer.τ).loc Cert.Layer.main_arg4) = m ((c.tc : Thread Cert.Layer.nD Cert.Layer.τ).loc Cert.Layer.main_arg4)
      ∧ r.2.mem ((c.tc : Thread Cert.Layer.nD Cert.Layer.τ).loc Cert.Layer.main_arg5) = m ((c.tc : Thread Cert.Layer.nD Cert.Layer.τ).loc Cert.Layer.main_arg5)
      ∧ r.2.mem ((c.tc : Thread Cert.Layer.nD Cert.Layer.τ).loc Cert.Layer.main_arg6) = m ((c.tc : Thread Cert.Layer.nD Cert.Layer.τ).loc Cert.Layer.main_arg6))
      ∧ r.2.sem = fun _ => 0)

def quiescent_LayerIdeal [hLayerIdeal : Cert.LayerIdeal.Facts] : Prop :=
  ∀ (m : (ℓ : Loc Cert.LayerIdeal.nD Cert.LayerIdeal.τ Cert.LayerIdeal.sig) → Buf (Elt Ideal) ℓ) (g : Dev Cert.LayerIdeal.nD → PrngReg), Pre_LayerIdeal m →
    θ_run (Cert.LayerIdeal.defs (F := Ideal)) (onTc (τ := Cert.LayerIdeal.τ) (Cert.LayerIdeal.main (F := Ideal))) ⟨m, fun _ => 0, g⟩ (fun r => (∀ c : Dev Cert.LayerIdeal.nD,
      r.2.mem ((c.tc : Thread Cert.LayerIdeal.nD Cert.LayerIdeal.τ).loc Cert.LayerIdeal.main_arg0) = m ((c.tc : Thread Cert.LayerIdeal.nD Cert.LayerIdeal.τ).loc Cert.LayerIdeal.main_arg0)
      ∧ r.2.mem ((c.tc : Thread Cert.LayerIdeal.nD Cert.LayerIdeal.τ).loc Cert.LayerIdeal.main_arg1) = m ((c.tc : Thread Cert.LayerIdeal.nD Cert.LayerIdeal.τ).loc Cert.LayerIdeal.main_arg1)
      ∧ r.2.mem ((c.tc : Thread Cert.LayerIdeal.nD Cert.LayerIdeal.τ).loc Cert.LayerIdeal.main_arg2) = m ((c.tc : Thread Cert.LayerIdeal.nD Cert.LayerIdeal.τ).loc Cert.LayerIdeal.main_arg2)
      ∧ r.2.mem ((c.tc : Thread Cert.LayerIdeal.nD Cert.LayerIdeal.τ).loc Cert.LayerIdeal.main_arg3) = m ((c.tc : Thread Cert.LayerIdeal.nD Cert.LayerIdeal.τ).loc Cert.LayerIdeal.main_arg3)
      ∧ r.2.mem ((c.tc : Thread Cert.LayerIdeal.nD Cert.LayerIdeal.τ).loc Cert.LayerIdeal.main_arg4) = m ((c.tc : Thread Cert.LayerIdeal.nD Cert.LayerIdeal.τ).loc Cert.LayerIdeal.main_arg4)
      ∧ r.2.mem ((c.tc : Thread Cert.LayerIdeal.nD Cert.LayerIdeal.τ).loc Cert.LayerIdeal.main_arg5) = m ((c.tc : Thread Cert.LayerIdeal.nD Cert.LayerIdeal.τ).loc Cert.LayerIdeal.main_arg5)
      ∧ r.2.mem ((c.tc : Thread Cert.LayerIdeal.nD Cert.LayerIdeal.τ).loc Cert.LayerIdeal.main_arg6) = m ((c.tc : Thread Cert.LayerIdeal.nD Cert.LayerIdeal.τ).loc Cert.LayerIdeal.main_arg6))
      ∧ r.2.sem = fun _ => 0)

def quiescent_LayerIdeal_pre_finite [hLayerIdeal : Cert.LayerIdeal.Facts] [hPre_finite : Cert.Pre_finite.Facts] : Prop :=
  ∀ (m : (ℓ : Loc Cert.LayerIdeal.nD Cert.LayerIdeal.τ Cert.LayerIdeal.sig) → Buf (Elt Ideal) ℓ) (g : Dev Cert.LayerIdeal.nD → PrngReg), Pre_LayerIdeal_finite m →
    θ_run (Cert.LayerIdeal.defs (F := Ideal)) (onTc (τ := Cert.LayerIdeal.τ) (Cert.LayerIdeal.main (F := Ideal))) ⟨m, fun _ => 0, g⟩ (fun r => (∀ c : Dev Cert.LayerIdeal.nD,
      r.2.mem ((c.tc : Thread Cert.LayerIdeal.nD Cert.LayerIdeal.τ).loc Cert.LayerIdeal.main_arg0) = m ((c.tc : Thread Cert.LayerIdeal.nD Cert.LayerIdeal.τ).loc Cert.LayerIdeal.main_arg0)
      ∧ r.2.mem ((c.tc : Thread Cert.LayerIdeal.nD Cert.LayerIdeal.τ).loc Cert.LayerIdeal.main_arg1) = m ((c.tc : Thread Cert.LayerIdeal.nD Cert.LayerIdeal.τ).loc Cert.LayerIdeal.main_arg1)
      ∧ r.2.mem ((c.tc : Thread Cert.LayerIdeal.nD Cert.LayerIdeal.τ).loc Cert.LayerIdeal.main_arg2) = m ((c.tc : Thread Cert.LayerIdeal.nD Cert.LayerIdeal.τ).loc Cert.LayerIdeal.main_arg2)
      ∧ r.2.mem ((c.tc : Thread Cert.LayerIdeal.nD Cert.LayerIdeal.τ).loc Cert.LayerIdeal.main_arg3) = m ((c.tc : Thread Cert.LayerIdeal.nD Cert.LayerIdeal.τ).loc Cert.LayerIdeal.main_arg3)
      ∧ r.2.mem ((c.tc : Thread Cert.LayerIdeal.nD Cert.LayerIdeal.τ).loc Cert.LayerIdeal.main_arg4) = m ((c.tc : Thread Cert.LayerIdeal.nD Cert.LayerIdeal.τ).loc Cert.LayerIdeal.main_arg4)
      ∧ r.2.mem ((c.tc : Thread Cert.LayerIdeal.nD Cert.LayerIdeal.τ).loc Cert.LayerIdeal.main_arg5) = m ((c.tc : Thread Cert.LayerIdeal.nD Cert.LayerIdeal.τ).loc Cert.LayerIdeal.main_arg5)
      ∧ r.2.mem ((c.tc : Thread Cert.LayerIdeal.nD Cert.LayerIdeal.τ).loc Cert.LayerIdeal.main_arg6) = m ((c.tc : Thread Cert.LayerIdeal.nD Cert.LayerIdeal.τ).loc Cert.LayerIdeal.main_arg6))
      ∧ r.2.sem = fun _ => 0)

def quiescent_LayerReferenceIdeal [hLayerReferenceIdeal : Cert.LayerReferenceIdeal.Facts] : Prop :=
  ∀ (m : (ℓ : Loc Cert.LayerReferenceIdeal.nD Cert.LayerReferenceIdeal.τ Cert.LayerReferenceIdeal.sig) → Buf (Elt Ideal) ℓ) (g : Dev Cert.LayerReferenceIdeal.nD → PrngReg), Pre_LayerReferenceIdeal m →
    θ_run (Cert.LayerReferenceIdeal.defs (F := Ideal)) (onTc (τ := Cert.LayerReferenceIdeal.τ) (Cert.LayerReferenceIdeal.main (F := Ideal))) ⟨m, fun _ => 0, g⟩ (fun r => (∀ c : Dev Cert.LayerReferenceIdeal.nD,
      r.2.mem ((c.tc : Thread Cert.LayerReferenceIdeal.nD Cert.LayerReferenceIdeal.τ).loc Cert.LayerReferenceIdeal.main_arg0) = m ((c.tc : Thread Cert.LayerReferenceIdeal.nD Cert.LayerReferenceIdeal.τ).loc Cert.LayerReferenceIdeal.main_arg0)
      ∧ r.2.mem ((c.tc : Thread Cert.LayerReferenceIdeal.nD Cert.LayerReferenceIdeal.τ).loc Cert.LayerReferenceIdeal.main_arg1) = m ((c.tc : Thread Cert.LayerReferenceIdeal.nD Cert.LayerReferenceIdeal.τ).loc Cert.LayerReferenceIdeal.main_arg1)
      ∧ r.2.mem ((c.tc : Thread Cert.LayerReferenceIdeal.nD Cert.LayerReferenceIdeal.τ).loc Cert.LayerReferenceIdeal.main_arg2) = m ((c.tc : Thread Cert.LayerReferenceIdeal.nD Cert.LayerReferenceIdeal.τ).loc Cert.LayerReferenceIdeal.main_arg2)
      ∧ r.2.mem ((c.tc : Thread Cert.LayerReferenceIdeal.nD Cert.LayerReferenceIdeal.τ).loc Cert.LayerReferenceIdeal.main_arg3) = m ((c.tc : Thread Cert.LayerReferenceIdeal.nD Cert.LayerReferenceIdeal.τ).loc Cert.LayerReferenceIdeal.main_arg3)
      ∧ r.2.mem ((c.tc : Thread Cert.LayerReferenceIdeal.nD Cert.LayerReferenceIdeal.τ).loc Cert.LayerReferenceIdeal.main_arg4) = m ((c.tc : Thread Cert.LayerReferenceIdeal.nD Cert.LayerReferenceIdeal.τ).loc Cert.LayerReferenceIdeal.main_arg4)
      ∧ r.2.mem ((c.tc : Thread Cert.LayerReferenceIdeal.nD Cert.LayerReferenceIdeal.τ).loc Cert.LayerReferenceIdeal.main_arg5) = m ((c.tc : Thread Cert.LayerReferenceIdeal.nD Cert.LayerReferenceIdeal.τ).loc Cert.LayerReferenceIdeal.main_arg5)
      ∧ r.2.mem ((c.tc : Thread Cert.LayerReferenceIdeal.nD Cert.LayerReferenceIdeal.τ).loc Cert.LayerReferenceIdeal.main_arg6) = m ((c.tc : Thread Cert.LayerReferenceIdeal.nD Cert.LayerReferenceIdeal.τ).loc Cert.LayerReferenceIdeal.main_arg6))
      ∧ r.2.sem = fun _ => 0)

def quiescent_LayerReferenceIdeal_pre_finite [hLayerReferenceIdeal : Cert.LayerReferenceIdeal.Facts] [hPre_finite : Cert.Pre_finite.Facts] : Prop :=
  ∀ (m : (ℓ : Loc Cert.LayerReferenceIdeal.nD Cert.LayerReferenceIdeal.τ Cert.LayerReferenceIdeal.sig) → Buf (Elt Ideal) ℓ) (g : Dev Cert.LayerReferenceIdeal.nD → PrngReg), Pre_LayerReferenceIdeal_finite m →
    θ_run (Cert.LayerReferenceIdeal.defs (F := Ideal)) (onTc (τ := Cert.LayerReferenceIdeal.τ) (Cert.LayerReferenceIdeal.main (F := Ideal))) ⟨m, fun _ => 0, g⟩ (fun r => (∀ c : Dev Cert.LayerReferenceIdeal.nD,
      r.2.mem ((c.tc : Thread Cert.LayerReferenceIdeal.nD Cert.LayerReferenceIdeal.τ).loc Cert.LayerReferenceIdeal.main_arg0) = m ((c.tc : Thread Cert.LayerReferenceIdeal.nD Cert.LayerReferenceIdeal.τ).loc Cert.LayerReferenceIdeal.main_arg0)
      ∧ r.2.mem ((c.tc : Thread Cert.LayerReferenceIdeal.nD Cert.LayerReferenceIdeal.τ).loc Cert.LayerReferenceIdeal.main_arg1) = m ((c.tc : Thread Cert.LayerReferenceIdeal.nD Cert.LayerReferenceIdeal.τ).loc Cert.LayerReferenceIdeal.main_arg1)
      ∧ r.2.mem ((c.tc : Thread Cert.LayerReferenceIdeal.nD Cert.LayerReferenceIdeal.τ).loc Cert.LayerReferenceIdeal.main_arg2) = m ((c.tc : Thread Cert.LayerReferenceIdeal.nD Cert.LayerReferenceIdeal.τ).loc Cert.LayerReferenceIdeal.main_arg2)
      ∧ r.2.mem ((c.tc : Thread Cert.LayerReferenceIdeal.nD Cert.LayerReferenceIdeal.τ).loc Cert.LayerReferenceIdeal.main_arg3) = m ((c.tc : Thread Cert.LayerReferenceIdeal.nD Cert.LayerReferenceIdeal.τ).loc Cert.LayerReferenceIdeal.main_arg3)
      ∧ r.2.mem ((c.tc : Thread Cert.LayerReferenceIdeal.nD Cert.LayerReferenceIdeal.τ).loc Cert.LayerReferenceIdeal.main_arg4) = m ((c.tc : Thread Cert.LayerReferenceIdeal.nD Cert.LayerReferenceIdeal.τ).loc Cert.LayerReferenceIdeal.main_arg4)
      ∧ r.2.mem ((c.tc : Thread Cert.LayerReferenceIdeal.nD Cert.LayerReferenceIdeal.τ).loc Cert.LayerReferenceIdeal.main_arg5) = m ((c.tc : Thread Cert.LayerReferenceIdeal.nD Cert.LayerReferenceIdeal.τ).loc Cert.LayerReferenceIdeal.main_arg5)
      ∧ r.2.mem ((c.tc : Thread Cert.LayerReferenceIdeal.nD Cert.LayerReferenceIdeal.τ).loc Cert.LayerReferenceIdeal.main_arg6) = m ((c.tc : Thread Cert.LayerReferenceIdeal.nD Cert.LayerReferenceIdeal.τ).loc Cert.LayerReferenceIdeal.main_arg6))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjReferenceIdeal [hInProjReferenceIdeal : Cert.InProjReferenceIdeal.Facts] : Prop :=
  ∀ (m : (ℓ : Loc Cert.InProjReferenceIdeal.nD Cert.InProjReferenceIdeal.τ Cert.InProjReferenceIdeal.sig) → Buf (Elt Ideal) ℓ) (g : Dev Cert.InProjReferenceIdeal.nD → PrngReg), Pre_InProjReferenceIdeal m →
    θ_run (Cert.InProjReferenceIdeal.defs (F := Ideal)) (onTc (τ := Cert.InProjReferenceIdeal.τ) (Cert.InProjReferenceIdeal.main (F := Ideal))) ⟨m, fun _ => 0, g⟩ (fun r => (∀ c : Dev Cert.InProjReferenceIdeal.nD,
      r.2.mem ((c.tc : Thread Cert.InProjReferenceIdeal.nD Cert.InProjReferenceIdeal.τ).loc Cert.InProjReferenceIdeal.main_arg0) = m ((c.tc : Thread Cert.InProjReferenceIdeal.nD Cert.InProjReferenceIdeal.τ).loc Cert.InProjReferenceIdeal.main_arg0)
      ∧ r.2.mem ((c.tc : Thread Cert.InProjReferenceIdeal.nD Cert.InProjReferenceIdeal.τ).loc Cert.InProjReferenceIdeal.main_arg1) = m ((c.tc : Thread Cert.InProjReferenceIdeal.nD Cert.InProjReferenceIdeal.τ).loc Cert.InProjReferenceIdeal.main_arg1))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1))
      ∧ r.2.sem = fun _ => 0)

def quiescent_OutProjReferenceIdeal [hOutProjReferenceIdeal : Cert.OutProjReferenceIdeal.Facts] : Prop :=
  ∀ (m : (ℓ : Loc Cert.OutProjReferenceIdeal.nD Cert.OutProjReferenceIdeal.τ Cert.OutProjReferenceIdeal.sig) → Buf (Elt Ideal) ℓ) (g : Dev Cert.OutProjReferenceIdeal.nD → PrngReg), Pre_OutProjReferenceIdeal m →
    θ_run (Cert.OutProjReferenceIdeal.defs (F := Ideal)) (onTc (τ := Cert.OutProjReferenceIdeal.τ) (Cert.OutProjReferenceIdeal.main (F := Ideal))) ⟨m, fun _ => 0, g⟩ (fun r => (∀ c : Dev Cert.OutProjReferenceIdeal.nD,
      r.2.mem ((c.tc : Thread Cert.OutProjReferenceIdeal.nD Cert.OutProjReferenceIdeal.τ).loc Cert.OutProjReferenceIdeal.main_arg0) = m ((c.tc : Thread Cert.OutProjReferenceIdeal.nD Cert.OutProjReferenceIdeal.τ).loc Cert.OutProjReferenceIdeal.main_arg0)
      ∧ r.2.mem ((c.tc : Thread Cert.OutProjReferenceIdeal.nD Cert.OutProjReferenceIdeal.τ).loc Cert.OutProjReferenceIdeal.main_arg1) = m ((c.tc : Thread Cert.OutProjReferenceIdeal.nD Cert.OutProjReferenceIdeal.τ).loc Cert.OutProjReferenceIdeal.main_arg1))
      ∧ r.2.sem = fun _ => 0)

def preserves_Layer_LayerIdeal : Prop :=
  True

def algebraic_LayerIdeal_LayerReferenceIdeal_pre_finite [hLayerIdeal : Cert.LayerIdeal.Facts] [hLayerReferenceIdeal : Cert.LayerReferenceIdeal.Facts] [hPre_finite : Cert.Pre_finite.Facts] : Prop :=
  ∀ (m : (ℓ : Loc Cert.LayerIdeal.nD Cert.LayerIdeal.τ Cert.LayerIdeal.sig) → Buf (Elt Ideal) ℓ) (g : Dev Cert.LayerIdeal.nD → PrngReg)
    (m' : (ℓ : Loc Cert.LayerReferenceIdeal.nD Cert.LayerReferenceIdeal.τ Cert.LayerReferenceIdeal.sig) → Buf (Elt Ideal) ℓ) (g' : Dev Cert.LayerReferenceIdeal.nD → PrngReg), Pre_LayerIdeal_finite m →
    (∀ c : Dev Cert.LayerIdeal.nD,
      m' ((c.tc : Thread Cert.LayerReferenceIdeal.nD Cert.LayerReferenceIdeal.τ).loc Cert.LayerReferenceIdeal.main_arg0) = m ((c.tc : Thread Cert.LayerIdeal.nD Cert.LayerIdeal.τ).loc Cert.LayerIdeal.main_arg0)
      ∧ m' ((c.tc : Thread Cert.LayerReferenceIdeal.nD Cert.LayerReferenceIdeal.τ).loc Cert.LayerReferenceIdeal.main_arg1) = m ((c.tc : Thread Cert.LayerIdeal.nD Cert.LayerIdeal.τ).loc Cert.LayerIdeal.main_arg1)
      ∧ m' ((c.tc : Thread Cert.LayerReferenceIdeal.nD Cert.LayerReferenceIdeal.τ).loc Cert.LayerReferenceIdeal.main_arg2) = m ((c.tc : Thread Cert.LayerIdeal.nD Cert.LayerIdeal.τ).loc Cert.LayerIdeal.main_arg2)
      ∧ m' ((c.tc : Thread Cert.LayerReferenceIdeal.nD Cert.LayerReferenceIdeal.τ).loc Cert.LayerReferenceIdeal.main_arg3) = m ((c.tc : Thread Cert.LayerIdeal.nD Cert.LayerIdeal.τ).loc Cert.LayerIdeal.main_arg3)
      ∧ m' ((c.tc : Thread Cert.LayerReferenceIdeal.nD Cert.LayerReferenceIdeal.τ).loc Cert.LayerReferenceIdeal.main_arg4) = m ((c.tc : Thread Cert.LayerIdeal.nD Cert.LayerIdeal.τ).loc Cert.LayerIdeal.main_arg4)
      ∧ m' ((c.tc : Thread Cert.LayerReferenceIdeal.nD Cert.LayerReferenceIdeal.τ).loc Cert.LayerReferenceIdeal.main_arg5) = m ((c.tc : Thread Cert.LayerIdeal.nD Cert.LayerIdeal.τ).loc Cert.LayerIdeal.main_arg5)
      ∧ m' ((c.tc : Thread Cert.LayerReferenceIdeal.nD Cert.LayerReferenceIdeal.τ).loc Cert.LayerReferenceIdeal.main_arg6) = m ((c.tc : Thread Cert.LayerIdeal.nD Cert.LayerIdeal.τ).loc Cert.LayerIdeal.main_arg6)) →
    ∃ (v0 : (c : Dev Cert.LayerIdeal.nD) → Buf (Elt Ideal) ((c.tc : Thread Cert.LayerIdeal.nD Cert.LayerIdeal.τ).loc Cert.LayerIdeal.main_v23)),
      θ_run (Cert.LayerIdeal.defs (F := Ideal)) (onTc (τ := Cert.LayerIdeal.τ) (Cert.LayerIdeal.main (F := Ideal))) ⟨m, fun _ => 0, g⟩ (fun r => ∀ c : Dev Cert.LayerIdeal.nD,
          r.2.mem ((c.tc : Thread Cert.LayerIdeal.nD Cert.LayerIdeal.τ).loc Cert.LayerIdeal.main_v23) = v0 c
          ∧ r.2.mem ((c.tc : Thread Cert.LayerIdeal.nD Cert.LayerIdeal.τ).loc Cert.LayerIdeal.main_arg0) = m ((c.tc : Thread Cert.LayerIdeal.nD Cert.LayerIdeal.τ).loc Cert.LayerIdeal.main_arg0)
          ∧ r.2.mem ((c.tc : Thread Cert.LayerIdeal.nD Cert.LayerIdeal.τ).loc Cert.LayerIdeal.main_arg1) = m ((c.tc : Thread Cert.LayerIdeal.nD Cert.LayerIdeal.τ).loc Cert.LayerIdeal.main_arg1)
          ∧ r.2.mem ((c.tc : Thread Cert.LayerIdeal.nD Cert.LayerIdeal.τ).loc Cert.LayerIdeal.main_arg2) = m ((c.tc : Thread Cert.LayerIdeal.nD Cert.LayerIdeal.τ).loc Cert.LayerIdeal.main_arg2)
          ∧ r.2.mem ((c.tc : Thread Cert.LayerIdeal.nD Cert.LayerIdeal.τ).loc Cert.LayerIdeal.main_arg3) = m ((c.tc : Thread Cert.LayerIdeal.nD Cert.LayerIdeal.τ).loc Cert.LayerIdeal.main_arg3)
          ∧ r.2.mem ((c.tc : Thread Cert.LayerIdeal.nD Cert.LayerIdeal.τ).loc Cert.LayerIdeal.main_arg4) = m ((c.tc : Thread Cert.LayerIdeal.nD Cert.LayerIdeal.τ).loc Cert.LayerIdeal.main_arg4)
          ∧ r.2.mem ((c.tc : Thread Cert.LayerIdeal.nD Cert.LayerIdeal.τ).loc Cert.LayerIdeal.main_arg5) = m ((c.tc : Thread Cert.LayerIdeal.nD Cert.LayerIdeal.τ).loc Cert.LayerIdeal.main_arg5)
          ∧ r.2.mem ((c.tc : Thread Cert.LayerIdeal.nD Cert.LayerIdeal.τ).loc Cert.LayerIdeal.main_arg6) = m ((c.tc : Thread Cert.LayerIdeal.nD Cert.LayerIdeal.τ).loc Cert.LayerIdeal.main_arg6))
      ∧ θ_run (Cert.LayerReferenceIdeal.defs (F := Ideal)) (onTc (τ := Cert.LayerReferenceIdeal.τ) (Cert.LayerReferenceIdeal.main (F := Ideal))) ⟨m', fun _ => 0, g'⟩ (fun r => ∀ c : Dev Cert.LayerReferenceIdeal.nD,
          r.2.mem ((c.tc : Thread Cert.LayerReferenceIdeal.nD Cert.LayerReferenceIdeal.τ).loc Cert.LayerReferenceIdeal.main_v115) = v0 c
          ∧ r.2.mem ((c.tc : Thread Cert.LayerReferenceIdeal.nD Cert.LayerReferenceIdeal.τ).loc Cert.LayerReferenceIdeal.main_arg0) = m' ((c.tc : Thread Cert.LayerReferenceIdeal.nD Cert.LayerReferenceIdeal.τ).loc Cert.LayerReferenceIdeal.main_arg0)
          ∧ r.2.mem ((c.tc : Thread Cert.LayerReferenceIdeal.nD Cert.LayerReferenceIdeal.τ).loc Cert.LayerReferenceIdeal.main_arg1) = m' ((c.tc : Thread Cert.LayerReferenceIdeal.nD Cert.LayerReferenceIdeal.τ).loc Cert.LayerReferenceIdeal.main_arg1)
          ∧ r.2.mem ((c.tc : Thread Cert.LayerReferenceIdeal.nD Cert.LayerReferenceIdeal.τ).loc Cert.LayerReferenceIdeal.main_arg2) = m' ((c.tc : Thread Cert.LayerReferenceIdeal.nD Cert.LayerReferenceIdeal.τ).loc Cert.LayerReferenceIdeal.main_arg2)
          ∧ r.2.mem ((c.tc : Thread Cert.LayerReferenceIdeal.nD Cert.LayerReferenceIdeal.τ).loc Cert.LayerReferenceIdeal.main_arg3) = m' ((c.tc : Thread Cert.LayerReferenceIdeal.nD Cert.LayerReferenceIdeal.τ).loc Cert.LayerReferenceIdeal.main_arg3)
          ∧ r.2.mem ((c.tc : Thread Cert.LayerReferenceIdeal.nD Cert.LayerReferenceIdeal.τ).loc Cert.LayerReferenceIdeal.main_arg4) = m' ((c.tc : Thread Cert.LayerReferenceIdeal.nD Cert.LayerReferenceIdeal.τ).loc Cert.LayerReferenceIdeal.main_arg4)
          ∧ r.2.mem ((c.tc : Thread Cert.LayerReferenceIdeal.nD Cert.LayerReferenceIdeal.τ).loc Cert.LayerReferenceIdeal.main_arg5) = m' ((c.tc : Thread Cert.LayerReferenceIdeal.nD Cert.LayerReferenceIdeal.τ).loc Cert.LayerReferenceIdeal.main_arg5)
          ∧ r.2.mem ((c.tc : Thread Cert.LayerReferenceIdeal.nD Cert.LayerReferenceIdeal.τ).loc Cert.LayerReferenceIdeal.main_arg6) = m' ((c.tc : Thread Cert.LayerReferenceIdeal.nD Cert.LayerReferenceIdeal.τ).loc Cert.LayerReferenceIdeal.main_arg6))

def preserves_InProj_InProjIdeal : Prop :=
  True

def algebraic_InProjIdeal_InProjReferenceIdeal [hInProjIdeal : Cert.InProjIdeal.Facts] [hInProjReferenceIdeal : Cert.InProjReferenceIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjReferenceIdeal.nD Cert.InProjReferenceIdeal.τ Cert.InProjReferenceIdeal.sig) → Buf (Elt Ideal) ℓ) (g' : Dev Cert.InProjReferenceIdeal.nD → PrngReg), Pre_InProjIdeal m →
    (∀ c : Dev Cert.InProjIdeal.nD,
      m' ((c.tc : Thread Cert.InProjReferenceIdeal.nD Cert.InProjReferenceIdeal.τ).loc Cert.InProjReferenceIdeal.main_arg0) = m ((c.tc : Thread Cert.InProjIdeal.nD Cert.InProjIdeal.τ).loc Cert.InProjIdeal.main_arg0)
      ∧ m' ((c.tc : Thread Cert.InProjReferenceIdeal.nD Cert.InProjReferenceIdeal.τ).loc Cert.InProjReferenceIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v3)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v3) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjReferenceIdeal.defs (F := Ideal)) (onTc (τ := Cert.InProjReferenceIdeal.τ) (Cert.InProjReferenceIdeal.main (F := Ideal))) ⟨m', fun _ => 0, g'⟩ (fun r => ∀ c : Dev Cert.InProjReferenceIdeal.nD,
          r.2.mem ((c.tc : Thread Cert.InProjReferenceIdeal.nD Cert.InProjReferenceIdeal.τ).loc Cert.InProjReferenceIdeal.main_v2) = v0 c
          ∧ r.2.mem ((c.tc : Thread Cert.InProjReferenceIdeal.nD Cert.InProjReferenceIdeal.τ).loc Cert.InProjReferenceIdeal.main_arg0) = m' ((c.tc : Thread Cert.InProjReferenceIdeal.nD Cert.InProjReferenceIdeal.τ).loc Cert.InProjReferenceIdeal.main_arg0)
          ∧ r.2.mem ((c.tc : Thread Cert.InProjReferenceIdeal.nD Cert.InProjReferenceIdeal.τ).loc Cert.InProjReferenceIdeal.main_arg1) = m' ((c.tc : Thread Cert.InProjReferenceIdeal.nD Cert.InProjReferenceIdeal.τ).loc Cert.InProjReferenceIdeal.main_arg1))

def preserves_OutProj_OutProjIdeal : Prop :=
  True

def algebraic_OutProjIdeal_OutProjReferenceIdeal [hOutProjIdeal : Cert.OutProjIdeal.Facts] [hOutProjReferenceIdeal : Cert.OutProjReferenceIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjReferenceIdeal.nD Cert.OutProjReferenceIdeal.τ Cert.OutProjReferenceIdeal.sig) → Buf (Elt Ideal) ℓ) (g' : Dev Cert.OutProjReferenceIdeal.nD → PrngReg), Pre_OutProjIdeal m →
    (∀ c : Dev Cert.OutProjIdeal.nD,
      m' ((c.tc : Thread Cert.OutProjReferenceIdeal.nD Cert.OutProjReferenceIdeal.τ).loc Cert.OutProjReferenceIdeal.main_arg0) = m ((c.tc : Thread Cert.OutProjIdeal.nD Cert.OutProjIdeal.τ).loc Cert.OutProjIdeal.main_arg0)
      ∧ m' ((c.tc : Thread Cert.OutProjReferenceIdeal.nD Cert.OutProjReferenceIdeal.τ).loc Cert.OutProjReferenceIdeal.main_arg1) = m ((c.tc : Thread Cert.OutProjIdeal.nD Cert.OutProjIdeal.τ).loc Cert.OutProjIdeal.main_arg1)) →
    ∃ (v0 : (c : Dev Cert.OutProjIdeal.nD) → Buf (Elt Ideal) ((c.tc : Thread Cert.OutProjIdeal.nD Cert.OutProjIdeal.τ).loc Cert.OutProjIdeal.main_v1)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v1) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1))
      ∧ θ_run (Cert.OutProjReferenceIdeal.defs (F := Ideal)) (onTc (τ := Cert.OutProjReferenceIdeal.τ) (Cert.OutProjReferenceIdeal.main (F := Ideal))) ⟨m', fun _ => 0, g'⟩ (fun r => ∀ c : Dev Cert.OutProjReferenceIdeal.nD,
          r.2.mem ((c.tc : Thread Cert.OutProjReferenceIdeal.nD Cert.OutProjReferenceIdeal.τ).loc Cert.OutProjReferenceIdeal.main_v1) = v0 c
          ∧ r.2.mem ((c.tc : Thread Cert.OutProjReferenceIdeal.nD Cert.OutProjReferenceIdeal.τ).loc Cert.OutProjReferenceIdeal.main_arg0) = m' ((c.tc : Thread Cert.OutProjReferenceIdeal.nD Cert.OutProjReferenceIdeal.τ).loc Cert.OutProjReferenceIdeal.main_arg0)
          ∧ r.2.mem ((c.tc : Thread Cert.OutProjReferenceIdeal.nD Cert.OutProjReferenceIdeal.τ).loc Cert.OutProjReferenceIdeal.main_arg1) = m' ((c.tc : Thread Cert.OutProjReferenceIdeal.nD Cert.OutProjReferenceIdeal.τ).loc Cert.OutProjReferenceIdeal.main_arg1))

def Claim : Prop :=
  ∃ (hLayer : Cert.Layer.Facts) (hLayerIdeal : Cert.LayerIdeal.Facts) (hLayerReferenceIdeal : Cert.LayerReferenceIdeal.Facts) (hInProj : Cert.InProj.Facts) (hInProjIdeal : Cert.InProjIdeal.Facts) (hInProjReferenceIdeal : Cert.InProjReferenceIdeal.Facts) (hOutProj : Cert.OutProj.Facts) (hOutProjIdeal : Cert.OutProjIdeal.Facts) (hOutProjReferenceIdeal : Cert.OutProjReferenceIdeal.Facts) (hPre_finite : Cert.Pre_finite.Facts),
    quiescent_Layer (hLayer := hLayer)
    ∧ quiescent_LayerIdeal (hLayerIdeal := hLayerIdeal)
    ∧ quiescent_LayerIdeal_pre_finite (hLayerIdeal := hLayerIdeal) (hPre_finite := hPre_finite)
    ∧ quiescent_LayerReferenceIdeal (hLayerReferenceIdeal := hLayerReferenceIdeal)
    ∧ quiescent_LayerReferenceIdeal_pre_finite (hLayerReferenceIdeal := hLayerReferenceIdeal) (hPre_finite := hPre_finite)
    ∧ quiescent_InProj (hInProj := hInProj)
    ∧ quiescent_InProjIdeal (hInProjIdeal := hInProjIdeal)
    ∧ quiescent_InProjReferenceIdeal (hInProjReferenceIdeal := hInProjReferenceIdeal)
    ∧ quiescent_OutProj (hOutProj := hOutProj)
    ∧ quiescent_OutProjIdeal (hOutProjIdeal := hOutProjIdeal)
    ∧ quiescent_OutProjReferenceIdeal (hOutProjReferenceIdeal := hOutProjReferenceIdeal)
    ∧ preserves_Layer_LayerIdeal
    ∧ algebraic_LayerIdeal_LayerReferenceIdeal_pre_finite (hLayerIdeal := hLayerIdeal) (hLayerReferenceIdeal := hLayerReferenceIdeal) (hPre_finite := hPre_finite)
    ∧ preserves_InProj_InProjIdeal
    ∧ algebraic_InProjIdeal_InProjReferenceIdeal (hInProjIdeal := hInProjIdeal) (hInProjReferenceIdeal := hInProjReferenceIdeal)
    ∧ preserves_OutProj_OutProjIdeal
    ∧ algebraic_OutProjIdeal_OutProjReferenceIdeal (hOutProjIdeal := hOutProjIdeal) (hOutProjReferenceIdeal := hOutProjReferenceIdeal)
-- ==== Pre_finite.lean ====
abbrev S4096x2048 : Shape := ⟨2, ![4096, 2048]⟩
abbrev S2048x12352 : Shape := ⟨2, ![2048, 12352]⟩
abbrev S8192x4 : Shape := ⟨2, ![8192, 4]⟩
abbrev S32 : Shape := ⟨1, ![32]⟩
abbrev S128 : Shape := ⟨1, ![128]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S2048x12352 : S_.BroadcastsInDim S2048x12352 (![] : Fin 0 → Fin S2048x12352.rank)
  reducesTo_S2048x12352_S_d0_1 : S2048x12352.ReducesTo [0, 1] S_
  bcast_S_S8192x4 : S_.BroadcastsInDim S8192x4 (![] : Fin 0 → Fin S8192x4.rank)
  reducesTo_S8192x4_S_d0_1 : S8192x4.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg4 : FVec F S32 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32 .f32 := Host.absf main_arg4
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  main_v23

def fn {F : FTy → Type} [FloatOps F] (main_arg0 : FVec F S4096x2048 .f32) (main_arg1 : FVec F S2048x12352 .f32) (main_arg2 : FVec F S8192x4 .f32) (main_arg3 : FVec F S32 .f32) (main_arg4 : FVec F S32 .f32) (main_arg5 : FVec F S128 .f32) (main_arg6 : FVec F S4096x2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S2048x12352 .f32 := Host.absf main_arg1
  let main_cst_0 : FVec F S_ .f32 := constant S_ .f32 0x7F800000#32
  let main_v5 : FVec F S2048x12352 .f32 := broadcastInDim S2048x12352 ![] bcast_S_S2048x12352 main_cst_0
  let main_v6 : IVec S2048x12352 1 := cmpf .olt main_v4 main_v5
  let main_c_1 : IVec S_ 1 := constantI S_ 1 1#1
  let main_v7 : IVec S_ 1 := (fun x v => Host.reduce IntOp.andi x v reducesTo_S2048x12352_S_d0_1 h_S_) main_v6 main_c_1
  let main_v8 : IVec S_ 1 := andi main_v3 main_v7
  let main_v9 : FVec F S8192x4 .f32 := Host.absf main_arg2
  let main_cst_2 : FVec F S_ .f32 := constant S_ .f32 0x7F800000#32
  let main_v10 : FVec F S8192x4 .f32 := broadcastInDim S8192x4 ![] bcast_S_S8192x4 main_cst_2
  let main_v11 : IVec S8192x4 1 := cmpf .olt main_v9 main_v10
  let main_c_3 : IVec S_ 1 := constantI S_ 1 1#1
  let main_v12 : IVec S_ 1 := (fun x v => Host.reduce IntOp.andi x v reducesTo_S8192x4_S_d0_1 h_S_) main_v11 main_c_3
  let main_v13 : IVec S_ 1 := andi main_v8 main_v12
  let main_v14 : FVec F S32 .f32 := Host.absf main_arg3
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg4 main_v13 main_v16
-- ==== Layer.lean ====
abbrev S4096x2048 : Shape := ⟨2, ![4096, 2048]⟩
abbrev S2048x12352 : Shape := ⟨2, ![2048, 12352]⟩
abbrev S8192x4 : Shape := ⟨2, ![8192, 4]⟩
abbrev S32 : Shape := ⟨1, ![32]⟩
abbrev S128 : Shape := ⟨1, ![128]⟩
abbrev S_ : Shape := ⟨0, ![]⟩
abbrev S2048x12544 : Shape := ⟨2, ![2048, 12544]⟩
abbrev S4096x12544 : Shape := ⟨2, ![4096, 12544]⟩
abbrev S512x2048 : Shape := ⟨2, ![512, 2048]⟩
abbrev S2048x896 : Shape := ⟨2, ![2048, 896]⟩
abbrev S512x896 : Shape := ⟨2, ![512, 896]⟩
abbrev S4x8192 : Shape := ⟨2, ![4, 8192]⟩
abbrev S4x2048 : Shape := ⟨2, ![4, 2048]⟩
abbrev S4x16x128 : Shape := ⟨3, ![4, 16, 128]⟩
abbrev S16x4x128 : Shape := ⟨3, ![16, 4, 128]⟩
abbrev S4x4096 : Shape := ⟨2, ![4, 4096]⟩
abbrev S4x16x256 : Shape := ⟨3, ![4, 16, 256]⟩
abbrev S16x4x256 : Shape := ⟨3, ![16, 4, 256]⟩
abbrev S16x4x512 : Shape := ⟨3, ![16, 4, 512]⟩
abbrev S1x32 : Shape := ⟨2, ![1, 32]⟩
abbrev S2x32 : Shape := ⟨2, ![2, 32]⟩
abbrev S1x128 : Shape := ⟨2, ![1, 128]⟩
abbrev S4096x4096 : Shape := ⟨2, ![4096, 4096]⟩
abbrev S512x1536 : Shape := ⟨2, ![512, 1536]⟩
abbrev S512x128 : Shape := ⟨2, ![512, 128]⟩
abbrev S2x4x512 : Shape := ⟨3, ![2, 4, 512]⟩
abbrev S512x512 : Shape := ⟨2, ![512, 512]⟩
abbrev S4x128x128 : Shape := ⟨3, ![4, 128, 128]⟩
abbrev S2x8x512 : Shape := ⟨3, ![2, 8, 512]⟩
abbrev S256x256 : Shape := ⟨2, ![256, 256]⟩
abbrev S256x512 : Shape := ⟨2, ![256, 512]⟩
abbrev S1x8x512 : Shape := ⟨3, ![1, 8, 512]⟩
abbrev S8x512 : Shape := ⟨2, ![8, 512]⟩
abbrev S64x768 : Shape := ⟨2, ![64, 768]⟩
abbrev S64x512 : Shape := ⟨2, ![64, 512]⟩
abbrev S3x512 : Shape := ⟨2, ![3, 512]⟩
abbrev S1x4x512 : Shape := ⟨3, ![1, 4, 512]⟩
abbrev S4x512 : Shape := ⟨2, ![4, 512]⟩
abbrev S67x512 : Shape := ⟨2, ![67, 512]⟩
abbrev S1x512 : Shape := ⟨2, ![1, 512]⟩
abbrev S64x256 : Shape := ⟨2, ![64, 256]⟩
abbrev S64x128 : Shape := ⟨2, ![64, 128]⟩
abbrev S64 : Shape := ⟨1, ![64]⟩
abbrev S64x1 : Shape := ⟨2, ![64, 1]⟩
abbrev S256x128 : Shape := ⟨2, ![256, 128]⟩
abbrev S1x1 : Shape := ⟨2, ![1, 1]⟩
abbrev S256x1 : Shape := ⟨2, ![256, 1]⟩
abbrev S1x256 : Shape := ⟨2, ![1, 256]⟩
abbrev S512x256 : Shape := ⟨2, ![512, 256]⟩
abbrev S1x128x128 : Shape := ⟨3, ![1, 128, 128]⟩
abbrev S128x128 : Shape := ⟨2, ![128, 128]⟩
abbrev S192x128 : Shape := ⟨2, ![192, 128]⟩
abbrev S512x4096 : Shape := ⟨2, ![512, 4096]⟩
abbrev S4096x512 : Shape := ⟨2, ![4096, 512]⟩

abbrev nBuf : Space → Nat
  | .hbm => 33
  | .vmem => 23
  | .smem => 1
  | _ => 0

abbrev bufTy : (tb : Table) → Fin (tcTables nBuf tb) → BufTy
  | .hbm, ⟨0, _⟩ => ⟨S4096x2048, .f32⟩
  | .hbm, ⟨1, _⟩ => ⟨S2048x12352, .f32⟩
  | .hbm, ⟨2, _⟩ => ⟨S8192x4, .f32⟩
  | .hbm, ⟨3, _⟩ => ⟨S32, .f32⟩
  | .hbm, ⟨4, _⟩ => ⟨S32, .f32⟩
  | .hbm, ⟨5, _⟩ => ⟨S128, .f32⟩
  | .hbm, ⟨6, _⟩ => ⟨S4096x2048, .f32⟩
  | .hbm, ⟨7, _⟩ => ⟨S2048x12352, .bf16⟩
  | .hbm, ⟨8, _⟩ => ⟨S_, .i32⟩
  | .hbm, ⟨9, _⟩ => ⟨S_, .bf16⟩
  | .hbm, ⟨10, _⟩ => ⟨S2048x12544, .bf16⟩
  | .hbm, ⟨11, _⟩ => ⟨S4096x2048, .bf16⟩
  | .hbm, ⟨12, _⟩ => ⟨S4096x12544, .bf16⟩
  | .hbm, ⟨13, _⟩ => ⟨S4x8192, .f32⟩
  | .hbm, ⟨14, _⟩ => ⟨S4x2048, .f32⟩
  | .hbm, ⟨15, _⟩ => ⟨S4x16x128, .f32⟩
  | .hbm, ⟨16, _⟩ => ⟨S16x4x128, .f32⟩
  | .hbm, ⟨17, _⟩ => ⟨S4x2048, .f32⟩
  | .hbm, ⟨18, _⟩ => ⟨S4x16x128, .f32⟩
  | .hbm, ⟨19, _⟩ => ⟨S16x4x128, .f32⟩
  | .hbm, ⟨20, _⟩ => ⟨S4x4096, .f32⟩
  | .hbm, ⟨21, _⟩ => ⟨S4x16x256, .f32⟩
  | .hbm, ⟨22, _⟩ => ⟨S16x4x256, .f32⟩
  | .hbm, ⟨23, _⟩ => ⟨S16x4x512, .f32⟩
  | .hbm, ⟨24, _⟩ => ⟨S32, .f32⟩
  | .hbm, ⟨25, _⟩ => ⟨S32, .f32⟩
  | .hbm, ⟨26, _⟩ => ⟨S1x32, .f32⟩
  | .hbm, ⟨27, _⟩ => ⟨S1x32, .f32⟩
  | .hbm, ⟨28, _⟩ => ⟨S2x32, .f32⟩
  | .hbm, ⟨29, _⟩ => ⟨S1x128, .f32⟩
  | .hbm, ⟨30, _⟩ => ⟨S4096x4096, .bf16⟩
  | .hbm, ⟨31, _⟩ => ⟨S4096x2048, .bf16⟩
  | .hbm, ⟨32, _⟩ => ⟨S4096x2048, .f32⟩
  | .local _ .vmem, ⟨0, _⟩ => ⟨S512x2048, .bf16⟩
  | .local _ .vmem, ⟨1, _⟩ => ⟨S512x2048, .bf16⟩
  | .local _ .vmem, ⟨2, _⟩ => ⟨S2048x896, .bf16⟩
  | .local _ .vmem, ⟨3, _⟩ => ⟨S2048x896, .bf16⟩
  | .local _ .vmem, ⟨4, _⟩ => ⟨S512x896, .bf16⟩
  | .local _ .vmem, ⟨5, _⟩ => ⟨S512x896, .bf16⟩
  | .local _ .vmem, ⟨6, _⟩ => ⟨S512x1536, .bf16⟩
  | .local _ .vmem, ⟨7, _⟩ => ⟨S512x1536, .bf16⟩
  | .local _ .vmem, ⟨8, _⟩ => ⟨S512x128, .bf16⟩
  | .local _ .vmem, ⟨9, _⟩ => ⟨S512x128, .bf16⟩
  | .local _ .vmem, ⟨10, _⟩ => ⟨S2x4x512, .f32⟩
  | .local _ .vmem, ⟨11, _⟩ => ⟨S2x4x512, .f32⟩
  | .local _ .vmem, ⟨12, _⟩ => ⟨S1x128, .f32⟩
  | .local _ .vmem, ⟨13, _⟩ => ⟨S512x512, .bf16⟩
  | .local _ .vmem, ⟨14, _⟩ => ⟨S512x512, .bf16⟩
  | .local _ .vmem, ⟨15, _⟩ => ⟨S4x128x128, .f32⟩
  | .local _ .vmem, ⟨16, _⟩ => ⟨S2x8x512, .f32⟩
  | .local _ .vmem, ⟨17, _⟩ => ⟨S512x4096, .bf16⟩
  | .local _ .vmem, ⟨18, _⟩ => ⟨S512x4096, .bf16⟩
  | .local _ .vmem, ⟨19, _⟩ => ⟨S4096x512, .bf16⟩
  | .local _ .vmem, ⟨20, _⟩ => ⟨S4096x512, .bf16⟩
  | .local _ .vmem, ⟨21, _⟩ => ⟨S512x512, .f32⟩
  | .local _ .vmem, ⟨22, _⟩ => ⟨S512x512, .f32⟩
  | .local _ .smem, ⟨0, _⟩ => ⟨S2x32, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .smem, ⟨0, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc1_scratch0 : Ref sig .tc := ⟨.vmem, 15, rfl⟩
abbrev cc1_scratch1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg2_1 : Ref sig .tc := ⟨.vmem, 22, rfl⟩
abbrev cc1_stg3_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21

abbrev nD : Nat := 1
abbrev τ : Topo := Topo.v7x

variable {F : FTy → Type} [FloatOps F]

abbrev grid0 : Pipeline.Grid := ⟨2, ![14, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x896 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![8, 8], ![false, false]⟩

@[reducible] def k1_t1_loop : Scf.Loop 32 :=
  let c0_i32_27 : BitVec 32 := 0#32
  let c4_i32 : BitVec 32 := 4#32
  let v117 : BitVec 32 := Scalar.addi c0_i32_27 c4_i32
  let c1_i32_28 : BitVec 32 := 1#32
  ⟨c0_i32_27, v117, c1_i32_28⟩
def k1_off1 (k1_t1 : Fin k1_t1_loop.trips) (c0_i32_35 : BitVec 32) : Fin 2 → Nat :=
  let c0_i32_27 : BitVec 32 := 0#32
  let c1_i32_28 : BitVec 32 := 1#32
  let arg10 : BitVec 32 := Scf.iv c0_i32_27 c1_i32_28 k1_t1
  let c2_i32 : BitVec 32 := 2#32
  let v118 : BitVec 32 := Scalar.muli arg10 c2_i32
  let v123 : BitVec 32 := Scalar.addi v118 c0_i32_35
  let c64_i32_36 : BitVec 32 := 64#32
  let v124 : BitVec 32 := Scalar.muli v123 c64_i32_36
  let v125 : Index := Scalar.indexCast v124
  let c0_37 : Index := 0#32
  ![v125.toNat, 0]
def k1_off2 (k1_t1 : Fin k1_t1_loop.trips) (c0_i32_41 : BitVec 32) : Fin 2 → Nat :=
  let c0_i32_27 : BitVec 32 := 0#32
  let c1_i32_28 : BitVec 32 := 1#32
  let arg10 : BitVec 32 := Scf.iv c0_i32_27 c1_i32_28 k1_t1
  let c2_i32 : BitVec 32 := 2#32
  let v118 : BitVec 32 := Scalar.muli arg10 c2_i32
  let v157 : BitVec 32 := Scalar.addi v118 c0_i32_41
  let c64_i32_42 : BitVec 32 := 64#32
  let v158 : BitVec 32 := Scalar.muli v157 c64_i32_42
  let v159 : Index := Scalar.indexCast v158
  let c768 : Index := 768#32
  ![v159.toNat, 768]
def k1_off3 (k1_t1 : Fin k1_t1_loop.trips) (c0_i32_46 : BitVec 32) : Fin 2 → Nat :=
  let c0_i32_27 : BitVec 32 := 0#32
  let c1_i32_28 : BitVec 32 := 1#32
  let arg10 : BitVec 32 := Scf.iv c0_i32_27 c1_i32_28 k1_t1
  let c2_i32 : BitVec 32 := 2#32
  let v118 : BitVec 32 := Scalar.muli arg10 c2_i32
  let v191 : BitVec 32 := Scalar.addi v118 c0_i32_46
  let c64_i32_47 : BitVec 32 := 64#32
  let v192 : BitVec 32 := Scalar.muli v191 c64_i32_47
  let v193 : Index := Scalar.indexCast v192
  let c0_48 : Index := 0#32
  ![v193.toNat, 0]
def k1_off4 (i : grid1.Coords) (c0_i32_59 : BitVec 32) (c0_i32_61 : BitVec 32) : Fin 2 → Nat :=
  let c0_75 : Index := 0#32
  let c2_i32_60 : BitVec 32 := 2#32
  let c2_i32_58 : BitVec 32 := 2#32
  let arg0 : BitVec 32 := BitVec.ofNat 32 (i 0).val
  let v244 : BitVec 32 := Scalar.muli c2_i32_58 arg0
  let v245 : BitVec 32 := Scalar.addi v244 c0_i32_59
  let v246 : BitVec 32 := Scalar.muli c2_i32_60 v245
  let v247 : BitVec 32 := Scalar.addi v246 c0_i32_61
  let v274 : Index := Scalar.indexCast v247
  ![0, v274.toNat]
def k1_off5 (i : grid1.Coords) (c0_i32_59 : BitVec 32) (c0_i32_61 : BitVec 32) : Fin 2 → Nat :=
  let c1_76 : Index := 1#32
  let c2_i32_60 : BitVec 32 := 2#32
  let c2_i32_58 : BitVec 32 := 2#32
  let arg0 : BitVec 32 := BitVec.ofNat 32 (i 0).val
  let v244 : BitVec 32 := Scalar.muli c2_i32_58 arg0
  let v245 : BitVec 32 := Scalar.addi v244 c0_i32_59
  let v246 : BitVec 32 := Scalar.muli c2_i32_60 v245
  let v247 : BitVec 32 := Scalar.addi v246 c0_i32_61
  let v276 : Index := Scalar.indexCast v247
  ![1, v276.toNat]
def k1_off6 (k1_t1 : Fin k1_t1_loop.trips) (c0_i32_310 : BitVec 32) : Fin 2 → Nat :=
  let c0_i32_27 : BitVec 32 := 0#32
  let c1_i32_28 : BitVec 32 := 1#32
  let arg10 : BitVec 32 := Scf.iv c0_i32_27 c1_i32_28 k1_t1
  let c2_i32 : BitVec 32 := 2#32
  let v118 : BitVec 32 := Scalar.muli arg10 c2_i32
  let v993 : BitVec 32 := Scalar.addi v118 c0_i32_310
  let c64_i32_311 : BitVec 32 := 64#32
  let v994 : BitVec 32 := Scalar.muli v993 c64_i32_311
  let v995 : Index := Scalar.indexCast v994
  let c0_312 : Index := 0#32
  ![v995.toNat, 0]
def k1_off7 (k1_t1 : Fin k1_t1_loop.trips) (c0_i32_330 : BitVec 32) : Fin 2 → Nat :=
  let c0_i32_27 : BitVec 32 := 0#32
  let c1_i32_28 : BitVec 32 := 1#32
  let arg10 : BitVec 32 := Scf.iv c0_i32_27 c1_i32_28 k1_t1
  let c2_i32 : BitVec 32 := 2#32
  let v118 : BitVec 32 := Scalar.muli arg10 c2_i32
  let v1066 : BitVec 32 := Scalar.addi v118 c0_i32_330
  let c64_i32_331 : BitVec 32 := 64#32
  let v1067 : BitVec 32 := Scalar.muli v1066 c64_i32_331
  let v1068 : Index := Scalar.indexCast v1067
  let c128 : Index := 128#32
  ![v1068.toNat, 128]
def k1_off8 (k1_t1 : Fin k1_t1_loop.trips) (c0_i32_348 : BitVec 32) : Fin 2 → Nat :=
  let c0_i32_27 : BitVec 32 := 0#32
  let c1_i32_28 : BitVec 32 := 1#32
  let arg10 : BitVec 32 := Scf.iv c0_i32_27 c1_i32_28 k1_t1
  let c2_i32 : BitVec 32 := 2#32
  let v118 : BitVec 32 := Scalar.muli arg10 c2_i32
  let v1139 : BitVec 32 := Scalar.addi v118 c0_i32_348
  let c64_i32_349 : BitVec 32 := 64#32
  let v1140 : BitVec 32 := Scalar.muli v1139 c64_i32_349
  let v1141 : Index := Scalar.indexCast v1140
  let c256 : Index := 256#32
  ![v1141.toNat, 256]
def k1_off9 (k1_t1 : Fin k1_t1_loop.trips) (c0_i32_366 : BitVec 32) : Fin 2 → Nat :=
  let c0_i32_27 : BitVec 32 := 0#32
  let c1_i32_28 : BitVec 32 := 1#32
  let arg10 : BitVec 32 := Scf.iv c0_i32_27 c1_i32_28 k1_t1
  let c2_i32 : BitVec 32 := 2#32
  let v118 : BitVec 32 := Scalar.muli arg10 c2_i32
  let v1212 : BitVec 32 := Scalar.addi v118 c0_i32_366
  let c64_i32_367 : BitVec 32 := 64#32
  let v1213 : BitVec 32 := Scalar.muli v1212 c64_i32_367
  let v1214 : Index := Scalar.indexCast v1213
  let c384 : Index := 384#32
  ![v1214.toNat, 384]
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_1 (i : grid1.Coords) : Fin 2 → Nat :=
  let arg0 : BitVec 32 := BitVec.ofNat 32 (i 0).val
  let arg1 : BitVec 32 := BitVec.ofNat 32 (i 1).val
  let c96_i32 : BitVec 32 := 96#32
  let c0_i32 : BitVec 32 := 0#32
  ![arg1.toNat, c96_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S512x1536 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S512x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S2x4x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .smem S2x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S512x512 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev grid2 : Pipeline.Grid := ⟨2, ![4, 8], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage2_0 : Fin 2 → Memref sig .tc .vmem S512x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S4096x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S512x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]
-- ==== LayerReferenceIdeal.lean ====
abbrev S4096x2048 : Shape := ⟨2, ![4096, 2048]⟩
abbrev S2048x12352 : Shape := ⟨2, ![2048, 12352]⟩
abbrev S8192x4 : Shape := ⟨2, ![8192, 4]⟩
abbrev S32 : Shape := ⟨1, ![32]⟩
abbrev S128 : Shape := ⟨1, ![128]⟩
abbrev S4096x12352 : Shape := ⟨2, ![4096, 12352]⟩
abbrev S4096x12288 : Shape := ⟨2, ![4096, 12288]⟩
abbrev S4096x64 : Shape := ⟨2, ![4096, 64]⟩
abbrev S4096x16x768 : Shape := ⟨3, ![4096, 16, 768]⟩
abbrev S4096x16x128 : Shape := ⟨3, ![4096, 16, 128]⟩
abbrev S4096x16x256 : Shape := ⟨3, ![4096, 16, 256]⟩
abbrev S4096x32x128 : Shape := ⟨3, ![4096, 32, 128]⟩
abbrev S4096x16x4 : Shape := ⟨3, ![4096, 16, 4]⟩
abbrev S4096x16x2 : Shape := ⟨3, ![4096, 16, 2]⟩
abbrev S4096x32 : Shape := ⟨2, ![4096, 32]⟩
abbrev S4096x4096 : Shape := ⟨2, ![4096, 4096]⟩
abbrev S4096x8192 : Shape := ⟨2, ![4096, 8192]⟩
abbrev S_ : Shape := ⟨0, ![]⟩
abbrev S4099x8192 : Shape := ⟨2, ![4099, 8192]⟩
abbrev S8192x1 : Shape := ⟨2, ![8192, 1]⟩
abbrev S8192 : Shape := ⟨1, ![8192]⟩
abbrev S1x8192 : Shape := ⟨2, ![1, 8192]⟩
abbrev S1x32 : Shape := ⟨2, ![1, 32]⟩
abbrev S4096x16x2x128 : Shape := ⟨4, ![4096, 16, 2, 128]⟩
abbrev S4096x32x1 : Shape := ⟨3, ![4096, 32, 1]⟩
abbrev S32x128x128 : Shape := ⟨3, ![32, 128, 128]⟩
abbrev S1x32x128 : Shape := ⟨3, ![1, 32, 128]⟩
abbrev S32x128 : Shape := ⟨2, ![32, 128]⟩
abbrev S32x1x1 : Shape := ⟨3, ![32, 1, 1]⟩
abbrev S32x1 : Shape := ⟨2, ![32, 1]⟩
abbrev S32x128x1 : Shape := ⟨3, ![32, 128, 1]⟩
abbrev S32x1x128 : Shape := ⟨3, ![32, 1, 128]⟩
abbrev S1x1x128 : Shape := ⟨3, ![1, 1, 128]⟩

abbrev nBuf : Space → Nat
  | .hbm => 217
  | .vmem => 0
  | .smem => 0
  | _ => 0

abbrev hbmTy0_0 (i : Nat) : BufTy := match i % 128 with
  | 0 => ⟨S4096x2048, .f32⟩
  | 1 => ⟨S2048x12352, .f32⟩
  | 2 => ⟨S8192x4, .f32⟩
  | 3 => ⟨S32, .f32⟩
  | 4 => ⟨S32, .f32⟩
  | 5 => ⟨S128, .f32⟩
  | 6 => ⟨S4096x2048, .f32⟩
  | 7 => ⟨S4096x12352, .f32⟩
  | 8 => ⟨S4096x12288, .f32⟩
  | 9 => ⟨S4096x64, .f32⟩
  | 10 => ⟨S4096x16x768, .f32⟩
  | 11 => ⟨S4096x16x128, .f32⟩
  | 12 => ⟨S4096x16x128, .f32⟩
  | 13 => ⟨S4096x16x256, .f32⟩
  | 14 => ⟨S4096x32x128, .f32⟩
  | 15 => ⟨S4096x16x4, .f32⟩
  | 16 => ⟨S4096x16x2, .f32⟩
  | 17 => ⟨S4096x32, .f32⟩
  | 18 => ⟨S4096x16x2, .f32⟩
  | 19 => ⟨S4096x32, .f32⟩
  | 20 => ⟨S4096x2048, .f32⟩
  | 21 => ⟨S4096x2048, .f32⟩
  | 22 => ⟨S4096x4096, .f32⟩
  | 23 => ⟨S4096x8192, .f32⟩
  | 24 => ⟨S_, .i32⟩
  | 25 => ⟨S_, .f32⟩
  | 26 => ⟨S4099x8192, .f32⟩
  | 27 => ⟨S8192x1, .f32⟩
  | 28 => ⟨S8192, .f32⟩
  | 29 => ⟨S4096x8192, .f32⟩
  | 30 => ⟨S1x8192, .f32⟩
  | 31 => ⟨S4096x8192, .f32⟩
  | 32 => ⟨S4096x8192, .f32⟩
  | 33 => ⟨S_, .f32⟩
  | 34 => ⟨S4096x8192, .f32⟩
  | 35 => ⟨S4096x8192, .f32⟩
  | 36 => ⟨S8192x1, .f32⟩
  | 37 => ⟨S8192, .f32⟩
  | 38 => ⟨S4096x8192, .f32⟩
  | 39 => ⟨S1x8192, .f32⟩
  | 40 => ⟨S4096x8192, .f32⟩
  | 41 => ⟨S4096x8192, .f32⟩
  | 42 => ⟨S4096x8192, .f32⟩
  | 43 => ⟨S8192x1, .f32⟩
  | 44 => ⟨S8192, .f32⟩
  | 45 => ⟨S4096x8192, .f32⟩
  | 46 => ⟨S1x8192, .f32⟩
  | 47 => ⟨S4096x8192, .f32⟩
  | 48 => ⟨S4096x8192, .f32⟩
  | 49 => ⟨S4096x8192, .f32⟩
  | 50 => ⟨S8192x1, .f32⟩
  | 51 => ⟨S8192, .f32⟩
  | 52 => ⟨S4096x8192, .f32⟩
  | 53 => ⟨S1x8192, .f32⟩
  | 54 => ⟨S4096x8192, .f32⟩
  | 55 => ⟨S4096x8192, .f32⟩
  | 56 => ⟨S4096x8192, .f32⟩
  | 57 => ⟨S4096x8192, .f32⟩
  | 58 => ⟨S4096x8192, .f32⟩
  | 59 => ⟨S_, .f32⟩
  | 60 => ⟨S4096x8192, .f32⟩
  | 61 => ⟨S4096x8192, .f32⟩
  | 62 => ⟨S_, .f32⟩
  | 63 => ⟨S4096x8192, .f32⟩
  | 64 => ⟨S4096x8192, .f32⟩
  | 65 => ⟨S4096x8192, .f32⟩
  | 66 => ⟨S4096x2048, .f32⟩
  | 67 => ⟨S4096x16x128, .f32⟩
  | 68 => ⟨S4096x2048, .f32⟩
  | 69 => ⟨S4096x16x128, .f32⟩
  | 70 => ⟨S4096x4096, .f32⟩
  | 71 => ⟨S4096x32x128, .f32⟩
  | 72 => ⟨S4096x32, .f32⟩
  | 73 => ⟨S4096x32, .f32⟩
  | 74 => ⟨S_, .f32⟩
  | 75 => ⟨S4096x32, .f32⟩
  | 76 => ⟨S4096x32, .f32⟩
  | 77 => ⟨S_, .f32⟩
  | 78 => ⟨S4096x32, .f32⟩
  | 79 => ⟨S4096x32, .f32⟩
  | 80 => ⟨S32, .f32⟩
  | 81 => ⟨S32, .f32⟩
  | 82 => ⟨S1x32, .f32⟩
  | 83 => ⟨S4096x32, .f32⟩
  | 84 => ⟨S4096x32, .f32⟩
  | 85 => ⟨S_, .f32⟩
  | 86 => ⟨S4096x32, .f32⟩
  | 87 => ⟨S4096x32, .f32⟩
  | 88 => ⟨S4096x32, .f32⟩
  | 89 => ⟨S4096x32, .f32⟩
  | 90 => ⟨S4096x32, .i1⟩
  | 91 => ⟨S4096x32, .f32⟩
  | 92 => ⟨S4096x32, .f32⟩
  | 93 => ⟨S4096x32, .f32⟩
  | 94 => ⟨S4096x32, .f32⟩
  | 95 => ⟨S4096x32, .f32⟩
  | 96 => ⟨S4096x32, .f32⟩
  | 97 => ⟨S4096x32, .f32⟩
  | 98 => ⟨S4096x32, .f32⟩
  | 99 => ⟨S1x32, .f32⟩
  | 100 => ⟨S4096x32, .f32⟩
  | 101 => ⟨S4096x32, .f32⟩
  | 102 => ⟨S4096x16x2x128, .f32⟩
  | 103 => ⟨S4096x32x128, .f32⟩
  | 104 => ⟨S4096x16x2x128, .f32⟩
  | 105 => ⟨S4096x32x128, .f32⟩
  | 106 => ⟨S4096x32x128, .f32⟩
  | 107 => ⟨S_, .f32⟩
  | 108 => ⟨S4096x32, .f32⟩
  | 109 => ⟨S4096x32x1, .f32⟩
  | 110 => ⟨S_, .f32⟩
  | 111 => ⟨S4096x32x1, .f32⟩
  | 112 => ⟨S4096x32x1, .f32⟩
  | 113 => ⟨S4096x32x1, .f32⟩
  | 114 => ⟨S4096x32x128, .f32⟩
  | 115 => ⟨S4096x32x128, .f32⟩
  | 116 => ⟨S_, .f32⟩
  | 117 => ⟨S4096x32x128, .f32⟩
  | 118 => ⟨S4096x32x128, .f32⟩
  | 119 => ⟨S4096x32x128, .f32⟩
  | 120 => ⟨S_, .f32⟩
  | 121 => ⟨S4096x32, .f32⟩
  | 122 => ⟨S4096x32x1, .f32⟩
  | 123 => ⟨S_, .f32⟩
  | 124 => ⟨S4096x32x1, .f32⟩
  | 125 => ⟨S4096x32x1, .f32⟩
  | 126 => ⟨S4096x32x1, .f32⟩
  | 127 => ⟨S4096x32x128, .f32⟩
  | _ => ⟨S4096x2048, .f32⟩

abbrev hbmTy0_1 (i : Nat) : BufTy := match i % 128 with
  | 0 => ⟨S4096x32x128, .f32⟩
  | 1 => ⟨S_, .f32⟩
  | 2 => ⟨S32x128x128, .f32⟩
  | 3 => ⟨S_, .f32⟩
  | 4 => ⟨S4096x32x128, .f32⟩
  | 5 => ⟨S_, .i32⟩
  | 6 => ⟨S4096x32x128, .f32⟩
  | 7 => ⟨S4096x32x128, .f32⟩
  | 8 => ⟨S4096x32x128, .f32⟩
  | 9 => ⟨S4096x32, .f32⟩
  | 10 => ⟨S4096x32, .f32⟩
  | 11 => ⟨S_, .i32⟩
  | 12 => ⟨S32x128x128, .f32⟩
  | 13 => ⟨S4096x32x128, .f32⟩
  | 14 => ⟨S_, .i32⟩
  | 15 => ⟨S_, .i1⟩
  | 16 => ⟨S_, .i32⟩
  | 17 => ⟨S_, .i32⟩
  | 18 => ⟨S1x32x128, .f32⟩
  | 19 => ⟨S32x128, .f32⟩
  | 20 => ⟨S_, .i32⟩
  | 21 => ⟨S_, .i32⟩
  | 22 => ⟨S1x32x128, .f32⟩
  | 23 => ⟨S32x128, .f32⟩
  | 24 => ⟨S_, .i32⟩
  | 25 => ⟨S_, .i32⟩
  | 26 => ⟨S1x32x128, .f32⟩
  | 27 => ⟨S32x128, .f32⟩
  | 28 => ⟨S_, .i32⟩
  | 29 => ⟨S1x32, .f32⟩
  | 30 => ⟨S32, .f32⟩
  | 31 => ⟨S_, .i32⟩
  | 32 => ⟨S1x32, .f32⟩
  | 33 => ⟨S32, .f32⟩
  | 34 => ⟨S32, .f32⟩
  | 35 => ⟨S32x1x1, .f32⟩
  | 36 => ⟨S32x128x128, .f32⟩
  | 37 => ⟨S32x128x128, .f32⟩
  | 38 => ⟨S32x128, .f32⟩
  | 39 => ⟨S32x128, .f32⟩
  | 40 => ⟨S32x1, .f32⟩
  | 41 => ⟨S32x128, .f32⟩
  | 42 => ⟨S32x128, .f32⟩
  | 43 => ⟨S32x128x1, .f32⟩
  | 44 => ⟨S32x1x128, .f32⟩
  | 45 => ⟨S32x128x128, .f32⟩
  | 46 => ⟨S32x128x128, .f32⟩
  | 47 => ⟨S32x128x128, .f32⟩
  | 48 => ⟨S32x128x128, .f32⟩
  | 49 => ⟨S32x128, .f32⟩
  | 50 => ⟨S1x32x128, .f32⟩
  | 51 => ⟨S_, .i32⟩
  | 52 => ⟨S_, .i32⟩
  | 53 => ⟨S4096x32x128, .f32⟩
  | 54 => ⟨S_, .i32⟩
  | 55 => ⟨S_, .i32⟩
  | 56 => ⟨S4096x32x128, .f32⟩
  | 57 => ⟨S_, .f32⟩
  | 58 => ⟨S4096x32, .f32⟩
  | 59 => ⟨S4096x32x1, .f32⟩
  | 60 => ⟨S_, .f32⟩
  | 61 => ⟨S4096x32x1, .f32⟩
  | 62 => ⟨S4096x32x1, .f32⟩
  | 63 => ⟨S_, .f32⟩
  | 64 => ⟨S4096x32x1, .f32⟩
  | 65 => ⟨S4096x32x1, .f32⟩
  | 66 => ⟨S4096x32x1, .f32⟩
  | 67 => ⟨S4096x32x128, .f32⟩
  | 68 => ⟨S4096x32x128, .f32⟩
  | 69 => ⟨S1x1x128, .f32⟩
  | 70 => ⟨S4096x32x128, .f32⟩
  | 71 => ⟨S4096x32x128, .f32⟩
  | 72 => ⟨S4096x12352, .f32⟩
  | 73 => ⟨S4096x12288, .f32⟩
  | 74 => ⟨S4096x16x768, .f32⟩
  | 75 => ⟨S4096x16x256, .f32⟩
  | 76 => ⟨S4096x32x128, .f32⟩
  | 77 => ⟨S4096x32x128, .f32⟩
  | 78 => ⟨S4096x32x128, .f32⟩
  | 79 => ⟨S_, .f32⟩
  | 80 => ⟨S4096x32x128, .f32⟩
  | 81 => ⟨S4096x32x128, .f32⟩
  | 82 => ⟨S_, .f32⟩
  | 83 => ⟨S4096x32x128, .f32⟩
  | 84 => ⟨S4096x32x128, .f32⟩
  | 85 => ⟨S4096x32x128, .f32⟩
  | 86 => ⟨S4096x32x128, .f32⟩
  | 87 => ⟨S4096x4096, .f32⟩
  | 88 => ⟨S4096x2048, .f32⟩
  | _ => ⟨S4096x2048, .f32⟩

abbrev hbmTy (i : Nat) : BufTy := match i / 128 with
  | 0 => hbmTy0_0 i
  | 1 => hbmTy0_1 i
  | _ => ⟨S4096x2048, .f32⟩

abbrev bufTy : (tb : Table) → Fin (tcTables nBuf tb) → BufTy
  | .hbm, ⟨i, _⟩ => hbmTy i
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_c : Ref sig .tc := ⟨.hbm, 24, rfl⟩
abbrev main_call0_v0 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_call1_v0 : Ref sig .tc := ⟨.hbm, 57, rfl⟩
abbrev main_call1_v1 : Ref sig .tc := ⟨.hbm, 58, rfl⟩
abbrev main_call1_cst : Ref sig .tc := ⟨.hbm, 59, rfl⟩
abbrev main_call1_v2 : Ref sig .tc := ⟨.hbm, 60, rfl⟩
abbrev main_call1_v3 : Ref sig .tc := ⟨.hbm, 61, rfl⟩
abbrev main_call1_cst_0 : Ref sig .tc := ⟨.hbm, 62, rfl⟩
abbrev main_call1_v4 : Ref sig .tc := ⟨.hbm, 63, rfl⟩
abbrev main_call1_v5 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_cst_0 : Ref sig .tc := ⟨.hbm, 74, rfl⟩
abbrev main_v56 : Ref sig .tc := ⟨.hbm, 75, rfl⟩
abbrev main_v57 : Ref sig .tc := ⟨.hbm, 76, rfl⟩
abbrev main_cst_1 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_call2_cst : Ref sig .tc := ⟨.hbm, 85, rfl⟩
abbrev main_call2_v0 : Ref sig .tc := ⟨.hbm, 86, rfl⟩
abbrev main_call2_v1 : Ref sig .tc := ⟨.hbm, 87, rfl⟩
abbrev main_call2_v2 : Ref sig .tc := ⟨.hbm, 88, rfl⟩
abbrev main_call2_v3 : Ref sig .tc := ⟨.hbm, 89, rfl⟩
abbrev main_call2_v4 : Ref sig .tc := ⟨.hbm, 90, rfl⟩
abbrev main_call2_v5 : Ref sig .tc := ⟨.hbm, 91, rfl⟩
abbrev main_call2_v6 : Ref sig .tc := ⟨.hbm, 92, rfl⟩
abbrev main_call2_v7 : Ref sig .tc := ⟨.hbm, 93, rfl⟩
abbrev main_call2_v8 : Ref sig .tc := ⟨.hbm, 94, rfl⟩
abbrev main_call2_v9 : Ref sig .tc := ⟨.hbm, 95, rfl⟩
abbrev main_call2_v10 : Ref sig .tc := ⟨.hbm, 96, rfl⟩
abbrev main_call2_v11 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_cst_2 : Ref sig .tc := ⟨.hbm, 107, rfl⟩
abbrev main_v74 : Ref sig .tc := ⟨.hbm, 108, rfl⟩
abbrev main_v75 : Ref sig .tc := ⟨.hbm, 109, rfl⟩
abbrev main_cst_3 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_cst_4 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_cst_5 : Ref sig .tc := ⟨.hbm, 120, rfl⟩
abbrev main_v84 : Ref sig .tc := ⟨.hbm, 121, rfl⟩
abbrev main_v85 : Ref sig .tc := ⟨.hbm, 122, rfl⟩
abbrev main_cst_6 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_cst_7 : Ref sig .tc := ⟨.hbm, 129, rfl⟩
abbrev main_v91 : Ref sig .tc := ⟨.hbm, 130, rfl⟩
abbrev main_cst_8 : Ref sig .tc := ⟨.hbm, 131, rfl⟩
abbrev main_v92 : Ref sig .tc := ⟨.hbm, 132, rfl⟩
abbrev main_c_9 : Ref sig .tc := ⟨.hbm, 133, rfl⟩
abbrev main_v93_0 : Ref sig .tc := ⟨.hbm, 134, rfl⟩
abbrev main_v93_1 : Ref sig .tc := ⟨.hbm, 135, rfl⟩
abbrev main_v93_2 : Ref sig .tc := ⟨.hbm, 136, rfl⟩
abbrev main_v93_3 : Ref sig .tc := ⟨.hbm, 137, rfl⟩
abbrev main_v93_4 : Ref sig .tc := ⟨.hbm, 138, rfl⟩
abbrev main_v93_5 : Ref sig .tc := ⟨.hbm, 139, rfl⟩
abbrev main_v93_6 : Ref sig .tc := ⟨.hbm, 140, rfl⟩
abbrev main_v93_7 : Ref sig .tc := ⟨.hbm, 141, rfl⟩
abbrev main_while0c_c_20 : Ref sig .tc := ⟨.hbm, 142, rfl⟩
abbrev main_while0c_v116 : Ref sig .tc := ⟨.hbm, 143, rfl⟩
abbrev main_while0b_call3_c : Ref sig .tc := ⟨.hbm, 144, rfl⟩
abbrev main_while0b_call3_c_0 : Ref sig .tc := ⟨.hbm, 145, rfl⟩
abbrev main_while0b_call3_v0 : Ref sig .tc := ⟨.hbm, 146, rfl⟩
abbrev main_while0b_v116 : Ref sig .tc := ⟨.hbm, 147, rfl⟩
abbrev main_while0b_call4_c : Ref sig .tc := ⟨.hbm, 148, rfl⟩
abbrev main_while0b_call4_c_0 : Ref sig .tc := ⟨.hbm, 149, rfl⟩
abbrev main_while0b_call4_v0 : Ref sig .tc := ⟨.hbm, 150, rfl⟩
abbrev main_while0b_v117 : Ref sig .tc := ⟨.hbm, 151, rfl⟩
abbrev main_while0b_call5_c : Ref sig .tc := ⟨.hbm, 152, rfl⟩
abbrev main_while0b_call5_c_0 : Ref sig .tc := ⟨.hbm, 153, rfl⟩
abbrev main_while0b_call5_v0 : Ref sig .tc := ⟨.hbm, 154, rfl⟩
abbrev main_while0b_v118 : Ref sig .tc := ⟨.hbm, 155, rfl⟩
abbrev main_while0b_call6_c : Ref sig .tc := ⟨.hbm, 156, rfl⟩
abbrev main_while0b_call6_v0 : Ref sig .tc := ⟨.hbm, 157, rfl⟩
abbrev main_while0b_v119 : Ref sig .tc := ⟨.hbm, 158, rfl⟩
abbrev main_while0b_call7_c : Ref sig .tc := ⟨.hbm, 159, rfl⟩
abbrev main_while0b_call7_v0 : Ref sig .tc := ⟨.hbm, 160, rfl⟩
abbrev main_while0b_v120 : Ref sig .tc := ⟨.hbm, 161, rfl⟩
abbrev main_while0b_v121 : Ref sig .tc := ⟨.hbm, 162, rfl⟩
abbrev main_while0b_v122 : Ref sig .tc := ⟨.hbm, 163, rfl⟩
abbrev main_while0b_v123 : Ref sig .tc := ⟨.hbm, 164, rfl⟩
abbrev main_while0b_v124 : Ref sig .tc := ⟨.hbm, 165, rfl⟩
abbrev main_while0b_v125 : Ref sig .tc := ⟨.hbm, 166, rfl⟩
abbrev main_while0b_v126 : Ref sig .tc := ⟨.hbm, 167, rfl⟩
abbrev main_while0b_v127 : Ref sig .tc := ⟨.hbm, 168, rfl⟩
abbrev main_while0b_v128 : Ref sig .tc := ⟨.hbm, 169, rfl⟩
abbrev main_while0b_v129 : Ref sig .tc := ⟨.hbm, 170, rfl⟩
abbrev main_while0b_v130 : Ref sig .tc := ⟨.hbm, 171, rfl⟩
abbrev main_while0b_v131 : Ref sig .tc := ⟨.hbm, 172, rfl⟩
abbrev main_while0b_v132 : Ref sig .tc := ⟨.hbm, 173, rfl⟩
abbrev main_while0b_v133 : Ref sig .tc := ⟨.hbm, 174, rfl⟩
abbrev main_while0b_v134 : Ref sig .tc := ⟨.hbm, 175, rfl⟩
abbrev main_while0b_v135 : Ref sig .tc := ⟨.hbm, 176, rfl⟩
abbrev main_while0b_v136 : Ref sig .tc := ⟨.hbm, 177, rfl⟩
abbrev main_while0b_call8_v0 : Ref sig .tc := ⟨.hbm, 178, rfl⟩
abbrev main_while0b_call8_c : Ref sig .tc := ⟨.hbm, 179, rfl⟩
abbrev main_while0b_call8_c_0 : Ref sig .tc := ⟨.hbm, 180, rfl⟩
abbrev main_while0b_v137 : Ref sig .tc := ⟨.hbm, 181, rfl⟩
abbrev main_while0b_c_20 : Ref sig .tc := ⟨.hbm, 182, rfl⟩
abbrev main_while0b_v138 : Ref sig .tc := ⟨.hbm, 183, rfl⟩
abbrev main_v94 : Ref sig .tc := ⟨.hbm, 184, rfl⟩
abbrev main_cst_10 : Ref sig .tc := ⟨.hbm, 185, rfl⟩
abbrev main_v95 : Ref sig .tc := ⟨.hbm, 186, rfl⟩
abbrev main_v96 : Ref sig .tc := ⟨.hbm, 187, rfl⟩
abbrev main_cst_11 : Ref sig .tc := ⟨.hbm, 188, rfl⟩
abbrev main_v97 : Ref sig .tc := ⟨.hbm, 189, rfl⟩
abbrev main_v98 : Ref sig .tc := ⟨.hbm, 190, rfl⟩
abbrev main_cst_12 : Ref sig .tc := ⟨.hbm, 191, rfl⟩
abbrev main_v99 : Ref sig .tc := ⟨.hbm, 192, rfl⟩
abbrev main_v100 : Ref sig .tc := ⟨.hbm, 193, rfl⟩
abbrev main_v101 : Ref sig .tc := ⟨.hbm, 194, rfl⟩
abbrev main_v102 : Ref sig .tc := ⟨.hbm, 195, rfl⟩
abbrev main_v103 : Ref sig .tc := ⟨.hbm, 196, rfl⟩
abbrev main_v104 : Ref sig .tc := ⟨.hbm, 197, rfl⟩
abbrev main_v105 : Ref sig .tc := ⟨.hbm, 198, rfl⟩
abbrev main_v106 : Ref sig .tc := ⟨.hbm, 199, rfl⟩
abbrev main_v107 : Ref sig .tc := ⟨.hbm, 200, rfl⟩
abbrev main_v108 : Ref sig .tc := ⟨.hbm, 201, rfl⟩
abbrev main_v109 : Ref sig .tc := ⟨.hbm, 202, rfl⟩
abbrev main_v110 : Ref sig .tc := ⟨.hbm, 203, rfl⟩
abbrev main_v111 : Ref sig .tc := ⟨.hbm, 204, rfl⟩
abbrev main_call9_v0 : Ref sig .tc := ⟨.hbm, 205, rfl⟩
abbrev main_call9_v1 : Ref sig .tc := ⟨.hbm, 206, rfl⟩
abbrev main_call9_cst : Ref sig .tc := ⟨.hbm, 207, rfl⟩
abbrev main_call9_v2 : Ref sig .tc := ⟨.hbm, 208, rfl⟩
abbrev main_call9_v3 : Ref sig .tc := ⟨.hbm, 209, rfl⟩
abbrev main_call9_cst_0 : Ref sig .tc := ⟨.hbm, 210, rfl⟩
abbrev main_call9_v4 : Ref sig .tc := ⟨.hbm, 211, rfl⟩
abbrev main_call9_v5 : Ref sig .tc := ⟨.hbm, 212, rfl⟩
abbrev main_v112 : Ref sig .tc := ⟨.hbm, 213, rfl⟩
abbrev main_v113 : Ref sig .tc := ⟨.hbm, 214, rfl⟩
abbrev main_v114 : Ref sig .tc := ⟨.hbm, 215, rfl⟩
abbrev main_v115 : Ref sig .tc := ⟨.hbm, 216, rfl⟩

abbrev nD : Nat := 1
abbrev τ : Topo := Topo.v7x

variable {F : FTy → Type} [FloatOps F]

abbrev main_while0_count : Scf.Loop 32 := ⟨0#32, 4096#32, 1#32⟩
-- ==== InProj.lean ====
abbrev S4096x2048 : Shape := ⟨2, ![4096, 2048]⟩
abbrev S2048x12352 : Shape := ⟨2, ![2048, 12352]⟩
abbrev S_ : Shape := ⟨0, ![]⟩
abbrev S2048x12544 : Shape := ⟨2, ![2048, 12544]⟩
abbrev S4096x12544 : Shape := ⟨2, ![4096, 12544]⟩
abbrev S512x2048 : Shape := ⟨2, ![512, 2048]⟩
abbrev S2048x896 : Shape := ⟨2, ![2048, 896]⟩
abbrev S512x896 : Shape := ⟨2, ![512, 896]⟩

abbrev nBuf : Space → Nat
  | .hbm => 8
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S2048x12352, .f32⟩
  | .hbm, ⟨2, _⟩ => ⟨S2048x12352, .bf16⟩
  | .hbm, ⟨3, _⟩ => ⟨S_, .i32⟩
  | .hbm, ⟨4, _⟩ => ⟨S_, .bf16⟩
  | .hbm, ⟨5, _⟩ => ⟨S2048x12544, .bf16⟩
  | .hbm, ⟨6, _⟩ => ⟨S4096x2048, .bf16⟩
  | .hbm, ⟨7, _⟩ => ⟨S4096x12544, .bf16⟩
  | .local _ .vmem, ⟨0, _⟩ => ⟨S512x2048, .bf16⟩
  | .local _ .vmem, ⟨1, _⟩ => ⟨S512x2048, .bf16⟩
  | .local _ .vmem, ⟨2, _⟩ => ⟨S2048x896, .bf16⟩
  | .local _ .vmem, ⟨3, _⟩ => ⟨S2048x896, .bf16⟩
  | .local _ .vmem, ⟨4, _⟩ => ⟨S512x896, .bf16⟩
  | .local _ .vmem, ⟨5, _⟩ => ⟨S512x896, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![14, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x896 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InProjReferenceIdeal.lean ====
abbrev S4096x2048 : Shape := ⟨2, ![4096, 2048]⟩
abbrev S2048x12352 : Shape := ⟨2, ![2048, 12352]⟩
abbrev S4096x12352 : Shape := ⟨2, ![4096, 12352]⟩
abbrev S_ : Shape := ⟨0, ![]⟩
abbrev S4096x12544 : Shape := ⟨2, ![4096, 12544]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x12352, .f32⟩
  | .hbm, ⟨2, _⟩ => ⟨S4096x12352, .f32⟩
  | .hbm, ⟨3, _⟩ => ⟨S_, .i32⟩
  | .hbm, ⟨4, _⟩ => ⟨S_, .f32⟩
  | .hbm, ⟨5, _⟩ => ⟨S4096x12544, .f32⟩
  | .hbm, ⟨6, _⟩ => ⟨S4096x12544, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩

abbrev nD : Nat := 1
abbrev τ : Topo := Topo.v7x

variable {F : FTy → Type} [FloatOps F]
-- ==== OutProj.lean ====
abbrev S4096x4096 : Shape := ⟨2, ![4096, 4096]⟩
abbrev S4096x2048 : Shape := ⟨2, ![4096, 2048]⟩
abbrev S512x4096 : Shape := ⟨2, ![512, 4096]⟩
abbrev S4096x512 : Shape := ⟨2, ![4096, 512]⟩
abbrev S512x512 : Shape := ⟨2, ![512, 512]⟩

abbrev nBuf : Space → Nat
  | .hbm => 4
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4096x2048, .f32⟩
  | .hbm, ⟨2, _⟩ => ⟨S4096x2048, .bf16⟩
  | .hbm, ⟨3, _⟩ => ⟨S4096x2048, .f32⟩
  | .local _ .vmem, ⟨0, _⟩ => ⟨S512x4096, .bf16⟩
  | .local _ .vmem, ⟨1, _⟩ => ⟨S512x4096, .bf16⟩
  | .local _ .vmem, ⟨2, _⟩ => ⟨S4096x512, .bf16⟩
  | .local _ .vmem, ⟨3, _⟩ => ⟨S4096x512, .bf16⟩
  | .local _ .vmem, ⟨4, _⟩ => ⟨S512x512, .f32⟩
  | .local _ .vmem, ⟨5, _⟩ => ⟨S512x512, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== OutProjReferenceIdeal.lean ====
abbrev S4096x4096 : Shape := ⟨2, ![4096, 4096]⟩
abbrev S4096x2048 : Shape := ⟨2, ![4096, 2048]⟩

abbrev nBuf : Space → Nat
  | .hbm => 4
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x2048, .f32⟩
  | .hbm, ⟨2, _⟩ => ⟨S4096x4096, .f32⟩
  | .hbm, ⟨3, _⟩ => ⟨S4096x2048, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.InIdealRegion.lean ====
/- The first call: the obligation of its body at every grid point, from any contents `V` of the unscoped buffers at its entry. -/
module

public import proofs.«01_k».proof.Proof.Gen.LayerIdeal.Launch
public import proofs.«01_k».proof.Proof.Gen.LayerIdeal.Skeleton
public import proofs.«01_k».proof.Proof.Gen.LayerIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.LayerIdeal.In

open Cert.LayerIdeal Cert.LayerIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

/-- All of the first buffer. -/
abbrev r0_0 : Rect S512x2048 := Rect.unit (s := S512x2048) ![0, 0] S512x2048.size inb_S512x2048_S512x2048_0_0
/-- All of the second buffer. -/
abbrev r0_1 : Rect S2048x896 := Rect.unit (s := S2048x896) ![0, 0] S2048x896.size inb_S2048x896_S2048x896_0_0
/-- All of the third buffer. -/
abbrev r0_2 : Rect S512x896 := Rect.unit (s := S512x896) ![0, 0] S512x896.size inb_S512x896_S512x896_0_0

/-! ## What the body leaves in each output window's buffer -/

/-- Window 2's staging buffer after the body, from the input windows' blocks: its 1 store as pieces, LAST
    FIRST (Lib/Pipeline/FrameBody.lean `View.canon`; the payloads are the skeleton's). -/
def out0_2 (x0 : Vec F S512x2048 .bf16) (x1 : Vec F S2048x896 .bf16) : Vec F S512x896 .bf16 :=
  View.canon [⟨r0_2, k0_pay1 (View.ld x0 r0_0) (View.ld x1 r0_1)⟩]

/-- Its stores tile the buffer (checked by evaluation), so they cover it. -/
theorem cover0_2 (p0 : Vec F S512x896 .bf16) (y : S512x896.Idx) :
    ∃ pc ∈ ([⟨r0_2, p0⟩] : List (View.Piece (Elt F) S512x896 .bf16)), y ∈ pc.1.set :=
  View.cover_of_tiled [⟨r0_2, p0⟩] S512x896.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel (c : Dev nD) (E : Set ℕ) (i : grid0.Coords) (arg2 : Memref sig .tc .vmem S512x2048 .bf16) (harg2 : arg2.IsWhole) (arg3 : Memref sig .tc .vmem S2048x896 .bf16) (harg3 : arg3.IsWhole) (arg4 : Memref sig .tc .vmem S512x896 .bf16) (harg4 : arg4.IsWhole)
    (x0 : Vec F S512x2048 .bf16) (x1 : Vec F S2048x896 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out0_2 x0 x1)) -∗ K ⟨⟩))
      ⊢ wp frame (wpE (defs₀ (F := F)) Variants.none c none) E (cc0_gdn_in_proj i arg2 harg2 arg3 harg3 arg4 harg4) K := by
  simp only [cc0_gdn_in_proj_eq_skeleton]; unfold cc0_gdn_in_proj_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of the one pipeline on core `c`: the arrays as the region finds them (`V`); after the body at
    point `t` each input's buffer at its block and each output's at `out0_W` of the input blocks; the invariant the
    class's (Lib/Pipeline/Frame.lean `ΦA`: the scoped rest and the generator register, untouched); nothing owed;
    full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => out0_2 (iblk V c 0 t) (iblk V c 1 t)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dat V c).A w = V c (Pipeline.arrRef spec0 w) := by
  dsimp only [dat]

/-- What the body leaves, window by window (the proof data's `match` reduced by `dsimp`, never `rfl`: Lib/Pipeline.lean `Dat`). -/
theorem after0_0 (c : Dev nD) (t : Fin cfg0.N) : (dat V c).after 0 t = iblk V c 0 t := by dsimp only [dat]
/-- After a point the second window holds its block still. -/
theorem after0_1 (c : Dev nD) (t : Fin cfg0.N) : (dat V c).after 1 t = iblk V c 1 t := by dsimp only [dat]
/-- After a point the output window holds the product. -/
theorem after0_2 (c : Dev nD) (t : Fin cfg0.N) : (dat V c).after 2 t = out0_2 (iblk V c 0 t) (iblk V c 1 t) := by dsimp only [dat]

/-- Each input's current staging buffer holds its block at every point, fetched there or not (`beforeK_W_of`). -/
theorem before0_0 (c : Dev nD) (t : Fin cfg0.N) (d) : (dat V c).before 0 t d = iblk V c 0 t :=
  before0_0_of V (dat V c) (A_eq V c 0) (after0_0 V c) t d
/-- Before a point the second window holds its block. -/
theorem before0_1 (c : Dev nD) (t : Fin cfg0.N) (d) : (dat V c).before 1 t d = iblk V c 1 t :=
  before0_1_of V (dat V c) (A_eq V c 1) (after0_1 V c) t d

/-! ## The body obligation, at a generic point -/

/-- What the body is called with at point `t` (Lib/Pipeline.lean `BodyObligation`'s precondition, the windows one by one), -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t))

/-- The body at any point: the inputs' memrefs hold their blocks (`before0_W`), so `sound_kernel` applies; the invariant and
    the core's `owes` pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1]
  rw [show (dat V c).Φ t.succ = (dat V c).Φ t.castSucc from rfl,
    show (dat V c).owesAt () t.succ = (dat V c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk V c 0 t) (iblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dat (F := F) V c) (defs₀ (F := F)) Variants.none () Set.univ := fun t => by
  rw [bigSep_W0, bigSep_W0, defs₀_row]
  exact triple_restated (sound_body V c t) rfl .rfl fun _ => .rfl

end Cert.LayerIdeal.In

end
-- ==== Proof.CoreIdealBlocks.lean ====
/- The second call: its blocks point by point, and its invariant, from any contents `V` of the unscoped buffers at its entry. -/
module

public import proofs.«01_k».proof.Proof.Gen.LayerIdeal.Launch
public import proofs.«01_k».proof.Proof.Gen.LayerIdeal.Skeleton
public import proofs.«01_k».proof.Proof.Gen.LayerIdeal.Loops
public import proofs.«01_k».proof.Proof.Gen.LayerIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.LayerIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! ## The windows' blocks -/

/-- Window `w`'s block at point `t`, read off its array as the region finds it (`V`). -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 is of the clipped KIND (its block does not tile its array `S4096x12544`), but no block the grid
    reaches is cut, so no part of its staging buffer is left unfilled by a fetch. A default for such a part, which
    nothing reads. -/
def dflt1_0 : (cfg1.win 0).block.Idx → Elt F (cfg1.win 0).elt := fun _ => Classical.choice inferInstance
/-- What input window 0's current staging buffer holds when the body runs at `t`: its block read off the array,
    filled over `dflt1_0` (block-typed, where `iblk` is typed at the cut). -/
def X1_0 (c : Dev nD) (t : Fin cfg1.N) : (cfg1.win 0).block.Idx → Elt F (cfg1.win 0).elt :=
  (cfg1.win 0).fill (cfg1.grid.coords t) dflt1_0 (iblk V c 0 t)
/-- At every point the cut's extent is the block's, decided over the grid: no transfer of input window 0 is cut. -/
theorem xsize1_0 : ∀ t : Fin cfg1.N, ∀ a, (cfg1.win 0).xsize (cfg1.grid.coords t) a = (cfg1.win 0).size a := by decide +kernel
/-- Every index of input window 0's block is moved at every point. -/
theorem moved1_0 (t : Fin cfg1.N) (j : (cfg1.win 0).block.Idx) : (cfg1.win 0).moved (cfg1.grid.coords t) j = true :=
  ((cfg1.win 0).moved_iff _ j).mpr fun a => by rw [xsize1_0 t a]; exact (j a).isLt
/-- A fill of input window 0's block covers the whole buffer, whatever it held. -/
theorem fill1_0 (t : Fin cfg1.N) (d d' : (cfg1.win 0).block.Idx → Elt F (cfg1.win 0).elt) (g) :
    (cfg1.win 0).fill (cfg1.grid.coords t) d g = (cfg1.win 0).fill (cfg1.grid.coords t) d' g := by
  funext j; unfold Pipeline.Window.fill; rw [dif_pos (moved1_0 t j), dif_pos (moved1_0 t j)]
/-- Input window 0's current staging buffer holds `X1_0` at every point, fetched there or not, for ANY proof data whose
    array is `V`'s (`hA`) and whose body leaves it in place (`hafter`): Lib/Pipeline/FrameBody.lean
    `Dat.before_in_eq_fetched`, its cut a function of its block index (`hclip` by rewriting the index), the fetch
    filling the whole block (`fill1_0`). -/
theorem before1_0_of {c : Dev nD} (dat : Dat τ (Elt F) Unit ℕ (UR sig nD τ) ℕ cfg1 c) (hA : dat.A 0 = V c (Pipeline.arrRef spec1 0))
    (hafter : ∀ t, dat.after 0 t = X1_0 V c t) (t : Fin cfg1.N) (d) : dat.before 0 t d = X1_0 V c t :=
  (dat.before_in_eq_fetched 0 rfl (fun _ => rfl)
      (fun t t' h => funext fun a => congrArg (fun n => Pipeline.Clip.of n ((cfg1.win 0).size a) (S4096x12544.size a)) (congrFun h a))
      (fun t => by rw [hafter]; unfold X1_0; rw [Pipeline.Window.cut_fill]; unfold Dat.blockOf iblk; rw [hA]; try rfl) t d).trans
    (by unfold Dat.fetched X1_0; rw [fill1_0 t d dflt1_0]; unfold Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The condition of the body's `scf.if` 0 (`k1_h1`), from the grid coordinates (the skeleton's scalar
    chain substituted). -/
abbrev cond1_0 (i : grid1.Coords) : Prop := (Scalar.cmpi .ne (Scalar.extui (Scalar.cmpi .eq (BitVec.ofNat 32 (i 1).val) 0#32)) 0#32) = 1#1
/-- It holds at the points ≡ 0 (mod 8) — by arithmetic of the point. -/
theorem hcond1_0 : ∀ t : Fin cfg1.N, cond1_0 (grid1.coords t) ↔ t.val % 8 = 0 :=
  (fun t => by
    have ht : t.val < 64 := Nat.lt_of_lt_of_eq t.isLt N_1
    have e0 : (grid1.coords t 0).val = t.val / 8 % 8 := Pipeline.Grid.coords_val t 0 (by decide) rfl
    have e1 : (grid1.coords t 1).val = t.val / 1 % 8 := Pipeline.Grid.coords_val t 1 (by decide) rfl
    simp only [cond1_0, e0, e1]
    word_cmp
   : ∀ t : Fin grid1.N, cond1_0 (grid1.coords t) ↔ t.val % 8 = 0)

/-! ## The kernel body on any staging memrefs: a subtype the run finds -/

/-- One staging buffer of output window 5, through which its contents are stated (`View.read_writes_of_cover`: the
    choice does not matter). -/
abbrev VO1_5 : View sig .tc .vmem S512x512 .bf16 := (Memref.whole cc1_stg5_0 : Memref sig .tc .vmem S512x512 .bf16).view
/-- Each window's current staging memref at point `t`, spelled as the pipeline passes it (`bodyAt1`), and its wholeness. -/
abbrev ms1_0 (t : Fin cfg1.N) : Memref sig .tc .vmem S512x1536 .bf16 := win1_0.stage (cfg1.slots t 0)
/-- The first window's buffer is whole. -/
abbrev hs1_0 (t : Fin cfg1.N) : (ms1_0 t).IsWhole := hstage1_0 ((cfg1.slots t 0).cast nbuf1_0)
/-- The second window's buffer. -/
abbrev ms1_1 (t : Fin cfg1.N) : Memref sig .tc .vmem S512x128 .bf16 := win1_1.stage (cfg1.slots t 1)
/-- The second window's buffer is whole. -/
abbrev hs1_1 (t : Fin cfg1.N) : (ms1_1 t).IsWhole := hstage1_1 ((cfg1.slots t 1).cast nbuf1_1)
/-- The third window's buffer. -/
abbrev ms1_2 (t : Fin cfg1.N) : Memref sig .tc .vmem S2x4x512 .f32 := win1_2.stage (cfg1.slots t 2)
/-- The third window's buffer is whole. -/
abbrev hs1_2 (t : Fin cfg1.N) : (ms1_2 t).IsWhole := hstage1_2 ((cfg1.slots t 2).cast nbuf1_2)
/-- The fourth window's buffer. -/
abbrev ms1_3 (t : Fin cfg1.N) : Memref sig .tc .smem S2x32 .f32 := win1_3.stage (cfg1.slots t 3)
/-- The fourth window's buffer is whole. -/
abbrev hs1_3 (t : Fin cfg1.N) : (ms1_3 t).IsWhole := hstage1_3 ((cfg1.slots t 3).cast nbuf1_3)
/-- The fifth window's buffer. -/
abbrev ms1_4 (t : Fin cfg1.N) : Memref sig .tc .vmem S1x128 .f32 := win1_4.stage (cfg1.slots t 4)
/-- The fifth window's buffer is whole. -/
abbrev hs1_4 (t : Fin cfg1.N) : (ms1_4 t).IsWhole := hstage1_4 ((cfg1.slots t 4).cast nbuf1_4)
/-- The sixth window's buffer. -/
abbrev ms1_5 (t : Fin cfg1.N) : Memref sig .tc .vmem S512x512 .bf16 := win1_5.stage (cfg1.slots t 5)
/-- The sixth window's buffer is whole. -/
abbrev hs1_5 (t : Fin cfg1.N) : (ms1_5 t).IsWhole := hstage1_5 ((cfg1.slots t 5).cast nbuf1_5)
/-- The scratch operands: whole scoped buffers of the kernel's own, passed beside the windows. -/
abbrev scM1_0 : Memref sig .tc .vmem S4x128x128 .f32 := Memref.whole cc1_scratch0
/-- The second scratch. -/
abbrev scM1_1 : Memref sig .tc .vmem S2x8x512 .f32 := Memref.whole cc1_scratch1
/-- The scratch `arg8` the kernel carries between points, as a view: what it holds is stated through it. -/
abbrev VS1_0 : View sig .tc .vmem S4x128x128 .f32 := scM1_0.view
/-- The scratch `arg9` the kernel carries between points, as a view: what it holds is stated through it. -/
abbrev VS1_1 : View sig .tc .vmem S2x8x512 .f32 := scM1_1.view

/-- The other scoped buffers of the program, at anything, and the generator register: what the second call holds but never touches. -/
def sideR (c : Dev nD) : sProp 𝕄 :=
  iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f))
    ∗ ((∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f))
    ∗ (∃ r, prngReg c r))

/-- The second call's invariant before its first point: the two scratches at anything, beside what it never touches. -/
def PhiA1 (c : Dev nD) : sProp 𝕄 :=
  iprop(iprop((∃ d, owns (c : Thread nD τ) scM1_0 fullShare d) ∗ (∃ d, owns (c : Thread nD τ) scM1_1 fullShare d)) ∗ sideR c)

/-- The scoped buffers the call does not stage and the generator register give that invariant. -/
theorem PhiA1_in (c : Dev nD) : (Pipeline.ΦA spec1 c : sProp 𝕄) ⊢ PhiA1 c := by
  unfold Pipeline.ΦA PhiA1 sideR; rw [scopedRest1_eq]; simp only [scM1_0, scM1_1, owns_whole]
  iintro ⟨⟨A0, A1, A2, A3, A4, A5, HS0, HS1, B⟩, Hg⟩
  isplitl [HS0 HS1]
  · isplitl [HS0]; · iexact HS0
    iexact HS1
  isplitl [A0 A1 A2 A3 A4 A5]
  · isplitl [A0]; · iexact A0
    isplitl [A1]; · iexact A1
    isplitl [A2]; · iexact A2
    isplitl [A3]; · iexact A3
    isplitl [A4]; · iexact A4
    iexact A5
  isplitl [B]; · iexact B
  iexact Hg

/-- And that invariant gives them back. -/
theorem PhiA1_out (c : Dev nD) : PhiA1 c ⊢ (Pipeline.ΦA spec1 c : sProp 𝕄) := by
  unfold Pipeline.ΦA PhiA1 sideR; rw [scopedRest1_eq]; simp only [scM1_0, scM1_1, owns_whole]
  iintro ⟨⟨HS0, HS1⟩, ⟨A0, A1, A2, A3, A4, A5⟩, B, Hg⟩
  isplitr [Hg]
  · isplitl [A0]; · iexact A0
    isplitl [A1]; · iexact A1
    isplitl [A2]; · iexact A2
    isplitl [A3]; · iexact A3
    isplitl [A4]; · iexact A4
    isplitl [A5]; · iexact A5
    isplitl [HS0]; · iexact HS0
    isplitl [HS1]; · iexact HS1
    iexact B
  iexact Hg

end Cert.LayerIdeal.Gen

end
-- ==== Proof.CoreIdealTrip.lean ====
/- The output buffer is only ever written in the chunk loop of the second call of `LayerIdeal`: what the trips leave does not depend on what it held before. -/
module

public import proofs.«01_k».proof.Proof.CoreIdealBlocks

@[expose] public section

set_option maxRecDepth 16384

noncomputable section

namespace Cert.LayerIdeal.Gen

open Idealize.ShloMosaic Idealize.ShloMosaic.TcCoe Idealize.ShloMosaic.Tactic
open Idealize.SL Idealize.SL.RA Idealize.SL.BI
open Idealize.SL.Sem

variable {F : FTy → Type} [FloatOps F]

/-- One trip's pieces do not depend on the output buffer's contents. -/
theorem trip_indep (𝒱 : Variants) (c : Dev nD) (bd : Option 𝒱.V) (i : grid1.Coords) (arg2 : Memref sig .tc .vmem S512x1536 .bf16) (harg2 : arg2.IsWhole) (arg3 : Memref sig .tc .vmem S512x128 .bf16) (harg3 : arg3.IsWhole) (arg4 : Memref sig .tc .vmem S2x4x512 .f32) (harg4 : arg4.IsWhole) (arg5 : Memref sig .tc .smem S2x32 .f32) (harg5 : arg5.IsWhole) (arg6 : Memref sig .tc .vmem S1x128 .f32) (harg6 : arg6.IsWhole) (arg7 : Memref sig .tc .vmem S512x512 .bf16) (harg7 : arg7.IsWhole) (arg8 : Memref sig .tc .vmem S4x128x128 .f32) (harg8 : arg8.IsWhole) (arg9 : Memref sig .tc .vmem S2x8x512 .f32) (harg9 : arg9.IsWhole) (arg0 : BitVec 32) (v55 : IVec S256x256 1) (v57 : IVec S256x256 1) (v59 : FVec F S256x256 .f32) (v62 : FVec F S256x256 .f32) (v64 : IVec S256x512 32) (v88 : IVec S256x512 32) (c128_i32 : BitVec 32) (v90 : IVec S256x512 32) (v91 : IVec S256x512 32) (v114 : IVec S1x128 32) (v115 : Vec F S1x128 .f32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (k : Fin k1_t1_loop.trips) (f7 f7' : BufTy.Contents (Elt F) arg7.view.ty) (f8 : BufTy.Contents (Elt F) arg8.view.ty) (f9 : BufTy.Contents (Elt F) arg9.view.ty) :
    tripL_k1_t1 (F := F) 𝒱 c bd i arg2 harg2 arg3 harg3 arg4 harg4 arg5 harg5 arg6 harg6 arg7 harg7 arg8 harg8 arg9 harg9 arg0 v55 v57 v59 v62 v64 v88 c128_i32 v90 v91 v114 v115 X_arg2 X_arg3 X_arg4 X_arg5 k f7 f8 f9 = tripL_k1_t1 (F := F) 𝒱 c bd i arg2 harg2 arg3 harg3 arg4 harg4 arg5 harg5 arg6 harg6 arg7 harg7 arg8 harg8 arg9 harg9 arg0 v55 v57 v59 v62 v64 v88 c128_i32 v90 v91 v114 v115 X_arg2 X_arg3 X_arg4 X_arg5 k f7' f8 f9 := by
  unfold tripL_k1_t1 trip_k1_t1
  rfl

/-- Nor do the pieces of several trips. -/
theorem pb_indep (𝒱 : Variants) (c : Dev nD) (bd : Option 𝒱.V) (i : grid1.Coords) (arg2 : Memref sig .tc .vmem S512x1536 .bf16) (harg2 : arg2.IsWhole) (arg3 : Memref sig .tc .vmem S512x128 .bf16) (harg3 : arg3.IsWhole) (arg4 : Memref sig .tc .vmem S2x4x512 .f32) (harg4 : arg4.IsWhole) (arg5 : Memref sig .tc .smem S2x32 .f32) (harg5 : arg5.IsWhole) (arg6 : Memref sig .tc .vmem S1x128 .f32) (harg6 : arg6.IsWhole) (arg7 : Memref sig .tc .vmem S512x512 .bf16) (harg7 : arg7.IsWhole) (arg8 : Memref sig .tc .vmem S4x128x128 .f32) (harg8 : arg8.IsWhole) (arg9 : Memref sig .tc .vmem S2x8x512 .f32) (harg9 : arg9.IsWhole) (arg0 : BitVec 32) (v55 : IVec S256x256 1) (v57 : IVec S256x256 1) (v59 : FVec F S256x256 .f32) (v62 : FVec F S256x256 .f32) (v64 : IVec S256x512 32) (v88 : IVec S256x512 32) (c128_i32 : BitVec 32) (v90 : IVec S256x512 32) (v91 : IVec S256x512 32) (v114 : IVec S1x128 32) (v115 : Vec F S1x128 .f32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (G_arg7 G_arg7' : BufTy.Contents (Elt F) arg7.view.ty) (G_arg8 : BufTy.Contents (Elt F) arg8.view.ty) (G_arg9 : BufTy.Contents (Elt F) arg9.view.ty) (n : ℕ) (hn : n ≤ k1_t1_loop.trips) :
    pb_k1_t1 (F := F) 𝒱 c bd i arg2 harg2 arg3 harg3 arg4 harg4 arg5 harg5 arg6 harg6 arg7 harg7 arg8 harg8 arg9 harg9 arg0 v55 v57 v59 v62 v64 v88 c128_i32 v90 v91 v114 v115 X_arg2 X_arg3 X_arg4 X_arg5 G_arg7 G_arg8 G_arg9 n = pb_k1_t1 (F := F) 𝒱 c bd i arg2 harg2 arg3 harg3 arg4 harg4 arg5 harg5 arg6 harg6 arg7 harg7 arg8 harg8 arg9 harg9 arg0 v55 v57 v59 v62 v64 v88 c128_i32 v90 v91 v114 v115 X_arg2 X_arg3 X_arg4 X_arg5 G_arg7' G_arg8 G_arg9 n := by
  induction n with
  | zero => rfl
  | succ k ih =>
    have h1 := pb_k1_t1_succ (F := F) 𝒱 c bd i arg2 harg2 arg3 harg3 arg4 harg4 arg5 harg5 arg6 harg6 arg7 harg7 arg8 harg8 arg9 harg9 arg0 v55 v57 v59 v62 v64 v88 c128_i32 v90 v91 v114 v115 X_arg2 X_arg3 X_arg4 X_arg5 G_arg7 G_arg8 G_arg9 ⟨k, hn⟩
    have h2 := pb_k1_t1_succ (F := F) 𝒱 c bd i arg2 harg2 arg3 harg3 arg4 harg4 arg5 harg5 arg6 harg6 arg7 harg7 arg8 harg8 arg9 harg9 arg0 v55 v57 v59 v62 v64 v88 c128_i32 v90 v91 v114 v115 X_arg2 X_arg3 X_arg4 X_arg5 G_arg7' G_arg8 G_arg9 ⟨k, hn⟩
    refine h1.trans (Eq.trans ?_ h2.symm)
    rw [ih (by omega)]
    rw [trip_indep 𝒱 c bd i arg2 harg2 arg3 harg3 arg4 harg4 arg5 harg5 arg6 harg6 arg7 harg7 arg8 harg8 arg9 harg9 arg0 v55 v57 v59 v62 v64 v88 c128_i32 v90 v91 v114 v115 X_arg2 X_arg3 X_arg4 X_arg5 ⟨k, hn⟩ (arg7.view.writes (Elt F) G_arg7 _) (arg7.view.writes (Elt F) G_arg7' (pb_k1_t1 (F := F) 𝒱 c bd i arg2 harg2 arg3 harg3 arg4 harg4 arg5 harg5 arg6 harg6 arg7 harg7 arg8 harg8 arg9 harg9 arg0 v55 v57 v59 v62 v64 v88 c128_i32 v90 v91 v114 v115 X_arg2 X_arg3 X_arg4 X_arg5 G_arg7' G_arg8 G_arg9 k).1)]

end Cert.LayerIdeal.Gen

end
-- ==== Proof.CoreIdealRunA.lean ====
/- The run of the body of the second call of `LayerIdeal` at the first chunk block of a head pair, where state and carried rows are zeroed. -/
module

public import proofs.«01_k».proof.Proof.CoreIdealTrip

@[expose] public section

set_option maxRecDepth 16384

noncomputable section

namespace Cert.LayerIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 8000000 in
/-- The run of the body of the second call of `LayerIdeal`: with it, the pieces it stores into the output's buffer and into the two carried scratches, found by the run. -/
noncomputable def kernelRun1_A (c : Dev nD) (i : grid1.Coords) (arg2 : Memref sig .tc .vmem S512x1536 .bf16) (harg2 : arg2.IsWhole) (arg3 : Memref sig .tc .vmem S512x128 .bf16) (harg3 : arg3.IsWhole) (arg4 : Memref sig .tc .vmem S2x4x512 .f32) (harg4 : arg4.IsWhole) (arg5 : Memref sig .tc .smem S2x32 .f32) (harg5 : arg5.IsWhole) (arg6 : Memref sig .tc .vmem S1x128 .f32) (harg6 : arg6.IsWhole) (arg7 : Memref sig .tc .vmem S512x512 .bf16) (harg7 : arg7.IsWhole) (arg8 : Memref sig .tc .vmem S4x128x128 .f32) (harg8 : arg8.IsWhole) (arg9 : Memref sig .tc .vmem S2x8x512 .f32) (harg9 : arg9.IsWhole) (hc0 : cond1_0 i)
    (x0 : Vec F S512x1536 .bf16) (x1 : Vec F S512x128 .bf16) (x2 : Vec F S2x4x512 .f32) (x3 : Vec F S2x32 .f32) (x4 : Vec F S1x128 .f32) :
    Σ' (L5 : List (View.Piece (Elt F) S512x512 .bf16)), Σ' (LS0 : List (View.Piece (Elt F) S4x128x128 .f32)), { LS1 : List (View.Piece (Elt F) S2x8x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc1_gdn_core i arg2 harg2 arg3 harg3 arg4 harg4 arg5 harg5 arg6 harg6 arg7 harg7 arg8 harg8 arg9 harg9) K } := by
  refine ⟨?_, ?_, ?_, fun E K => ?run⟩
  case run =>
    simp only [cc1_gdn_core_eq_skeleton]; unfold cc1_gdn_core_skel
    simp only [k1_part26_eq_skeleton, k1_part27_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4
    sl_exec (disch := first | sl_exact hc0)
    sl_step
    rw [pb_indep (G_arg7 := f5) (G_arg7' := arg7.view.junk) (hn := le_refl _)]
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [HS0]; · iexists _; iexact HS0
    iexists _; iexact HS1

end Cert.LayerIdeal.Gen

end
-- ==== Proof.CoreIdealRunB.lean ====
/- The run of the body of the second call of `LayerIdeal` at a later chunk block, which goes on from the state and the carried rows. -/
module

public import proofs.«01_k».proof.Proof.CoreIdealRunA

@[expose] public section

set_option maxRecDepth 16384

noncomputable section

namespace Cert.LayerIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 8000000 in
/-- The run of the body of the second call of `LayerIdeal`: with it, the pieces it stores into the output's buffer and into the two carried scratches, found by the run. -/
noncomputable def kernelRun1_B (c : Dev nD) (i : grid1.Coords) (arg2 : Memref sig .tc .vmem S512x1536 .bf16) (harg2 : arg2.IsWhole) (arg3 : Memref sig .tc .vmem S512x128 .bf16) (harg3 : arg3.IsWhole) (arg4 : Memref sig .tc .vmem S2x4x512 .f32) (harg4 : arg4.IsWhole) (arg5 : Memref sig .tc .smem S2x32 .f32) (harg5 : arg5.IsWhole) (arg6 : Memref sig .tc .vmem S1x128 .f32) (harg6 : arg6.IsWhole) (arg7 : Memref sig .tc .vmem S512x512 .bf16) (harg7 : arg7.IsWhole) (arg8 : Memref sig .tc .vmem S4x128x128 .f32) (harg8 : arg8.IsWhole) (arg9 : Memref sig .tc .vmem S2x8x512 .f32) (harg9 : arg9.IsWhole) (hc0 : ¬cond1_0 i)
    (x0 : Vec F S512x1536 .bf16) (x1 : Vec F S512x128 .bf16) (x2 : Vec F S2x4x512 .f32) (x3 : Vec F S2x32 .f32) (x4 : Vec F S1x128 .f32) (xs0 : Vec F S4x128x128 .f32) (xs1 : Vec F S2x8x512 .f32) :
    Σ' (L5 : List (View.Piece (Elt F) S512x512 .bf16)), Σ' (LS0 : List (View.Piece (Elt F) S4x128x128 .f32)), { LS1 : List (View.Piece (Elt F) S2x8x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc1_gdn_core i arg2 harg2 arg3 harg3 arg4 harg4 arg5 harg5 arg6 harg6 arg7 harg7 arg8 harg8 arg9 harg9) K } := by
  refine ⟨?_, ?_, ?_, fun E K => ?run⟩
  case run =>
    simp only [cc1_gdn_core_eq_skeleton]; unfold cc1_gdn_core_skel
    simp only [k1_part26_eq_skeleton, k1_part27_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0; obtain rfl := harg9.eq_unread hfs1
    sl_exec (disch := first | sl_exact hc0)
    sl_step
    rw [pb_indep (G_arg7 := f5) (G_arg7' := arg7.view.junk) (hn := le_refl _)]
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [HS0]; · iexists _; iexact HS0
    iexists _; iexact HS1

end Cert.LayerIdeal.Gen

end
-- ==== Proof.CoreIdealFrameCopy.lean ====
/- The frame of the second call of `LayerIdeal`: what the output block and the scratches hold point by point, and the obligation of the body at every point. -/
module

public import proofs.«01_k».proof.Proof.CoreIdealRunB
public import Idealize.ShloMosaic.Lib.Claim

@[expose] public section

set_option maxRecDepth 16384

noncomputable section

namespace Cert.LayerIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
section

variable (c : Dev nD) (i : grid1.Coords)
  (arg2 : Memref sig .tc .vmem S512x1536 .bf16) (harg2 : arg2.IsWhole)
  (arg3 : Memref sig .tc .vmem S512x128 .bf16) (harg3 : arg3.IsWhole)
  (arg4 : Memref sig .tc .vmem S2x4x512 .f32) (harg4 : arg4.IsWhole)
  (arg5 : Memref sig .tc .smem S2x32 .f32) (harg5 : arg5.IsWhole)
  (arg6 : Memref sig .tc .vmem S1x128 .f32) (harg6 : arg6.IsWhole)
  (arg7 : Memref sig .tc .vmem S512x512 .bf16) (harg7 : arg7.IsWhole)
  (arg8 : Memref sig .tc .vmem S4x128x128 .f32) (harg8 : arg8.IsWhole)
  (arg9 : Memref sig .tc .vmem S2x8x512 .f32) (harg9 : arg9.IsWhole)

/-- Case A's pieces for output 5 tile its block (32 stores of `S64x128`), so they cover it. -/
theorem cover1_A_5 (hc0 : cond1_0 i)
    (x0 : Vec F S512x1536 .bf16) (x1 : Vec F S512x128 .bf16) (x2 : Vec F S2x4x512 .f32) (x3 : Vec F S2x32 .f32) (x4 : Vec F S1x128 .f32) (y : S512x512.Idx) :
    ∃ pc ∈ (kernelRun1_A c i arg2 harg2 arg3 harg3 arg4 harg4 arg5 harg5 arg6 harg6 arg7 harg7 arg8 harg8 arg9 harg9 hc0 x0 x1 x2 x3 x4).1, y ∈ pc.1.set :=
  View.cover_of_tiledL (kernelRun1_A c i arg2 harg2 arg3 harg3 arg4 harg4 arg5 harg5 arg6 harg6 arg7 harg7 arg8 harg8 arg9 harg9 hc0 x0 x1 x2 x3 x4).1 S64x128.size (by sl_kernel_rfl) y

/-- What case A leaves in output 5's staging buffer: its pieces read back over junk. -/
def out1_A_5 (hc0 : cond1_0 i)
    (x0 : Vec F S512x1536 .bf16) (x1 : Vec F S512x128 .bf16) (x2 : Vec F S2x4x512 .f32) (x3 : Vec F S2x32 .f32) (x4 : Vec F S1x128 .f32) : Vec F S512x512 .bf16 :=
  VO1_5.read (Elt F) (VO1_5.writes (Elt F) VO1_5.junk (kernelRun1_A c i arg2 harg2 arg3 harg3 arg4 harg4 arg5 harg5 arg6 harg6 arg7 harg7 arg8 harg8 arg9 harg9 hc0 x0 x1 x2 x3 x4).1)

/-- Case A's pieces for scratch `arg8`, which the kernel carries between points, cover it: one of them a store of the WHOLE buffer. -/
theorem scover1_A_0 (hc0 : cond1_0 i)
    (x0 : Vec F S512x1536 .bf16) (x1 : Vec F S512x128 .bf16) (x2 : Vec F S2x4x512 .f32) (x3 : Vec F S2x32 .f32) (x4 : Vec F S1x128 .f32) (y : S4x128x128.Idx) :
    ∃ pc ∈ (kernelRun1_A c i arg2 harg2 arg3 harg3 arg4 harg4 arg5 harg5 arg6 harg6 arg7 harg7 arg8 harg8 arg9 harg9 hc0 x0 x1 x2 x3 x4).2.1, y ∈ pc.1.set :=
  View.cover_of_wholeMem (kernelRun1_A c i arg2 harg2 arg3 harg3 arg4 harg4 arg5 harg5 arg6 harg6 arg7 harg7 arg8 harg8 arg9 harg9 hc0 x0 x1 x2 x3 x4).2.1 (by sl_whole_mem) y

/-- What case A leaves in scratch `arg8`: its pieces read back over junk. -/
def sout1_A_0 (hc0 : cond1_0 i)
    (x0 : Vec F S512x1536 .bf16) (x1 : Vec F S512x128 .bf16) (x2 : Vec F S2x4x512 .f32) (x3 : Vec F S2x32 .f32) (x4 : Vec F S1x128 .f32) : Vec F S4x128x128 .f32 :=
  VS1_0.read (Elt F) (VS1_0.writes (Elt F) VS1_0.junk (kernelRun1_A c i arg2 harg2 arg3 harg3 arg4 harg4 arg5 harg5 arg6 harg6 arg7 harg7 arg8 harg8 arg9 harg9 hc0 x0 x1 x2 x3 x4).2.1)

/-- Case A's pieces for scratch `arg9`, which the kernel carries between points, cover it: one of them a store of the WHOLE buffer. -/
theorem scover1_A_1 (hc0 : cond1_0 i)
    (x0 : Vec F S512x1536 .bf16) (x1 : Vec F S512x128 .bf16) (x2 : Vec F S2x4x512 .f32) (x3 : Vec F S2x32 .f32) (x4 : Vec F S1x128 .f32) (y : S2x8x512.Idx) :
    ∃ pc ∈ (kernelRun1_A c i arg2 harg2 arg3 harg3 arg4 harg4 arg5 harg5 arg6 harg6 arg7 harg7 arg8 harg8 arg9 harg9 hc0 x0 x1 x2 x3 x4).2.2.1, y ∈ pc.1.set :=
  View.cover_of_wholeMem (kernelRun1_A c i arg2 harg2 arg3 harg3 arg4 harg4 arg5 harg5 arg6 harg6 arg7 harg7 arg8 harg8 arg9 harg9 hc0 x0 x1 x2 x3 x4).2.2.1 (by sl_whole_mem) y

/-- What case A leaves in scratch `arg9`: its pieces read back over junk. -/
def sout1_A_1 (hc0 : cond1_0 i)
    (x0 : Vec F S512x1536 .bf16) (x1 : Vec F S512x128 .bf16) (x2 : Vec F S2x4x512 .f32) (x3 : Vec F S2x32 .f32) (x4 : Vec F S1x128 .f32) : Vec F S2x8x512 .f32 :=
  VS1_1.read (Elt F) (VS1_1.writes (Elt F) VS1_1.junk (kernelRun1_A c i arg2 harg2 arg3 harg3 arg4 harg4 arg5 harg5 arg6 harg6 arg7 harg7 arg8 harg8 arg9 harg9 hc0 x0 x1 x2 x3 x4).2.2.1)

/-- Case B's pieces for output 5 tile its block (32 stores of `S64x128`), so they cover it. -/
theorem cover1_B_5 (hc0 : ¬cond1_0 i)
    (x0 : Vec F S512x1536 .bf16) (x1 : Vec F S512x128 .bf16) (x2 : Vec F S2x4x512 .f32) (x3 : Vec F S2x32 .f32) (x4 : Vec F S1x128 .f32) (xs0 : Vec F S4x128x128 .f32) (xs1 : Vec F S2x8x512 .f32) (y : S512x512.Idx) :
    ∃ pc ∈ (kernelRun1_B c i arg2 harg2 arg3 harg3 arg4 harg4 arg5 harg5 arg6 harg6 arg7 harg7 arg8 harg8 arg9 harg9 hc0 x0 x1 x2 x3 x4 xs0 xs1).1, y ∈ pc.1.set :=
  View.cover_of_tiledL (kernelRun1_B c i arg2 harg2 arg3 harg3 arg4 harg4 arg5 harg5 arg6 harg6 arg7 harg7 arg8 harg8 arg9 harg9 hc0 x0 x1 x2 x3 x4 xs0 xs1).1 S64x128.size (by sl_kernel_rfl) y

/-- What case B leaves in output 5's staging buffer: its pieces read back over junk. -/
def out1_B_5 (hc0 : ¬cond1_0 i)
    (x0 : Vec F S512x1536 .bf16) (x1 : Vec F S512x128 .bf16) (x2 : Vec F S2x4x512 .f32) (x3 : Vec F S2x32 .f32) (x4 : Vec F S1x128 .f32) (xs0 : Vec F S4x128x128 .f32) (xs1 : Vec F S2x8x512 .f32) : Vec F S512x512 .bf16 :=
  VO1_5.read (Elt F) (VO1_5.writes (Elt F) VO1_5.junk (kernelRun1_B c i arg2 harg2 arg3 harg3 arg4 harg4 arg5 harg5 arg6 harg6 arg7 harg7 arg8 harg8 arg9 harg9 hc0 x0 x1 x2 x3 x4 xs0 xs1).1)

/-- Case B's pieces for scratch `arg8`, which the kernel carries between points, cover it: 16 pieces of `S1x128x128` tiling it. -/
theorem scover1_B_0 (hc0 : ¬cond1_0 i)
    (x0 : Vec F S512x1536 .bf16) (x1 : Vec F S512x128 .bf16) (x2 : Vec F S2x4x512 .f32) (x3 : Vec F S2x32 .f32) (x4 : Vec F S1x128 .f32) (xs0 : Vec F S4x128x128 .f32) (xs1 : Vec F S2x8x512 .f32) (y : S4x128x128.Idx) :
    ∃ pc ∈ (kernelRun1_B c i arg2 harg2 arg3 harg3 arg4 harg4 arg5 harg5 arg6 harg6 arg7 harg7 arg8 harg8 arg9 harg9 hc0 x0 x1 x2 x3 x4 xs0 xs1).2.1, y ∈ pc.1.set :=
  View.cover_of_tiledL (kernelRun1_B c i arg2 harg2 arg3 harg3 arg4 harg4 arg5 harg5 arg6 harg6 arg7 harg7 arg8 harg8 arg9 harg9 hc0 x0 x1 x2 x3 x4 xs0 xs1).2.1 S1x128x128.size (by sl_kernel_rfl) y

/-- What case B leaves in scratch `arg8`: its pieces read back over junk. -/
def sout1_B_0 (hc0 : ¬cond1_0 i)
    (x0 : Vec F S512x1536 .bf16) (x1 : Vec F S512x128 .bf16) (x2 : Vec F S2x4x512 .f32) (x3 : Vec F S2x32 .f32) (x4 : Vec F S1x128 .f32) (xs0 : Vec F S4x128x128 .f32) (xs1 : Vec F S2x8x512 .f32) : Vec F S4x128x128 .f32 :=
  VS1_0.read (Elt F) (VS1_0.writes (Elt F) VS1_0.junk (kernelRun1_B c i arg2 harg2 arg3 harg3 arg4 harg4 arg5 harg5 arg6 harg6 arg7 harg7 arg8 harg8 arg9 harg9 hc0 x0 x1 x2 x3 x4 xs0 xs1).2.1)

/-- Case B's pieces for scratch `arg9`, which the kernel carries between points, cover it: 8 pieces of `S1x8x512` tiling it. -/
theorem scover1_B_1 (hc0 : ¬cond1_0 i)
    (x0 : Vec F S512x1536 .bf16) (x1 : Vec F S512x128 .bf16) (x2 : Vec F S2x4x512 .f32) (x3 : Vec F S2x32 .f32) (x4 : Vec F S1x128 .f32) (xs0 : Vec F S4x128x128 .f32) (xs1 : Vec F S2x8x512 .f32) (y : S2x8x512.Idx) :
    ∃ pc ∈ (kernelRun1_B c i arg2 harg2 arg3 harg3 arg4 harg4 arg5 harg5 arg6 harg6 arg7 harg7 arg8 harg8 arg9 harg9 hc0 x0 x1 x2 x3 x4 xs0 xs1).2.2.1, y ∈ pc.1.set :=
  View.cover_of_tiledL (kernelRun1_B c i arg2 harg2 arg3 harg3 arg4 harg4 arg5 harg5 arg6 harg6 arg7 harg7 arg8 harg8 arg9 harg9 hc0 x0 x1 x2 x3 x4 xs0 xs1).2.2.1 S1x8x512.size (by sl_kernel_rfl) y

/-- What case B leaves in scratch `arg9`: its pieces read back over junk. -/
def sout1_B_1 (hc0 : ¬cond1_0 i)
    (x0 : Vec F S512x1536 .bf16) (x1 : Vec F S512x128 .bf16) (x2 : Vec F S2x4x512 .f32) (x3 : Vec F S2x32 .f32) (x4 : Vec F S1x128 .f32) (xs0 : Vec F S4x128x128 .f32) (xs1 : Vec F S2x8x512 .f32) : Vec F S2x8x512 .f32 :=
  VS1_1.read (Elt F) (VS1_1.writes (Elt F) VS1_1.junk (kernelRun1_B c i arg2 harg2 arg3 harg3 arg4 harg4 arg5 harg5 arg6 harg6 arg7 harg7 arg8 harg8 arg9 harg9 hc0 x0 x1 x2 x3 x4 xs0 xs1).2.2.1)

/-! ## What the outputs hold after each point -/

end

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before1_W_κ`). An assignment of the conditions no point meets is no case (`False.elim`). -/
def outsAt1 (c : Dev nD) : (n : ℕ) → n < cfg1.N → Vec F S512x512 .bf16 × Vec F S4x128x128 .f32 × Vec F S2x8x512 .f32
  | 0, hn => (out1_A_5 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) scM1_1 (Memref.isWhole_whole _) ((hcond1_0 ⟨0, hn⟩).mpr (Nat.zero_mod _)) (X1_0 V c ⟨0, hn⟩) (iblk V c 1 ⟨0, hn⟩) (iblk V c 2 ⟨0, hn⟩) (iblk V c 3 ⟨0, hn⟩) (iblk V c 4 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) scM1_1 (Memref.isWhole_whole _) ((hcond1_0 ⟨0, hn⟩).mpr (Nat.zero_mod _)) (X1_0 V c ⟨0, hn⟩) (iblk V c 1 ⟨0, hn⟩) (iblk V c 2 ⟨0, hn⟩) (iblk V c 3 ⟨0, hn⟩) (iblk V c 4 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) scM1_1 (Memref.isWhole_whole _) ((hcond1_0 ⟨0, hn⟩).mpr (Nat.zero_mod _)) (X1_0 V c ⟨0, hn⟩) (iblk V c 1 ⟨0, hn⟩) (iblk V c 2 ⟨0, hn⟩) (iblk V c 3 ⟨0, hn⟩) (iblk V c 4 ⟨0, hn⟩))
  | n + 1, hn =>
    if h0 : (n + 1) % 8 = 0 then
      (out1_A_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) ((hcond1_0 ⟨n + 1, hn⟩).mpr h0) (X1_0 V c ⟨n + 1, hn⟩) (iblk V c 1 ⟨n + 1, hn⟩) (iblk V c 2 ⟨n + 1, hn⟩) (iblk V c 3 ⟨n + 1, hn⟩) (iblk V c 4 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) ((hcond1_0 ⟨n + 1, hn⟩).mpr h0) (X1_0 V c ⟨n + 1, hn⟩) (iblk V c 1 ⟨n + 1, hn⟩) (iblk V c 2 ⟨n + 1, hn⟩) (iblk V c 3 ⟨n + 1, hn⟩) (iblk V c 4 ⟨n + 1, hn⟩), sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) ((hcond1_0 ⟨n + 1, hn⟩).mpr h0) (X1_0 V c ⟨n + 1, hn⟩) (iblk V c 1 ⟨n + 1, hn⟩) (iblk V c 2 ⟨n + 1, hn⟩) (iblk V c 3 ⟨n + 1, hn⟩) (iblk V c 4 ⟨n + 1, hn⟩))
    else
      (out1_B_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) (fun h => h0 ((hcond1_0 ⟨n + 1, hn⟩).mp h)) (X1_0 V c ⟨n + 1, hn⟩) (iblk V c 1 ⟨n + 1, hn⟩) (iblk V c 2 ⟨n + 1, hn⟩) (iblk V c 3 ⟨n + 1, hn⟩) (iblk V c 4 ⟨n + 1, hn⟩) (outsAt1 c n (Nat.lt_of_succ_lt hn)).2.1 (outsAt1 c n (Nat.lt_of_succ_lt hn)).2.2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) (fun h => h0 ((hcond1_0 ⟨n + 1, hn⟩).mp h)) (X1_0 V c ⟨n + 1, hn⟩) (iblk V c 1 ⟨n + 1, hn⟩) (iblk V c 2 ⟨n + 1, hn⟩) (iblk V c 3 ⟨n + 1, hn⟩) (iblk V c 4 ⟨n + 1, hn⟩) (outsAt1 c n (Nat.lt_of_succ_lt hn)).2.1 (outsAt1 c n (Nat.lt_of_succ_lt hn)).2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) (fun h => h0 ((hcond1_0 ⟨n + 1, hn⟩).mp h)) (X1_0 V c ⟨n + 1, hn⟩) (iblk V c 1 ⟨n + 1, hn⟩) (iblk V c 2 ⟨n + 1, hn⟩) (iblk V c 3 ⟨n + 1, hn⟩) (iblk V c 4 ⟨n + 1, hn⟩) (outsAt1 c n (Nat.lt_of_succ_lt hn)).2.1 (outsAt1 c n (Nat.lt_of_succ_lt hn)).2.2)

/-- `outsAt1` at a point of case A: that case's contents. -/
theorem outsAt0_A (c : Dev nD) (t : Fin cfg1.N) (h0 : t.val % 8 = 0) :
    outsAt1 V c t.val t.isLt = (out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) ((hcond1_0 t).mpr h0) (X1_0 V c t) (iblk V c 1 t) (iblk V c 2 t) (iblk V c 3 t) (iblk V c 4 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) ((hcond1_0 t).mpr h0) (X1_0 V c t) (iblk V c 1 t) (iblk V c 2 t) (iblk V c 3 t) (iblk V c 4 t), sout1_A_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) ((hcond1_0 t).mpr h0) (X1_0 V c t) (iblk V c 1 t) (iblk V c 2 t) (iblk V c 3 t) (iblk V c 4 t)) := by
  obtain ⟨n, hn⟩ := t
  cases n with
  | zero => exact rfl
  | succ n => exact (dif_pos h0).trans rfl

/-- `outsAt1` at a point of case B: that case's contents, over what the point before left. -/
theorem outsAt0_B (c : Dev nD) (t : Fin cfg1.N) (h0 : ¬t.val % 8 = 0) :
    outsAt1 V c t.val t.isLt = (out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 ((hcond1_0 t).mp h)) (X1_0 V c t) (iblk V c 1 t) (iblk V c 2 t) (iblk V c 3 t) (iblk V c 4 t) (outsAt1 V c (t.val - 1) (Nat.lt_of_le_of_lt (Nat.sub_le _ _) t.isLt)).2.1 (outsAt1 V c (t.val - 1) (Nat.lt_of_le_of_lt (Nat.sub_le _ _) t.isLt)).2.2, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 ((hcond1_0 t).mp h)) (X1_0 V c t) (iblk V c 1 t) (iblk V c 2 t) (iblk V c 3 t) (iblk V c 4 t) (outsAt1 V c (t.val - 1) (Nat.lt_of_le_of_lt (Nat.sub_le _ _) t.isLt)).2.1 (outsAt1 V c (t.val - 1) (Nat.lt_of_le_of_lt (Nat.sub_le _ _) t.isLt)).2.2, sout1_B_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 ((hcond1_0 t).mp h)) (X1_0 V c t) (iblk V c 1 t) (iblk V c 2 t) (iblk V c 3 t) (iblk V c 4 t) (outsAt1 V c (t.val - 1) (Nat.lt_of_le_of_lt (Nat.sub_le _ _) t.isLt)).2.1 (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (every scratch at anything); afterwards the scoped rest with each carried scratch
    at what the point before left in it (`outsAt1`'s scratch components), the others at anything, and the generator register
    at some state. -/
def PhiS (c : Dev nD) : (n : ℕ) → n ≤ cfg1.N → sProp 𝕄
  | 0, _ => PhiA1 c
  | n + 1, hn => iprop(iprop(owns (c : Thread nD τ) scM1_0 fullShare ((outsAt1 V c n hn).2.1) ∗ owns (c : Thread nD τ) scM1_1 fullShare ((outsAt1 V c n hn).2.2)) ∗ sideR c)

/-- Before the first point the scratch is as at the entry. -/
theorem PhiS_zero (c : Dev nD) (n : ℕ) (h : n ≤ cfg1.N) (hz : n = 0) : PhiS V c n h = PhiA1 c := by
  subst hz; rfl

/-- After point `n` (before point `n + 1`): the carried scratch at that point's contents. -/
theorem PhiS_succ (c : Dev nD) (n : ℕ) (hn : n < cfg1.N) :
    PhiS V c (n + 1) hn = iprop(iprop(owns (c : Thread nD τ) scM1_0 fullShare ((outsAt1 V c n hn).2.1) ∗ owns (c : Thread nD τ) scM1_1 fullShare ((outsAt1 V c n hn).2.2)) ∗ sideR c) := rfl

/-- Before a point that is not the first: the carried scratch at what the point before left. -/
theorem PhiS_pos (c : Dev nD) (n : ℕ) (h : n ≤ cfg1.N) (hz : n ≠ 0) :
    PhiS V c n h = iprop(iprop(owns (c : Thread nD τ) scM1_0 fullShare ((outsAt1 V c (n - 1) (by omega)).2.1) ∗ owns (c : Thread nD τ) scM1_1 fullShare ((outsAt1 V c (n - 1) (by omega)).2.2)) ∗ sideR c) := by
  cases n with
  | zero => exact absurd rfl hz
  | succ n => rfl

/-! ## The pipeline's proof data -/

/-- The proof data of the one pipeline on core `c`: the arrays as the region finds them (`V`); after the body at
    point `t` each input's buffer at its block and the outputs' at `outsAt1`; the invariant the class's
    (`PhiS`: the class's `ΦA` before the first point, then the scoped rest with the carried scratch at `outsAt1`'s component);
    nothing owed; each input's share of its array
    (`Pipeline.shareOf`: the full share of an array several windows stage, dealt among them). -/
def dat1 (c : Dev nD) : Dat τ (Elt F) Unit ℕ (UR sig nD τ) ℕ cfg1 c where
  A w := V c (Pipeline.arrRef spec1 w)
  after w t := match w with
    | ⟨0, _⟩ => X1_0 V c t
    | ⟨1, _⟩ => iblk V c 1 t
    | ⟨2, _⟩ => iblk V c 2 t
    | ⟨3, _⟩ => iblk V c 3 t
    | ⟨4, _⟩ => iblk V c 4 t
    | ⟨5, _⟩ => (outsAt1 V c t.val t.isLt).1
  Φ t := PhiS V c t.val (Nat.le_of_lt_succ t.isLt)
  q w := Pipeline.shareOf spec1 w
  owed _ := 0

/-- The proof data's arrays are the region-entry contents: the proof data's definition projected (`dsimp`), so that
    `V` — a fold over @main's host prefix, long for some programs — is never unfolded to check it. -/
theorem A_eq (c : Dev nD) (w : Fin cfg1.W) : (dat1 V c).A w = V c (Pipeline.arrRef spec1 w) := by
  dsimp only [dat1]

/-- The invariant at a point's start (the proof data at `t.castSucc`), restated at `t.val`. -/
theorem PhiS_castSucc (c : Dev nD) (t : Fin cfg1.N) :
    (dat1 V c).Φ t.castSucc = PhiS V c t.val (Nat.le_of_lt t.isLt) := by
  dsimp only [dat1]; exact Pipeline.Dat.Φ_castSucc (PhiS V c) t

/-- What the body leaves, window by window . -/
theorem after1_0 (c : Dev nD) (t : Fin cfg1.N) : (dat1 V c).after 0 t = X1_0 V c t := by dsimp only [dat1]
/-- After a point window 1 holds its block still. -/
theorem after1_1 (c : Dev nD) (t : Fin cfg1.N) : (dat1 V c).after 1 t = iblk V c 1 t := by dsimp only [dat1]
/-- After a point window 2 holds its block still. -/
theorem after1_2 (c : Dev nD) (t : Fin cfg1.N) : (dat1 V c).after 2 t = iblk V c 2 t := by dsimp only [dat1]
/-- After a point window 3 holds its block still. -/
theorem after1_3 (c : Dev nD) (t : Fin cfg1.N) : (dat1 V c).after 3 t = iblk V c 3 t := by dsimp only [dat1]
/-- After a point window 4 holds its block still. -/
theorem after1_4 (c : Dev nD) (t : Fin cfg1.N) : (dat1 V c).after 4 t = iblk V c 4 t := by dsimp only [dat1]
/-- After a point the output window holds what the body left. -/
theorem after1_5 (c : Dev nD) (t : Fin cfg1.N) : (dat1 V c).after 5 t = (outsAt1 V c t.val t.isLt).1 := by dsimp only [dat1]

/-- Each input's current staging buffer holds its block at every point, fetched there or not (`beforeK_W_of`). -/
theorem before1_0 (c : Dev nD) (t : Fin cfg1.N) (d) : (dat1 V c).before 0 t d = X1_0 V c t :=
  before1_0_of V (dat1 V c) (A_eq V c 0) (after1_0 V c) t d
/-- Before a point window 1 holds its block. -/
theorem before1_1 (c : Dev nD) (t : Fin cfg1.N) (d) : (dat1 V c).before 1 t d = iblk V c 1 t :=
  before1_1_of V (dat1 V c) (A_eq V c 1) (after1_1 V c) t d
/-- Before a point window 2 holds its block. -/
theorem before1_2 (c : Dev nD) (t : Fin cfg1.N) (d) : (dat1 V c).before 2 t d = iblk V c 2 t :=
  before1_2_of V (dat1 V c) (A_eq V c 2) (after1_2 V c) t d
/-- Before a point window 3 holds its block. -/
theorem before1_3 (c : Dev nD) (t : Fin cfg1.N) (d) : (dat1 V c).before 3 t d = iblk V c 3 t :=
  before1_3_of V (dat1 V c) (A_eq V c 3) (after1_3 V c) t d
/-- Before a point window 4 holds its block. -/
theorem before1_4 (c : Dev nD) (t : Fin cfg1.N) (d) : (dat1 V c).before 4 t d = iblk V c 4 t :=
  before1_4_of V (dat1 V c) (A_eq V c 4) (after1_4 V c) t d

/-! ## The body obligation, at a generic point -/

/-- What the body is called with at point `t` (the windows one by one), -/
def bodyPre (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t))

set_option maxHeartbeats 6400000 in
/-- The body at any point: the inputs' memrefs hold their blocks (`before1_W`); the closed forms say which case the point is in (`by_cases`), an output the case reads before covering holds what the point before left (`before1_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before1_0, before1_1, before1_2, before1_3, before1_4]
  rw [show (dat1 V c).owesAt () t.succ = (dat1 V c).owesAt () t.castSucc from rfl,
    after1_0, after1_1, after1_2, after1_3, after1_4, after1_5]
  rw [show (dat1 V c).Φ t.succ = PhiS V c (t.val + 1) t.isLt from rfl, PhiS_succ]
  have hN : t.val < 64 := lt_of_lt_of_eq t.isLt (show cfg1.N = 64 from N_1)
  by_cases h0 : t.val % 8 = 0
  · by_cases hz : t.val = 0
    · rw [PhiS_castSucc V c t, PhiS_zero V c _ _ hz, PhiA1]
      rw [outsAt0_A V c t h0]
      unfold out1_A_5 sout1_A_0 sout1_A_1; (try dsimp only)
      iintro ⟨⟨⟨HS0, HS1⟩, Hg⟩, Ho, ⟨%d0, H0⟩, ⟨%d1, H1⟩, ⟨%d2, H2⟩, ⟨%d3, H3⟩, ⟨%d4, H4⟩, ⟨%d5, H5⟩⟩
      iapply ((kernelRun1_A c (grid1.coords t) _ _ _ _ _ _ _ _ _ _ _ _ _ _ _ _ ((hcond1_0 t).mpr h0) (X1_0 V c t) (iblk V c 1 t) (iblk V c 2 t) (iblk V c 3 t) (iblk V c 4 t)).2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      iintro ⟨H0, H1, H2, H3, H4, ⟨%e5, H5⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _)
          unfold owns; iexists _; isplitr
          swap; · iexact HS1
          ipureintro; exact View.read_writes_of_cover _ _ _ _ _ (scover1_A_1 c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover1_A_5 c _ _ _ _ _ _ _ _ _ _ _ _ _ _ _ _ _ _ _ _ _ _ _)
    · rw [PhiS_castSucc V c t, PhiS_pos V c _ _ hz]
      rw [outsAt0_A V c t h0]
      unfold out1_A_5 sout1_A_0 sout1_A_1; (try dsimp only)
      iintro ⟨⟨⟨HS0, HS1⟩, Hg⟩, Ho, ⟨%d0, H0⟩, ⟨%d1, H1⟩, ⟨%d2, H2⟩, ⟨%d3, H3⟩, ⟨%d4, H4⟩, ⟨%d5, H5⟩⟩
      iapply ((kernelRun1_A c (grid1.coords t) _ _ _ _ _ _ _ _ _ _ _ _ _ _ _ _ ((hcond1_0 t).mpr h0) (X1_0 V c t) (iblk V c 1 t) (iblk V c 2 t) (iblk V c 3 t) (iblk V c 4 t)).2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexists _; iexact HS0
      isplitl [HS1]; · iexists _; iexact HS1
      iintro ⟨H0, H1, H2, H3, H4, ⟨%e5, H5⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _)
          unfold owns; iexists _; isplitr
          swap; · iexact HS1
          ipureintro; exact View.read_writes_of_cover _ _ _ _ _ (scover1_A_1 c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover1_A_5 c _ _ _ _ _ _ _ _ _ _ _ _ _ _ _ _ _ _ _ _ _ _ _)
  · by_cases hz : t.val = 0
    · exfalso; have hN : t.val < 64 := lt_of_lt_of_eq t.isLt (show cfg1.N = 64 from N_1); omega
    · rw [PhiS_castSucc V c t, PhiS_pos V c _ _ hz]
      rw [outsAt0_B V c t h0]
      unfold out1_B_5 sout1_B_0 sout1_B_1; (try dsimp only)
      iintro ⟨⟨⟨HS0, HS1⟩, Hg⟩, Ho, ⟨%d0, H0⟩, ⟨%d1, H1⟩, ⟨%d2, H2⟩, ⟨%d3, H3⟩, ⟨%d4, H4⟩, ⟨%d5, H5⟩⟩
      iapply ((kernelRun1_B c (grid1.coords t) _ _ _ _ _ _ _ _ _ _ _ _ _ _ _ _ (fun h => h0 ((hcond1_0 t).mp h)) (X1_0 V c t) (iblk V c 1 t) (iblk V c 2 t) (iblk V c 3 t) (iblk V c 4 t) _ _).2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      iintro ⟨H0, H1, H2, H3, H4, ⟨%e5, H5⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover1_B_0 c _ _ _ _ _ _ _ _ _ _ _ _ _ _ _ _ _ _ _ _ _ _ _ _ _)
          unfold owns; iexists _; isplitr
          swap; · iexact HS1
          ipureintro; exact View.read_writes_of_cover _ _ _ _ _ (scover1_B_1 c _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover1_B_5 c _ _ _ _ _ _ _ _ _ _ _ _ _ _ _ _ _ _ _ _ _ _ _ _ _)

/-- The body table's row at point `t`'s slots is the body as `bodyAt1` spells it. -/
theorem defs₀_row (t : Fin cfg1.N) :
    defs₀ (F := F) .tc cfg1.body (cfg1.bodyArgs t (cfg1.slots t)) = bodyAt1 t := by
  unfold defs₀; rw [Defs.onTc_tc]

/-- The library's body obligation, at every point: the body's triple restated. -/
theorem body_obligation (c : Dev nD) : BodyObligation (dat1 (F := F) V c) (defs₀ (F := F)) Variants.none () Set.univ := fun t => by
  rw [bigSep_W1, bigSep_W1, defs₀_row]
  exact triple_restated (sound_body V c t) rfl .rfl fun _ => .rfl

/-- What the launch hands the region (`ΦA`) is the invariant before the first point. -/
theorem hin (c : Dev nD) : PhiA1 c ⊢ (dat1 V c).Φ 0 := by
  rw [show (dat1 V c).Φ 0 = PhiS V c 0 (Nat.zero_le _) from rfl, PhiS_zero V c 0 _ rfl]
  try exact Idealize.SL.BI.Entails.refl _

/-- After any point but the first the invariant gives `ΦA` back: the carried scratch's named contents are forgotten. -/
theorem Phi_out (c : Dev nD) (t : Fin (cfg1.N + 1)) (ht : t.val ≠ 0) : (dat1 V c).Φ t ⊢ PhiA1 c := by
  rw [show (dat1 V c).Φ t = PhiS V c t.val (Nat.le_of_lt_succ t.isLt) from rfl, PhiS_pos V c _ _ ht, PhiA1]
  iintro ⟨⟨HS0, HS1⟩, Hg⟩
  isplitl [HS0 HS1]
  · isplitl [HS0]
    · iexists _; iexact HS0
    iexists _; iexact HS1
  iexact Hg

/-- The same after the last point. -/
theorem hout (c : Dev nD) : (dat1 V c).Φ (Fin.last cfg1.N) ⊢ PhiA1 c :=
  Phi_out V c _ (by rw [Fin.val_last]; have : cfg1.N = 64 := N_1; omega)

end Cert.LayerIdeal.Gen

end
-- ==== Proof.OutIdealRegion.lean ====
/- The third call: the obligation of its body at every grid point, from any contents `V` of the unscoped buffers at its entry. -/
module

public import proofs.«01_k».proof.Proof.Gen.LayerIdeal.Launch
public import proofs.«01_k».proof.Proof.Gen.LayerIdeal.Skeleton
public import proofs.«01_k».proof.Proof.Gen.LayerIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.LayerIdeal.Out

open Cert.LayerIdeal Cert.LayerIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! ## The windows' blocks -/

/-- Window `w`'s block at point `t`, read off its array as the region finds it (`V`). -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

/-- All of the first buffer. -/
abbrev r2_0 : Rect S512x4096 := Rect.unit (s := S512x4096) ![0, 0] S512x4096.size inb_S512x4096_S512x4096_0_0
/-- All of the second buffer. -/
abbrev r2_1 : Rect S4096x512 := Rect.unit (s := S4096x512) ![0, 0] S4096x512.size inb_S4096x512_S4096x512_0_0
/-- All of the third buffer. -/
abbrev r2_2 : Rect S512x512 := Rect.unit (s := S512x512) ![0, 0] S512x512.size inb_S512x512_S512x512_0_0

/-! ## What the body leaves in each output window's buffer -/

/-- Window 2's staging buffer after the body, from the input windows' blocks: its 1 store as pieces, LAST
    FIRST (Lib/Pipeline/FrameBody.lean `View.canon`; the payloads are the skeleton's). -/
def out2_2 (x0 : Vec F S512x4096 .bf16) (x1 : Vec F S4096x512 .bf16) : Vec F S512x512 .f32 :=
  View.canon [⟨r2_2, k2_pay1 (View.ld x0 r2_0) (View.ld x1 r2_1)⟩]

/-- Its stores tile the buffer (checked by evaluation), so they cover it. -/
theorem cover2_2 (p0 : Vec F S512x512 .f32) (y : S512x512.Idx) :
    ∃ pc ∈ ([⟨r2_2, p0⟩] : List (View.Piece (Elt F) S512x512 .f32)), y ∈ pc.1.set :=
  View.cover_of_tiled [⟨r2_2, p0⟩] S512x512.size (by rfl) y

/-! ## The body's triple -/

set_option maxHeartbeats 1000000 in
/-- The kernel body on whole staging memrefs, the inputs' at read contents `xW` and the outputs' at anything, runs to
    the continuation holding the inputs' as they were and each output's at `out2_W` of the inputs': the printed functions
    are their skeletons (`Gen.*_eq_skeleton`), which `sl_exec` runs (Lib/Exec.lean), through every part call. -/
theorem sound_kernel (c : Dev nD) (E : Set ℕ) (i : grid2.Coords) (arg2 : Memref sig .tc .vmem S512x4096 .bf16) (harg2 : arg2.IsWhole) (arg3 : Memref sig .tc .vmem S4096x512 .bf16) (harg3 : arg3.IsWhole) (arg4 : Memref sig .tc .vmem S512x512 .f32) (harg4 : arg4.IsWhole)
    (x0 : Vec F S512x4096 .bf16) (x1 : Vec F S4096x512 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out2_2 x0 x1)) -∗ K ⟨⟩))
      ⊢ wp frame (wpE (defs₀ (F := F)) Variants.none c none) E (cc2_gdn_out_proj i arg2 harg2 arg3 harg3 arg4 harg4) K := by
  simp only [cc2_gdn_out_proj_eq_skeleton]; unfold cc2_gdn_out_proj_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- The proof data of the one pipeline on core `c`: the arrays as the region finds them (`V`); after the body at
    point `t` each input's buffer at its block and each output's at `out2_W` of the input blocks; the invariant the
    class's (Lib/Pipeline/Frame.lean `ΦA`: the scoped rest and the generator register, untouched); nothing owed;
    full shares. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => out2_2 (iblk V c 0 t) (iblk V c 1 t)
  Φ _ := Pipeline.ΦA spec2 c
  q _ := fullShare
  owed _ := 0

/-- The proof data's arrays are the region-entry contents: the proof data's definition projected (`dsimp`), so that
    `V` — a fold over @main's host prefix, long for some programs — is never unfolded to check it. -/
theorem A_eq (c : Dev nD) (w : Fin cfg2.W) : (dat V c).A w = V c (Pipeline.arrRef spec2 w) := by
  dsimp only [dat]

/-- What the body leaves, window by window (the proof data's `match` reduced by `dsimp`, never `rfl`: Lib/Pipeline.lean `Dat`). -/
theorem after2_0 (c : Dev nD) (t : Fin cfg2.N) : (dat V c).after 0 t = iblk V c 0 t := by dsimp only [dat]
/-- After a point the second window holds its block still. -/
theorem after2_1 (c : Dev nD) (t : Fin cfg2.N) : (dat V c).after 1 t = iblk V c 1 t := by dsimp only [dat]
/-- After a point the output window holds the product. -/
theorem after2_2 (c : Dev nD) (t : Fin cfg2.N) : (dat V c).after 2 t = out2_2 (iblk V c 0 t) (iblk V c 1 t) := by dsimp only [dat]

/-- Each input's current staging buffer holds its block at every point, fetched there or not (`beforeK_W_of`). -/
theorem before2_0 (c : Dev nD) (t : Fin cfg2.N) (d) : (dat V c).before 0 t d = iblk V c 0 t :=
  before2_0_of V (dat V c) (A_eq V c 0) (after2_0 V c) t d
/-- Before a point the second window holds its block. -/
theorem before2_1 (c : Dev nD) (t : Fin cfg2.N) (d) : (dat V c).before 1 t d = iblk V c 1 t :=
  before2_1_of V (dat V c) (A_eq V c 1) (after2_1 V c) t d

/-! ## The body obligation, at a generic point -/

/-- What the body is called with at point `t` (Lib/Pipeline.lean `BodyObligation`'s precondition, the windows one by one), -/
def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d)))

/-- and what it returns. -/
def bodyPost (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t))

/-- The body at any point: the inputs' memrefs hold their blocks (`before2_W`), so `sound_kernel` applies; the invariant and
    the core's `owes` pass through unread. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before2_0, before2_1]
  rw [show (dat V c).Φ t.succ = (dat V c).Φ t.castSucc from rfl,
    show (dat V c).owesAt () t.succ = (dat V c).owesAt () t.castSucc from rfl,
    after2_0, after2_1, after2_2]
  iintro ⟨HΦ, Ho, ⟨%d0, H0⟩, ⟨%d1, H1⟩, ⟨%d2, H2⟩⟩
  iapply (sound_kernel c Set.univ (grid2.coords t) _ _ _ _ _ _ (iblk V c 0 t) (iblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body table's row at point `t`'s slots is the body as `bodyAt2` spells it. -/
theorem defs₀_row (t : Fin cfg2.N) :
    defs₀ (F := F) .tc cfg2.body (cfg2.bodyArgs t (cfg2.slots t)) = bodyAt2 t := by
  unfold defs₀; rw [Defs.onTc_tc]

/-- The library's body obligation, at every point: the body's triple restated (Lib/Pipeline/FrameBody.lean `triple_restated`). -/
theorem body_obligation (c : Dev nD) : BodyObligation (dat (F := F) V c) (defs₀ (F := F)) Variants.none () Set.univ := fun t => by
  rw [bigSep_W2, bigSep_W2, defs₀_row]
  exact triple_restated (sound_body V c t) rfl .rfl fun _ => .rfl

end Cert.LayerIdeal.Out

end
-- ==== Proof.LayerIdealRun.lean ====
/- The whole layer's run: its three calls as segments between the host's stretches, and what every buffer holds at the end. -/
module

public import proofs.«01_k».proof.Proof.InIdealRegion
public import proofs.«01_k».proof.Proof.CoreIdealFrameCopy
public import proofs.«01_k».proof.Proof.OutIdealRegion
public import proofs.«01_k».proof.Proof.Gen.LayerIdeal.Regions
public import Idealize.ShloMosaic.Lib.Pipeline.RegionsLoop
public import Idealize.ShloMosaic.Lib.Tactic

@[expose] public section

set_option maxRecDepth 16384

noncomputable section

namespace Cert.LayerIdeal.Run

open Cert.LayerIdeal Cert.LayerIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## What the buffers hold between the calls -/

/-- What the first call leaves in its result: its write-backs over the launch contents. -/
def X4 (c : Dev nD) : Buf (Elt F) ((c : Thread nD τ).loc main_v3) := (In.dat (fun c b => V3 m c b) c).arrAt 2 cfg0.N
/-- Every buffer after the first call. -/
abbrev W4 (c : Dev nD) : Valuation τ sig (Elt F) := Function.update (V3 m c) main_v3 (X4 m c)
/-- Every buffer after the host operations between the first call and the second. -/
def W5 (c : Dev nD) : Valuation τ sig (Elt F) := StableHlo.after hostOps1 (W4 m c)
/-- What the second call leaves in its result. -/
def X6 (c : Dev nD) : Buf (Elt F) ((c : Thread nD τ).loc main_v21) := (dat1 (fun c b => W5 m c b) c).arrAt 5 cfg1.N
/-- Every buffer after the second call. -/
abbrev W6 (c : Dev nD) : Valuation τ sig (Elt F) := Function.update (W5 m c) main_v21 (X6 m c)
/-- Every buffer after the host operation between the second call and the third. -/
def W7 (c : Dev nD) : Valuation τ sig (Elt F) := StableHlo.after hostOps2 (W6 m c)
/-- What the third call leaves in its result. -/
def X8 (c : Dev nD) : Buf (Elt F) ((c : Thread nD τ).loc main_v23) := (Out.dat (fun c b => W7 m c b) c).arrAt 2 cfg2.N
/-- Every buffer at the end. -/
abbrev W8 (c : Dev nD) : Valuation τ sig (Elt F) := Function.update (W7 m c) main_v23 (X8 m c)

/-- The calls' results as one family, read off those valuations. -/
def outs : Outs (F := F) := fun n r c => if n = 4 then W4 m c r else if n = 6 then W6 m c r else W8 m c r

/-- The buffers after the first call, with the family. -/
theorem V4_eq (c : Dev nD) : V4 m (outs m) c = W4 m c := by
  have h : outs m 4 main_v3 c = X4 m c := by
    rw [outs, if_pos rfl]; exact Function.update_self _ _ _
  rw [V4, h]
/-- The buffers before the second call, with the family. -/
theorem V5_eq (c : Dev nD) : V5 m (outs m) c = W5 m c := by rw [V5, V4_eq, W5]
/-- The buffers after the second call, with the family. -/
theorem V6_eq (c : Dev nD) : V6 m (outs m) c = W6 m c := by
  have h : outs m 6 main_v21 c = X6 m c := by
    rw [outs, if_neg (by decide), if_pos rfl]; exact Function.update_self _ _ _
  rw [V6, V5_eq, h]
/-- The buffers before the third call, with the family. -/
theorem V7_eq (c : Dev nD) : V7 m (outs m) c = W7 m c := by rw [V7, V6_eq, W7]
/-- The buffers at the end, with the family. -/
theorem V8_eq (c : Dev nD) : V8 m (outs m) c = W8 m c := by
  have h : outs m 8 main_v23 c = X8 m c := by
    rw [outs, if_neg (by decide), if_neg (by decide)]; exact Function.update_self _ _ _
  rw [V8, V7_eq, h]
/-- The result's buffer at the end is what the third call leaves. -/
theorem W8_out (c : Dev nD) : W8 m c main_v23 = X8 m c := Function.update_self _ _ _

/-! ## The calls as segments -/

/-- The three calls' proof data, each from the buffers at its entry. -/
def pdats : (p : Fin 3) → (c : Dev nD) → Dat τ (Elt F) Unit ℕ (UR sig nD τ) ℕ (cfgs p) c
  | ⟨0, _⟩ => fun c => In.dat (fun c b => V3 m c b) c
  | ⟨1, _⟩ => fun c => dat1 (fun c b => W5 m c b) c
  | ⟨2, _⟩ => fun c => Out.dat (fun c b => W7 m c b) c

/-- No core owes another anything. -/
abbrev L : GSem nD τ sig → Finset Unit := fun _ => ∅
/-- The levels, none of which is used. -/
abbrev lv : GSem nD τ sig → Unit → ℕ := fun _ _ => 0
/-- What rides along beside the buffers: the pseudo-random register at some state, and nothing owed. -/
abbrev E (c : Dev nD) : sProp 𝕄 := iprop((∃ r, prngReg c r) ∗ ∃ W, owes (c : Thread nD τ) (0 : CellTallies nD τ sig Unit) W)

set_option maxHeartbeats 1000000 in
set_option backward.isDefEq.respectTransparency.types false in
/-- The first call as a segment of the run: entered with every unscoped buffer at `V3`, left with every one at `W4`, where only the result has changed. The pseudo-random register goes through the call's own invariant. -/
def reg0 : Pipeline.RegionSeg (pcfgs (F := F)) adm (pdats m) () defs₀ Variants.none L lv 0 where
  win := launch0.win.to₀
  block_pos := launch0.block_pos
  stage_whole := launch0.stage_whole
  K := PEmpty
  osem k := k.elim
  ho := Pipeline.OwnSemFacts.none _
  hbody c := (In.body_obligation (fun c b => V3 m c b) c).loose
  hwaits := Pipeline.hwaits_of_owed_zero _ _ _ _ L lv 0 fun _ _ => rfl
  pre c := iprop(StableHlo.held (c : Thread nD τ) (Pipeline.ucRefs τ sig) (V3 m c) ∗ E c)
  post c := iprop(StableHlo.held (c : Thread nD τ) (Pipeline.ucRefs τ sig) (W4 m c) ∗ E c)
  X c := iprop(∃ r, prngReg c r)
  Y c := iprop(∃ r, prngReg c r)
  Z c := Pipeline.unscopedRest (Ix := Unit) (Name := ℕ) (U := UR sig nD τ) (Lvl := ℕ) spec0 c (fun b => V3 m c b)
  hentry c := by
    rw [Pipeline.ownSems0_none, ← Pipeline.unscopedBufs_held (Ix := Unit) (Name := ℕ) (U := UR sig nD τ) (Lvl := ℕ) c (V3 m c)]
    have hsplit := Pipeline.arrays_of_unscopedBufs (p := 0) (pcfgs (F := F)) adm (pdats m) launch0.win launch0.arr_whole c ((pdats m 0 c).share_full fun _ => rfl) (fun b => V3 m c b) fun _ => rfl
    iintro ⟨⟨Hub, HR, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [HR] <;> iassumption
  hin c := by
    have h : iprop(Pipeline.scopedRest (Ix := Unit) (Name := ℕ) (U := UR sig nD τ) (Lvl := ℕ) (Val := Elt F) spec0 c ∗ ∃ r, prngReg c r) ⊢ (pdats m 0 c).Φ 0 := .rfl
    iintro ⟨Hg, -, Hr⟩
    iapply h
    isplitl [Hr] <;> iassumption
  hout c := by
    rw [Pipeline.ownSems0_none]
    have h : (pdats m 0 c).Φ (Fin.last _) ⊢ iprop(Pipeline.scopedRest (Ix := Unit) (Name := ℕ) (U := UR sig nD τ) (Lvl := ℕ) (Val := Elt F) spec0 c ∗ ∃ r, prngReg c r) := .rfl
    iintro H
    ihave H' := h $$ H
    icases H' with ⟨Hr, Hg⟩
    isplitl [Hg]; · iexact Hg
    isplitr; · iempintro
    iexact Hr
  hexit c := by
    rw [← Pipeline.unscopedBufs_held (Ix := Unit) (Name := ℕ) (U := UR sig nD τ) (Lvl := ℕ) c (W4 m c)]
    have hjoin := Pipeline.unscopedBufs_of_arrays (p := 0) (pcfgs (F := F)) adm (Ix := Unit) (Name := ℕ) (U := UR sig nD τ) (Lvl := ℕ) launch0.win launch0.arr_whole c (pdats m) ((pdats m 0 c).share_full fun _ => rfl) (fun b => V3 m c b) (fun b => W4 m c b) ((pdats m 0 c).arrAt · cfg0.N)
      (fun w => by
        fin_cases w
        · exact ((pdats m 0 c).arrAt_in 0 rfl _).trans (Function.update_of_ne (StableHlo.devRef_ne_of_ne (by decide)) _ _ : W4 m c main_v2 = V3 m c main_v2).symm
        · exact ((pdats m 0 c).arrAt_in 1 rfl _).trans (Function.update_of_ne (StableHlo.devRef_ne_of_ne (by decide)) _ _ : W4 m c main_v1 = V3 m c main_v1).symm
        · exact (Function.update_self (Proc.devRef .tc main_v3 : DevRef τ sig) (X4 m c) (V3 m c)).symm)
      (fun b hb => Function.update_of_ne (StableHlo.devRef_ne_of_ne fun h => hb (by rw [h]; exact Finset.mem_image.mpr ⟨2, Finset.mem_univ _, rfl⟩)) _ _)
    iintro ⟨Ha, HO, Hg, Hrest⟩
    imodintro
    isplitl [Ha Hrest]
    · iapply hjoin; isplitl [Ha] <;> iassumption
    isplitl [Hg]; · iexact Hg
    unfold Pipeline.Dat.owesAt Pipeline.owesWithin
    icases HO with ⟨%W, -, HO⟩; iexists W; iexact HO

set_option maxHeartbeats 1000000 in
set_option backward.isDefEq.respectTransparency.types false in
/-- The second call as a segment of the run: entered with every unscoped buffer at `W5`, left with every one at `W6`, where only the result has changed. The pseudo-random register goes through the call's own invariant. -/
def reg1 : Pipeline.RegionSeg (pcfgs (F := F)) adm (pdats m) () defs₀ Variants.none L lv 1 where
  win := winFacts₀1
  block_pos := (launch₀1).block_pos
  stage_whole := (launch₀1).stage_whole
  K := PEmpty
  osem k := k.elim
  ho := Pipeline.OwnSemFacts.none _
  hbody c := (body_obligation (fun c b => W5 m c b) c).loose
  hwaits := Pipeline.hwaits_of_owed_zero _ _ _ _ L lv 1 fun _ _ => rfl
  pre c := iprop(StableHlo.held (c : Thread nD τ) (Pipeline.ucRefs τ sig) (W5 m c) ∗ E c)
  post c := iprop(StableHlo.held (c : Thread nD τ) (Pipeline.ucRefs τ sig) (W6 m c) ∗ E c)
  X c := iprop(∃ r, prngReg c r)
  Y c := iprop(∃ r, prngReg c r)
  Z c := Pipeline.unscopedRest (Ix := Unit) (Name := ℕ) (U := UR sig nD τ) (Lvl := ℕ) spec1 c (fun b => W5 m c b)
  hentry c := by
    rw [Pipeline.ownSems0_none, ← Pipeline.unscopedBufs_held (Ix := Unit) (Name := ℕ) (U := UR sig nD τ) (Lvl := ℕ) c (W5 m c)]
    have hsplit := Pipeline.arrays_of_unscopedBufs_shared (p := 1) (pcfgs (F := F)) adm (pdats m) winFacts₀1 sharedIn1 arr_whole1 c (fun _ _ => rfl) (fun b => W5 m c b) fun _ => rfl
    iintro ⟨⟨Hub, HR, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [HR] <;> iassumption
  hin c := by
    have h : iprop(Pipeline.scopedRest (Ix := Unit) (Name := ℕ) (U := UR sig nD τ) (Lvl := ℕ) (Val := Elt F) spec1 c ∗ ∃ r, prngReg c r) ⊢ (pdats m 1 c).Φ 0 := (PhiA1_in c).trans (hin (fun c b => W5 m c b) c)
    iintro ⟨Hg, -, Hr⟩
    iapply h
    isplitl [Hr] <;> iassumption
  hout c := by
    rw [Pipeline.ownSems0_none]
    have h : (pdats m 1 c).Φ (Fin.last _) ⊢ iprop(Pipeline.scopedRest (Ix := Unit) (Name := ℕ) (U := UR sig nD τ) (Lvl := ℕ) (Val := Elt F) spec1 c ∗ ∃ r, prngReg c r) := (hout (fun c b => W5 m c b) c).trans (PhiA1_out c)
    iintro H
    ihave H' := h $$ H
    icases H' with ⟨Hr, Hg⟩
    isplitl [Hg]; · iexact Hg
    isplitr; · iempintro
    iexact Hr
  hexit c := by
    rw [← Pipeline.unscopedBufs_held (Ix := Unit) (Name := ℕ) (U := UR sig nD τ) (Lvl := ℕ) c (W6 m c)]
    have hjoin := Pipeline.unscopedBufs_of_arrays_shared (p := 1) (pcfgs (F := F)) adm (Ix := Unit) (Name := ℕ) (U := UR sig nD τ) (Lvl := ℕ) winFacts₀1 sharedIn1 arr_whole1 c (pdats m) (fun _ _ => rfl) (fun b => W5 m c b) (fun b => W6 m c b) ((pdats m 1 c).arrAt · cfg1.N)
      (fun w => by
        fin_cases w
        · exact ((pdats m 1 c).arrAt_in 0 rfl _).trans (Function.update_of_ne (StableHlo.devRef_ne_of_ne (by decide)) _ _ : W6 m c main_v3 = W5 m c main_v3).symm
        · exact ((pdats m 1 c).arrAt_in 1 rfl _).trans (Function.update_of_ne (StableHlo.devRef_ne_of_ne (by decide)) _ _ : W6 m c main_v3 = W5 m c main_v3).symm
        · exact ((pdats m 1 c).arrAt_in 2 rfl _).trans (Function.update_of_ne (StableHlo.devRef_ne_of_ne (by decide)) _ _ : W6 m c main_v14 = W5 m c main_v14).symm
        · exact ((pdats m 1 c).arrAt_in 3 rfl _).trans (Function.update_of_ne (StableHlo.devRef_ne_of_ne (by decide)) _ _ : W6 m c main_v19 = W5 m c main_v19).symm
        · exact ((pdats m 1 c).arrAt_in 4 rfl _).trans (Function.update_of_ne (StableHlo.devRef_ne_of_ne (by decide)) _ _ : W6 m c main_v20 = W5 m c main_v20).symm
        · exact (Function.update_self (Proc.devRef .tc main_v21 : DevRef τ sig) (X6 m c) (W5 m c)).symm)
      (fun b hb => Function.update_of_ne (StableHlo.devRef_ne_of_ne fun h => hb (by rw [h]; exact Finset.mem_image.mpr ⟨5, Finset.mem_univ _, rfl⟩)) _ _)
    iintro ⟨Ha, HO, Hg, Hrest⟩
    imodintro
    isplitl [Ha Hrest]
    · iapply hjoin; isplitl [Ha] <;> iassumption
    isplitl [Hg]; · iexact Hg
    unfold Pipeline.Dat.owesAt Pipeline.owesWithin
    icases HO with ⟨%W, -, HO⟩; iexists W; iexact HO

set_option maxHeartbeats 1000000 in
set_option backward.isDefEq.respectTransparency.types false in
/-- The third call as a segment of the run: entered with every unscoped buffer at `W7`, left with every one at `W8`, where only the result has changed. The pseudo-random register goes through the call's own invariant. -/
def reg2 : Pipeline.RegionSeg (pcfgs (F := F)) adm (pdats m) () defs₀ Variants.none L lv 2 where
  win := launch2.win.to₀
  block_pos := launch2.block_pos
  stage_whole := launch2.stage_whole
  K := PEmpty
  osem k := k.elim
  ho := Pipeline.OwnSemFacts.none _
  hbody c := (Out.body_obligation (fun c b => W7 m c b) c).loose
  hwaits := Pipeline.hwaits_of_owed_zero _ _ _ _ L lv 2 fun _ _ => rfl
  pre c := iprop(StableHlo.held (c : Thread nD τ) (Pipeline.ucRefs τ sig) (W7 m c) ∗ E c)
  post c := iprop(StableHlo.held (c : Thread nD τ) (Pipeline.ucRefs τ sig) (W8 m c) ∗ E c)
  X c := iprop(∃ r, prngReg c r)
  Y c := iprop(∃ r, prngReg c r)
  Z c := Pipeline.unscopedRest (Ix := Unit) (Name := ℕ) (U := UR sig nD τ) (Lvl := ℕ) spec2 c (fun b => W7 m c b)
  hentry c := by
    rw [Pipeline.ownSems0_none, ← Pipeline.unscopedBufs_held (Ix := Unit) (Name := ℕ) (U := UR sig nD τ) (Lvl := ℕ) c (W7 m c)]
    have hsplit := Pipeline.arrays_of_unscopedBufs (p := 2) (pcfgs (F := F)) adm (pdats m) launch2.win launch2.arr_whole c ((pdats m 2 c).share_full fun _ => rfl) (fun b => W7 m c b) fun _ => rfl
    iintro ⟨⟨Hub, HR, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [HR] <;> iassumption
  hin c := by
    have h : iprop(Pipeline.scopedRest (Ix := Unit) (Name := ℕ) (U := UR sig nD τ) (Lvl := ℕ) (Val := Elt F) spec2 c ∗ ∃ r, prngReg c r) ⊢ (pdats m 2 c).Φ 0 := .rfl
    iintro ⟨Hg, -, Hr⟩
    iapply h
    isplitl [Hr] <;> iassumption
  hout c := by
    rw [Pipeline.ownSems0_none]
    have h : (pdats m 2 c).Φ (Fin.last _) ⊢ iprop(Pipeline.scopedRest (Ix := Unit) (Name := ℕ) (U := UR sig nD τ) (Lvl := ℕ) (Val := Elt F) spec2 c ∗ ∃ r, prngReg c r) := .rfl
    iintro H
    ihave H' := h $$ H
    icases H' with ⟨Hr, Hg⟩
    isplitl [Hg]; · iexact Hg
    isplitr; · iempintro
    iexact Hr
  hexit c := by
    rw [← Pipeline.unscopedBufs_held (Ix := Unit) (Name := ℕ) (U := UR sig nD τ) (Lvl := ℕ) c (W8 m c)]
    have hjoin := Pipeline.unscopedBufs_of_arrays (p := 2) (pcfgs (F := F)) adm (Ix := Unit) (Name := ℕ) (U := UR sig nD τ) (Lvl := ℕ) launch2.win launch2.arr_whole c (pdats m) ((pdats m 2 c).share_full fun _ => rfl) (fun b => W7 m c b) (fun b => W8 m c b) ((pdats m 2 c).arrAt · cfg2.N)
      (fun w => by
        fin_cases w
        · exact ((pdats m 2 c).arrAt_in 0 rfl _).trans (Function.update_of_ne (StableHlo.devRef_ne_of_ne (by decide)) _ _ : W8 m c main_v21 = W7 m c main_v21).symm
        · exact ((pdats m 2 c).arrAt_in 1 rfl _).trans (Function.update_of_ne (StableHlo.devRef_ne_of_ne (by decide)) _ _ : W8 m c main_v22 = W7 m c main_v22).symm
        · exact (Function.update_self (Proc.devRef .tc main_v23 : DevRef τ sig) (X8 m c) (W7 m c)).symm)
      (fun b hb => Function.update_of_ne (StableHlo.devRef_ne_of_ne fun h => hb (by rw [h]; exact Finset.mem_image.mpr ⟨2, Finset.mem_univ _, rfl⟩)) _ _)
    iintro ⟨Ha, HO, Hg, Hrest⟩
    imodintro
    isplitl [Ha Hrest]
    · iapply hjoin; isplitl [Ha] <;> iassumption
    isplitl [Hg]; · iexact Hg
    unfold Pipeline.Dat.owesAt Pipeline.owesWithin
    icases HO with ⟨%W, -, HO⟩; iexists W; iexact HO

/-! ## The run -/

set_option backward.isDefEq.respectTransparency.types false in
/-- Every run of the layer ends, leaves each argument as it was and the result at `X8`, and leaves every semaphore at zero. -/
theorem run (ρ : Dev nD → PrngReg) :
    θ_run defs (onTc (τ := τ) (main (F := F))) ⟨m, fun _ => 0, ρ⟩ (fun r => (∀ c : Dev nD,
      (r.2.mem ((c.tc : Thread nD τ).loc main_v23) = X8 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) := by
  have hread : ∀ (c : Dev nD) (r : Ref sig .tc), ¬ (Proc.devRef .tc r : DevRef τ sig).isScoped → (Proc.devRef .tc r : DevRef τ sig) ∈ Pipeline.ucRefs τ sig :=
    fun c r h => Finset.mem_filter.mpr ⟨StableHlo.devRef_mem_tcRefs r, h⟩
  refine Pipeline.θ_run_regions_kit_dev_sems (pcfgs (F := F)) adm (pdats m) () cellOf_inj (emb₁ : Emb (URounds (GSem nD τ sig) Unit) 𝕄) defs₀ Variants.none L lv m ρ main
    (segs m (outs m) Variants.none L lv (fun _ => E) () (pdats m) (reg0 m) (reg1 m) (reg2 m))
    (fun c Q => by
      rewrite [main_chain c, Seg.run_eq_chain,
        show (segs m (outs m) Variants.none L lv (fun _ => E) () (pdats m) (reg0 m) (reg1 m) (reg2 m) c).map Seg.prog = [
          StableHlo.seq hostOps0, StableHlo.seq hostOps0_1, StableHlo.seq hostOps0_2,
          Prog.lift (.customCall (Pipeline.entry 0) ()), StableHlo.seq hostOps1,
          Prog.lift (.customCall (Pipeline.entry 1) ()), StableHlo.seq hostOps2,
          Prog.lift (.customCall (Pipeline.entry 2) ()) ] from rfl]
      dsimp (config := { failIfUnchanged := false }) only
      exact .rfl)
    (fun c => by simp only [segs, Seg.pipes_host, Seg.pipes_region, Seg.pipes_nil]; decide) (fun _ => 0) (fun _ _ => rfl)
    (fun _ => iprop(emp)) (initOf (Pipeline.cells cfgs cellOf_inj) (Pipeline.launchToks cfgs cellOf_inj)) ?_
    (T₀ := fun c => iprop(StableHlo.held (c : Thread nD τ) (Pipeline.ucRefs τ sig) (V0 m c) ∗ E c))
    (Tₙ := fun c => StableHlo.held (c : Thread nD τ) (Pipeline.ucRefs τ sig) (V8 m (outs m) c))
    (hch := fun c => ⟨.rfl, .rfl, .rfl, .rfl, ?_, ?_, ?_, ?_, ?_⟩)
    (hinit := ?_) (QY := fun c s => (s.mem ((c.tc : Thread nD τ).loc main_v23) = X8 m c) ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6))
    (hfin := fun c s' => ?_) (hQ := fun _ h hz => ⟨h, funext fun g => hz g (.inr (regions_no_unscoped g.2))⟩)
  · -- the launch's tokens
    iintro Hu
    imodintro
    isplitl [Hu]; · iapply (show (ownU _ : sProp 𝕄) ⊢ BI.own (emb₁ (initOf (Pipeline.cells cfgs cellOf_inj) (Pipeline.launchToks cfgs cellOf_inj))) from .rfl); iexact Hu
    iapply (show (BI.emp : sProp 𝕄) ⊢ bigSep Finset.univ (fun _ : Dev nD => (BI.emp : sProp 𝕄)) from by rw [BI.bigSep_emp_const])
    iempintro
  · show iprop(StableHlo.held (c : Thread nD τ) (Pipeline.ucRefs τ sig) (W4 m c) ∗ E c) ⊢ iprop(StableHlo.held (c : Thread nD τ) (Pipeline.ucRefs τ sig) (V4 m (outs m) c) ∗ E c)
    exact Entails.of_eq (by rw [V4_eq])
  · show iprop(StableHlo.held (c : Thread nD τ) (Pipeline.ucRefs τ sig) (V5 m (outs m) c) ∗ E c) ⊢ iprop(StableHlo.held (c : Thread nD τ) (Pipeline.ucRefs τ sig) (W5 m c) ∗ E c)
    exact Entails.of_eq (by rw [V5_eq])
  · show iprop(StableHlo.held (c : Thread nD τ) (Pipeline.ucRefs τ sig) (W6 m c) ∗ E c) ⊢ iprop(StableHlo.held (c : Thread nD τ) (Pipeline.ucRefs τ sig) (V6 m (outs m) c) ∗ E c)
    exact Entails.of_eq (by rw [V6_eq])
  · show iprop(StableHlo.held (c : Thread nD τ) (Pipeline.ucRefs τ sig) (V7 m (outs m) c) ∗ E c) ⊢ iprop(StableHlo.held (c : Thread nD τ) (Pipeline.ucRefs τ sig) (W7 m c) ∗ E c)
    exact Entails.of_eq (by rw [V7_eq])
  · show iprop(StableHlo.held (c : Thread nD τ) (Pipeline.ucRefs τ sig) (W8 m c) ∗ E c) ⊢ iprop(StableHlo.held (c : Thread nD τ) (Pipeline.ucRefs τ sig) (V8 m (outs m) c) ∗ ∃ W, owes (c : Thread nD τ) (0 : CellTallies nD τ sig Unit) W)
    rw [V8_eq]
    iintro ⟨H, -, HO⟩
    isplitl [H] <;> iassumption
  · -- the launch: the unscoped buffers at their launch contents, the register and nothing owed beside
    have hone (c : Dev nD) : (iprop(unscopedBufs c (fun b => m ((c.tc : Thread nD τ).loc b)) ∗ unscopedSems0 c
          ∗ owes (c.tc : Thread nD τ) (0 : CellTallies nD τ sig Unit) ∅ ∗ Pipeline.launchCred (fun _ => (0 : CellTallies nD τ sig Unit)) c ∗ prngReg c (ρ c) ∗ emp) : sProp 𝕄)
        ⊢ iprop(StableHlo.held (c : Thread nD τ) (Pipeline.ucRefs τ sig) (V0 m c) ∗ E c) := by
      rw [← Pipeline.unscopedBufs_held (Ix := Unit) (Name := ℕ) (U := UR sig nD τ) (Lvl := ℕ) c (V0 m c)]
      iintro ⟨Hb, -, HO, -, Hg, -⟩
      isplitl [Hb]; · iexact Hb
      isplitl [Hg]; · iexists _; iexact Hg
      iexists _; iexact HO
    have hsplit : (bigSep Finset.univ fun c : Dev nD => (iprop(unscopedBufs c (fun b => m ((c.tc : Thread nD τ).loc b)) ∗ unscopedSems0 c
          ∗ owes (c.tc : Thread nD τ) (0 : CellTallies nD τ sig Unit) ∅ ∗ Pipeline.launchCred (fun _ => (0 : CellTallies nD τ sig Unit)) c ∗ prngReg c (ρ c) ∗ emp) : sProp 𝕄))
        ⊢ bigSep Finset.univ fun c : Dev nD => (iprop(StableHlo.held (c : Thread nD τ) (Pipeline.ucRefs τ sig) (V0 m c) ∗ E c) : sProp 𝕄) :=
      bigSep_mono fun c _ => hone c
    iintro ⟨H, -⟩
    imodintro
    iapply hsplit
    iexact H
  · -- the end: the result's and each argument's buffer read off the last valuation
    unfold StableHlo.held
    iintro ⟨Hh, HSI⟩
    ihave Hr := (pointsTo_read_all (Pipeline.ucRefs τ sig) (fun b => ((c : Thread nD τ).1, b)) (V8 m (outs m) c) s') $$ [Hh HSI]
    · isplitl [Hh] <;> iassumption
    icases Hr with ⟨%h, HSI⟩
    imodintro
    isplitr
    · ipureintro
      exact ⟨(h (Proc.devRef .tc main_v23) (hread c main_v23 (by decide))).trans ((congrFun (V8_eq m c) (Proc.devRef .tc main_v23)).trans (W8_out m c)),
        (h (Proc.devRef .tc main_arg0) (hread c main_arg0 (by decide))).trans (V8_main_arg0 m (outs m) c),
        (h (Proc.devRef .tc main_arg1) (hread c main_arg1 (by decide))).trans (V8_main_arg1 m (outs m) c),
        (h (Proc.devRef .tc main_arg2) (hread c main_arg2 (by decide))).trans (V8_main_arg2 m (outs m) c),
        (h (Proc.devRef .tc main_arg3) (hread c main_arg3 (by decide))).trans (V8_main_arg3 m (outs m) c),
        (h (Proc.devRef .tc main_arg4) (hread c main_arg4 (by decide))).trans (V8_main_arg4 m (outs m) c),
        (h (Proc.devRef .tc main_arg5) (hread c main_arg5 (by decide))).trans (V8_main_arg5 m (outs m) c),
        (h (Proc.devRef .tc main_arg6) (hread c main_arg6 (by decide))).trans (V8_main_arg6 m (outs m) c)⟩
    · iexact HSI

end Cert.LayerIdeal.Run

end
-- ==== Proof.InValue.lean ====
/- The first call: what the blocked projection leaves in its result, and that this is the product. -/
module

public import proofs.«01_k».proof.Proof.InIdealRegion
public import Idealize.ShloMosaic.Lib.Pointwise
public import Idealize.ShloMosaic.Lib.Tactic.CleanTypes

@[expose] public section

set_option maxRecDepth 16384

noncomputable section

namespace Cert.LayerIdeal.In

open Cert.LayerIdeal Cert.LayerIdeal.Gen Idealize.ShloMosaic Idealize.ShloMosaic.TcCoe Idealize.SL.Sem
open Idealize.ShloMosaic.Pipeline (Dat)
open scoped BigOperators

variable (V : (c : Dev nD) → (b : Ref sig .tc) → Buf (Elt Ideal) ((c : Thread nD τ).loc b))

/-- One block's payload is the product of its two blocks. -/
theorem pay_apply (x : Vec Ideal S512x2048 .bf16) (w : Vec Ideal S2048x896 .bf16) (r : Fin 512) (l : Fin 896) :
    k0_pay1 (F := Ideal) x w (ix2 r l) = ∑ k : Fin 2048, x (ix2 r k) * w (ix2 k l) := by
  pointwise [k0_pay1]

/-- What the body leaves in its output block: the product of the blocks. -/
theorem out_apply (x : Vec Ideal S512x2048 .bf16) (w : Vec Ideal S2048x896 .bf16) (r : Fin 512) (l : Fin 896) :
    out0_2 (F := Ideal) x w (ix2 r l) = ∑ k : Fin 2048, x (ix2 r k) * w (ix2 k l) := by
  unfold out0_2
  have h0 : (![0, 0] : Fin 2 → ℕ) = fun _ => 0 := by decide
  rw [View.canon_unit_zero h0, View.ld_unit_zero h0, View.ld_unit_zero h0, pay_apply]

/-- The result array: the product. -/
def G (x : Vec Ideal S4096x2048 .bf16) (w : Vec Ideal S2048x12544 .bf16) : Vec Ideal S4096x12544 .bf16 := fun i =>
  ∑ k : Fin 2048, x (ix2 (i 0) k) * w (ix2 k (i 1))

/-- Where the three windows' blocks stand at a grid point. -/
theorem idx_facts : ∀ t : Fin cfg0.N, win0_0.index t (0 : Fin 2) = win0_2.index t (0 : Fin 2) ∧ win0_0.index t (1 : Fin 2) = 0
    ∧ win0_1.index t (0 : Fin 2) = 0 ∧ win0_1.index t (1 : Fin 2) = win0_2.index t (1 : Fin 2) :=
  (by decide +kernel : ∀ t : Fin grid0.N, _)

/-- Each block of the result is some point's. -/
abbrev pt (q0 : Fin 8) (q1 : Fin 14) : Fin grid0.N := ⟨q0.val + 8 * q1.val, lt_of_lt_of_eq (by omega) N_0.symm⟩
/-- Every block of the result is written at its point. -/
theorem idx_onto : ∀ (q0 : Fin 8) (q1 : Fin 14), win0_2.flush (pt q0 q1) = true ∧ win0_2.index (pt q0 q1) = ![q0.val, q1.val] := by
  decide +kernel

/-- The row block of the left operand at a grid point. -/
theorem iblk_x (c : Dev nD) (t : Fin cfg0.N) (r : Fin 512) (k : Fin 2048) (hr : win0_2.index t (0 : Fin 2) * 512 + r.val < 4096) :
    (iblk V c 0 t : Vec Ideal S512x2048 .bf16) (ix2 r k) = V c main_v2 (ix2 ⟨win0_2.index t (0 : Fin 2) * 512 + r.val, hr⟩ k) := by
  obtain ⟨e0, e1, e2, e3⟩ := idx_facts t
  show V c main_v2 (((cfg0.win 0).blk t).view.emb (ix2 r k)) = _
  congr 1
  funext a; apply Fin.ext
  match a with
  | ⟨0, _⟩ => show win0_0.index t (0 : Fin 2) * 512 + 1 * r.val = win0_2.index t (0 : Fin 2) * 512 + r.val; rw [e0]; omega
  | ⟨1, _⟩ => show win0_0.index t (1 : Fin 2) * 2048 + 1 * k.val = k.val; rw [e1]; omega

/-- The column block of the padded right operand at a grid point. -/
theorem iblk_w (c : Dev nD) (t : Fin cfg0.N) (k : Fin 2048) (l : Fin 896) (hl : win0_2.index t (1 : Fin 2) * 896 + l.val < 12544) :
    (iblk V c 1 t : Vec Ideal S2048x896 .bf16) (ix2 k l)
      = V c main_v1 (ix2 k ⟨win0_2.index t (1 : Fin 2) * 896 + l.val, hl⟩) := by
  obtain ⟨e0, e1, e2, e3⟩ := idx_facts t
  show V c main_v1 (((cfg0.win 1).blk t).view.emb (ix2 k l)) = _
  congr 1
  funext a; apply Fin.ext
  match a with
  | ⟨0, _⟩ => show win0_1.index t (0 : Fin 2) * 2048 + 1 * k.val = k.val; rw [e2]; omega
  | ⟨1, _⟩ => show win0_1.index t (1 : Fin 2) * 896 + 1 * l.val = win0_2.index t (1 : Fin 2) * 896 + l.val; rw [e3]; omega

/-- Where a point's block of the result stands. -/
theorem emb_out (t : Fin cfg0.N) (r : Fin 512) (l : Fin 896) (hr : win0_2.index t (0 : Fin 2) * 512 + r.val < 4096)
    (hl : win0_2.index t (1 : Fin 2) * 896 + l.val < 12544) :
    ((cfg0.win 2).blk t).view.emb (ix2 r l)
      = (ix2 ⟨win0_2.index t (0 : Fin 2) * 512 + r.val, hr⟩ ⟨win0_2.index t (1 : Fin 2) * 896 + l.val, hl⟩ : S4096x12544.Idx) := by
  funext a; apply Fin.ext
  match a with
  | ⟨0, _⟩ => show win0_2.index t (0 : Fin 2) * 512 + 1 * r.val = win0_2.index t (0 : Fin 2) * 512 + r.val; omega
  | ⟨1, _⟩ => show win0_2.index t (1 : Fin 2) * 896 + 1 * l.val = win0_2.index t (1 : Fin 2) * 896 + l.val; omega

/-- The blocks of the result lie within it. -/
theorem idx_bound : ∀ t : Fin cfg0.N, win0_2.index t (0 : Fin 2) < 8 ∧ win0_2.index t (1 : Fin 2) < 14 :=
  (by decide +kernel : ∀ t : Fin grid0.N, _)

/-- What a point writes back is its block of the product. -/
theorem flushed_eq (c : Dev nD) (t : Fin cfg0.N) :
    (dat (F := Ideal) V c).flushed 2 t = ((cfg0.win 2).blk t).view.read (Elt Ideal)
      (G (V c main_v2) (V c main_v1)) := by
  have hfl : (dat V c).flushed 2 t = (cfg0.win 2).cut (grid0.coords t) (out0_2 (iblk V c 0 t) (iblk V c 1 t)) := by
    show (cfg0.win 2).cut (grid0.coords t) ((dat V c).after 2 t) = _
    rw [after0_2]
  rw [hfl]
  obtain ⟨b0, b1⟩ := idx_bound t
  funext y
  obtain ⟨r, l, rfl⟩ : ∃ (r : Fin 512) (l : Fin 896), y = ix2 r l :=
    ⟨y 0, y 1, by funext a; match a with | ⟨0, _⟩ => rfl | ⟨1, _⟩ => rfl⟩
  have hr : win0_2.index t (0 : Fin 2) * 512 + r.val < 4096 := by have := r.isLt; omega
  have hl : win0_2.index t (1 : Fin 2) * 896 + l.val < 12544 := by have := l.isLt; omega
  refine Eq.trans (b := out0_2 (F := Ideal) (iblk V c 0 t) (iblk V c 1 t) (ix2 r l)) rfl ?_
  refine (out_apply _ _ _ _).trans ?_
  refine Eq.trans ?_ (congrArg (G (V c main_v2) (V c main_v1)) (emb_out t r l hr hl)).symm
  refine Finset.sum_congr rfl fun k _ => ?_
  rw [iblk_x V c t r k hr, iblk_w V c t k l hl]; rfl

/-- An index is in a point's block when its coordinates are in the block's ranges. -/
theorem mem_blk (t : Fin cfg0.N) (i : S4096x12544.Idx) :
    i ∈ ((cfg0.win 2).blk t).view.set ↔ ∀ a : Fin 2, win0_2.index t a * S512x896.size a ≤ (i a).val ∧ (i a).val < win0_2.index t a * S512x896.size a + S512x896.size a := by
  show i ∈ ((View.whole main_v3).slice (win0_2.rect t)).set ↔ _
  rw [View.set_slice_whole, Rect.mem_set_unit]
  exact Iff.rfl

/-- The array after the run is the product. -/
theorem final (c : Dev nD) : (dat V c).arrAt 2 cfg0.N = G (V c main_v2) (V c main_v1) :=
  (dat V c).arrAt_eq_of_cover 2 _ (fun t _ => flushed_eq V c t) (fun i => by
    have h0 : (i 0).val < 4096 := (i 0).isLt
    have h1 : (i 1).val < 12544 := (i 1).isLt
    obtain ⟨hf, hi⟩ := idx_onto ⟨(i 0).val / 512, by omega⟩ ⟨(i 1).val / 896, by omega⟩
    refine ⟨_, hf, ?_⟩
    rw [mem_blk]
    have q0 : win0_2.index (pt ⟨(i 0).val / 512, by omega⟩ ⟨(i 1).val / 896, by omega⟩) (0 : Fin 2) = (i 0).val / 512 := congrFun hi 0
    have q1 : win0_2.index (pt ⟨(i 0).val / 512, by omega⟩ ⟨(i 1).val / 896, by omega⟩) (1 : Fin 2) = (i 1).val / 896 := congrFun hi 1
    intro a
    match a with
    | ⟨0, _⟩ => show win0_2.index _ (0 : Fin 2) * 512 ≤ (i 0).val ∧ (i 0).val < win0_2.index _ (0 : Fin 2) * 512 + 512; omega
    | ⟨1, _⟩ => show win0_2.index _ (1 : Fin 2) * 896 ≤ (i 1).val ∧ (i 1).val < win0_2.index _ (1 : Fin 2) * 896 + 896; omega)

end Cert.LayerIdeal.In

end
-- ==== Proof.OutValue.lean ====
/- The last call: what the blocked projection leaves in its result, and that this is the product. -/
module

public import proofs.«01_k».proof.Proof.OutIdealRegion
public import Idealize.ShloMosaic.Lib.Pointwise
public import Idealize.ShloMosaic.Lib.Tactic.CleanTypes

@[expose] public section

set_option maxRecDepth 16384

noncomputable section

namespace Cert.LayerIdeal.Out

open Cert.LayerIdeal Cert.LayerIdeal.Gen Idealize.ShloMosaic Idealize.ShloMosaic.TcCoe Idealize.SL.Sem
open Idealize.ShloMosaic.Pipeline (Dat)
open scoped BigOperators

variable (V : (c : Dev nD) → (b : Ref sig .tc) → Buf (Elt Ideal) ((c : Thread nD τ).loc b))

/-- One block's payload is the product of its two blocks. -/
theorem pay_apply (x : Vec Ideal S512x4096 .bf16) (w : Vec Ideal S4096x512 .bf16) (r : Fin 512) (l : Fin 512) :
    k2_pay1 (F := Ideal) x w (ix2 r l) = ∑ k : Fin 4096, x (ix2 r k) * w (ix2 k l) := by
  pointwise [k2_pay1]

/-- What the body leaves in its output block: the product of the blocks. -/
theorem out_apply (x : Vec Ideal S512x4096 .bf16) (w : Vec Ideal S4096x512 .bf16) (r : Fin 512) (l : Fin 512) :
    out2_2 (F := Ideal) x w (ix2 r l) = ∑ k : Fin 4096, x (ix2 r k) * w (ix2 k l) := by
  unfold out2_2
  have h0 : (![0, 0] : Fin 2 → ℕ) = fun _ => 0 := by decide
  rw [View.canon_unit_zero h0, View.ld_unit_zero h0, View.ld_unit_zero h0, pay_apply]

/-- The result array: the product. -/
def G (x : Vec Ideal S4096x4096 .bf16) (w : Vec Ideal S4096x2048 .bf16) : Vec Ideal S4096x2048 .f32 := fun i =>
  ∑ k : Fin 4096, x (ix2 (i 0) k) * w (ix2 k (i 1))

/-- Where the three windows' blocks stand at a grid point. -/
theorem idx_facts : ∀ t : Fin cfg2.N, win2_0.index t (0 : Fin 2) = win2_2.index t (0 : Fin 2) ∧ win2_0.index t (1 : Fin 2) = 0
    ∧ win2_1.index t (0 : Fin 2) = 0 ∧ win2_1.index t (1 : Fin 2) = win2_2.index t (1 : Fin 2) :=
  (by decide +kernel : ∀ t : Fin grid2.N, _)

/-- Each block of the result is some point's. -/
abbrev pt (q0 : Fin 8) (q1 : Fin 4) : Fin grid2.N := ⟨q0.val + 8 * q1.val, lt_of_lt_of_eq (by omega) N_2.symm⟩
/-- Every block of the result is written at its point. -/
theorem idx_onto : ∀ (q0 : Fin 8) (q1 : Fin 4), win2_2.flush (pt q0 q1) = true ∧ win2_2.index (pt q0 q1) = ![q0.val, q1.val] := by
  decide +kernel

/-- The row block of the left operand at a grid point. -/
theorem iblk_x (c : Dev nD) (t : Fin cfg2.N) (r : Fin 512) (k : Fin 4096) (hr : win2_2.index t (0 : Fin 2) * 512 + r.val < 4096) :
    (iblk V c 0 t : Vec Ideal S512x4096 .bf16) (ix2 r k) = V c main_v21 (ix2 ⟨win2_2.index t (0 : Fin 2) * 512 + r.val, hr⟩ k) := by
  obtain ⟨e0, e1, e2, e3⟩ := idx_facts t
  show V c main_v21 (((cfg2.win 0).blk t).view.emb (ix2 r k)) = _
  congr 1
  funext a; apply Fin.ext
  match a with
  | ⟨0, _⟩ => show win2_0.index t (0 : Fin 2) * 512 + 1 * r.val = win2_2.index t (0 : Fin 2) * 512 + r.val; rw [e0]; omega
  | ⟨1, _⟩ => show win2_0.index t (1 : Fin 2) * 4096 + 1 * k.val = k.val; rw [e1]; omega

/-- The column block of the right operand at a grid point. -/
theorem iblk_w (c : Dev nD) (t : Fin cfg2.N) (k : Fin 4096) (l : Fin 512) (hl : win2_2.index t (1 : Fin 2) * 512 + l.val < 2048) :
    (iblk V c 1 t : Vec Ideal S4096x512 .bf16) (ix2 k l)
      = V c main_v22 (ix2 k ⟨win2_2.index t (1 : Fin 2) * 512 + l.val, hl⟩) := by
  obtain ⟨e0, e1, e2, e3⟩ := idx_facts t
  show V c main_v22 (((cfg2.win 1).blk t).view.emb (ix2 k l)) = _
  congr 1
  funext a; apply Fin.ext
  match a with
  | ⟨0, _⟩ => show win2_1.index t (0 : Fin 2) * 4096 + 1 * k.val = k.val; rw [e2]; omega
  | ⟨1, _⟩ => show win2_1.index t (1 : Fin 2) * 512 + 1 * l.val = win2_2.index t (1 : Fin 2) * 512 + l.val; rw [e3]; omega

/-- Where a point's block of the result stands. -/
theorem emb_out (t : Fin cfg2.N) (r : Fin 512) (l : Fin 512) (hr : win2_2.index t (0 : Fin 2) * 512 + r.val < 4096)
    (hl : win2_2.index t (1 : Fin 2) * 512 + l.val < 2048) :
    ((cfg2.win 2).blk t).view.emb (ix2 r l)
      = (ix2 ⟨win2_2.index t (0 : Fin 2) * 512 + r.val, hr⟩ ⟨win2_2.index t (1 : Fin 2) * 512 + l.val, hl⟩ : S4096x2048.Idx) := by
  funext a; apply Fin.ext
  match a with
  | ⟨0, _⟩ => show win2_2.index t (0 : Fin 2) * 512 + 1 * r.val = win2_2.index t (0 : Fin 2) * 512 + r.val; omega
  | ⟨1, _⟩ => show win2_2.index t (1 : Fin 2) * 512 + 1 * l.val = win2_2.index t (1 : Fin 2) * 512 + l.val; omega

/-- The blocks of the result lie within it. -/
theorem idx_bound : ∀ t : Fin cfg2.N, win2_2.index t (0 : Fin 2) < 8 ∧ win2_2.index t (1 : Fin 2) < 4 :=
  (by decide +kernel : ∀ t : Fin grid2.N, _)

/-- What a point writes back is its block of the product. -/
theorem flushed_eq (c : Dev nD) (t : Fin cfg2.N) :
    (dat (F := Ideal) V c).flushed 2 t = ((cfg2.win 2).blk t).view.read (Elt Ideal)
      (G (V c main_v21) (V c main_v22)) := by
  have hfl : (dat V c).flushed 2 t = (cfg2.win 2).cut (grid2.coords t) (out2_2 (iblk V c 0 t) (iblk V c 1 t)) := by
    show (cfg2.win 2).cut (grid2.coords t) ((dat V c).after 2 t) = _
    rw [after2_2]
  rw [hfl]
  obtain ⟨b0, b1⟩ := idx_bound t
  funext y
  obtain ⟨r, l, rfl⟩ : ∃ (r : Fin 512) (l : Fin 512), y = ix2 r l :=
    ⟨y 0, y 1, by funext a; match a with | ⟨0, _⟩ => rfl | ⟨1, _⟩ => rfl⟩
  have hr : win2_2.index t (0 : Fin 2) * 512 + r.val < 4096 := by have := r.isLt; omega
  have hl : win2_2.index t (1 : Fin 2) * 512 + l.val < 2048 := by have := l.isLt; omega
  refine Eq.trans (b := out2_2 (F := Ideal) (iblk V c 0 t) (iblk V c 1 t) (ix2 r l)) rfl ?_
  refine (out_apply _ _ _ _).trans ?_
  refine Eq.trans ?_ (congrArg (G (V c main_v21) (V c main_v22)) (emb_out t r l hr hl)).symm
  refine Finset.sum_congr rfl fun k _ => ?_
  rw [iblk_x V c t r k hr, iblk_w V c t k l hl]; rfl

/-- An index is in a point's block when its coordinates are in the block's ranges. -/
theorem mem_blk (t : Fin cfg2.N) (i : S4096x2048.Idx) :
    i ∈ ((cfg2.win 2).blk t).view.set ↔ ∀ a : Fin 2, win2_2.index t a * S512x512.size a ≤ (i a).val ∧ (i a).val < win2_2.index t a * S512x512.size a + S512x512.size a := by
  show i ∈ ((View.whole main_v23).slice (win2_2.rect t)).set ↔ _
  rw [View.set_slice_whole, Rect.mem_set_unit]
  exact Iff.rfl

/-- The array after the run is the product. -/
theorem final (c : Dev nD) : (dat V c).arrAt 2 cfg2.N = G (V c main_v21) (V c main_v22) :=
  (dat V c).arrAt_eq_of_cover 2 _ (fun t _ => flushed_eq V c t) (fun i => by
    have h0 : (i 0).val < 4096 := (i 0).isLt
    have h1 : (i 1).val < 2048 := (i 1).isLt
    obtain ⟨hf, hi⟩ := idx_onto ⟨(i 0).val / 512, by omega⟩ ⟨(i 1).val / 512, by omega⟩
    refine ⟨_, hf, ?_⟩
    rw [mem_blk]
    have q0 : win2_2.index (pt ⟨(i 0).val / 512, by omega⟩ ⟨(i 1).val / 512, by omega⟩) (0 : Fin 2) = (i 0).val / 512 := congrFun hi 0
    have q1 : win2_2.index (pt ⟨(i 0).val / 512, by omega⟩ ⟨(i 1).val / 512, by omega⟩) (1 : Fin 2) = (i 1).val / 512 := congrFun hi 1
    intro a
    match a with
    | ⟨0, _⟩ => show win2_2.index _ (0 : Fin 2) * 512 ≤ (i 0).val ∧ (i 0).val < win2_2.index _ (0 : Fin 2) * 512 + 512; omega
    | ⟨1, _⟩ => show win2_2.index _ (1 : Fin 2) * 512 ≤ (i 1).val ∧ (i 1).val < win2_2.index _ (1 : Fin 2) * 512 + 512; omega)

end Cert.LayerIdeal.Out

end
-- ==== Proof.CoreMath.lean ====
/- The mathematics of one chunk of the gated delta rule over the real numbers: the recurrence over a chunk in closed form,
   and the product of powers that inverts the chunk's triangular matrix. -/
module

public import Mathlib.Data.Matrix.Mul
public import Mathlib.Data.Matrix.Basic
public import Mathlib.Analysis.SpecialFunctions.Exp
public import Mathlib.Analysis.SpecialFunctions.Log.Basic
public import Mathlib.Algebra.BigOperators.Fin
public import Mathlib.Tactic.Ring
public import Mathlib.Tactic.NoncommRing
public import Mathlib.Tactic.NormNum

@[expose] public section

noncomputable section

namespace Cert.Gdn

open Finset
open scoped BigOperators

/-! ## The chunk in closed form -/

section Chunk

variable (k v : ℕ → ℕ → ℝ) (g β : ℕ → ℝ) (S : ℕ → ℕ → ℕ → ℝ) (δ : ℕ → ℕ → ℝ)

/-- The sum of the first `n` log decays. -/
def cum (g : ℕ → ℝ) (n : ℕ) : ℝ := ∑ m ∈ range n, g m

/-- A cumulated sum, one term on. -/
theorem cum_succ (n : ℕ) : cum g (n + 1) = cum g n + g n := by simp [cum, Finset.sum_range_succ]

/-- The state after `n` tokens, from the state at the chunk's start and the updates since. -/
theorem unroll (hS : ∀ t d e, S (t + 1) d e = Real.exp (g t) * S t d e + k t d * δ t e) (n d e : ℕ) :
    S n d e = Real.exp (cum g n) * S 0 d e
      + ∑ m ∈ range n, Real.exp (cum g n - cum g (m + 1)) * (k m d * δ m e) := by
  induction n with
  | zero => simp [cum]
  | succ n ih =>
    rw [hS, ih, Finset.sum_range_succ, mul_add, ← mul_assoc, ← Real.exp_add, Finset.mul_sum, sub_self, Real.exp_zero, one_mul,
      cum_succ, add_comm (g n), add_assoc]
    congr 2
    refine Finset.sum_congr rfl fun m _ => ?_
    rw [← mul_assoc, ← Real.exp_add]
    congr 2
    ring

/-- The coefficient with which the update of token `j` enters that of token `i`. -/
def bco (i j : ℕ) : ℝ := -((β i * ∑ d : Fin 128, k i d * k j d) * Real.exp (cum g (i + 1) - cum g (j + 1)))

/-- A product with a sum of two terms under the sum over the head dimension. -/
theorem sum_split (n : ℕ) (a : ℕ → ℝ) (x : ℝ) (s : ℕ → ℝ) (f : ℕ → ℝ) (u : ℕ → ℕ → ℝ) :
    ∑ d : Fin 128, a d * (x * s d + ∑ m ∈ range n, f m * u m d)
      = (∑ d : Fin 128, (a d * x) * s d) + ∑ m ∈ range n, f m * ∑ d : Fin 128, a d * u m d := by
  simp only [mul_add, Finset.sum_add_distrib, Finset.mul_sum]
  rw [Finset.sum_comm (s := univ)]
  congr 1
  · exact Finset.sum_congr rfl fun d _ => by ring
  · exact Finset.sum_congr rfl fun m _ => Finset.sum_congr rfl fun d _ => by ring

/-- A factor over a difference with a sum of products. -/
theorem fac (a u : ℝ) (w s : Fin 128 → ℝ) : a * (u - ∑ d, w d * s d) = a * u - ∑ d, (a * w d) * s d := by
  rw [mul_sub, Finset.mul_sum]
  simp only [mul_assoc]

variable (U W : ℕ → ℕ → ℝ)

/-- The update of token `i`, from the solved system's two halves and the state at the chunk's start. -/
theorem delta_eq (N e : ℕ) (hS : ∀ t d e, S (t + 1) d e = Real.exp (g t) * S t d e + k t d * δ t e)
    (hδ : ∀ t e, δ t e = β t * (v t e - ∑ d : Fin 128, k t d * (Real.exp (g t) * S t d e)))
    (hU : ∀ i, i < N → U i e = β i * v i e + ∑ j ∈ range i, bco k g β i j * U j e)
    (hW : ∀ i, i < N → ∀ d : Fin 128, W i d = β i * k i d * Real.exp (cum g (i + 1)) + ∑ j ∈ range i, bco k g β i j * W j d) :
    ∀ i, i < N → δ i e = U i e - ∑ d : Fin 128, W i d * S 0 d e := by
  intro i
  induction i using Nat.strong_induction_on with
  | _ i ih =>
    intro hi
    have h1 : ∀ d : Fin 128, Real.exp (g i) * S i d e = Real.exp (cum g (i + 1)) * S 0 d e
        + ∑ m ∈ range i, Real.exp (cum g (i + 1) - cum g (m + 1)) * (k m d * δ m e) := by
      intro d
      rw [unroll k g S δ hS, mul_add, ← mul_assoc, ← Real.exp_add, Finset.mul_sum, cum_succ, add_comm (g i)]
      congr 1
      refine Finset.sum_congr rfl fun m _ => ?_
      rw [← mul_assoc, ← Real.exp_add]
      congr 2
      ring
    rw [hδ, hU i hi]
    simp only [h1]
    rw [sum_split i (fun d => k i d) _ (fun d => S 0 d e) (fun m => Real.exp (cum g (i + 1) - cum g (m + 1))) (fun m d => k m d * δ m e)]
    have h2 : ∀ m ∈ range i, Real.exp (cum g (i + 1) - cum g (m + 1)) * ∑ d : Fin 128, k i d * (k m d * δ m e)
        = Real.exp (cum g (i + 1) - cum g (m + 1)) * (∑ d : Fin 128, k i d * k m d) * U m e
          - ∑ d : Fin 128, (Real.exp (cum g (i + 1) - cum g (m + 1)) * (∑ d : Fin 128, k i d * k m d) * W m d) * S 0 d e := by
      intro m hm
      have hm := Finset.mem_range.mp hm
      rw [ih m hm (by omega)]
      simp only [← mul_assoc (k i _)]
      rw [← Finset.sum_mul, ← mul_assoc, fac]
    rw [Finset.sum_congr rfl h2, Finset.sum_sub_distrib, Finset.sum_comm]
    have h3 : ∀ d : Fin 128, W i d * S 0 d e = β i * ((k i d * Real.exp (cum g (i + 1))) * S 0 d e)
        - β i * ∑ m ∈ range i, (Real.exp (cum g (i + 1) - cum g (m + 1)) * (∑ d : Fin 128, k i d * k m d) * W m d) * S 0 d e := by
      intro d
      rw [hW i hi, add_mul, Finset.sum_mul, Finset.mul_sum, sub_eq_add_neg, ← Finset.sum_neg_distrib]
      congr 1
      · ring
      · exact Finset.sum_congr rfl fun m _ => by unfold bco; ring
    simp only [h3]
    rw [Finset.sum_sub_distrib, ← Finset.mul_sum, ← Finset.mul_sum]
    have h4 : ∑ j ∈ range i, bco k g β i j * U j e
        = -(β i * ∑ m ∈ range i, Real.exp (cum g (i + 1) - cum g (m + 1)) * (∑ d : Fin 128, k i d * k m d) * U m e) := by
      rw [Finset.mul_sum, ← Finset.sum_neg_distrib]
      exact Finset.sum_congr rfl fun m _ => by unfold bco; ring
    rw [h4]
    ring

/-- The state after `n` tokens, from the state at the start and the solved system's halves. -/
theorem state_eq (N n d e : ℕ) (hn : n ≤ N) (hS : ∀ t d e, S (t + 1) d e = Real.exp (g t) * S t d e + k t d * δ t e)
    (hD : ∀ i, i < N → δ i e = U i e - ∑ d : Fin 128, W i d * S 0 d e) :
    S n d e = Real.exp (cum g n) * S 0 d e + (∑ m ∈ range n, (k m d * Real.exp (cum g n - cum g (m + 1))) * U m e)
      - ∑ x : Fin 128, (∑ m ∈ range n, (k m d * Real.exp (cum g n - cum g (m + 1))) * W m x) * S 0 x e := by
  rw [unroll k g S δ hS, add_sub_assoc]
  congr 1
  have : ∀ m ∈ range n, Real.exp (cum g n - cum g (m + 1)) * (k m d * δ m e)
      = (k m d * Real.exp (cum g n - cum g (m + 1))) * U m e
        - ∑ x : Fin 128, ((k m d * Real.exp (cum g n - cum g (m + 1))) * W m x) * S 0 x e := by
    intro m hm
    rw [hD m (lt_of_lt_of_le (Finset.mem_range.mp hm) hn)]
    simp only [mul_assoc, ← Finset.mul_sum]
    ring
  rw [Finset.sum_congr rfl this, Finset.sum_sub_distrib, Finset.sum_comm]
  congr 1
  exact Finset.sum_congr rfl fun x _ => by rw [Finset.sum_mul]

/-- The read-out of token `i`, from the state at the start and the solved system's halves. -/
theorem out_eq (N i e : ℕ) (hi : i < N) (q : ℕ → ℝ) (hS : ∀ t d e, S (t + 1) d e = Real.exp (g t) * S t d e + k t d * δ t e)
    (hD : ∀ i, i < N → δ i e = U i e - ∑ d : Fin 128, W i d * S 0 d e) :
    ∑ d : Fin 128, q d * S (i + 1) d e
      = (∑ m ∈ range (i + 1), ((∑ d : Fin 128, q d * k m d) * Real.exp (cum g (i + 1) - cum g (m + 1))) * U m e)
        + ∑ d : Fin 128, (q d * Real.exp (cum g (i + 1))
            - ∑ m ∈ range (i + 1), ((∑ d : Fin 128, q d * k m d) * Real.exp (cum g (i + 1) - cum g (m + 1))) * W m d) * S 0 d e := by
  simp only [unroll k g S δ hS (i + 1)]
  rw [sum_split (i + 1) q _ (fun d => S 0 d e) (fun m => Real.exp (cum g (i + 1) - cum g (m + 1))) (fun m d => k m d * δ m e)]
  have h2 : ∀ m ∈ range (i + 1), Real.exp (cum g (i + 1) - cum g (m + 1)) * ∑ d : Fin 128, q d * (k m d * δ m e)
      = ((∑ d : Fin 128, q d * k m d) * Real.exp (cum g (i + 1) - cum g (m + 1))) * U m e
        - ∑ d : Fin 128, (((∑ d : Fin 128, q d * k m d) * Real.exp (cum g (i + 1) - cum g (m + 1))) * W m d) * S 0 d e := by
    intro m hm
    rw [hD m (by have := Finset.mem_range.mp hm; omega)]
    simp only [← mul_assoc (q _)]
    rw [← Finset.sum_mul, ← mul_assoc, mul_comm (Real.exp _), fac]
  rw [Finset.sum_congr rfl h2, Finset.sum_sub_distrib, Finset.sum_comm]
  simp only [sub_mul, Finset.sum_sub_distrib, Finset.sum_mul]
  ring

end Chunk

/-! ## The product of powers -/

section Tower

variable (B : Matrix (Fin 256) (Fin 256) ℝ)

/-- One step: what inverts `A` up to `P` inverts it up to `P * P` after being multiplied by `1 + P`. -/
theorem tower_step (A T P : Matrix (Fin 256) (Fin 256) ℝ) (h : A * T = 1 - P) : A * (T + T * P) = 1 - P * P := by
  rw [mul_add, ← mul_assoc, h]
  noncomm_ring

/-- The product `(1 + B)(1 + B²)(1 + B⁴)(1 + B⁸)(1 + B¹⁶)(1 + B³²)`, built as the squares are. -/
def towerM : Matrix (Fin 256) (Fin 256) ℝ :=
  let p1 := B * B
  let t1 := (1 + B) + (1 + B) * p1
  let p2 := p1 * p1
  let t2 := t1 + t1 * p2
  let p3 := p2 * p2
  let t3 := t2 + t2 * p3
  let p4 := p3 * p3
  let t4 := t3 + t3 * p4
  let p5 := p4 * p4
  t4 + t4 * p5

/-- The product inverts `1 - B` when the 64th power of `B` is zero. -/
theorem tower_inv (h : B ^ 64 = 0) : (1 - B) * towerM B = 1 := by
  have h0 : (1 - B) * (1 + B) = 1 - B * B := by noncomm_ring
  have h1 := tower_step _ _ _ h0
  have h2 := tower_step _ _ _ h1
  have h3 := tower_step _ _ _ h2
  have h4 := tower_step _ _ _ h3
  have h5 := tower_step _ _ _ h4
  refine h5.trans ?_
  rw [← sq, ← sq, ← sq, ← sq, ← sq, ← sq, ← pow_mul, ← pow_mul, ← pow_mul, ← pow_mul, ← pow_mul]
  norm_num
  exact h

/-- A matrix that joins only rows of one block of 64 to earlier rows of it has 64th power zero. -/
theorem pow_zero_of_block (h : ∀ r s, ¬ (r.val / 64 = s.val / 64 ∧ s.val < r.val) → B r s = 0) : B ^ 64 = 0 := by
  have key : ∀ n, ∀ r s, ¬ (r.val / 64 = s.val / 64 ∧ s.val + n ≤ r.val) → (B ^ n) r s = 0 := by
    intro n
    induction n with
    | zero =>
      intro r s hrs
      rw [pow_zero, Matrix.one_apply, if_neg]
      rintro rfl
      exact hrs ⟨rfl, le_refl _⟩
    | succ n ih =>
      intro r s hrs
      rw [pow_succ, Matrix.mul_apply]
      refine Finset.sum_eq_zero fun x _ => ?_
      by_cases hx : r.val / 64 = x.val / 64 ∧ x.val + n ≤ r.val
      · rw [h x s, mul_zero]
        rintro ⟨h1, h2⟩
        exact hrs ⟨hx.1.trans h1, by omega⟩
      · rw [ih r x hx, zero_mul]
  ext r s
  rw [key 64 r s (by rintro ⟨h1, h2⟩; omega)]
  rfl

/-- So the product applied to a right-hand side solves the triangular system. -/
theorem tower_solve (R : Matrix (Fin 256) (Fin 256) ℝ) (h : ∀ r s, ¬ (r.val / 64 = s.val / 64 ∧ s.val < r.val) → B r s = 0) :
    towerM B * R = R + B * (towerM B * R) := by
  have := congrArg (· * R) (tower_inv B (pow_zero_of_block B h))
  simp only [sub_mul, one_mul, mul_assoc] at this
  rw [← sub_eq_iff_eq_add]
  exact this

/-- A sum over the 256 rows that takes only the first `n` of block `b`. -/
theorem block_sum (F : ℕ → ℝ) (b n : ℕ) (hb : b < 4) (hn : n ≤ 64) :
    ∑ s : Fin 256, (if s.val / 64 = b ∧ s.val < 64 * b + n then F s.val else 0) = ∑ m ∈ range n, F (64 * b + m) := by
  rw [← Finset.sum_range (n := 256) (fun s => if s / 64 = b ∧ s < 64 * b + n then F s else 0), ← Finset.sum_filter]
  symm
  refine Finset.sum_bij (fun m _ => 64 * b + m) ?_ ?_ ?_ ?_
  · intro m hm
    have := Finset.mem_range.mp hm
    simp only [Finset.mem_filter, Finset.mem_range]
    omega
  · intro a _ c _ h; omega
  · intro s hs
    simp only [Finset.mem_filter, Finset.mem_range] at hs
    exact ⟨s - 64 * b, Finset.mem_range.mpr (by omega), by omega⟩
  · intro m _; rfl

end Tower

end Cert.Gdn

end
-- ==== Proof.CoreSpec.lean ====
/- The layer's mathematics over the real numbers, token by token, and how the extended reals' operations act on real numbers. -/
module

public import proofs.«01_k».proof.Proof.CoreMath
public import Idealize.ShloMosaic.PureOps.Ideal
public import Idealize.ShloMosaic.Lib.IdealHost

@[expose] public section

noncomputable section

namespace Cert.Gdn

open Idealize.ShloMosaic
open scoped BigOperators

/-! ## Constants -/

/-- The number added under a square root, as its float word has it. -/
def eps : ℝ := (Ideal.ofBits .f32 0x358637BD#32).toReal

/-- The scale of the queries, as its float word has it. -/
def qs : ℝ := (Ideal.ofBits .f32 0x3DB504F3#32).toReal

/-- The norms' small constant. -/
theorem ofBits_eps : Ideal.ofBits .f32 0x358637BD#32 = ((eps : ℝ) : EReal) := by
  unfold eps
  simp [Ideal.ofBits, Ideal.ieee, -EReal.coe_mul]

/-- The queries' scale. -/
theorem ofBits_qs : Ideal.ofBits .f32 0x3DB504F3#32 = ((qs : ℝ) : EReal) := by
  unfold qs
  simp [Ideal.ofBits, Ideal.ieee, -EReal.coe_mul]

/-- The number 128. -/
theorem ofBits_128 : Ideal.ofBits .f32 0x43000000#32 = ((128 : ℝ) : EReal) := by
  simp [Ideal.ofBits, Ideal.ieee, -EReal.coe_mul]; norm_num

/-- The small constant is positive. -/
theorem eps_pos : 0 < eps := by
  unfold eps
  simp [Ideal.ofBits, Ideal.ieee, -EReal.coe_mul]

/-! ## Scalar functions -/

/-- The logistic function. -/
def sig (x : ℝ) : ℝ := (1 + Real.exp (-x))⁻¹

/-- The gate `x · σ(x)`. -/
def silu (x : ℝ) : ℝ := x * sig x

/-- The softplus function. -/
def sp (x : ℝ) : ℝ := max x 0 + Real.log (1 + Real.exp (-|x|))

/-- The reciprocal square root of a mean or sum of squares with `eps` added. -/
def rs (x : ℝ) : ℝ := (Real.sqrt (x + eps))⁻¹

/-! ## The layer -/

/-- The projection's row `n - 3`, zero before the first row. -/
def pz (P : ℕ → ℕ → ℝ) (n l : ℕ) : ℝ := if n < 3 then 0 else P (n - 3) l

/-- The convolution channel of column `l` of key head `kh`'s block. -/
def wch (kh l : ℕ) : ℕ := if l < 128 then 128 * kh + l else if l < 256 then 2048 + 128 * kh + (l - 128) else 4096 + 256 * kh + (l - 256)

/-- The four-tap causal convolution, gated. -/
def conv4 (w : ℕ → ℝ) (z : ℕ → ℝ) : ℝ := silu (w 0 * z 0 + w 1 * z 1 + w 2 * z 2 + w 3 * z 3)

/-- The convolved column `l` of key head `kh` at token `t`. -/
def co (P W : ℕ → ℕ → ℝ) (kh t l : ℕ) : ℝ := conv4 (W (wch kh l)) (fun n => pz P (t + n) (768 * kh + l))

/-- The sum of squares of 128 entries. -/
def ss (f : ℕ → ℝ) : ℝ := ∑ d : Fin 128, f d * f d

/-- The normalized, scaled query of a convolved row. -/
def qn (c : ℕ → ℝ) (d : ℕ) : ℝ := c d * rs (ss c) * qs

/-- The normalized key of a convolved row. -/
def kn (c : ℕ → ℝ) (d : ℕ) : ℝ := c (128 + d) * rs (ss fun d => c (128 + d))

/-- The gated, weighted, normalized output row. -/
def fin (o : ℕ → ℝ) (w : EReal) (z : ℝ) (e : ℕ) : EReal := ((o e * rs (ss o / 128) : ℝ) : EReal) * w * ((silu z : ℝ) : EReal)

/-- The update of the recurrence. -/
def upd (k v : ℕ → ℝ) (g β : ℝ) (S : ℕ → ℕ → ℝ) (e : ℕ) : ℝ := β * (v e - ∑ d : Fin 128, k d * (Real.exp g * S d e))

/-- The state before token `t`. -/
def St (k v : ℕ → ℕ → ℝ) (g β : ℕ → ℝ) : ℕ → ℕ → ℕ → ℝ
  | 0 => fun _ _ => 0
  | t + 1 => fun d e => Real.exp (g t) * St k v g β t d e + k t d * upd (k t) (v t) (g t) (β t) (St k v g β t) e

/-- The recurrence's read-out at token `t`. -/
def rd (q k v : ℕ → ℕ → ℝ) (g β : ℕ → ℝ) (t e : ℕ) : ℝ := ∑ d : Fin 128, q t d * St k v g β (t + 1) d e

section Head

variable (P W : ℕ → ℕ → ℝ) (Al Dt : ℕ → ℝ) (Nw : ℕ → EReal)

/-- Head `h`'s query at token `t`. -/
def qryh (h t d : ℕ) : ℝ := qn (co P W (h / 2) t) d
/-- Head `h`'s key at token `t`. -/
def keyh (h t d : ℕ) : ℝ := kn (co P W (h / 2) t) d
/-- Head `h`'s value at token `t`. -/
def valh (h t e : ℕ) : ℝ := co P W (h / 2) t (256 + 128 * (h % 2) + e)
/-- Head `h`'s rate at token `t`. -/
def bh (h t : ℕ) : ℝ := sig (P t (12288 + 4 * (h / 2) + h % 2))
/-- Head `h`'s log decay at token `t`. -/
def gh (h t : ℕ) : ℝ := -Real.exp (Al h) * sp (P t (12288 + 4 * (h / 2) + 2 + h % 2) + Dt h)
/-- Head `h`'s state before token `t`. -/
def Sh (h : ℕ) : ℕ → ℕ → ℕ → ℝ := St (keyh P W h) (valh P W h) (gh P Al Dt h) (bh P h)
/-- Head `h`'s read-out at token `t`. -/
def oh (h : ℕ) : ℕ → ℕ → ℝ := rd (qryh P W h) (keyh P W h) (valh P W h) (gh P Al Dt h) (bh P h)
/-- Head `h`'s output at token `t`. -/
def outh (h t e : ℕ) : EReal := fin (oh P W Al Dt h t) (Nw e) (P t (768 * (h / 2) + 512 + 128 * (h % 2) + e)) e

end Head

/-! ## Real numbers under the extended reals' operations -/

/-- A sum of numbers. -/
theorem coe_sum {ι : Type*} [Fintype ι] (f : ι → ℝ) : (∑ i, ((f i : ℝ) : EReal)) = ((∑ i, f i : ℝ) : EReal) := by
  classical
  refine Finset.induction_on (Finset.univ : Finset ι) ?_ ?_
  · simp
  · intro a s ha ih
    rw [Finset.sum_insert ha, Finset.sum_insert ha, ih, EReal.coe_add]

/-- The exponential of a number. -/
theorem exp_coe (x : ℝ) : Ideal.exp ((x : ℝ) : EReal) = ((Real.exp x : ℝ) : EReal) := rfl

/-- A quotient of numbers. -/
theorem div_coe (x y : ℝ) (hy : y ≠ 0) : Ideal.div (x : EReal) (y : EReal) = ((x / y : ℝ) : EReal) := by
  unfold Ideal.div
  rw [if_neg (by exact_mod_cast hy), ← EReal.coe_inv, ← EReal.coe_mul, div_eq_mul_inv]

/-- One and an exponential. -/
theorem one_add_exp (x : ℝ) : (1 : EReal) + Ideal.exp ((x : ℝ) : EReal) = ((1 + Real.exp x : ℝ) : EReal) := by
  rw [exp_coe, EReal.coe_add, EReal.coe_one]

/-- The sigmoid as a quotient. -/
theorem sig_div (x : ℝ) : Ideal.div 1 (1 + Ideal.exp (-((x : ℝ) : EReal))) = ((sig x : ℝ) : EReal) := by
  rw [← EReal.coe_neg, one_add_exp, ← EReal.coe_one, div_coe _ _ (by positivity), sig, one_div]

/-- The sigmoid of a number. -/
theorem logistic_coe (x : ℝ) : Ideal.logistic ((x : ℝ) : EReal) = ((sig x : ℝ) : EReal) := sig_div x

/-- The inverse root of a number. -/
theorem rsqrt_coe (x : ℝ) (hx : 0 ≤ x) : Ideal.rsqrt (((x : ℝ) : EReal) + ((eps : ℝ) : EReal)) = ((rs x : ℝ) : EReal) := by
  rw [← EReal.coe_add]
  have h : 0 < x + eps := by linarith [eps_pos]
  show (if x + eps < 0 then ⊥ else if x + eps = 0 then ⊤ else (((Real.sqrt (x + eps))⁻¹ : ℝ) : EReal)) = _
  rw [if_neg (by linarith), if_neg h.ne']
  rfl

/-- A sum of squares is not negative. -/
theorem ss_nonneg (f : ℕ → ℝ) : 0 ≤ ss f := Finset.sum_nonneg fun _ _ => mul_self_nonneg _

/-- The inverse root of a sum of squares. -/
theorem rsqrt_sum (f : ℕ → ℝ) : Ideal.rsqrt (((∑ d : Fin 128, f d * f d : ℝ) : EReal) + ((eps : ℝ) : EReal)) = ((rs (ss f) : ℝ) : EReal) :=
  rsqrt_coe _ (ss_nonneg f)

/-- The absolute value of a number. -/
theorem abs_coe (x : ℝ) : max ((x : ℝ) : EReal) (-((x : ℝ) : EReal)) = ((|x| : ℝ) : EReal) := by
  rw [← EReal.coe_neg, ← EReal.coe_strictMono.monotone.map_max]; rfl

/-- The positive part of a number. -/
theorem max_zero_coe (x : ℝ) : max ((x : ℝ) : EReal) 0 = ((max x 0 : ℝ) : EReal) := by
  rw [← EReal.coe_zero, ← EReal.coe_strictMono.monotone.map_max]

/-- The logarithm of one and an exponential. -/
theorem log1p_exp (x : ℝ) : Ideal.log1p (Ideal.exp ((x : ℝ) : EReal)) = ((Real.log (1 + Real.exp x) : ℝ) : EReal) := by
  unfold Ideal.log1p
  rw [one_add_exp]
  show (if 1 + Real.exp x ≤ 0 then ⊥ else ((Real.log (1 + Real.exp x) : ℝ) : EReal)) = _
  rw [if_neg (by have := Real.exp_pos x; linarith)]

/-- The softplus as its guarded form has it. -/
theorem sp_coe (x : ℝ) : max ((x : ℝ) : EReal) 0 + Ideal.log1p (Ideal.exp (0 - max ((x : ℝ) : EReal) (-((x : ℝ) : EReal)))) = ((sp x : ℝ) : EReal) := by
  rw [abs_coe, max_zero_coe, ← EReal.coe_zero, ← EReal.coe_sub, log1p_exp, ← EReal.coe_add, sp, zero_sub]

/-- A number less itself. -/
theorem sub_self_coe (x : ℝ) : ((x : ℝ) : EReal) - ((x : ℝ) : EReal) = 0 := by
  rw [← EReal.coe_sub, sub_self, EReal.coe_zero]

end Cert.Gdn

end
-- ==== Proof.CorePays.lean ====
/- The values a trip of the second call computes, as functions of the values they are taken from: the text of the second
   call cut where the lemmas that read it need it cut. -/
module

public import proofs.«01_k».proof.Proof.Gen.LayerIdeal.Skeleton

@[expose] public section

set_option maxRecDepth 16384

noncomputable section

namespace Cert.CoreV

open Cert.LayerIdeal Cert.LayerIdeal.Gen Idealize.ShloMosaic Idealize.ShloMosaic.TcCoe Idealize.SL.Sem

variable {F : FTy → Type} [FloatOps F]

/-! Short names for the types of the values: `f` for the wide floats, `h` for the narrow ones, `i` for integers, `b` for truth values, each with its shape. -/

local notation "f64x1" => FVec F S64x1 FTy.f32
local notation "f64x128" => FVec F S64x128 FTy.f32
local notation "f256x256" => FVec F S256x256 FTy.f32
local notation "f64x512" => FVec F S64x512 FTy.f32
local notation "f256x128" => FVec F S256x128 FTy.f32
local notation "f128x128" => FVec F S128x128 FTy.f32
local notation "i256x256" => IVec S256x256 32
local notation "f1x1" => FVec F S1x1 FTy.f32
local notation "f256x1" => FVec F S256x1 FTy.f32
local notation "f64" => FVec F S64 FTy.f32
local notation "b1x128" => IVec S1x128 1
local notation "i1x128" => IVec S1x128 32
local notation "f192x128" => FVec F S192x128 FTy.f32
local notation "i256x512" => IVec S256x512 32
local notation "f512x256" => FVec F S512x256 FTy.f32
local notation "b256x256" => IVec S256x256 1
local notation "f8x512" => FVec F S8x512 FTy.f32
local notation "f1x512" => FVec F S1x512 FTy.f32
local notation "f64x256" => FVec F S64x256 FTy.f32
local notation "b64x128" => IVec S64x128 1
local notation "h64x128" => FVec F S64x128 FTy.bf16
local notation "b256x512" => IVec S256x512 1
local notation "f64x768" => FVec F S64x768 FTy.f32
local notation "f1x128" => FVec F S1x128 FTy.f32
local notation "b64x1" => IVec S64x1 1
local notation "f1x256" => FVec F S1x256 FTy.f32
local notation "h256x1" => FVec F S256x1 FTy.bf16
local notation "f1x128x128" => FVec F S1x128x128 FTy.f32

/-- Value 4 of a trip. -/
def pay4 (v126 : Vec F S64x768 .bf16) : f64x768 :=
  have v127 : f64x768 := extf .f32 v126 bitsLt_bf16_f32
  v127

/-- Value 5 of a trip. -/
def pay5 (v126 : Vec F S64x768 .bf16) : f64x512 :=
  have v128 : f64x512 := extractStridedSlice S64x512 ![0, 0] (pay4 v126) slices_S64x768_o0_0_S64x512
  v128

/-- Value 6 of a trip. -/
def pay6 (v119 : Vec F S1x8x512 .f32) (v126 : Vec F S64x768 .bf16) (v130 : Vec F S1x4x512 .f32) : f64x512 :=
  have v120 : f8x512 := shapeCast S8x512 v119 shapeCasts_S1x8x512_S8x512
  have v129 : FVec F S3x512 .f32 := extractStridedSlice S3x512 ![5, 0] v120 slices_S8x512_o5_0_S3x512
  have v131 : FVec F S4x512 .f32 := shapeCast S4x512 v130 shapeCasts_S1x4x512_S4x512
  have v132 : FVec F S67x512 .f32 := concatenate S67x512 0 [⟨S3x512, v129⟩, ⟨S64x512, pay5 v126⟩] concatenates_S3x512_S64x512_S67x512_d0
  have v133 : f1x512 := extractStridedSlice S1x512 ![0, 0] v131 slices_S4x512_o0_0_S1x512
  have v134 : f64x512 := extractStridedSlice S64x512 ![0, 0] v132 slices_S67x512_o0_0_S64x512
  have v135 : f64x512 := broadcastTo S64x512 v133 broadcasts_S1x512_S64x512
  have v136 : f64x512 := mulf v135 v134
  have v137 : f1x512 := extractStridedSlice S1x512 ![1, 0] v131 slices_S4x512_o1_0_S1x512
  have v138 : f64x512 := extractStridedSlice S64x512 ![1, 0] v132 slices_S67x512_o1_0_S64x512
  have v139 : f64x512 := broadcastTo S64x512 v137 broadcasts_S1x512_S64x512
  have v140 : f64x512 := mulf v139 v138
  have v141 : f64x512 := addf v136 v140
  have v142 : f1x512 := extractStridedSlice S1x512 ![2, 0] v131 slices_S4x512_o2_0_S1x512
  have v143 : f64x512 := extractStridedSlice S64x512 ![2, 0] v132 slices_S67x512_o2_0_S64x512
  have v144 : f64x512 := broadcastTo S64x512 v142 broadcasts_S1x512_S64x512
  have v145 : f64x512 := mulf v144 v143
  have v146 : f64x512 := addf v141 v145
  have v147 : f1x512 := extractStridedSlice S1x512 ![3, 0] v131 slices_S4x512_o3_0_S1x512
  have v148 : f64x512 := extractStridedSlice S64x512 ![3, 0] v132 slices_S67x512_o3_0_S64x512
  have v149 : f64x512 := broadcastTo S64x512 v147 broadcasts_S1x512_S64x512
  have v150 : f64x512 := mulf v149 v148
  have v151 : f64x512 := addf v146 v150
  have v152 : f64x512 := logistic v151
  have v153 : f64x512 := mulf v151 v152
  v153

/-- Value 7 of a trip. -/
def pay7 (v126 : Vec F S64x768 .bf16) : f8x512 :=
  have v154 : f8x512 := extractStridedSlice S8x512 ![56, 0] (pay5 v126) slices_S64x512_o56_0_S8x512
  v154

/-- Value 8 of a trip. -/
def pay8 (v126 : Vec F S64x768 .bf16) : f64x256 :=
  have v155 : f64x256 := extractStridedSlice S64x256 ![0, 512] (pay4 v126) slices_S64x768_o0_512_S64x256
  v155

/-- Value 10 of a trip. -/
def pay10 (v160 : f64x768) : f64x512 :=
  have v161 : f64x512 := extractStridedSlice S64x512 ![0, 0] v160 slices_S64x768_o0_0_S64x512
  v161

/-- Value 11 of a trip. -/
def pay11 (v122 : f8x512) (v160 : f64x768) (v163 : Vec F S1x4x512 .f32) : f64x512 :=
  have v162 : FVec F S3x512 .f32 := extractStridedSlice S3x512 ![5, 0] v122 slices_S8x512_o5_0_S3x512
  have v164 : FVec F S4x512 .f32 := shapeCast S4x512 v163 shapeCasts_S1x4x512_S4x512
  have v165 : FVec F S67x512 .f32 := concatenate S67x512 0 [⟨S3x512, v162⟩, ⟨S64x512, pay10 v160⟩] concatenates_S3x512_S64x512_S67x512_d0
  have v166 : f1x512 := extractStridedSlice S1x512 ![0, 0] v164 slices_S4x512_o0_0_S1x512
  have v167 : f64x512 := extractStridedSlice S64x512 ![0, 0] v165 slices_S67x512_o0_0_S64x512
  have v168 : f64x512 := broadcastTo S64x512 v166 broadcasts_S1x512_S64x512
  have v169 : f64x512 := mulf v168 v167
  have v170 : f1x512 := extractStridedSlice S1x512 ![1, 0] v164 slices_S4x512_o1_0_S1x512
  have v171 : f64x512 := extractStridedSlice S64x512 ![1, 0] v165 slices_S67x512_o1_0_S64x512
  have v172 : f64x512 := broadcastTo S64x512 v170 broadcasts_S1x512_S64x512
  have v173 : f64x512 := mulf v172 v171
  have v174 : f64x512 := addf v169 v173
  have v175 : f1x512 := extractStridedSlice S1x512 ![2, 0] v164 slices_S4x512_o2_0_S1x512
  have v176 : f64x512 := extractStridedSlice S64x512 ![2, 0] v165 slices_S67x512_o2_0_S64x512
  have v177 : f64x512 := broadcastTo S64x512 v175 broadcasts_S1x512_S64x512
  have v178 : f64x512 := mulf v177 v176
  have v179 : f64x512 := addf v174 v178
  have v180 : f1x512 := extractStridedSlice S1x512 ![3, 0] v164 slices_S4x512_o3_0_S1x512
  have v181 : f64x512 := extractStridedSlice S64x512 ![3, 0] v165 slices_S67x512_o3_0_S64x512
  have v182 : f64x512 := broadcastTo S64x512 v180 broadcasts_S1x512_S64x512
  have v183 : f64x512 := mulf v182 v181
  have v184 : f64x512 := addf v179 v183
  have v185 : f64x512 := logistic v184
  have v186 : f64x512 := mulf v184 v185
  v186

/-- Value 12 of a trip. -/
def pay12 (v160 : f64x768) : f8x512 :=
  have v187 : f8x512 := extractStridedSlice S8x512 ![56, 0] (pay10 v160) slices_S64x512_o56_0_S8x512
  v187

/-- Value 14 of a trip. -/
def pay14 (v192 : Vec F S64x128 .bf16) : f64x128 :=
  have v193 : f64x128 := extf .f32 v192 bitsLt_bf16_f32
  v193

/-- Value 17 of a trip. -/
def pay17 (v153 : f64x512) : f64x1 :=
  have v206 : f64x128 := mulf (k1_pay16 v153) (k1_pay16 v153)
  have v207 : f64 := multiReduction .add [1] S64 v206 0x00000000#32 reduces_S64x128_S64 (.inl rfl) rfl
  have v208 : f64x1 := shapeCast S64x1 v207 shapeCasts_S64_S64x1
  v208

/-- Value 18 of a trip. -/
def pay18 : f64x1 :=
  have cst_52 : F .f32 := Scalar.ofBits .f32 0x358637BD#32
  have v209 : f64x1 := broadcast S64x1 cst_52
  v209

/-- Value 19 of a trip. -/
def pay19 (v186 : f64x512) (v195 : f64x128) (v208 v209 : f64x1) : f256x128 :=
  have v210 : f64x1 := addf v208 v209
  have v211 : f64x1 := rsqrt v210
  have v212 : f64x128 := broadcastTo S64x128 v211 broadcasts_S64x1_S64x128
  have v213 : f64x128 := mulf v195 v212
  have v215 : f64x128 := extractStridedSlice S64x128 ![0, 128] v186 slices_S64x512_o0_128_S64x128
  have v226 : f64x128 := mulf v215 v215
  have v227 : f64 := multiReduction .add [1] S64 v226 0x00000000#32 reduces_S64x128_S64 (.inl rfl) rfl
  have v228 : f64x1 := shapeCast S64x1 v227 shapeCasts_S64_S64x1
  have cst_57 : F .f32 := Scalar.ofBits .f32 0x358637BD#32
  have v229 : f64x1 := broadcast S64x1 cst_57
  have v230 : f64x1 := addf v228 v229
  have v231 : f64x1 := rsqrt v230
  have v232 : f64x128 := broadcastTo S64x128 v231 broadcasts_S64x1_S64x128
  have v233 : f64x128 := mulf v215 v232
  have v234 : f256x128 := concatenate S256x128 0 [⟨S64x128, v213⟩, ⟨S64x128, v213⟩, ⟨S64x128, v233⟩, ⟨S64x128, v233⟩] concatenates_S64x128_S64x128_S64x128_S64x128_S256x128_d0
  v234

/-- Value 22 of a trip. -/
def pay22 (arg0 : BitVec 32) (v114 : i1x128) (v193 : f64x128) : f64x128 :=
  let v245 : BitVec 32 := Scalar.muli 2#32 arg0
  let v246 : BitVec 32 := Scalar.addi v245 0#32
  let v247 : BitVec 32 := Scalar.muli 4#32 v246
  let v248 : BitVec 32 := Scalar.addi v247 0#32
  have v249 : i1x128 := broadcast S1x128 v248
  have v250 : b1x128 := cmpi .eq v114 v249
  have cst_66 : F .f32 := Scalar.ofBits .f32 0x00000000#32
  have v251 : b1x128 := shapeCast S1x128 v250 shapeCasts_S1x128_S1x128
  have v252 : b64x128 := broadcastTo S64x128 v251 broadcasts_S1x128_S64x128
  have v253 : f64x128 := broadcast S64x128 cst_66
  have v254 : f64x128 := select v252 v193 v253
  v254

/-- Value 23 of a trip. -/
def pay23 (v254 : f64x128) : f64x1 :=
  have v255 : f64 := multiReduction .add [1] S64 v254 0x00000000#32 reduces_S64x128_S64 (.inl rfl) rfl
  have v256 : f64x1 := shapeCast S64x1 v255 shapeCasts_S64_S64x1
  have v270 : f64x1 := logistic v256
  v270

/-- Value 25 of a trip. -/
def pay25 (v114 : i1x128) (v193 : f64x128) (v297 c0_i32_84 : BitVec 32) : f64x1 :=
  let v298 : BitVec 32 := Scalar.addi v297 c0_i32_84
  let v299 : BitVec 32 := Scalar.muli 4#32 v298
  let v300 : BitVec 32 := Scalar.addi v299 1#32
  have v301 : i1x128 := broadcast S1x128 v300
  have v302 : b1x128 := cmpi .eq v114 v301
  have cst_87 : F .f32 := Scalar.ofBits .f32 0x00000000#32
  have v303 : b1x128 := shapeCast S1x128 v302 shapeCasts_S1x128_S1x128
  have v304 : b64x128 := broadcastTo S64x128 v303 broadcasts_S1x128_S64x128
  have v305 : f64x128 := broadcast S64x128 cst_87
  have v306 : f64x128 := select v304 v193 v305
  have v307 : f64 := multiReduction .add [1] S64 v306 0x00000000#32 reduces_S64x128_S64 (.inl rfl) rfl
  have v308 : f64x1 := shapeCast S64x1 v307 shapeCasts_S64_S64x1
  have v322 : f64x1 := logistic v308
  v322

/-- Value 26 of a trip. -/
def pay26 (arg0 : BitVec 32) (v114 : i1x128) (v193 : f64x128) (v326 : Elt F .f32) : f64x1 :=
  let v309 : BitVec 32 := Scalar.muli 2#32 arg0
  let v310 : BitVec 32 := Scalar.addi v309 0#32
  let v311 : BitVec 32 := Scalar.muli 4#32 v310
  let v312 : BitVec 32 := Scalar.addi v311 2#32
  let v313 : BitVec 32 := Scalar.addi v312 1#32
  have v314 : i1x128 := broadcast S1x128 v313
  have v315 : b1x128 := cmpi .eq v114 v314
  have cst_94 : F .f32 := Scalar.ofBits .f32 0x00000000#32
  have v316 : b1x128 := shapeCast S1x128 v315 shapeCasts_S1x128_S1x128
  have v317 : b64x128 := broadcastTo S64x128 v316 broadcasts_S1x128_S64x128
  have v318 : f64x128 := broadcast S64x128 cst_94
  have v319 : f64x128 := select v317 v193 v318
  have v320 : f64 := multiReduction .add [1] S64 v319 0x00000000#32 reduces_S64x128_S64 (.inl rfl) rfl
  have v321 : f64x1 := shapeCast S64x1 v320 shapeCasts_S64_S64x1
  have v327 : f64x1 := broadcast S64x1 v326
  have v328 : f64x1 := addf v321 v327
  have cst_98 : F .f32 := Scalar.ofBits .f32 0x00000000#32
  have v329 : f64x1 := broadcast S64x1 cst_98
  have v330 : f64x1 := maximumf v328 v329
  have v331 : f64x1 := broadcast S64x1 cst_98
  have v332 : f64x1 := subf v328 v331
  have v333 : b64x1 := cmpf .one v332 v332
  have v334 : f64x1 := broadcast S64x1 cst_98
  have v335 : f64x1 := addf v328 v334
  have v336 : f64x1 := absf v332
  have cst_99 : F .f32 := Scalar.ofBits .f32 0x00000000#32
  have v337 : f64x1 := broadcast S64x1 cst_99
  have v338 : f64x1 := subf v337 v336
  have v339 : f64x1 := exp v338
  have v340 : f64x1 := log1p v339
  have v341 : f64x1 := addf v330 v340
  have v342 : f64x1 := select v333 v335 v341
  v342

/-- Value 27 of a trip. -/
def pay27 (v324 : Elt F .f32) (v342 : f64x1) : f64x1 :=
  have v343 : f64x1 := broadcast S64x1 v324
  have v344 : f64x1 := mulf v343 v342
  v344

/-- Value 30 of a trip. -/
def pay30 (arg0 : BitVec 32) (v114 : i1x128) (v193 : f64x128) (v378 : Elt F .f32) : f64x1 :=
  have cst_119 : F .f32 := Scalar.ofBits .f32 0x00000000#32
  have v381 : f64x1 := broadcast S64x1 cst_119
  have v382 : f64x1 := maximumf (k1_pay34 arg0 v114 v193 v378) v381
  v382

/-- Value 31 of a trip. -/
def pay31 (v376 : Elt F .f32) (v380 : f64x1) (cst_119 : F .f32) (v382 : f64x1) : f64x1 :=
  have v383 : f64x1 := broadcast S64x1 cst_119
  have v384 : f64x1 := subf v380 v383
  have v385 : b64x1 := cmpf .one v384 v384
  have v386 : f64x1 := broadcast S64x1 cst_119
  have v387 : f64x1 := addf v380 v386
  have v388 : f64x1 := absf v384
  have cst_120 : F .f32 := Scalar.ofBits .f32 0x00000000#32
  have v389 : f64x1 := broadcast S64x1 cst_120
  have v390 : f64x1 := subf v389 v388
  have v391 : f64x1 := exp v390
  have v392 : f64x1 := log1p v391
  have v393 : f64x1 := addf v382 v392
  have v394 : f64x1 := select v385 v387 v393
  have v395 : f64x1 := broadcast S64x1 v376
  have v396 : f64x1 := mulf v395 v394
  v396

/-- Value 33 of a trip. -/
def pay33 (arg0 : BitVec 32) (v114 : i1x128) (v193 : f64x128) : f64 :=
  let v413 : BitVec 32 := Scalar.muli 2#32 arg0
  let v414 : BitVec 32 := Scalar.addi v413 1#32
  let v415 : BitVec 32 := Scalar.muli 4#32 v414
  let v416 : BitVec 32 := Scalar.addi v415 2#32
  let v417 : BitVec 32 := Scalar.addi v416 1#32
  have v418 : i1x128 := broadcast S1x128 v417
  have v419 : b1x128 := cmpi .eq v114 v418
  have cst_136 : F .f32 := Scalar.ofBits .f32 0x00000000#32
  have v420 : b1x128 := shapeCast S1x128 v419 shapeCasts_S1x128_S1x128
  have v421 : b64x128 := broadcastTo S64x128 v420 broadcasts_S1x128_S64x128
  have v422 : f64x128 := broadcast S64x128 cst_136
  have v423 : f64x128 := select v421 v193 v422
  have v424 : f64 := multiReduction .add [1] S64 v423 0x00000000#32 reduces_S64x128_S64 (.inl rfl) rfl
  v424

/-- Value 35 of a trip. -/
def pay35 (v292 v344 v396 : f64x1) (v424 : f64) (v428 v430 : Elt F .f32) : f256x1 :=
  have v425 : f64x1 := shapeCast S64x1 v424 shapeCasts_S64_S64x1
  have v431 : f64x1 := broadcast S64x1 v430
  have v432 : f64x1 := addf v425 v431
  have cst_140 : F .f32 := Scalar.ofBits .f32 0x00000000#32
  have v433 : f64x1 := broadcast S64x1 cst_140
  have v434 : f64x1 := maximumf v432 v433
  have v435 : f64x1 := broadcast S64x1 cst_140
  have v436 : f64x1 := subf v432 v435
  have v437 : b64x1 := cmpf .one v436 v436
  have v438 : f64x1 := broadcast S64x1 cst_140
  have v439 : f64x1 := addf v432 v438
  have v440 : f64x1 := absf v436
  have cst_141 : F .f32 := Scalar.ofBits .f32 0x00000000#32
  have v441 : f64x1 := broadcast S64x1 cst_141
  have v442 : f64x1 := subf v441 v440
  have v443 : f64x1 := exp v442
  have v444 : f64x1 := log1p v443
  have v445 : f64x1 := addf v434 v444
  have v446 : f64x1 := select v437 v439 v445
  have v447 : f64x1 := broadcast S64x1 v428
  have v448 : f64x1 := mulf v447 v446
  have v450 : f256x1 := concatenate S256x1 0 [⟨S64x1, v292⟩, ⟨S64x1, v344⟩, ⟨S64x1, v396⟩, ⟨S64x1, v448⟩] concatenates_S64x1_S64x1_S64x1_S64x1_S256x1_d0
  v450

/-- Value 36 of a trip. -/
def pay36 (v292 v344 v396 : f64x1) (v424 : f64) (v428 v430 : Elt F .f32) : h256x1 :=
  have v451 : h256x1 := truncf .bf16 (pay35 v292 v344 v396 v424 v428 v430) bitsLt_bf16_f32
  v451

/-- Value 37 of a trip. -/
def pay37 (v292 v344 v396 : f64x1) (v424 : f64) (v428 v430 : Elt F .f32) : h256x1 :=
  have v452 : f256x1 := extf .f32 (pay36 v292 v344 v396 v424 v428 v430) bitsLt_bf16_f32
  have v453 : f256x1 := subf (pay35 v292 v344 v396 v424 v428 v430) v452
  have v454 : h256x1 := truncf .bf16 v453 bitsLt_bf16_f32
  v454

/-- Value 39 of a trip. -/
def pay39 (v59 : f256x256) (v292 v344 v396 : f64x1) (v424 : f64) (v428 v430 : Elt F .f32) : f256x1 :=
  have cst_142 : f256x1 := constant S256x1 .f32 0x00000000#32
  have v456 : f256x1 := matmul dot_S256x256_S256x1_S256x1_1_0_0_1_n_n none (k1_pay43 v59) (pay36 v292 v344 v396 v424 v428 v430) cst_142
  have cst_143 : f256x1 := constant S256x1 .f32 0x00000000#32
  have v457 : f256x1 := matmul dot_S256x256_S256x1_S256x1_1_0_0_1_n_n none (k1_pay43 v59) (pay37 v292 v344 v396 v424 v428 v430) cst_143
  have v458 : f256x1 := addf v456 v457
  v458

/-- Value 40 of a trip. -/
def pay40 (v59 : f256x256) (v292 v344 v396 : f64x1) (v424 : f64) (v428 v430 : Elt F .f32) : f256x256 :=
  have cst_144 : f1x256 := constant S1x256 .f32 0x00000000#32
  have v459 : f1x256 := matmul dot_S256x1_S256x256_S1x256_0_1_1_0_n_n none (pay36 v292 v344 v396 v424 v428 v430) (k1_pay43 v59) cst_144
  have cst_145 : f1x256 := constant S1x256 .f32 0x00000000#32
  have v460 : f1x256 := matmul dot_S256x1_S256x256_S1x256_0_1_1_0_n_n none (pay37 v292 v344 v396 v424 v428 v430) (k1_pay43 v59) cst_145
  have v461 : f1x256 := addf v459 v460
  have v462 : f256x256 := broadcastTo S256x256 (pay39 v59 v292 v344 v396 v424 v428 v430) broadcasts_S256x1_S256x256
  have v463 : f256x256 := broadcastTo S256x256 v461 broadcasts_S1x256_S256x256
  have v464 : f256x256 := subf v462 v463
  have v465 : f256x256 := exp v464
  v465

/-- Value 41 of a trip. -/
def pay41 (v59 : f256x256) (v292 v344 v396 : f64x1) (v424 : f64) (v428 v430 : Elt F .f32) : f256x1 :=
  have v466 : f256x1 := exp (pay39 v59 v292 v344 v396 v424 v428 v430)
  v466

/-- Value 42 of a trip. -/
def pay42 (v59 : f256x256) (v292 v344 v396 : f64x1) (v424 : f64) (v428 v430 : Elt F .f32) : f1x1 :=
  have v467 : f1x1 := extractStridedSlice S1x1 ![63, 0] (pay39 v59 v292 v344 v396 v424 v428 v430) slices_S256x1_o63_0_S1x1
  have v468 : f1x1 := exp v467
  v468

/-- Value 43 of a trip. -/
def pay43 (v59 : f256x256) (v292 v344 v396 : f64x1) (v424 : f64) (v428 v430 : Elt F .f32) : f1x1 :=
  have v469 : f1x1 := extractStridedSlice S1x1 ![127, 0] (pay39 v59 v292 v344 v396 v424 v428 v430) slices_S256x1_o127_0_S1x1
  have v470 : f1x1 := exp v469
  v470

/-- Value 44 of a trip. -/
def pay44 (v59 : f256x256) (v292 v344 v396 : f64x1) (v424 : f64) (v428 v430 : Elt F .f32) : f1x1 :=
  have v471 : f1x1 := extractStridedSlice S1x1 ![191, 0] (pay39 v59 v292 v344 v396 v424 v428 v430) slices_S256x1_o191_0_S1x1
  have v472 : f1x1 := exp v471
  v472

/-- Value 45 of a trip. -/
def pay45 (v59 : f256x256) (v292 v344 v396 : f64x1) (v424 : f64) (v428 v430 : Elt F .f32) : f1x1 :=
  have v473 : f1x1 := extractStridedSlice S1x1 ![255, 0] (pay39 v59 v292 v344 v396 v424 v428 v430) slices_S256x1_o255_0_S1x1
  have v474 : f1x1 := exp v473
  v474

/-- Value 46 of a trip. -/
def pay46 (v59 : f256x256) (v292 v344 v396 : f64x1) (v424 : f64) (v428 v430 : Elt F .f32) : f1x1 :=
  have v475 : f1x1 := extractStridedSlice S1x1 ![63, 0] (pay39 v59 v292 v344 v396 v424 v428 v430) slices_S256x1_o63_0_S1x1
  have v476 : f1x1 := shapeCast S1x1 v475 shapeCasts_S1x1_S1x1
  v476

/-- Value 47 of a trip. -/
def pay47 (v458 : f256x1) (v476 : f1x1) : f256x1 :=
  have v477 : f64x1 := broadcastTo S64x1 v476 broadcasts_S1x1_S64x1
  have v478 : f1x1 := extractStridedSlice S1x1 ![127, 0] v458 slices_S256x1_o127_0_S1x1
  have v479 : f1x1 := shapeCast S1x1 v478 shapeCasts_S1x1_S1x1
  have v480 : f64x1 := broadcastTo S64x1 v479 broadcasts_S1x1_S64x1
  have v481 : f1x1 := extractStridedSlice S1x1 ![191, 0] v458 slices_S256x1_o191_0_S1x1
  have v482 : f1x1 := shapeCast S1x1 v481 shapeCasts_S1x1_S1x1
  have v483 : f64x1 := broadcastTo S64x1 v482 broadcasts_S1x1_S64x1
  have v484 : f1x1 := extractStridedSlice S1x1 ![255, 0] v458 slices_S256x1_o255_0_S1x1
  have v485 : f1x1 := shapeCast S1x1 v484 shapeCasts_S1x1_S1x1
  have v486 : f64x1 := broadcastTo S64x1 v485 broadcasts_S1x1_S64x1
  have v487 : f256x1 := concatenate S256x1 0 [⟨S64x1, v477⟩, ⟨S64x1, v480⟩, ⟨S64x1, v483⟩, ⟨S64x1, v486⟩] concatenates_S64x1_S64x1_S64x1_S64x1_S256x1_d0
  have v488 : f256x1 := subf v487 v458
  have v489 : f256x1 := exp v488
  v489

/-- Value 49 of a trip. -/
def pay49 (v234 v235 : f256x128) (v465 : f256x256) : f256x256 :=
  have cst_160 : f256x256 := constant S256x256 .f32 0x00000000#32
  have v520 : f256x256 := matmul dot_S256x128_S256x128_S256x256_1_1_0_0_n_n none v235 v234 cst_160
  have v521 : f256x256 := mulf v520 v465
  v521

/-- Value 50 of a trip. -/
def pay50 (v57 : b256x256) (v519 v521 : f256x256) : f256x256 :=
  have cst_161 : F .f32 := Scalar.ofBits .f32 0x00000000#32
  have v522 : f256x256 := broadcast S256x256 cst_161
  have v523 : f256x256 := select v57 v521 v522
  have cst_162 : f256x256 := constant S256x256 .f32 0x00000000#32
  have v524 : f256x256 := matmul dot_S256x256_S256x256_S256x256_1_0_0_1_n_n none v523 v519 cst_162
  v524

/-- Value 51 of a trip. -/
def pay51 (v57 : b256x256) (v235 : f256x128) (v466 : f256x1) (v519 v521 : f256x256) : f256x128 :=
  have v525 : f256x128 := broadcastTo S256x128 v466 broadcasts_S256x1_S256x128
  have v526 : f256x128 := mulf v235 v525
  have v527 : f256x128 := extractStridedSlice S256x128 ![0, 128] (pay50 v57 v519 v521) slices_S256x256_o0_128_S256x128
  have v528 : f256x128 := subf v526 v527
  v528

/-- Value 53 of a trip. -/
def pay53 (v57 : b256x256) (v519 v521 : f256x256) : f256x128 :=
  have v535 : f256x128 := extractStridedSlice S256x128 ![0, 0] (pay50 v57 v519 v521) slices_S256x256_o0_0_S256x128
  v535

/-- Value 56 of a trip. -/
def pay56 (v154 : f8x512) (v539 : Vec F S64x768 .bf16) (v543 : Vec F S1x4x512 .f32) : f64x512 :=
  have v542 : FVec F S3x512 .f32 := extractStridedSlice S3x512 ![5, 0] v154 slices_S8x512_o5_0_S3x512
  have v544 : FVec F S4x512 .f32 := shapeCast S4x512 v543 shapeCasts_S1x4x512_S4x512
  have v545 : FVec F S67x512 .f32 := concatenate S67x512 0 [⟨S3x512, v542⟩, ⟨S64x512, pay5 v539⟩] concatenates_S3x512_S64x512_S67x512_d0
  have v546 : f1x512 := extractStridedSlice S1x512 ![0, 0] v544 slices_S4x512_o0_0_S1x512
  have v547 : f64x512 := extractStridedSlice S64x512 ![0, 0] v545 slices_S67x512_o0_0_S64x512
  have v548 : f64x512 := broadcastTo S64x512 v546 broadcasts_S1x512_S64x512
  have v549 : f64x512 := mulf v548 v547
  have v550 : f1x512 := extractStridedSlice S1x512 ![1, 0] v544 slices_S4x512_o1_0_S1x512
  have v551 : f64x512 := extractStridedSlice S64x512 ![1, 0] v545 slices_S67x512_o1_0_S64x512
  have v552 : f64x512 := broadcastTo S64x512 v550 broadcasts_S1x512_S64x512
  have v553 : f64x512 := mulf v552 v551
  have v554 : f64x512 := addf v549 v553
  have v555 : f1x512 := extractStridedSlice S1x512 ![2, 0] v544 slices_S4x512_o2_0_S1x512
  have v556 : f64x512 := extractStridedSlice S64x512 ![2, 0] v545 slices_S67x512_o2_0_S64x512
  have v557 : f64x512 := broadcastTo S64x512 v555 broadcasts_S1x512_S64x512
  have v558 : f64x512 := mulf v557 v556
  have v559 : f64x512 := addf v554 v558
  have v560 : f1x512 := extractStridedSlice S1x512 ![3, 0] v544 slices_S4x512_o3_0_S1x512
  have v561 : f64x512 := extractStridedSlice S64x512 ![3, 0] v545 slices_S67x512_o3_0_S64x512
  have v562 : f64x512 := broadcastTo S64x512 v560 broadcasts_S1x512_S64x512
  have v563 : f64x512 := mulf v562 v561
  have v564 : f64x512 := addf v559 v563
  have v565 : f64x512 := logistic v564
  have v566 : f64x512 := mulf v564 v565
  v566

/-- Value 61 of a trip. -/
def pay61 (v187 : f8x512) (v572 : Vec F S64x768 .bf16) (v576 : Vec F S1x4x512 .f32) : f64x512 :=
  have v575 : FVec F S3x512 .f32 := extractStridedSlice S3x512 ![5, 0] v187 slices_S8x512_o5_0_S3x512
  have v577 : FVec F S4x512 .f32 := shapeCast S4x512 v576 shapeCasts_S1x4x512_S4x512
  have v578 : FVec F S67x512 .f32 := concatenate S67x512 0 [⟨S3x512, v575⟩, ⟨S64x512, pay5 v572⟩] concatenates_S3x512_S64x512_S67x512_d0
  have v579 : f1x512 := extractStridedSlice S1x512 ![0, 0] v577 slices_S4x512_o0_0_S1x512
  have v580 : f64x512 := extractStridedSlice S64x512 ![0, 0] v578 slices_S67x512_o0_0_S64x512
  have v581 : f64x512 := broadcastTo S64x512 v579 broadcasts_S1x512_S64x512
  have v582 : f64x512 := mulf v581 v580
  have v583 : f1x512 := extractStridedSlice S1x512 ![1, 0] v577 slices_S4x512_o1_0_S1x512
  have v584 : f64x512 := extractStridedSlice S64x512 ![1, 0] v578 slices_S67x512_o1_0_S64x512
  have v585 : f64x512 := broadcastTo S64x512 v583 broadcasts_S1x512_S64x512
  have v586 : f64x512 := mulf v585 v584
  have v587 : f64x512 := addf v582 v586
  have v588 : f1x512 := extractStridedSlice S1x512 ![2, 0] v577 slices_S4x512_o2_0_S1x512
  have v589 : f64x512 := extractStridedSlice S64x512 ![2, 0] v578 slices_S67x512_o2_0_S64x512
  have v590 : f64x512 := broadcastTo S64x512 v588 broadcasts_S1x512_S64x512
  have v591 : f64x512 := mulf v590 v589
  have v592 : f64x512 := addf v587 v591
  have v593 : f1x512 := extractStridedSlice S1x512 ![3, 0] v577 slices_S4x512_o3_0_S1x512
  have v594 : f64x512 := extractStridedSlice S64x512 ![3, 0] v578 slices_S67x512_o3_0_S64x512
  have v595 : f64x512 := broadcastTo S64x512 v593 broadcasts_S1x512_S64x512
  have v596 : f64x512 := mulf v595 v594
  have v597 : f64x512 := addf v592 v596
  have v598 : f64x512 := logistic v597
  have v599 : f64x512 := mulf v597 v598
  v599

/-- Value 67 of a trip. -/
def pay67 (v566 : f64x512) : f64x128 :=
  have v619 : f64x128 := mulf (k1_pay16 v566) (k1_pay16 v566)
  v619

/-- Value 68 of a trip. -/
def pay68 (v599 : f64x512) (v608 v619 : f64x128) : f256x128 :=
  have v620 : f64 := multiReduction .add [1] S64 v619 0x00000000#32 reduces_S64x128_S64 (.inl rfl) rfl
  have v621 : f64x1 := shapeCast S64x1 v620 shapeCasts_S64_S64x1
  have cst_184 : F .f32 := Scalar.ofBits .f32 0x358637BD#32
  have v622 : f64x1 := broadcast S64x1 cst_184
  have v623 : f64x1 := addf v621 v622
  have v624 : f64x1 := rsqrt v623
  have v625 : f64x128 := broadcastTo S64x128 v624 broadcasts_S64x1_S64x128
  have v626 : f64x128 := mulf v608 v625
  have v628 : f64x128 := extractStridedSlice S64x128 ![0, 128] v599 slices_S64x512_o0_128_S64x128
  have v639 : f64x128 := mulf v628 v628
  have v640 : f64 := multiReduction .add [1] S64 v639 0x00000000#32 reduces_S64x128_S64 (.inl rfl) rfl
  have v641 : f64x1 := shapeCast S64x1 v640 shapeCasts_S64_S64x1
  have cst_189 : F .f32 := Scalar.ofBits .f32 0x358637BD#32
  have v642 : f64x1 := broadcast S64x1 cst_189
  have v643 : f64x1 := addf v641 v642
  have v644 : f64x1 := rsqrt v643
  have v645 : f64x128 := broadcastTo S64x128 v644 broadcasts_S64x1_S64x128
  have v646 : f64x128 := mulf v628 v645
  have v647 : f256x128 := concatenate S256x128 0 [⟨S64x128, v626⟩, ⟨S64x128, v626⟩, ⟨S64x128, v646⟩, ⟨S64x128, v646⟩] concatenates_S64x128_S64x128_S64x128_S64x128_S256x128_d0
  v647

/-- Value 71 of a trip. -/
def pay71 (arg0 : BitVec 32) (v114 : i1x128) : b1x128 :=
  let v658 : BitVec 32 := Scalar.muli 2#32 arg0
  let v659 : BitVec 32 := Scalar.addi v658 0#32
  let v660 : BitVec 32 := Scalar.muli 4#32 v659
  let v661 : BitVec 32 := Scalar.addi v660 0#32
  have v662 : i1x128 := broadcast S1x128 v661
  have v663 : b1x128 := cmpi .eq v114 v662
  v663

/-- Value 72 of a trip. -/
def pay72 (v606 : f64x128) (v663 : b1x128) (cst_198 : F .f32) : f64x1 :=
  have v664 : b1x128 := shapeCast S1x128 v663 shapeCasts_S1x128_S1x128
  have v665 : b64x128 := broadcastTo S64x128 v664 broadcasts_S1x128_S64x128
  have v666 : f64x128 := broadcast S64x128 cst_198
  have v667 : f64x128 := select v665 v606 v666
  have v668 : f64 := multiReduction .add [1] S64 v667 0x00000000#32 reduces_S64x128_S64 (.inl rfl) rfl
  have v669 : f64x1 := shapeCast S64x1 v668 shapeCasts_S64_S64x1
  have v683 : f64x1 := logistic v669
  v683

/-- Value 80 of a trip. -/
def pay80 (arg0 : BitVec 32) (v114 : i1x128) (v606 : f64x128) (v739 : Elt F .f32) : f64x1 :=
  have v749 : f64x1 := absf (k1_pay28 arg0 v114 v606 v739)
  v749

/-- Value 81 of a trip. -/
def pay81 : f64x1 :=
  have cst_231 : F .f32 := Scalar.ofBits .f32 0x00000000#32
  have v750 : f64x1 := broadcast S64x1 cst_231
  v750

/-- Value 82 of a trip. -/
def pay82 (v737 : Elt F .f32) (v743 : f64x1) (v746 : b64x1) (v748 v749 v750 : f64x1) : f64x1 :=
  have v751 : f64x1 := subf v750 v749
  have v752 : f64x1 := exp v751
  have v753 : f64x1 := log1p v752
  have v754 : f64x1 := addf v743 v753
  have v755 : f64x1 := select v746 v748 v754
  have v756 : f64x1 := broadcast S64x1 v737
  have v757 : f64x1 := mulf v756 v755
  v757

/-- Value 87 of a trip. -/
def pay87 (arg0 : BitVec 32) (v114 : i1x128) : b1x128 :=
  let v826 : BitVec 32 := Scalar.muli 2#32 arg0
  let v827 : BitVec 32 := Scalar.addi v826 1#32
  let v828 : BitVec 32 := Scalar.muli 4#32 v827
  let v829 : BitVec 32 := Scalar.addi v828 2#32
  let v830 : BitVec 32 := Scalar.addi v829 1#32
  have v831 : i1x128 := broadcast S1x128 v830
  have v832 : b1x128 := cmpi .eq v114 v831
  have v833 : b1x128 := shapeCast S1x128 v832 shapeCasts_S1x128_S1x128
  v833

/-- Value 89 of a trip. -/
def pay89 (v606 : f64x128) (v705 v757 v809 : f64x1) (cst_268 : F .f32) (v833 : b1x128) (v841 v843 : Elt F .f32) : f256x1 :=
  have v834 : b64x128 := broadcastTo S64x128 v833 broadcasts_S1x128_S64x128
  have v835 : f64x128 := broadcast S64x128 cst_268
  have v836 : f64x128 := select v834 v606 v835
  have v837 : f64 := multiReduction .add [1] S64 v836 0x00000000#32 reduces_S64x128_S64 (.inl rfl) rfl
  have v838 : f64x1 := shapeCast S64x1 v837 shapeCasts_S64_S64x1
  have v844 : f64x1 := broadcast S64x1 v843
  have v845 : f64x1 := addf v838 v844
  have cst_272 : F .f32 := Scalar.ofBits .f32 0x00000000#32
  have v846 : f64x1 := broadcast S64x1 cst_272
  have v847 : f64x1 := maximumf v845 v846
  have v848 : f64x1 := broadcast S64x1 cst_272
  have v849 : f64x1 := subf v845 v848
  have v850 : b64x1 := cmpf .one v849 v849
  have v851 : f64x1 := broadcast S64x1 cst_272
  have v852 : f64x1 := addf v845 v851
  have v853 : f64x1 := absf v849
  have cst_273 : F .f32 := Scalar.ofBits .f32 0x00000000#32
  have v854 : f64x1 := broadcast S64x1 cst_273
  have v855 : f64x1 := subf v854 v853
  have v856 : f64x1 := exp v855
  have v857 : f64x1 := log1p v856
  have v858 : f64x1 := addf v847 v857
  have v859 : f64x1 := select v850 v852 v858
  have v860 : f64x1 := broadcast S64x1 v841
  have v861 : f64x1 := mulf v860 v859
  have v863 : f256x1 := concatenate S256x1 0 [⟨S64x1, v705⟩, ⟨S64x1, v757⟩, ⟨S64x1, v809⟩, ⟨S64x1, v861⟩] concatenates_S64x1_S64x1_S64x1_S64x1_S256x1_d0
  v863

/-- Value 90 of a trip. -/
def pay90 (v606 : f64x128) (v705 v757 v809 : f64x1) (cst_268 : F .f32) (v833 : b1x128) (v841 v843 : Elt F .f32) : h256x1 :=
  have v864 : h256x1 := truncf .bf16 (pay89 v606 v705 v757 v809 cst_268 v833 v841 v843) bitsLt_bf16_f32
  v864

/-- Value 91 of a trip. -/
def pay91 (v606 : f64x128) (v705 v757 v809 : f64x1) (cst_268 : F .f32) (v833 : b1x128) (v841 v843 : Elt F .f32) : h256x1 :=
  have v865 : f256x1 := extf .f32 (pay90 v606 v705 v757 v809 cst_268 v833 v841 v843) bitsLt_bf16_f32
  have v866 : f256x1 := subf (pay89 v606 v705 v757 v809 cst_268 v833 v841 v843) v865
  have v867 : h256x1 := truncf .bf16 v866 bitsLt_bf16_f32
  v867

/-- Value 93 of a trip. -/
def pay93 (v59 : f256x256) (v606 : f64x128) (v705 v757 v809 : f64x1) (cst_268 : F .f32) (v833 : b1x128) (v841 v843 : Elt F .f32) : f256x1 :=
  have cst_274 : f256x1 := constant S256x1 .f32 0x00000000#32
  have v869 : f256x1 := matmul dot_S256x256_S256x1_S256x1_1_0_0_1_n_n none (k1_pay43 v59) (pay90 v606 v705 v757 v809 cst_268 v833 v841 v843) cst_274
  have cst_275 : f256x1 := constant S256x1 .f32 0x00000000#32
  have v870 : f256x1 := matmul dot_S256x256_S256x1_S256x1_1_0_0_1_n_n none (k1_pay43 v59) (pay91 v606 v705 v757 v809 cst_268 v833 v841 v843) cst_275
  have v871 : f256x1 := addf v869 v870
  v871

/-- Value 94 of a trip. -/
def pay94 (v59 : f256x256) (v606 : f64x128) (v705 v757 v809 : f64x1) (cst_268 : F .f32) (v833 : b1x128) (v841 v843 : Elt F .f32) : f256x256 :=
  have cst_276 : f1x256 := constant S1x256 .f32 0x00000000#32
  have v872 : f1x256 := matmul dot_S256x1_S256x256_S1x256_0_1_1_0_n_n none (pay90 v606 v705 v757 v809 cst_268 v833 v841 v843) (k1_pay43 v59) cst_276
  have cst_277 : f1x256 := constant S1x256 .f32 0x00000000#32
  have v873 : f1x256 := matmul dot_S256x1_S256x256_S1x256_0_1_1_0_n_n none (pay91 v606 v705 v757 v809 cst_268 v833 v841 v843) (k1_pay43 v59) cst_277
  have v874 : f1x256 := addf v872 v873
  have v875 : f256x256 := broadcastTo S256x256 (pay93 v59 v606 v705 v757 v809 cst_268 v833 v841 v843) broadcasts_S256x1_S256x256
  have v876 : f256x256 := broadcastTo S256x256 v874 broadcasts_S1x256_S256x256
  have v877 : f256x256 := subf v875 v876
  have v878 : f256x256 := exp v877
  v878

/-- Value 95 of a trip. -/
def pay95 (v59 : f256x256) (v606 : f64x128) (v705 v757 v809 : f64x1) (cst_268 : F .f32) (v833 : b1x128) (v841 v843 : Elt F .f32) : f256x1 :=
  have v879 : f256x1 := exp (pay93 v59 v606 v705 v757 v809 cst_268 v833 v841 v843)
  v879

/-- Value 96 of a trip. -/
def pay96 (v59 : f256x256) (v606 : f64x128) (v705 v757 v809 : f64x1) (cst_268 : F .f32) (v833 : b1x128) (v841 v843 : Elt F .f32) : f1x1 :=
  have v880 : f1x1 := extractStridedSlice S1x1 ![63, 0] (pay93 v59 v606 v705 v757 v809 cst_268 v833 v841 v843) slices_S256x1_o63_0_S1x1
  have v881 : f1x1 := exp v880
  v881

/-- Value 97 of a trip. -/
def pay97 (v59 : f256x256) (v606 : f64x128) (v705 v757 v809 : f64x1) (cst_268 : F .f32) (v833 : b1x128) (v841 v843 : Elt F .f32) : f1x1 :=
  have v882 : f1x1 := extractStridedSlice S1x1 ![127, 0] (pay93 v59 v606 v705 v757 v809 cst_268 v833 v841 v843) slices_S256x1_o127_0_S1x1
  have v883 : f1x1 := exp v882
  v883

/-- Value 98 of a trip. -/
def pay98 (v59 : f256x256) (v606 : f64x128) (v705 v757 v809 : f64x1) (cst_268 : F .f32) (v833 : b1x128) (v841 v843 : Elt F .f32) : f1x1 :=
  have v884 : f1x1 := extractStridedSlice S1x1 ![191, 0] (pay93 v59 v606 v705 v757 v809 cst_268 v833 v841 v843) slices_S256x1_o191_0_S1x1
  v884

/-- Value 103 of a trip. -/
def pay103 (v55 : b256x256) (v62 : f256x256) (v647 : f256x128) (v862 : f256x1) (v878 : f256x256) : f256x256 :=
  have cst_278 : f256x256 := constant S256x256 .f32 0x00000000#32
  have v905 : f256x256 := matmul dot_S256x128_S256x128_S256x256_1_1_0_0_n_n none (k1_pay99 v647 v862) v647 cst_278
  have cst_279 : F .f32 := Scalar.ofBits .f32 0x00000000#32
  have v906 : f256x256 := broadcast S256x256 cst_279
  have v907 : f256x256 := subf v906 v905
  have v908 : f256x256 := mulf v907 v878
  have cst_280 : F .f32 := Scalar.ofBits .f32 0x00000000#32
  have v909 : f256x256 := broadcast S256x256 cst_280
  have v910 : f256x256 := select v55 v908 v909
  have v911 : f256x256 := addf v62 v910
  have cst_281 : f256x256 := constant S256x256 .f32 0x00000000#32
  have v912 : f256x256 := matmul dot_S256x256_S256x256_S256x256_1_0_0_1_n_n none v910 v910 cst_281
  have cst_282 : f256x256 := constant S256x256 .f32 0x00000000#32
  have v913 : f256x256 := matmul dot_S256x256_S256x256_S256x256_1_0_0_1_n_n none v911 v912 cst_282
  have v914 : f256x256 := addf v911 v913
  have cst_283 : f256x256 := constant S256x256 .f32 0x00000000#32
  have v915 : f256x256 := matmul dot_S256x256_S256x256_S256x256_1_0_0_1_n_n none v912 v912 cst_283
  have cst_284 : f256x256 := constant S256x256 .f32 0x00000000#32
  have v916 : f256x256 := matmul dot_S256x256_S256x256_S256x256_1_0_0_1_n_n none v914 v915 cst_284
  have v917 : f256x256 := addf v914 v916
  have cst_285 : f256x256 := constant S256x256 .f32 0x00000000#32
  have v918 : f256x256 := matmul dot_S256x256_S256x256_S256x256_1_0_0_1_n_n none v915 v915 cst_285
  have cst_286 : f256x256 := constant S256x256 .f32 0x00000000#32
  have v919 : f256x256 := matmul dot_S256x256_S256x256_S256x256_1_0_0_1_n_n none v917 v918 cst_286
  have v920 : f256x256 := addf v917 v919
  have cst_287 : f256x256 := constant S256x256 .f32 0x00000000#32
  have v921 : f256x256 := matmul dot_S256x256_S256x256_S256x256_1_0_0_1_n_n none v918 v918 cst_287
  have cst_288 : f256x256 := constant S256x256 .f32 0x00000000#32
  have v922 : f256x256 := matmul dot_S256x256_S256x256_S256x256_1_0_0_1_n_n none v920 v921 cst_288
  have v923 : f256x256 := addf v920 v922
  have cst_289 : f256x256 := constant S256x256 .f32 0x00000000#32
  have v924 : f256x256 := matmul dot_S256x256_S256x256_S256x256_1_0_0_1_n_n none v921 v921 cst_289
  have cst_290 : f256x256 := constant S256x256 .f32 0x00000000#32
  have v925 : f256x256 := matmul dot_S256x256_S256x256_S256x256_1_0_0_1_n_n none v923 v924 cst_290
  have v926 : f256x256 := addf v923 v925
  v926

/-- Value 104 of a trip. -/
def pay104 (v647 v653 : f256x128) (v862 v879 : f256x1) : f256x256 :=
  have v927 : f256x128 := broadcastTo S256x128 v862 broadcasts_S256x1_S256x128
  have v928 : f256x128 := mulf v653 v927
  have v929 : f256x128 := broadcastTo S256x128 v879 broadcasts_S256x1_S256x128
  have v930 : f256x128 := mulf (k1_pay99 v647 v862) v929
  have v931 : f256x256 := concatenate S256x256 1 [⟨S256x128, v928⟩, ⟨S256x128, v930⟩] concatenates_S256x128_S256x128_S256x256_d1
  v931

/-- Value 105 of a trip. -/
def pay105 (v926 v931 : f256x256) : f256x256 :=
  have cst_291 : f256x256 := constant S256x256 .f32 0x00000000#32
  have v932 : f256x256 := matmul dot_S256x256_S256x256_S256x256_1_0_0_1_n_n none v926 v931 cst_291
  v932

/-- Value 106 of a trip. -/
def pay106 (v57 : b256x256) (v647 v648 : f256x128) (v878 v926 v931 : f256x256) : f256x256 :=
  have cst_292 : f256x256 := constant S256x256 .f32 0x00000000#32
  have v933 : f256x256 := matmul dot_S256x128_S256x128_S256x256_1_1_0_0_n_n none v648 v647 cst_292
  have v934 : f256x256 := mulf v933 v878
  have cst_293 : F .f32 := Scalar.ofBits .f32 0x00000000#32
  have v935 : f256x256 := broadcast S256x256 cst_293
  have v936 : f256x256 := select v57 v934 v935
  have cst_294 : f256x256 := constant S256x256 .f32 0x00000000#32
  have v937 : f256x256 := matmul dot_S256x256_S256x256_S256x256_1_0_0_1_n_n none v936 (pay105 v926 v931) cst_294
  v937

/-- Value 107 of a trip. -/
def pay107 (v57 : b256x256) (v647 v648 : f256x128) (v878 : f256x256) (v879 : f256x1) (v926 v931 : f256x256) : f256x128 :=
  have v938 : f256x128 := broadcastTo S256x128 v879 broadcasts_S256x1_S256x128
  have v939 : f256x128 := mulf v648 v938
  have v940 : f256x128 := extractStridedSlice S256x128 ![0, 128] (pay106 v57 v647 v648 v878 v926 v931) slices_S256x256_o0_128_S256x128
  have v941 : f256x128 := subf v939 v940
  v941

/-- Value 108 of a trip. -/
def pay108 (v113 : b256x512) (v647 : f256x128) (v902 : f256x1) (v926 v931 : f256x256) : f512x256 :=
  have v942 : f256x128 := broadcastTo S256x128 v902 broadcasts_S256x1_S256x128
  have v943 : f256x128 := mulf v647 v942
  have v944 : FVec F S256x512 .f32 := concatenate S256x512 1 [⟨S256x128, v943⟩, ⟨S256x128, v943⟩, ⟨S256x128, v943⟩, ⟨S256x128, v943⟩] concatenates_S256x128_S256x128_S256x128_S256x128_S256x512_d1
  have cst_295 : F .f32 := Scalar.ofBits .f32 0x00000000#32
  have v945 : FVec F S256x512 .f32 := broadcast S256x512 cst_295
  have v946 : FVec F S256x512 .f32 := select v113 v944 v945
  have cst_296 : f512x256 := constant S512x256 .f32 0x00000000#32
  have v947 : f512x256 := matmul dot_S256x512_S256x256_S512x256_0_0_1_1_n_n none v946 (pay105 v926 v931) cst_296
  v947

/-- Value 109 of a trip. -/
def pay109 (v57 : b256x256) (v647 v648 : f256x128) (v878 v926 v931 : f256x256) : f256x128 :=
  have v948 : f256x128 := extractStridedSlice S256x128 ![0, 0] (pay106 v57 v647 v648 v878 v926 v931) slices_S256x256_o0_0_S256x128
  v948

/-- Value 115 of a trip. -/
def pay115 (v468 : f1x1) (v528 : f256x128) (v534 : f512x256) (v955 : Vec F S1x128x128 .f32) : f128x128 :=
  have v958 : f128x128 := extractStridedSlice S128x128 ![0, 0] v534 slices_S512x256_o0_0_S128x128
  have v965 : f128x128 := broadcastTo S128x128 v468 broadcasts_S1x1_S128x128
  have v966 : f128x128 := mulf v965 (k1_pay114 v955)
  have v967 : f128x128 := addf v966 v958
  have v968 : f128x128 := extractStridedSlice S128x128 ![64, 0] (k1_pay115 v528 v534 v955) slices_S192x128_o64_0_S128x128
  have v969 : f128x128 := subf v967 v968
  v969

/-- Value 116 of a trip. -/
def pay116 (v528 : f256x128) (v534 : f512x256) (v535 : f256x128) (v955 : Vec F S1x128x128 .f32) : f64x1 :=
  have v970 : f64x128 := mulf (k1_pay116 v528 v534 v535 v955) (k1_pay116 v528 v534 v535 v955)
  have v971 : f64 := multiReduction .add [1] S64 v970 0x00000000#32 reduces_S64x128_S64 (.inl rfl) rfl
  have v972 : f64x1 := shapeCast S64x1 v971 shapeCasts_S64_S64x1
  v972

/-- Value 118 of a trip. -/
def pay118 (v941 : f256x128) (v947 : f512x256) (v969 : f128x128) : f192x128 :=
  have v991 : f128x128 := extractStridedSlice S128x128 ![0, 128] v947 slices_S512x256_o0_128_S128x128
  have v993 : f64x128 := extractStridedSlice S64x128 ![0, 0] v941 slices_S256x128_o0_0_S64x128
  have v994 : f192x128 := concatenate S192x128 0 [⟨S64x128, v993⟩, ⟨S128x128, v991⟩] concatenates_S64x128_S128x128_S192x128_d0
  have cst_313 : f192x128 := constant S192x128 .f32 0x00000000#32
  have v995 : f192x128 := matmul dot_S192x128_S128x128_S192x128_1_0_0_1_n_n none v994 v969 cst_313
  v995

/-- Value 119 of a trip. -/
def pay119 (v881 : f1x1) (v941 : f256x128) (v947 : f512x256) (v969 : f128x128) : f128x128 :=
  have v992 : f128x128 := extractStridedSlice S128x128 ![0, 0] v947 slices_S512x256_o0_0_S128x128
  have v999 : f128x128 := broadcastTo S128x128 v881 broadcasts_S1x1_S128x128
  have v1000 : f128x128 := mulf v999 v969
  have v1001 : f128x128 := addf v1000 v992
  have v1002 : f128x128 := extractStridedSlice S128x128 ![64, 0] (pay118 v941 v947 v969) slices_S192x128_o64_0_S128x128
  have v1003 : f128x128 := subf v1001 v1002
  v1003

/-- Value 120 of a trip. -/
def pay120 (v116 : f1x128) (v568 : f64x256) (v941 : f256x128) (v947 : f512x256) (v948 : f256x128) (v969 : f128x128) : h64x128 :=
  have v996 : f64x128 := extractStridedSlice S64x128 ![0, 0] v948 slices_S256x128_o0_0_S64x128
  have v997 : f64x128 := extractStridedSlice S64x128 ![0, 0] (pay118 v941 v947 v969) slices_S192x128_o0_0_S64x128
  have v998 : f64x128 := addf v996 v997
  have v1004 : f64x128 := mulf v998 v998
  have v1005 : f64 := multiReduction .add [1] S64 v1004 0x00000000#32 reduces_S64x128_S64 (.inl rfl) rfl
  have v1006 : f64x1 := shapeCast S64x1 v1005 shapeCasts_S64_S64x1
  have cst_315 : F .f32 := Scalar.ofBits .f32 0x43000000#32
  have v1007 : f64x1 := broadcast S64x1 cst_315
  have v1008 : f64x1 := divf v1006 v1007
  have cst_316 : F .f32 := Scalar.ofBits .f32 0x358637BD#32
  have v1009 : f64x1 := broadcast S64x1 cst_316
  have v1010 : f64x1 := addf v1008 v1009
  have v1011 : f64x1 := rsqrt v1010
  have v1012 : f64x128 := broadcastTo S64x128 v1011 broadcasts_S64x1_S64x128
  have v1013 : f64x128 := mulf v998 v1012
  have v1014 : f64x128 := broadcastTo S64x128 v116 broadcasts_S1x128_S64x128
  have v1015 : f64x128 := mulf v1013 v1014
  have v1016 : f64x128 := extractStridedSlice S64x128 ![0, 0] v568 slices_S64x256_o0_0_S64x128
  have v1017 : f64x128 := logistic v1016
  have v1018 : f64x128 := mulf v1016 v1017
  have v1019 : f64x128 := mulf v1015 v1018
  have v1020 : h64x128 := truncf .bf16 v1019 bitsLt_bf16_f32
  v1020

/-- Value 130 of a trip. -/
def pay130 (v534 : f512x256) : f128x128 :=
  have v1104 : f128x128 := extractStridedSlice S128x128 ![256, 0] v534 slices_S512x256_o256_0_S128x128
  v1104

/-- Value 131 of a trip. -/
def pay131 (v528 : f256x128) (v534 : f512x256) (v1101 : Vec F S1x128x128 .f32) : f192x128 :=
  have v1103 : f128x128 := extractStridedSlice S128x128 ![256, 128] v534 slices_S512x256_o256_128_S128x128
  have v1105 : f64x128 := extractStridedSlice S64x128 ![128, 0] v528 slices_S256x128_o128_0_S64x128
  have v1106 : f192x128 := concatenate S192x128 0 [⟨S64x128, v1105⟩, ⟨S128x128, v1103⟩] concatenates_S64x128_S128x128_S192x128_d0
  have cst_344 : f192x128 := constant S192x128 .f32 0x00000000#32
  have v1107 : f192x128 := matmul dot_S192x128_S128x128_S192x128_1_0_0_1_n_n none v1106 (k1_pay114 v1101) cst_344
  v1107

/-- Value 132 of a trip. -/
def pay132 (v472 : f1x1) (v1102 v1104 : f128x128) (v1107 : f192x128) : f128x128 :=
  have v1111 : f128x128 := broadcastTo S128x128 v472 broadcasts_S1x1_S128x128
  have v1112 : f128x128 := mulf v1111 v1102
  have v1113 : f128x128 := addf v1112 v1104
  have v1114 : f128x128 := extractStridedSlice S128x128 ![64, 0] v1107 slices_S192x128_o64_0_S128x128
  have v1115 : f128x128 := subf v1113 v1114
  v1115

/-- Value 133 of a trip. -/
def pay133 (v116 : f1x128) (v188 : f64x256) (v535 : f256x128) (v1107 : f192x128) : h64x128 :=
  have v1108 : f64x128 := extractStridedSlice S64x128 ![128, 0] v535 slices_S256x128_o128_0_S64x128
  have v1109 : f64x128 := extractStridedSlice S64x128 ![0, 0] v1107 slices_S192x128_o0_0_S64x128
  have v1110 : f64x128 := addf v1108 v1109
  have v1116 : f64x128 := mulf v1110 v1110
  have v1117 : f64 := multiReduction .add [1] S64 v1116 0x00000000#32 reduces_S64x128_S64 (.inl rfl) rfl
  have v1118 : f64x1 := shapeCast S64x1 v1117 shapeCasts_S64_S64x1
  have cst_346 : F .f32 := Scalar.ofBits .f32 0x43000000#32
  have v1119 : f64x1 := broadcast S64x1 cst_346
  have v1120 : f64x1 := divf v1118 v1119
  have cst_347 : F .f32 := Scalar.ofBits .f32 0x358637BD#32
  have v1121 : f64x1 := broadcast S64x1 cst_347
  have v1122 : f64x1 := addf v1120 v1121
  have v1123 : f64x1 := rsqrt v1122
  have v1124 : f64x128 := broadcastTo S64x128 v1123 broadcasts_S64x1_S64x128
  have v1125 : f64x128 := mulf v1110 v1124
  have v1126 : f64x128 := broadcastTo S64x128 v116 broadcasts_S1x128_S64x128
  have v1127 : f64x128 := mulf v1125 v1126
  have v1128 : f64x128 := extractStridedSlice S64x128 ![0, 0] v188 slices_S64x256_o0_0_S64x128
  have v1129 : f64x128 := logistic v1128
  have v1130 : f64x128 := mulf v1128 v1129
  have v1131 : f64x128 := mulf v1127 v1130
  have v1132 : h64x128 := truncf .bf16 v1131 bitsLt_bf16_f32
  v1132

/-- Value 134 of a trip. -/
def pay134 (v472 : f1x1) (v941 : f256x128) (v947 : f512x256) (v1102 v1104 : f128x128) (v1107 : f192x128) : f192x128 :=
  have v1137 : f128x128 := extractStridedSlice S128x128 ![256, 128] v947 slices_S512x256_o256_128_S128x128
  have v1139 : f64x128 := extractStridedSlice S64x128 ![128, 0] v941 slices_S256x128_o128_0_S64x128
  have v1140 : f192x128 := concatenate S192x128 0 [⟨S64x128, v1139⟩, ⟨S128x128, v1137⟩] concatenates_S64x128_S128x128_S192x128_d0
  have cst_350 : f192x128 := constant S192x128 .f32 0x00000000#32
  have v1141 : f192x128 := matmul dot_S192x128_S128x128_S192x128_1_0_0_1_n_n none v1140 (pay132 v472 v1102 v1104 v1107) cst_350
  v1141

/-- Value 135 of a trip. -/
def pay135 (v472 : f1x1) (v941 : f256x128) (v947 : f512x256) (v948 : f256x128) (v1102 v1104 : f128x128) (v1107 : f192x128) : f64x128 :=
  have v1142 : f64x128 := extractStridedSlice S64x128 ![128, 0] v948 slices_S256x128_o128_0_S64x128
  have v1143 : f64x128 := extractStridedSlice S64x128 ![0, 0] (pay134 v472 v941 v947 v1102 v1104 v1107) slices_S192x128_o0_0_S64x128
  have v1144 : f64x128 := addf v1142 v1143
  v1144

/-- Value 136 of a trip. -/
def pay136 (v472 v885 : f1x1) (v941 : f256x128) (v947 : f512x256) (v1102 v1104 : f128x128) (v1107 : f192x128) : f128x128 :=
  have v1138 : f128x128 := extractStridedSlice S128x128 ![256, 0] v947 slices_S512x256_o256_0_S128x128
  have v1145 : f128x128 := broadcastTo S128x128 v885 broadcasts_S1x1_S128x128
  have v1146 : f128x128 := mulf v1145 (pay132 v472 v1102 v1104 v1107)
  have v1147 : f128x128 := addf v1146 v1138
  have v1148 : f128x128 := extractStridedSlice S128x128 ![64, 0] (pay134 v472 v941 v947 v1102 v1104 v1107) slices_S192x128_o64_0_S128x128
  have v1149 : f128x128 := subf v1147 v1148
  v1149

/-- Value 137 of a trip. -/
def pay137 (v472 : f1x1) (v941 : f256x128) (v947 : f512x256) (v948 : f256x128) (v1102 v1104 : f128x128) (v1107 : f192x128) : f64x1 :=
  have v1150 : f64x128 := mulf (pay135 v472 v941 v947 v948 v1102 v1104 v1107) (pay135 v472 v941 v947 v948 v1102 v1104 v1107)
  have v1151 : f64 := multiReduction .add [1] S64 v1150 0x00000000#32 reduces_S64x128_S64 (.inl rfl) rfl
  have v1152 : f64x1 := shapeCast S64x1 v1151 shapeCasts_S64_S64x1
  have cst_352 : F .f32 := Scalar.ofBits .f32 0x43000000#32
  have v1153 : f64x1 := broadcast S64x1 cst_352
  have v1154 : f64x1 := divf v1152 v1153
  have cst_353 : F .f32 := Scalar.ofBits .f32 0x358637BD#32
  have v1155 : f64x1 := broadcast S64x1 cst_353
  have v1156 : f64x1 := addf v1154 v1155
  v1156

/-- Value 138 of a trip. -/
def pay138 (v116 : f1x128) (v601 : f64x256) (v1144 : f64x128) (v1156 : f64x1) : h64x128 :=
  have v1157 : f64x1 := rsqrt v1156
  have v1158 : f64x128 := broadcastTo S64x128 v1157 broadcasts_S64x1_S64x128
  have v1159 : f64x128 := mulf v1144 v1158
  have v1160 : f64x128 := broadcastTo S64x128 v116 broadcasts_S1x128_S64x128
  have v1161 : f64x128 := mulf v1159 v1160
  have v1162 : f64x128 := extractStridedSlice S64x128 ![0, 0] v601 slices_S64x256_o0_0_S64x128
  have v1163 : f64x128 := logistic v1162
  have v1164 : f64x128 := mulf v1162 v1163
  have v1165 : f64x128 := mulf v1161 v1164
  have v1166 : h64x128 := truncf .bf16 v1165 bitsLt_bf16_f32
  v1166

/-- Value 143 of a trip. -/
def pay143 (v116 : f1x128) (v528 : f256x128) (v534 : f512x256) (v535 : f256x128) (v1174 : Vec F S1x128x128 .f32) : f64x128 :=
  have v1181 : f64x128 := extractStridedSlice S64x128 ![192, 0] v535 slices_S256x128_o192_0_S64x128
  have v1182 : f64x128 := extractStridedSlice S64x128 ![0, 0] (k1_pay144 v528 v534 v1174) slices_S192x128_o0_0_S64x128
  have v1183 : f64x128 := addf v1181 v1182
  have v1189 : f64x128 := mulf v1183 v1183
  have v1190 : f64 := multiReduction .add [1] S64 v1189 0x00000000#32 reduces_S64x128_S64 (.inl rfl) rfl
  have v1191 : f64x1 := shapeCast S64x1 v1190 shapeCasts_S64_S64x1
  have cst_364 : F .f32 := Scalar.ofBits .f32 0x43000000#32
  have v1192 : f64x1 := broadcast S64x1 cst_364
  have v1193 : f64x1 := divf v1191 v1192
  have cst_365 : F .f32 := Scalar.ofBits .f32 0x358637BD#32
  have v1194 : f64x1 := broadcast S64x1 cst_365
  have v1195 : f64x1 := addf v1193 v1194
  have v1196 : f64x1 := rsqrt v1195
  have v1197 : f64x128 := broadcastTo S64x128 v1196 broadcasts_S64x1_S64x128
  have v1198 : f64x128 := mulf v1183 v1197
  have v1199 : f64x128 := broadcastTo S64x128 v116 broadcasts_S1x128_S64x128
  have v1200 : f64x128 := mulf v1198 v1199
  v1200

/-- Value 144 of a trip. -/
def pay144 (v188 : f64x256) : f64x128 :=
  have v1201 : f64x128 := extractStridedSlice S64x128 ![0, 128] v188 slices_S64x256_o0_128_S64x128
  v1201

/-- Value 148 of a trip. -/
def pay148 (v887 : f1x1) (v941 : f256x128) (v947 : f512x256) (v1188 : f128x128) : f1x128x128 :=
  have v1211 : f128x128 := extractStridedSlice S128x128 ![384, 0] v947 slices_S512x256_o384_0_S128x128
  have v1218 : f128x128 := broadcastTo S128x128 v887 broadcasts_S1x1_S128x128
  have v1219 : f128x128 := mulf v1218 v1188
  have v1220 : f128x128 := addf v1219 v1211
  have v1221 : f128x128 := extractStridedSlice S128x128 ![64, 0] (k1_pay149 v941 v947 v1188) slices_S192x128_o64_0_S128x128
  have v1222 : f128x128 := subf v1220 v1221
  have v1246 : f1x128x128 := shapeCast S1x128x128 v1222 shapeCasts_S128x128_S1x128x128
  v1246

end Cert.CoreV

end
-- ==== Proof.CoreStage.lean ====
/- The stages of one chunk of the second call, read at an index over real inputs: the convolution, the normalized queries
   and keys, the values and the gates. -/
module

public import proofs.«01_k».proof.Proof.CoreSpec
public import proofs.«01_k».proof.Proof.CorePays
public import proofs.«01_k».proof.Proof.Gen.LayerIdeal.Skeleton
public import Idealize.ShloMosaic.Lib.Pointwise

@[expose] public section

set_option maxRecDepth 16384

noncomputable section

namespace Cert.CoreV

open Cert.LayerIdeal Cert.LayerIdeal.Gen Cert.Gdn Idealize.ShloMosaic Idealize.ShloMosaic.TcCoe Idealize.SL.Sem
open scoped BigOperators

/-! ## The convolution -/

/-- The gated convolution of a block after its carried rows, at an index. -/
theorem conv_val (c8 : FVec Ideal S8x512 .f32) (b : Vec Ideal S64x768 .bf16) (w : Vec Ideal S1x4x512 .f32) (Z Wt : ℕ → ℕ → ℝ)
    (hc : ∀ (r : Fin 8) (l : Fin 512), 5 ≤ r.val → c8 (ix2 r l) = ((Z (r - 5) l : ℝ) : EReal))
    (hb : ∀ (r : Fin 64) (l : Fin 768), b (ix2 r l) = ((Z (r + 3) l : ℝ) : EReal))
    (hw : ∀ (t : Fin 4) (l : Fin 512), w (ix3 0 t l) = ((Wt l t : ℝ) : EReal)) (r : Fin 64) (l : Fin 512) :
    pay56 (F := Ideal) c8 b w (ix2 r l) = ((conv4 (Wt l) (fun n => Z (r + n) l) : ℝ) : EReal) := by
  have hr := r.isLt
  have e0 : (if h : (r : ℕ) < 3 then c8 (ix2 ⟨5 + r, by omega⟩ l) else b (ix2 ⟨(r : ℕ) - 3, by omega⟩ ⟨l, by omega⟩)) = ((Z (r + 0) l : ℝ) : EReal) := by
    split_ifs with h
    · rw [hc _ _ (by simp)]; congr 2; simp
    · rw [hb]; congr 2; simp; omega
  have e1 : (if h : 1 + (r : ℕ) < 3 then c8 (ix2 ⟨5 + (1 + r), by omega⟩ l) else b (ix2 ⟨1 + (r : ℕ) - 3, by omega⟩ ⟨l, by omega⟩)) = ((Z (r + 1) l : ℝ) : EReal) := by
    split_ifs with h
    · rw [hc _ _ (by simp)]; congr 2; simp; omega
    · rw [hb]; congr 2; simp; omega
  have e2 : (if h : 2 + (r : ℕ) < 3 then c8 (ix2 ⟨5 + (2 + r), by omega⟩ l) else b (ix2 ⟨2 + (r : ℕ) - 3, by omega⟩ ⟨l, by omega⟩)) = ((Z (r + 2) l : ℝ) : EReal) := by
    split_ifs with h
    · rw [hc _ _ (by simp)]; congr 2; simp; omega
    · rw [hb]; congr 2; simp; omega
  pointwise [pay56, pay5, pay4]
  rw [e0, e1, e2, hb, hw, hw, hw, hw]
  simp only [← EReal.coe_mul, ← EReal.coe_add, logistic_coe]
  rfl

/-- The first chunk's first convolution. -/
theorem pay6_eq (c : Vec Ideal S1x8x512 .f32) (b : Vec Ideal S64x768 .bf16) (w : Vec Ideal S1x4x512 .f32) :
    pay6 (F := Ideal) c b w = pay56 (k1_pay4 c) b w := rfl

/-- The first chunk's second convolution. -/
theorem pay11_eq (c : FVec Ideal S8x512 .f32) (b : Vec Ideal S64x768 .bf16) (w : Vec Ideal S1x4x512 .f32) :
    pay11 (F := Ideal) c (pay4 b) w = pay56 c b w := rfl

/-- The second chunk's second convolution. -/
theorem pay61_eq (c : FVec Ideal S8x512 .f32) (b : Vec Ideal S64x768 .bf16) (w : Vec Ideal S1x4x512 .f32) :
    pay61 (F := Ideal) c b w = pay56 c b w := rfl

/-! ## The stacked keys, queries and values -/

/-- The stacked normalized keys: rows of heads 0, 1 from the first convolved block, of heads 2, 3 from the second. -/
theorem keys_val (x0 x1 : FVec Ideal S64x512 .f32) (c : ℕ → ℕ → ℕ → ℝ)
    (h0 : ∀ (r : Fin 64) (l : Fin 512), x0 (ix2 r l) = ((c 0 r l : ℝ) : EReal))
    (h1 : ∀ (r : Fin 64) (l : Fin 512), x1 (ix2 r l) = ((c 1 r l : ℝ) : EReal)) (r : Fin 256) (d : Fin 128) :
    pay68 (F := Ideal) x1 (k1_pay16 x0) (pay67 x0) (ix2 r d) = ((kn (c (r / 64 / 2) (r % 64)) d : ℝ) : EReal) := by
  have hr := r.isLt
  pointwise [pay68, k1_pay16, pay67]
  simp only [h0, h1, ofBits_eps, ← EReal.coe_mul, coe_sum]
  split_ifs with a1 a2 a3
  · have e1 : (r : ℕ) / 64 / 2 = 0 := by omega
    have e2 : (r : ℕ) % 64 = r := by omega
    rw [rsqrt_sum (fun d => c 0 r (128 + d)), e1, e2, ← EReal.coe_mul]; rfl
  · have e1 : (r : ℕ) / 64 / 2 = 0 := by omega
    have e2 : (r : ℕ) % 64 = r - 64 := by omega
    rw [rsqrt_sum (fun d => c 0 (r - 64) (128 + d)), e1, e2, ← EReal.coe_mul]; rfl
  · have e1 : (r : ℕ) / 64 / 2 = 1 := by omega
    have e2 : (r : ℕ) % 64 = r - 64 - 64 := by omega
    rw [rsqrt_sum (fun d => c 1 (r - 64 - 64) (128 + d)), e1, e2, ← EReal.coe_mul]; rfl
  · have e1 : (r : ℕ) / 64 / 2 = 1 := by omega
    have e2 : (r : ℕ) % 64 = r - 64 - 64 - 64 := by omega
    rw [rsqrt_sum (fun d => c 1 (r - 64 - 64 - 64) (128 + d)), e1, e2, ← EReal.coe_mul]; rfl

/-- The first chunk's keys are made alike. -/
theorem pay19_eq (x0 x1 : FVec Ideal S64x512 .f32) :
    pay19 (F := Ideal) x1 (k1_pay16 x0) (pay17 x0) pay18 = pay68 x1 (k1_pay16 x0) (pay67 x0) := rfl

/-- The stacked normalized, scaled queries. -/
theorem queries_val (x0 x1 : FVec Ideal S64x512 .f32) (c : ℕ → ℕ → ℕ → ℝ)
    (h0 : ∀ (r : Fin 64) (l : Fin 512), x0 (ix2 r l) = ((c 0 r l : ℝ) : EReal))
    (h1 : ∀ (r : Fin 64) (l : Fin 512), x1 (ix2 r l) = ((c 1 r l : ℝ) : EReal)) (r : Fin 256) (d : Fin 128) :
    k1_pay20 (F := Ideal) x1 (k1_pay17 x0) (ix2 r d) = ((qn (c (r / 64 / 2) (r % 64)) d : ℝ) : EReal) := by
  have hr := r.isLt
  pointwise [k1_pay20, k1_pay17]
  simp only [h0, h1, ofBits_eps, ofBits_qs, ← EReal.coe_mul, coe_sum]
  split_ifs with a1 a2 a3
  · have e1 : (r : ℕ) / 64 / 2 = 0 := by omega
    have e2 : (r : ℕ) % 64 = r := by omega
    rw [rsqrt_sum (fun d => c 0 r d), e1, e2, ← EReal.coe_mul, ← EReal.coe_mul]; rfl
  · have e1 : (r : ℕ) / 64 / 2 = 0 := by omega
    have e2 : (r : ℕ) % 64 = r - 64 := by omega
    rw [rsqrt_sum (fun d => c 0 (r - 64) d), e1, e2, ← EReal.coe_mul, ← EReal.coe_mul]; rfl
  · have e1 : (r : ℕ) / 64 / 2 = 1 := by omega
    have e2 : (r : ℕ) % 64 = r - 64 - 64 := by omega
    rw [rsqrt_sum (fun d => c 1 (r - 64 - 64) d), e1, e2, ← EReal.coe_mul, ← EReal.coe_mul]; rfl
  · have e1 : (r : ℕ) / 64 / 2 = 1 := by omega
    have e2 : (r : ℕ) % 64 = r - 64 - 64 - 64 := by omega
    rw [rsqrt_sum (fun d => c 1 (r - 64 - 64 - 64) d), e1, e2, ← EReal.coe_mul, ← EReal.coe_mul]; rfl

/-- The queries are made alike. -/
theorem pay20_eq (x0 x1 : FVec Ideal S64x512 .f32) :
    k1_pay20 (F := Ideal) x1 (k1_pay17 x0) = k1_pay20 x1 (k1_pay17 x0) := rfl

/-- The stacked values: block `b` takes column `256 + 128 (b % 2) + e` of its key head's convolved block. -/
theorem values_val (x0 x1 : FVec Ideal S64x512 .f32) (c : ℕ → ℕ → ℕ → ℝ)
    (h0 : ∀ (r : Fin 64) (l : Fin 512), x0 (ix2 r l) = ((c 0 r l : ℝ) : EReal))
    (h1 : ∀ (r : Fin 64) (l : Fin 512), x1 (ix2 r l) = ((c 1 r l : ℝ) : EReal)) (r : Fin 256) (e : Fin 128) :
    k1_pay21 (F := Ideal) x0 x1 (ix2 r e) = ((c (r / 64 / 2) (r % 64) (256 + 128 * (r / 64 % 2) + e) : ℝ) : EReal) := by
  have hr := r.isLt
  pointwise [k1_pay21]
  simp only [h0, h1]
  split_ifs with a1 a2 a3
  · congr 2; all_goals omega
  · congr 2; all_goals omega
  · congr 2; all_goals omega
  · congr 2; all_goals omega

/-- The values are made alike. -/
theorem pay21_eq (x0 x1 : FVec Ideal S64x512 .f32) : k1_pay21 (F := Ideal) x0 x1 = k1_pay21 x0 x1 := rfl

/-! ## The gates -/

/-- The column a gate scalar picks: a sum over 128 columns that keeps one. -/
theorem pick (f : Fin 128 → EReal) (c : ℕ) (hc : c < 128) (w : BitVec 32) (hw : w = BitVec.ofNat 32 c) :
    (∑ x : Fin 128, Scalar.select (IntOp.cmpi .eq (BitVec.ofNat 32 x.val) w) (f x) 0) = f ⟨c, hc⟩ := by
  rw [Finset.sum_eq_single ⟨c, hc⟩]
  · subst hw; simp [IntOp.cmpi, Scalar.select]
  · intro x _ hx
    have : BitVec.ofNat 32 x.val ≠ w := by
      rw [hw]; intro h
      have := congrArg BitVec.toNat h
      simp only [BitVec.toNat_ofNat] at this
      apply hx; ext; show x.val = c
      have := x.isLt
      omega
    simp [IntOp.cmpi, Scalar.select, beq_false_of_ne this]
  · intro h; exact absurd (Finset.mem_univ _) h

/-- The column of the gate scalars: four to a key head. -/
theorem col_eq (hp : ℕ) (h : hp < 8) (kh vh : ℕ) (hk : kh < 2) (hv : vh < 4) :
    Scalar.addi (Scalar.muli 4#32 (Scalar.addi (Scalar.muli 2#32 (BitVec.ofNat 32 hp)) (BitVec.ofNat 32 kh))) (BitVec.ofNat 32 vh)
      = BitVec.ofNat 32 (4 * (2 * hp + kh) + vh) := by
  simp only [Scalar.addi, Scalar.muli, IntOp.addi, IntOp.muli]
  apply BitVec.eq_of_toNat_eq
  simp only [BitVec.toNat_add, BitVec.toNat_mul, BitVec.toNat_ofNat]
  omega

/-- A head's column, as a number. -/
theorem col_eq2 (hp : ℕ) (h : hp < 8) (kh vh : ℕ) (hk : kh < 2) (hv : vh < 2) :
    Scalar.addi (Scalar.addi (Scalar.muli 4#32 (Scalar.addi (Scalar.muli 2#32 (BitVec.ofNat 32 hp)) (BitVec.ofNat 32 kh))) 2#32) (BitVec.ofNat 32 vh)
      = BitVec.ofNat 32 (4 * (2 * hp + kh) + 2 + vh) := by
  simp only [Scalar.addi, Scalar.muli, IntOp.addi, IntOp.muli]
  apply BitVec.eq_of_toNat_eq
  simp only [BitVec.toNat_add, BitVec.toNat_mul, BitVec.toNat_ofNat]
  omega

section Gates

variable (hp : ℕ) (hhp : hp < 8) (i : IVec S1x128 32) (hi : ∀ x : Fin 128, i (ix2 0 x) = BitVec.ofNat 32 x.val)
  (s : FVec Ideal S64x128 .f32) (A : ℕ → ℕ → ℝ) (hs : ∀ (r : Fin 64) (l : Fin 128), s (ix2 r l) = ((A r l : ℝ) : EReal))
include hhp hi hs

/-- A gate scalar's column, summed out of the block. -/
theorem gate_col (r : Fin 64) (c : ℕ) (hc : c < 128) (w : BitVec 32) (hw : w = BitVec.ofNat 32 c) :
    (∑ x : Fin 128, Scalar.select (IntOp.cmpi .eq (i (ix2 0 x)) w) (s (ix2 r x)) 0) = ((A r c : ℝ) : EReal) := by
  simp only [hi, hs]
  exact pick (fun x => ((A r x : ℝ) : EReal)) c hc w hw

/-- The stacked rates. -/
theorem rates_val (r : Fin 256) :
    k1_pay39 (F := Ideal) (pay72 s (pay71 (BitVec.ofNat 32 hp) i) (FloatOps.ofBits .f32 0#32)) (k1_pay25 (BitVec.ofNat 32 hp) i s)
        (k1_pay33 (BitVec.ofNat 32 hp) i s) (k1_pay36 (BitVec.ofNat 32 hp) i s) (ix2 r 0)
      = ((sig (A (r % 64) (4 * (2 * hp + r / 64 / 2) + r / 64 % 2)) : ℝ) : EReal) := by
  have hr := r.isLt
  pointwise [k1_pay39, pay72, pay71, k1_pay25, k1_pay33, k1_pay36]
  by_cases a0 : (r : ℕ) < 64
  · rw [dif_pos a0]
    rw [gate_col hp hhp i hi s A hs _ (4 * (2 * hp + 0) + 0) (by omega) _ (col_eq hp hhp 0 0 (by omega) (by omega)), logistic_coe]
    have e1 : (r : ℕ) / 64 = 0 := by omega
    have e2 : (r : ℕ) % 64 = r := by omega
    rw [e1, e2]
  rw [dif_neg a0]
  by_cases a1 : (r : ℕ) - 64 < 64
  · rw [dif_pos a1]
    rw [gate_col hp hhp i hi s A hs _ (4 * (2 * hp + 0) + 1) (by omega) _ (col_eq hp hhp 0 1 (by omega) (by omega)), logistic_coe]
    have e1 : (r : ℕ) / 64 = 1 := by omega
    have e2 : (r : ℕ) % 64 = r - 64 := by omega
    rw [e1, e2]
  rw [dif_neg a1]
  by_cases a2 : (r : ℕ) - 64 - 64 < 64
  · rw [dif_pos a2]
    rw [gate_col hp hhp i hi s A hs _ (4 * (2 * hp + 1) + 0) (by omega) _ (col_eq hp hhp 1 0 (by omega) (by omega)), logistic_coe]
    have e1 : (r : ℕ) / 64 = 2 := by omega
    have e2 : (r : ℕ) % 64 = r - 64 - 64 := by omega
    rw [e1, e2]
  rw [dif_neg a2]
  · rw [gate_col hp hhp i hi s A hs _ (4 * (2 * hp + 1) + 1) (by omega) _ (col_eq hp hhp 1 1 (by omega) (by omega)), logistic_coe]
    have e1 : (r : ℕ) / 64 = 3 := by omega
    have e2 : (r : ℕ) % 64 = r - 64 - 64 - 64 := by omega
    rw [e1, e2]

omit hhp hi hs in
/-- The write strengths are made alike. -/
theorem pay34_eq (a : BitVec 32) :
    k1_pay39 (F := Ideal) (pay23 (pay22 a i s)) (pay25 i s (Scalar.muli (2#32) a) 0#32) (k1_pay33 a i s) (k1_pay36 a i s)
      = k1_pay39 (pay72 s (pay71 a i) (FloatOps.ofBits .f32 0#32)) (k1_pay25 a i s) (k1_pay33 a i s) (k1_pay36 a i s) := rfl

omit hhp hi hs in
/-- The guarded softplus of a number, scaled. -/
theorem guard_sp (a x y : ℝ) (z : EReal) (hz : z = ((x : ℝ) : EReal)) :
    (((a : ℝ) : EReal) * if z + ((y : ℝ) : EReal) ≠ z + ((y : ℝ) : EReal) then z + ((y : ℝ) : EReal)
      else max (z + ((y : ℝ) : EReal)) 0 + Ideal.log1p (Ideal.exp (0 - FloatOps.absf (F := Ideal) (φ := .f32) (z + ((y : ℝ) : EReal)))))
      = ((a * sp (x + y) : ℝ) : EReal) := by
  rw [if_neg (by simp), hz, ← EReal.coe_add]
  refine (congrArg _ (sp_coe (x + y))).trans ?_
  rw [← EReal.coe_mul]

set_option maxHeartbeats 2000000 in
/-- The stacked log decays. -/
theorem decays_val (a b : ℕ → ℝ) (x00 x01 x10 x11 y00 y01 y10 y11 : Ideal .f32)
    (hx0 : x00 = ((a 0 : ℝ) : EReal)) (hx1 : x01 = ((a 1 : ℝ) : EReal)) (hx2 : x10 = ((a 2 : ℝ) : EReal)) (hx3 : x11 = ((a 3 : ℝ) : EReal))
    (hy0 : y00 = ((b 0 : ℝ) : EReal)) (hy1 : y01 = ((b 1 : ℝ) : EReal)) (hy2 : y10 = ((b 2 : ℝ) : EReal)) (hy3 : y11 = ((b 3 : ℝ) : EReal))
    (r : Fin 256) :
    pay89 (F := Ideal) s (k1_pay24 (BitVec.ofNat 32 hp) i s x00 y00)
        (pay82 x01 (k1_pay27 (BitVec.ofNat 32 hp) i s y01) (k1_pay29 (BitVec.ofNat 32 hp) i s y01) (k1_pay30 (BitVec.ofNat 32 hp) i s y01)
          (pay80 (BitVec.ofNat 32 hp) i s y01) pay81)
        (k1_pay84 (k1_pay82 (BitVec.ofNat 32 hp) i s) x10 y10) (FloatOps.ofBits .f32 0#32) (pay87 (BitVec.ofNat 32 hp) i) x11 y11 (ix2 r 0)
      = ((a (r / 64) * sp (A (r % 64) (4 * (2 * hp + r / 64 / 2) + 2 + r / 64 % 2) + b (r / 64)) : ℝ) : EReal) := by
  have hr := r.isLt
  subst hx0 hx1 hx2 hx3 hy0 hy1 hy2 hy3
  pointwise [pay89, k1_pay24, pay82, k1_pay27, k1_pay29, k1_pay30, pay80, k1_pay28, k1_pay26, pay81, k1_pay84, k1_pay82, pay87]
  by_cases a0 : (r : ℕ) < 64
  · rw [dif_pos a0]
    refine (guard_sp (a 0) _ (b 0) _ (gate_col hp hhp i hi s A hs _ (4 * (2 * hp + 0) + 2 + 0) (by omega) _ (col_eq2 hp hhp 0 0 (by omega) (by omega)))).trans ?_
    have e1 : (r : ℕ) / 64 = 0 := by omega
    have e2 : (r : ℕ) % 64 = r := by omega
    rw [e1, e2]
  rw [dif_neg a0]
  by_cases a1 : (r : ℕ) - 64 < 64
  · rw [dif_pos a1]
    refine (guard_sp (a 1) _ (b 1) _ (gate_col hp hhp i hi s A hs _ (4 * (2 * hp + 0) + 2 + 1) (by omega) _ (col_eq2 hp hhp 0 1 (by omega) (by omega)))).trans ?_
    have e1 : (r : ℕ) / 64 = 1 := by omega
    have e2 : (r : ℕ) % 64 = r - 64 := by omega
    rw [e1, e2]
  rw [dif_neg a1]
  by_cases a2 : (r : ℕ) - 64 - 64 < 64
  · rw [dif_pos a2]
    refine (guard_sp (a 2) _ (b 2) _ (gate_col hp hhp i hi s A hs _ (4 * (2 * hp + 1) + 2 + 0) (by omega) _ (col_eq2 hp hhp 1 0 (by omega) (by omega)))).trans ?_
    have e1 : (r : ℕ) / 64 = 2 := by omega
    have e2 : (r : ℕ) % 64 = r - 64 - 64 := by omega
    rw [e1, e2]
  rw [dif_neg a2]
  · refine (guard_sp (a 3) _ (b 3) _ (gate_col hp hhp i hi s A hs _ (4 * (2 * hp + 1) + 2 + 1) (by omega) _ (col_eq2 hp hhp 1 1 (by omega) (by omega)))).trans ?_
    have e1 : (r : ℕ) / 64 = 3 := by omega
    have e2 : (r : ℕ) % 64 = r - 64 - 64 - 64 := by omega
    rw [e1, e2]

omit hhp hi hs in
/-- The log decays are made alike. -/
theorem pay35_eq (a : BitVec 32) (x00 x01 x10 x11 y00 y01 y10 y11 : Ideal .f32) :
    pay35 (F := Ideal) (k1_pay24 a i s x00 y00) (pay27 x01 (pay26 a i s y01))
        (pay31 x10 (k1_pay34 a i s y10) (FloatOps.ofBits .f32 0#32) (pay30 a i s y10)) (pay33 a i s) x11 y11
      = pay89 s (k1_pay24 a i s x00 y00)
        (pay82 x01 (k1_pay27 a i s y01) (k1_pay29 a i s y01) (k1_pay30 a i s y01) (pay80 a i s y01) pay81)
        (k1_pay84 (k1_pay82 a i s) x10 y10) (FloatOps.ofBits .f32 0#32) (pay87 a i) x11 y11 := rfl

end Gates

end Cert.CoreV

end
-- ==== Proof.CoreChunk.lean ====
/- The second half of a chunk of the second call over real inputs: cumulated decays, the inverted triangular system, and what
   its solution gives for the read-outs and the states. -/
module

public import proofs.«01_k».proof.Proof.CoreStage

@[expose] public section

set_option maxRecDepth 16384

noncomputable section

namespace Cert.CoreV

open Cert.LayerIdeal Cert.LayerIdeal.Gen Cert.Gdn Idealize.ShloMosaic Idealize.ShloMosaic.TcCoe Idealize.SL.Sem
open scoped BigOperators

/-! ## Sums over a block of rows -/

/-- A row of the block-triangular mask against a column. -/
theorem tri_sum (F : ℕ → ℝ) (r : Fin 256) :
    (∑ x : Fin 256, (if r.val / 64 = x.val / 64 ∧ x.val ≤ r.val then F x else 0)) = ∑ m ∈ Finset.range (r.val % 64 + 1), F (64 * (r.val / 64) + m) := by
  rw [← block_sum F (r.val / 64) (r.val % 64 + 1) (by omega) (by omega)]
  refine Finset.sum_congr rfl fun x _ => if_congr ?_ rfl rfl
  omega

/-- The same without the diagonal. -/
theorem tri_sum_lt (F : ℕ → ℝ) (r : Fin 256) :
    (∑ x : Fin 256, (if r.val / 64 = x.val / 64 ∧ x.val < r.val then F x else 0)) = ∑ m ∈ Finset.range (r.val % 64), F (64 * (r.val / 64) + m) := by
  rw [← block_sum F (r.val / 64) (r.val % 64) (by omega) (by omega)]
  refine Finset.sum_congr rfl fun x _ => if_congr ?_ rfl rfl
  omega

/-- A whole block's rows. -/
theorem blk_sum (F : ℕ → ℝ) (b : ℕ) (hb : b < 4) :
    (∑ x : Fin 256, (if x.val / 64 = b then F x else 0)) = ∑ m ∈ Finset.range 64, F (64 * b + m) := by
  rw [← block_sum F b 64 hb (le_refl _)]
  refine Finset.sum_congr rfl fun x _ => if_congr ?_ rfl rfl
  omega

/-! ## Cumulated decays -/

/-- The cumulated log decays as a column. -/
def cumv (L : FVec Ideal S256x256 .f32) (g : FVec Ideal S256x1 .f32) : FVec Ideal S256x1 .f32 :=
  addf (matmul dot_S256x256_S256x1_S256x1_1_0_0_1_n_n none (truncf .bf16 L bitsLt_bf16_f32) (truncf .bf16 g bitsLt_bf16_f32) (constant S256x1 .f32 0x00000000#32))
    (matmul dot_S256x256_S256x1_S256x1_1_0_0_1_n_n none (truncf .bf16 L bitsLt_bf16_f32)
      (truncf .bf16 (subf g (extf .f32 (truncf .bf16 g bitsLt_bf16_f32) bitsLt_bf16_f32)) bitsLt_bf16_f32) (constant S256x1 .f32 0x00000000#32))

/-- The cumulated log decays as a row. -/
def rowv (L : FVec Ideal S256x256 .f32) (g : FVec Ideal S256x1 .f32) : FVec Ideal S1x256 .f32 :=
  addf (matmul dot_S256x1_S256x256_S1x256_0_1_1_0_n_n none (truncf .bf16 g bitsLt_bf16_f32) (truncf .bf16 L bitsLt_bf16_f32) (constant S1x256 .f32 0x00000000#32))
    (matmul dot_S256x1_S256x256_S1x256_0_1_1_0_n_n none
      (truncf .bf16 (subf g (extf .f32 (truncf .bf16 g bitsLt_bf16_f32) bitsLt_bf16_f32)) bitsLt_bf16_f32) (truncf .bf16 L bitsLt_bf16_f32) (constant S1x256 .f32 0x00000000#32))

section Cum

variable (L : FVec Ideal S256x256 .f32) (g : FVec Ideal S256x1 .f32) (G : ℕ → ℕ → ℝ)
  (hL : ∀ r s : Fin 256, L (ix2 r s) = (((if r.val / 64 = s.val / 64 ∧ s.val ≤ r.val then 1 else 0 : ℝ) : ℝ) : EReal))
  (hg : ∀ r : Fin 256, g (ix2 r 0) = ((G (r / 64) (r % 64) : ℝ) : EReal))
include hL hg

/-- A lower triangle's row sums are cumulated sums. -/
theorem cum_aux (r : Fin 256) :
    (∑ x : Fin 256, (if r.val / 64 = x.val / 64 ∧ x.val ≤ r.val then 1 else 0 : ℝ) * G (x / 64) (x % 64)) = cum (G (r / 64)) (r % 64 + 1) := by
  simp only [ite_mul, one_mul, zero_mul]
  rw [tri_sum (fun x => G (x / 64) (x % 64)) r]
  refine Finset.sum_congr rfl fun m hm => ?_
  have := Finset.mem_range.mp hm
  show G ((64 * (r.val / 64) + m) / 64) ((64 * (r.val / 64) + m) % 64) = G (r.val / 64) m
  rw [show (64 * (r.val / 64) + m) / 64 = r.val / 64 by omega, show (64 * (r.val / 64) + m) % 64 = m by omega]

/-- The column at a row. -/
theorem cumv_val (r : Fin 256) : cumv L g (ix2 r 0) = ((cum (G (r / 64)) (r % 64 + 1) : ℝ) : EReal) := by
  pointwise [cumv]
  simp only [hL, hg, sub_self_coe, mul_zero, Finset.sum_const_zero, add_zero, ← EReal.coe_mul, coe_sum]
  rw [cum_aux L g G hL hg]

/-- The row at a column. -/
theorem rowv_val (r : Fin 256) : rowv L g (ix2 0 r) = ((cum (G (r / 64)) (r % 64 + 1) : ℝ) : EReal) := by
  pointwise [rowv]
  simp only [hL, hg, sub_self_coe, zero_mul, Finset.sum_const_zero, add_zero, ← EReal.coe_mul, coe_sum]
  rw [← cum_aux L g G hL hg]
  congr 1
  exact Finset.sum_congr rfl fun x _ => mul_comm _ _

end Cum

/-! ## The triangular system -/

/-- A product of two square blocks. -/
def mm (a b : FVec Ideal S256x256 .f32) : FVec Ideal S256x256 .f32 :=
  matmul dot_S256x256_S256x256_S256x256_1_0_0_1_n_n none a b (constant S256x256 .f32 0x00000000#32)

/-- The product of powers. -/
def towerv (i b : FVec Ideal S256x256 .f32) : FVec Ideal S256x256 .f32 :=
  have t0 := addf i b
  have p1 := mm b b
  have t1 := addf t0 (mm t0 p1)
  have p2 := mm p1 p1
  have t2 := addf t1 (mm t1 p2)
  have p3 := mm p2 p2
  have t3 := addf t2 (mm t2 p3)
  have p4 := mm p3 p3
  have t4 := addf t3 (mm t3 p4)
  have p5 := mm p4 p4
  addf t4 (mm t4 p5)

/-- The system's matrix. -/
def bmat (msk : IVec S256x256 1) (k : FVec Ideal S256x128 .f32) (β : FVec Ideal S256x1 .f32) (df : FVec Ideal S256x256 .f32) : FVec Ideal S256x256 .f32 :=
  select msk (mulf (subf (broadcast S256x256 (Scalar.ofBits .f32 0x00000000#32))
    (matmul dot_S256x128_S256x128_S256x256_1_1_0_0_n_n none (k1_pay99 k β) k (constant S256x256 .f32 0x00000000#32))) df)
    (broadcast S256x256 (Scalar.ofBits .f32 0x00000000#32))

/-- The second chunk's inverse. -/
theorem pay103_eq (msk : IVec S256x256 1) (i df : FVec Ideal S256x256 .f32) (k : FVec Ideal S256x128 .f32) (β : FVec Ideal S256x1 .f32) :
    pay103 (F := Ideal) msk i k β df = towerv i (bmat msk k β df) := rfl

/-- The solved system. -/
def uwv (msk : IVec S256x256 1) (i df : FVec Ideal S256x256 .f32) (k v : FVec Ideal S256x128 .f32) (β ec : FVec Ideal S256x1 .f32) : FVec Ideal S256x256 .f32 :=
  mm (towerv i (bmat msk k β df)) (pay104 k v β ec)

/-- The first chunk's solved system. -/
theorem pay48_eq (msk : IVec S256x256 1) (i df : FVec Ideal S256x256 .f32) (k v : FVec Ideal S256x128 .f32) (β ec : FVec Ideal S256x1 .f32) :
    k1_pay53 (F := Ideal) msk i k v β df ec = uwv msk i df k v β ec := rfl

/-- The second chunk's solved system. -/
theorem pay105_eq (msk : IVec S256x256 1) (i df : FVec Ideal S256x256 .f32) (k v : FVec Ideal S256x128 .f32) (β ec : FVec Ideal S256x1 .f32) :
    pay105 (F := Ideal) (pay103 msk i k β df) (pay104 k v β ec) = uwv msk i df k v β ec := rfl

/-- A block whose entries are those of a real matrix. -/
def IsM (x : FVec Ideal S256x256 .f32) (X : Matrix (Fin 256) (Fin 256) ℝ) : Prop := ∀ r s : Fin 256, x (ix2 r s) = ((X r s : ℝ) : EReal)

/-- A product of blocks is the matrices' product. -/
theorem mm_isM {a b : FVec Ideal S256x256 .f32} {A B : Matrix (Fin 256) (Fin 256) ℝ} (ha : IsM a A) (hb : IsM b B) : IsM (mm a b) (A * B) := by
  intro r s
  have : mm a b (ix2 r s) = ∑ k : Fin 256, a (ix2 r k) * b (ix2 k s) := by pointwise [mm]
  rw [this, Matrix.mul_apply, ← coe_sum]
  exact Finset.sum_congr rfl fun k _ => by rw [ha, hb, EReal.coe_mul]

/-- A sum of blocks is the matrices' sum. -/
theorem add_isM {a b : FVec Ideal S256x256 .f32} {A B : Matrix (Fin 256) (Fin 256) ℝ} (ha : IsM a A) (hb : IsM b B) : IsM (addf a b) (A + B) := by
  intro r s
  have : addf a b (ix2 r s) = a (ix2 r s) + b (ix2 r s) := rfl
  rw [this, ha, hb, ← EReal.coe_add]
  rfl

/-- The product of powers, as a matrix. -/
theorem towerv_isM {i b : FVec Ideal S256x256 .f32} {B : Matrix (Fin 256) (Fin 256) ℝ} (hi : IsM i 1) (hb : IsM b B) : IsM (towerv i b) (towerM B) := by
  have t0 := add_isM hi hb
  have p1 := mm_isM hb hb
  have t1 := add_isM t0 (mm_isM t0 p1)
  have p2 := mm_isM p1 p1
  have t2 := add_isM t1 (mm_isM t1 p2)
  have p3 := mm_isM p2 p2
  have t3 := add_isM t2 (mm_isM t2 p3)
  have p4 := mm_isM p3 p3
  have t4 := add_isM t3 (mm_isM t3 p4)
  have p5 := mm_isM p4 p4
  exact add_isM t4 (mm_isM t4 p5)

section System

variable (msk : IVec S256x256 1) (i df : FVec Ideal S256x256 .f32) (k v : FVec Ideal S256x128 .f32) (β ec : FVec Ideal S256x1 .f32)
  (K V : ℕ → ℕ → ℕ → ℝ) (Bt G : ℕ → ℕ → ℝ)
  (hm : ∀ r s : Fin 256, msk (ix2 r s) = if r.val / 64 = s.val / 64 ∧ s.val < r.val then 1#1 else 0#1)
  (hi : ∀ r s : Fin 256, i (ix2 r s) = (((if r = s then 1 else 0 : ℝ) : ℝ) : EReal))
  (hdf : ∀ r s : Fin 256, df (ix2 r s) = ((Real.exp (cum (G (r / 64)) (r % 64 + 1) - cum (G (s / 64)) (s % 64 + 1)) : ℝ) : EReal))
  (hk : ∀ (r : Fin 256) (d : Fin 128), k (ix2 r d) = ((K (r / 64) (r % 64) d : ℝ) : EReal))
  (hv : ∀ (r : Fin 256) (d : Fin 128), v (ix2 r d) = ((V (r / 64) (r % 64) d : ℝ) : EReal))
  (hβ : ∀ r : Fin 256, β (ix2 r 0) = ((Bt (r / 64) (r % 64) : ℝ) : EReal))
  (hec : ∀ r : Fin 256, ec (ix2 r 0) = ((Real.exp (cum (G (r / 64)) (r % 64 + 1)) : ℝ) : EReal))

/-- The system's matrix over the reals. -/
def bM (K : ℕ → ℕ → ℕ → ℝ) (Bt G : ℕ → ℕ → ℝ) : Matrix (Fin 256) (Fin 256) ℝ := fun r s =>
  if r.val / 64 = s.val / 64 ∧ s.val < r.val then bco (K (r / 64)) (G (r / 64)) (Bt (r / 64)) (r % 64) (s % 64) else 0

/-- The system's right-hand side over the reals. -/
def rM (K V : ℕ → ℕ → ℕ → ℝ) (Bt G : ℕ → ℕ → ℝ) (b j c : ℕ) : ℝ :=
  if c < 128 then Bt b j * V b j c else Bt b j * K b j (c - 128) * Real.exp (cum (G b) (j + 1))

/-- The same as a matrix. -/
def rMat (K V : ℕ → ℕ → ℕ → ℝ) (Bt G : ℕ → ℕ → ℝ) : Matrix (Fin 256) (Fin 256) ℝ := fun r c => rM K V Bt G (r.val / 64) (r.val % 64) c.val

include hm hdf hk hβ in
/-- The strictly lower system, as a matrix. -/
theorem bmat_isM : IsM (bmat msk k β df) (bM K Bt G) := by
  intro r s
  pointwise [bmat, k1_pay99]
  rw [hm]
  unfold bM
  split_ifs with h
  · rw [show ∀ a b : EReal, Scalar.select (1#1 : BitVec 1) a b = a from fun _ _ => rfl]
    simp only [hk, hβ, hdf, ← EReal.coe_mul, coe_sum, zero_sub, ← EReal.coe_neg]
    congr 1
    unfold bco
    rw [← h.1, ← neg_mul]
    congr 2
    rw [Finset.mul_sum]
    exact Finset.sum_congr rfl fun d _ => by ring
  · simp [Scalar.select]

include hk hv hβ hec in
/-- The right side, as a matrix. -/
theorem rhs_isM : IsM (pay104 k v β ec) (rMat K V Bt G) := by
  intro r c
  have hc := c.isLt
  pointwise [pay104, k1_pay99]
  simp only [hk, hv, hβ, hec, ← EReal.coe_mul]
  unfold rMat rM
  split_ifs with h
  · rw [mul_comm]
  · rw [mul_comm (Bt _ _)]

include hm hi hdf hk hv hβ hec in
/-- The solved system satisfies the recurrence of the updates, block by block. -/
theorem uwv_val : ∃ X : ℕ → ℕ → ℕ → ℝ, (∀ r c : Fin 256, uwv msk i df k v β ec (ix2 r c) = ((X (r / 64) (r % 64) c : ℝ) : EReal))
    ∧ ∀ b j c, b < 4 → j < 64 → c < 256 →
      X b j c = rM K V Bt G b j c + ∑ n ∈ Finset.range j, bco (K b) (G b) (Bt b) j n * X b n c := by
  have hI : IsM i 1 := fun r s => by rw [hi, Matrix.one_apply]
  have hB := bmat_isM msk df k β K Bt G hm hdf hk hβ
  have hY := mm_isM (towerv_isM hI hB) (rhs_isM k v β ec K V Bt G hk hv hβ hec)
  have hs := tower_solve (bM K Bt G) (rMat K V Bt G)
    (fun r s h => if_neg h)
  obtain ⟨Y, hY, hs⟩ : ∃ Y : Fin 256 → Fin 256 → ℝ,
      (∀ r c : Fin 256, uwv msk i df k v β ec (ix2 r c) = ((Y r c : ℝ) : EReal))
        ∧ ∀ r c, Y r c = rM K V Bt G (r / 64) (r % 64) c + ∑ x : Fin 256, bM K Bt G r x * Y x c := by
    refine ⟨towerM (bM K Bt G) * rMat K V Bt G, hY, fun r c => ?_⟩
    conv_lhs => rw [hs]
    rw [Matrix.add_apply, Matrix.mul_apply]
    rfl
  refine ⟨fun b j c => if h : 64 * b + j < 256 ∧ c < 256 then Y ⟨64 * b + j, h.1⟩ ⟨c, h.2⟩ else 0, ?_, ?_⟩
  · intro r c
    show _ = (((if h : 64 * (r.val / 64) + r.val % 64 < 256 ∧ c.val < 256 then Y ⟨_, h.1⟩ ⟨_, h.2⟩ else 0 : ℝ)) : EReal)
    rw [dif_pos ⟨by omega, c.isLt⟩]
    refine (hY r c).trans ?_
    congr 2
    ext
    show r.val = 64 * (r.val / 64) + r.val % 64
    omega
  · intro b j c hb hj hc
    show (if h : 64 * b + j < 256 ∧ c < 256 then Y ⟨_, h.1⟩ ⟨_, h.2⟩ else 0)
      = _ + ∑ n ∈ Finset.range j, _ * (if h : 64 * b + n < 256 ∧ c < 256 then Y ⟨_, h.1⟩ ⟨_, h.2⟩ else 0)
    rw [dif_pos ⟨by omega, hc⟩, hs]
    have e1 : (64 * b + j) / 64 = b := by omega
    have e2 : (64 * b + j) % 64 = j := by omega
    show rM K V Bt G ((64 * b + j) / 64) ((64 * b + j) % 64) c + _ = _
    rw [e1, e2]
    congr 1
    have : ∀ x : Fin 256, bM K Bt G ⟨64 * b + j, by omega⟩ x * Y x ⟨c, hc⟩
        = if (64 * b + j) / 64 = x.val / 64 ∧ x.val < 64 * b + j then
            (fun x : ℕ => bco (K b) (G b) (Bt b) j (x % 64) * if h : x < 256 then Y ⟨x, h⟩ ⟨c, hc⟩ else 0) x.val else 0 := by
      intro x
      unfold bM
      simp only [ite_mul, zero_mul, x.isLt, dif_pos, e1, e2]
    rw [Finset.sum_congr rfl (fun x _ => this x)]
    refine (tri_sum_lt (fun x : ℕ => bco (K b) (G b) (Bt b) j (x % 64) * if h : x < 256 then Y ⟨x, h⟩ ⟨c, hc⟩ else 0)
      ⟨64 * b + j, by omega⟩).trans ?_
    show ∑ m ∈ Finset.range ((64 * b + j) % 64), _ = _
    rw [e2]
    refine Finset.sum_congr rfl fun n hn => ?_
    have hn := Finset.mem_range.mp hn
    have e3 : 64 * ((64 * b + j) / 64) + n = 64 * b + n := by omega
    have e4 : (64 * b + n) % 64 = n := by omega
    simp only [e3, e4]
    rw [dif_pos (by omega), dif_pos ⟨by omega, hc⟩]

end System

/-! ## What the solution gives -/

/-- The masked products of queries and keys, applied to the solved system. -/
def olv (msk : IVec S256x256 1) (k q : FVec Ideal S256x128 .f32) (df u : FVec Ideal S256x256 .f32) : FVec Ideal S256x256 .f32 :=
  mm (select msk (mulf (matmul dot_S256x128_S256x128_S256x256_1_1_0_0_n_n none q k (constant S256x256 .f32 0x00000000#32)) df)
    (broadcast S256x256 (Scalar.ofBits .f32 0x00000000#32))) u

section Attention

variable (msk : IVec S256x256 1) (m5 : IVec S256x512 1) (u df : FVec Ideal S256x256 .f32) (k q : FVec Ideal S256x128 .f32) (ec dk : FVec Ideal S256x1 .f32)
  (K Q X : ℕ → ℕ → ℕ → ℝ) (G : ℕ → ℕ → ℝ)
  (hm : ∀ r s : Fin 256, msk (ix2 r s) = if r.val / 64 = s.val / 64 ∧ s.val ≤ r.val then 1#1 else 0#1)
  (hm5 : ∀ (r : Fin 256) (n : Fin 512), m5 (ix2 r n) = if r.val / 64 = n.val / 128 then 1#1 else 0#1)
  (hdf : ∀ r s : Fin 256, df (ix2 r s) = ((Real.exp (cum (G (r / 64)) (r % 64 + 1) - cum (G (s / 64)) (s % 64 + 1)) : ℝ) : EReal))
  (hk : ∀ (r : Fin 256) (d : Fin 128), k (ix2 r d) = ((K (r / 64) (r % 64) d : ℝ) : EReal))
  (hq : ∀ (r : Fin 256) (d : Fin 128), q (ix2 r d) = ((Q (r / 64) (r % 64) d : ℝ) : EReal))
  (hec : ∀ r : Fin 256, ec (ix2 r 0) = ((Real.exp (cum (G (r / 64)) (r % 64 + 1)) : ℝ) : EReal))
  (hdk : ∀ r : Fin 256, dk (ix2 r 0) = ((Real.exp (cum (G (r / 64)) 64 - cum (G (r / 64)) (r % 64 + 1)) : ℝ) : EReal))
  (hu : ∀ r c : Fin 256, u (ix2 r c) = ((X (r / 64) (r % 64) c : ℝ) : EReal))

/-- The same over the reals. -/
def olR (K Q X : ℕ → ℕ → ℕ → ℝ) (G : ℕ → ℕ → ℝ) (b j c : ℕ) : ℝ :=
  ∑ m ∈ Finset.range (j + 1), (∑ d : Fin 128, Q b j d * K b m d) * Real.exp (cum (G b) (j + 1) - cum (G b) (m + 1)) * X b m c

include hm hdf hk hq hu in
/-- The read-out inside the chunk. -/
theorem olv_val (r c : Fin 256) : olv msk k q df u (ix2 r c) = ((olR K Q X G (r / 64) (r % 64) c : ℝ) : EReal) := by
  have h1 : olv msk k q df u (ix2 r c) = ∑ s : Fin 256, (if r.val / 64 = s.val / 64 ∧ s.val ≤ r.val then
      ((fun s : ℕ => (∑ d : Fin 128, Q (r / 64) (r % 64) d * K (s / 64) (s % 64) d)
        * Real.exp (cum (G (r / 64)) (r % 64 + 1) - cum (G (s / 64)) (s % 64 + 1)) * X (s / 64) (s % 64) c) s.val : ℝ) else (0 : ℝ) : ℝ) := by
    rw [← coe_sum]
    pointwise [olv, mm]
    refine Finset.sum_congr rfl fun s _ => ?_
    rw [hm]
    split_ifs with h
    · rw [show ∀ a b : EReal, Scalar.select (1#1 : BitVec 1) a b = a from fun _ _ => rfl]
      simp only [hk, hq, hdf, hu, ← EReal.coe_mul, coe_sum]
    · rw [show ∀ a b : EReal, Scalar.select (0#1 : BitVec 1) a b = b from fun _ _ => rfl]
      exact EReal.coe_zero.symm
  rw [h1]
  refine congrArg (fun x : ℝ => (x : EReal)) ((tri_sum (fun s : ℕ => (∑ d : Fin 128, Q (r / 64) (r % 64) d * K (s / 64) (s % 64) d)
        * Real.exp (cum (G (r / 64)) (r % 64 + 1) - cum (G (s / 64)) (s % 64 + 1)) * X (s / 64) (s % 64) c) r).trans ?_)
  refine Finset.sum_congr rfl fun m hm => ?_
  have := Finset.mem_range.mp hm
  have e1 : (64 * (r.val / 64) + m) / 64 = r.val / 64 := by omega
  have e2 : (64 * (r.val / 64) + m) % 64 = m := by omega
  simp only [e1, e2]

/-- The same over the reals. -/
def w2R (K X : ℕ → ℕ → ℕ → ℝ) (G : ℕ → ℕ → ℝ) (b d c : ℕ) : ℝ :=
  ∑ m ∈ Finset.range 64, K b m d * Real.exp (cum (G b) 64 - cum (G b) (m + 1)) * X b m c

include hm5 hk hdk hu in
/-- The states' update. -/
theorem w2_val (n : Fin 512) (c : Fin 256) : k1_pay56 m5 k dk u (ix2 n c) = ((w2R K X G (n / 128) (n % 128) c : ℝ) : EReal) := by
  have hn := n.isLt
  have h1 : k1_pay56 m5 k dk u (ix2 n c) = ∑ s : Fin 256, (if s.val / 64 = n.val / 128 then
      ((fun s : ℕ => K (s / 64) (s % 64) (n % 128) * Real.exp (cum (G (s / 64)) 64 - cum (G (s / 64)) (s % 64 + 1)) * X (s / 64) (s % 64) c) s.val : ℝ)
        else (0 : ℝ) : ℝ) := by
    rw [← coe_sum]
    pointwise [k1_pay56]
    refine Finset.sum_congr rfl fun s _ => ?_
    rw [hm5]
    by_cases h : s.val / 64 = n.val / 128
    · rw [if_pos h, if_pos h, show ∀ a b : EReal, Scalar.select (1#1 : BitVec 1) a b = a from fun _ _ => rfl]
      simp only [hk, hdk, hu, ← EReal.coe_mul]
      by_cases a : n.val < 128
      · rw [dif_pos a, ← EReal.coe_mul]
        congr 4
        omega
      rw [dif_neg a]
      by_cases a2 : n.val - 128 < 128
      · rw [dif_pos a2, ← EReal.coe_mul]
        congr 4
        omega
      rw [dif_neg a2]
      by_cases a3 : n.val - 128 - 128 < 128
      · rw [dif_pos a3, ← EReal.coe_mul]
        congr 4
        omega
      rw [dif_neg a3, ← EReal.coe_mul]
      congr 4
      omega
    · rw [if_neg h, if_neg h, show ∀ a b : EReal, Scalar.select (0#1 : BitVec 1) a b = b from fun _ _ => rfl]
      exact EReal.coe_zero.symm
  rw [h1]
  refine congrArg (fun x : ℝ => (x : EReal)) ((blk_sum (fun s : ℕ => K (s / 64) (s % 64) (n % 128) * Real.exp (cum (G (s / 64)) 64 - cum (G (s / 64)) (s % 64 + 1)) * X (s / 64) (s % 64) c) _ (by omega)).trans ?_)
  refine Finset.sum_congr rfl fun m hm => ?_
  have := Finset.mem_range.mp hm
  have e1 : (64 * (n.val / 128) + m) / 64 = n.val / 128 := by omega
  have e2 : (64 * (n.val / 128) + m) % 64 = m := by omega
  simp only [e1, e2]

end Attention

end Cert.CoreV

end
-- ==== Proof.CoreState.lean ====
/- The last part of a chunk of the second call over real inputs: the masks, a head's read-out, its new state and its output row;
   and that these are the recurrence's. -/
module

public import proofs.«01_k».proof.Proof.CoreChunk

@[expose] public section

set_option maxRecDepth 16384

noncomputable section

namespace Cert.CoreV

open Cert.LayerIdeal Cert.LayerIdeal.Gen Cert.Gdn Idealize.ShloMosaic Idealize.ShloMosaic.TcCoe Idealize.SL.Sem
open scoped BigOperators

/-! ## The chunk is the recurrence -/

section Rec

variable (q k v : ℕ → ℕ → ℝ) (g β : ℕ → ℝ) (K Q V X : ℕ → ℕ → ℕ → ℝ) (G Bt : ℕ → ℕ → ℝ) (T b : ℕ)
  (hK : K b = fun j => k (T + j)) (hQ : Q b = fun j => q (T + j)) (hV : V b = fun j => v (T + j))
  (hG : G b = fun j => g (T + j)) (hB : Bt b = fun j => β (T + j))
  (hX : ∀ j c, j < 64 → c < 256 → X b j c = rM K V Bt G b j c + ∑ n ∈ Finset.range j, bco (K b) (G b) (Bt b) j n * X b n c)

include hK hV hG hB hX in
/-- The updates of the chunk from its solved system and the state before it. -/
theorem chunk_delta (e : ℕ) (he : e < 128) (i : ℕ) (hi : i < 64) :
    upd (k (T + i)) (v (T + i)) (g (T + i)) (β (T + i)) (St k v g β (T + i)) e
      = X b i e - ∑ d : Fin 128, X b i (128 + d) * St k v g β T d e := by
  refine delta_eq (K b) (V b) (G b) (Bt b) (fun t => St k v g β (T + t))
    (fun t e => upd (k (T + t)) (v (T + t)) (g (T + t)) (β (T + t)) (St k v g β (T + t)) e)
    (X b) (fun i d => X b i (128 + d)) 64 e ?_ ?_ ?_ ?_ i hi
  · intro t d e
    rw [hK, hG]
    rfl
  · intro t e
    rw [hK, hG, hB, hV]
    rfl
  · intro i hi
    rw [hX i e hi (by omega), rM, if_pos he]
  · intro i hi d
    have := d.isLt
    rw [hX i _ hi (by omega), rM, if_neg (by omega), Nat.add_sub_cancel_left]

include hK hV hG hB hX hQ in
/-- The read-out at a token of the chunk. -/
theorem chunk_out (j e : ℕ) (hj : j < 64) (he : e < 128) :
    olR K Q X G b j e + ∑ d : Fin 128, (Q b j d * Real.exp (cum (G b) (j + 1)) - olR K Q X G b j (128 + d)) * St k v g β T d e
      = rd q k v g β (T + j) e := by
  have h := out_eq (K b) (G b) (fun t => St k v g β (T + t))
    (fun t e => upd (k (T + t)) (v (T + t)) (g (T + t)) (β (T + t)) (St k v g β (T + t)) e)
    (X b) (fun i d => X b i (128 + d)) 64 j e hj (Q b j) (by intro t d e; rw [hK, hG]; rfl)
    (fun i hi => chunk_delta k v g β K V X G Bt T b hK hV hG hB hX e he i hi)
  refine h.symm.trans ?_
  rw [hQ]
  rfl

include hK hV hG hB hX in
/-- The state after the chunk. -/
theorem chunk_state (d e : ℕ) (he : e < 128) :
    Real.exp (cum (G b) 64) * St k v g β T d e + w2R K X G b d e - ∑ x : Fin 128, w2R K X G b d (128 + x) * St k v g β T x e
      = St k v g β (T + 64) d e :=
  (state_eq (K b) (G b) (fun t => St k v g β (T + t))
    (fun t e => upd (k (T + t)) (v (T + t)) (g (T + t)) (β (T + t)) (St k v g β (T + t)) e)
    (X b) (fun i d => X b i (128 + d)) 64 64 d e (le_refl _) (by intro t d e; rw [hK, hG]; rfl)
    (fun i hi => chunk_delta k v g β K V X G Bt T b hK hV hG hB hX e he i hi)).symm

end Rec

/-! ## States and outputs of the four heads -/

section Heads

variable (e1 : FVec Ideal S1x1 .f32) (q l : FVec Ideal S256x128 .f32) (w : FVec Ideal S512x256 .f32) (z : FVec Ideal S64x256 .f32)
  (n : FVec Ideal S1x128 .f32) (S : FVec Ideal S128x128 .f32)
  (E : ℝ) (Qe Lo W2 : ℕ → ℕ → ℕ → ℝ) (Z Sr : ℕ → ℕ → ℝ) (Nw : ℕ → EReal)
  (he : e1 (ix2 0 0) = ((E : ℝ) : EReal))
  (hq : ∀ (r : Fin 256) (d : Fin 128), q (ix2 r d) = ((Qe (r / 64) (r % 64) d : ℝ) : EReal))
  (hl : ∀ (r : Fin 256) (d : Fin 128), l (ix2 r d) = ((Lo (r / 64) (r % 64) d : ℝ) : EReal))
  (hw : ∀ (r : Fin 512) (c : Fin 256), w (ix2 r c) = ((W2 (r / 128) (r % 128) c : ℝ) : EReal))
  (hz : ∀ (r : Fin 64) (c : Fin 256), z (ix2 r c) = ((Z r c : ℝ) : EReal))
  (hn : ∀ e : Fin 128, n (ix2 0 e) = Nw e)
  (hS : ∀ d e : Fin 128, S (ix2 d e) = ((Sr d e : ℝ) : EReal))

/-- A state after a chunk. -/
def sN (E : ℝ) (W2 : ℕ → ℕ → ℕ → ℝ) (Sr : ℕ → ℕ → ℝ) (b d e : ℕ) : ℝ := E * Sr d e + W2 b d e - ∑ x : Fin 128, W2 b d (128 + x) * Sr x e

/-- A read-out of a chunk. -/
def oN (Qe Lo : ℕ → ℕ → ℕ → ℝ) (Sr : ℕ → ℕ → ℝ) (b j e : ℕ) : ℝ := Lo b j e + ∑ x : Fin 128, Qe b j x * Sr x e

/-! The new states: of the second chunk of a pass first, then of the first chunk. -/

include he hw hS in
/-- Head 0's new state, in one chunk. -/
theorem state0_val (d e : Fin 128) : pay119 e1 q w S (ix2 d e) = ((sN E W2 Sr 0 d e : ℝ) : EReal) := by
  have h : ∀ d : Fin 128, (0 + d.val) / 128 = 0 ∧ (0 + d.val) % 128 = d.val := fun d => by have := d.isLt; omega
  pointwise [pay119, pay118]
  have hd := d.isLt
  simp only [he, hw, hS, ← EReal.coe_mul, coe_sum, ← EReal.coe_add, ← EReal.coe_sub]
  congr 1
  simp only [sN, Nat.div_eq_of_lt hd, Nat.mod_eq_of_lt hd]

include he hw hS in
/-- Head 1's new state, in one chunk. -/
theorem state1_val (d e : Fin 128) : k1_pay132 e1 q w S (ix3 0 d e) = ((sN E W2 Sr 1 d e : ℝ) : EReal) := by
  have h1 : (128 + d.val) / 128 = 1 := by omega
  have h2 : (128 + d.val) % 128 = d := by omega
  pointwise [k1_pay132, k1_pay130]
  simp only [he, hw, hS, ← EReal.coe_mul, coe_sum, ← EReal.coe_add, ← EReal.coe_sub, h1, h2]
  rfl

include he hw hS in
/-- Head 3's new state, in one chunk. -/
theorem state3_val (d e : Fin 128) : pay148 e1 q w S (ix3 0 d e) = ((sN E W2 Sr 3 d e : ℝ) : EReal) := by
  have h1 : (384 + d.val) / 128 = 3 := by omega
  have h2 : (384 + d.val) % 128 = d := by omega
  pointwise [pay148, k1_pay149]
  simp only [he, hw, hS, ← EReal.coe_mul, coe_sum, ← EReal.coe_add, ← EReal.coe_sub, h1, h2]
  rfl

include he hw in
/-- Head 2's new state, in one chunk. -/
theorem state2_val (S3 : Vec Ideal S1x128x128 .f32) (hS3 : ∀ d e : Fin 128, S3 (ix3 0 d e) = ((Sr d e : ℝ) : EReal)) (d e : Fin 128) :
    pay132 e1 (k1_pay114 S3) (pay130 w) (pay131 q w S3) (ix2 d e) = ((sN E W2 Sr 2 d e : ℝ) : EReal) := by
  have h1 : (256 + d.val) / 128 = 2 := by omega
  have h2 : (256 + d.val) % 128 = d := by omega
  pointwise [pay132, pay131, pay130, k1_pay114]
  simp only [he, hw, hS3, ← EReal.coe_mul, coe_sum, ← EReal.coe_add, ← EReal.coe_sub, h1, h2]
  rfl

include he hw in
/-- Head 0's new state, in the other chunk. -/
theorem state0_val' (S3 : Vec Ideal S1x128x128 .f32) (hS3 : ∀ d e : Fin 128, S3 (ix3 0 d e) = ((Sr d e : ℝ) : EReal)) (d e : Fin 128) :
    pay115 e1 q w S3 (ix2 d e) = ((sN E W2 Sr 0 d e : ℝ) : EReal) := by
  pointwise [pay115, k1_pay115, k1_pay114]
  simp only [he, hw, hS3, ← EReal.coe_mul, coe_sum, ← EReal.coe_add, ← EReal.coe_sub]
  congr 1
  simp only [sN, Nat.div_eq_of_lt d.isLt, Nat.mod_eq_of_lt d.isLt]

include he hw in
/-- Head 1's new state, in the other chunk. -/
theorem state1_val' (S3 : Vec Ideal S1x128x128 .f32) (hS3 : ∀ d e : Fin 128, S3 (ix3 0 d e) = ((Sr d e : ℝ) : EReal)) (d e : Fin 128) :
    k1_pay128 e1 q w S3 (ix2 d e) = ((sN E W2 Sr 1 d e : ℝ) : EReal) := by
  have h1 : (128 + d.val) / 128 = 1 := by omega
  have h2 : (128 + d.val) % 128 = d := by omega
  pointwise [k1_pay128, k1_pay127, k1_pay126]
  simp only [he, hw, hS3, ← EReal.coe_mul, coe_sum, ← EReal.coe_add, ← EReal.coe_sub, h1, h2]
  rfl

include he hw in
/-- Head 3's new state, in the other chunk. -/
theorem state3_val' (S3 : Vec Ideal S1x128x128 .f32) (hS3 : ∀ d e : Fin 128, S3 (ix3 0 d e) = ((Sr d e : ℝ) : EReal)) (d e : Fin 128) :
    k1_pay146 e1 q w S3 (ix2 d e) = ((sN E W2 Sr 3 d e : ℝ) : EReal) := by
  have h1 : (384 + d.val) / 128 = 3 := by omega
  have h2 : (384 + d.val) % 128 = d := by omega
  pointwise [k1_pay146, k1_pay144, k1_pay143]
  simp only [he, hw, hS3, ← EReal.coe_mul, coe_sum, ← EReal.coe_add, ← EReal.coe_sub, h1, h2]
  rfl

include he hw in
/-- Head 2's new state, in the other chunk. -/
theorem state2_val' (e0 : FVec Ideal S1x1 .f32) (a b : FVec Ideal S128x128 .f32) (c : FVec Ideal S192x128 .f32)
    (hS : ∀ d e : Fin 128, pay132 e0 a b c (ix2 d e) = ((Sr d e : ℝ) : EReal)) (d e : Fin 128) :
    k1_pay3 (pay136 e0 e1 q w a b c) (ix3 0 d e) = ((sN E W2 Sr 2 d e : ℝ) : EReal) := by
  have h1 : (256 + d.val) / 128 = 2 := by omega
  have h2 : (256 + d.val) % 128 = d := by omega
  pointwise [k1_pay3, pay136, pay134]
  simp only [he, hw, hS, ← EReal.coe_mul, coe_sum, ← EReal.coe_add, ← EReal.coe_sub, h1, h2]
  rfl

/-- A head's output row. -/
def fN (Qe Lo : ℕ → ℕ → ℕ → ℝ) (Sr Z : ℕ → ℕ → ℝ) (Nw : ℕ → EReal) (b j e : ℕ) : EReal := fin (oN Qe Lo Sr b j) (Nw e) (Z j (128 * (b % 2) + e)) e

/-- The norm's factor. -/
theorem norm_coe (o : ℕ → ℝ) : Ideal.rsqrt (Ideal.div ((∑ d : Fin 128, o d * o d : ℝ) : EReal) (Ideal.ofBits .f32 1124073472#32) + Ideal.ofBits .f32 897988541#32)
    = ((rs (ss o / 128) : ℝ) : EReal) := by
  rw [ofBits_128, ofBits_eps, div_coe _ _ (by norm_num)]
  exact rsqrt_coe _ (by have := ss_nonneg o; positivity)

include hq hl hz hn hS in
/-- Head 0's result, in one chunk. -/
theorem out0_val (j : Fin 64) (e : Fin 128) :
    pay120 n z q w l S (ix2 j e) = fN Qe Lo Sr Z Nw 0 j e := by
  have h1 : j.val / 64 = 0 := by omega
  have h2 : j.val % 64 = j := by omega
  have h3 := norm_coe (oN Qe Lo Sr 0 j)
  simp only [oN] at h3
  pointwise [pay120, pay118]
  simp only [hq, hl, hz, hn, hS, ← EReal.coe_mul, coe_sum, ← EReal.coe_add, h1, h2, h3, logistic_coe]
  simp only [fN, fin, oN, silu, Nat.zero_mod, Nat.reduceMod, Nat.mul_zero, Nat.zero_add]

include hq hl hz hn hS in
/-- Head 1's result, in one chunk. -/
theorem out1_val (j : Fin 64) (e : Fin 128) :
    k1_pay131 n z q w l S (ix2 j e) = fN Qe Lo Sr Z Nw 1 j e := by
  have h1 : (64 + j.val) / 64 = 1 := by omega
  have h2 : (64 + j.val) % 64 = j := by omega
  have h3 := norm_coe (oN Qe Lo Sr 1 j)
  simp only [oN] at h3
  pointwise [k1_pay131, k1_pay130]
  simp only [hq, hl, hz, hn, hS, ← EReal.coe_mul, coe_sum, ← EReal.coe_add, h1, h2, h3, logistic_coe]
  simp only [fN, fin, oN, silu]

include hq hl hz hn in
/-- Head 2's result, in the other chunk. -/
theorem out2_val' (e0 : FVec Ideal S1x1 .f32) (a b : FVec Ideal S128x128 .f32) (c : FVec Ideal S192x128 .f32)
    (hS' : ∀ d e : Fin 128, pay132 e0 a b c (ix2 d e) = ((Sr d e : ℝ) : EReal)) (j : Fin 64) (e : Fin 128) :
    pay138 n z (pay135 e0 q w l a b c) (pay137 e0 q w l a b c) (ix2 j e) = fN Qe Lo Sr Z Nw 2 j e := by
  have h1 : (128 + j.val) / 64 = 2 := by omega
  have h2 : (128 + j.val) % 64 = j := by omega
  have h3 := norm_coe (oN Qe Lo Sr 2 j)
  simp only [oN] at h3
  pointwise [pay138, pay137, pay135, pay134]
  simp only [hq, hl, hz, hn, hS', ← EReal.coe_mul, coe_sum, ← EReal.coe_add, h1, h2, h3, logistic_coe]
  simp only [fN, fin, oN, silu, Nat.zero_mod, Nat.reduceMod, Nat.mul_zero, Nat.zero_add]

include hq hl hz hn hS in
/-- Head 3's result, in one chunk. -/
theorem out3_val (j : Fin 64) (e : Fin 128) :
    k1_pay151 n z q w l S (ix2 j e) = fN Qe Lo Sr Z Nw 3 j e := by
  have h1 : (192 + j.val) / 64 = 3 := by omega
  have h2 : (192 + j.val) % 64 = j := by omega
  have h3 := norm_coe (oN Qe Lo Sr 3 j)
  simp only [oN] at h3
  pointwise [k1_pay151, k1_pay149]
  simp only [hq, hl, hz, hn, hS, ← EReal.coe_mul, coe_sum, ← EReal.coe_add, h1, h2, h3, logistic_coe]
  simp only [fN, fin, oN, silu]

include hq hl hz hn in
/-- Head 0's result, in the other chunk. -/
theorem out0_val' (S3 : Vec Ideal S1x128x128 .f32) (hS3 : ∀ d e : Fin 128, S3 (ix3 0 d e) = ((Sr d e : ℝ) : EReal)) (j : Fin 64) (e : Fin 128) :
    k1_pay141 n z (k1_pay116 q w l S3) (pay116 q w l S3) (ix2 j e) = fN Qe Lo Sr Z Nw 0 j e := by
  have h1 : j.val / 64 = 0 := by omega
  have h2 : j.val % 64 = j := by omega
  have h3 := norm_coe (oN Qe Lo Sr 0 j)
  simp only [oN] at h3
  pointwise [k1_pay141, pay116, k1_pay116, k1_pay115, k1_pay114]
  simp only [hq, hl, hz, hn, hS3, ← EReal.coe_mul, coe_sum, ← EReal.coe_add, h1, h2, h3, logistic_coe]
  simp only [fN, fin, oN, silu, Nat.zero_mod, Nat.reduceMod, Nat.mul_zero, Nat.zero_add]

include hq hl hz hn in
/-- Head 1's result, in the other chunk. -/
theorem out1_val' (S3 : Vec Ideal S1x128x128 .f32) (hS3 : ∀ d e : Fin 128, S3 (ix3 0 d e) = ((Sr d e : ℝ) : EReal)) (j : Fin 64) (e : Fin 128) :
    k1_pay129 n z q w l S3 (ix2 j e) = fN Qe Lo Sr Z Nw 1 j e := by
  have h1 : (64 + j.val) / 64 = 1 := by omega
  have h2 : (64 + j.val) % 64 = j := by omega
  have h3 := norm_coe (oN Qe Lo Sr 1 j)
  simp only [oN] at h3
  pointwise [k1_pay129, k1_pay127, k1_pay126]
  simp only [hq, hl, hz, hn, hS3, ← EReal.coe_mul, coe_sum, ← EReal.coe_add, h1, h2, h3, logistic_coe]
  simp only [fN, fin, oN, silu]

include hq hl hz hn in
/-- Head 2's result, in one chunk. -/
theorem out2_val (S3 : Vec Ideal S1x128x128 .f32) (hS3 : ∀ d e : Fin 128, S3 (ix3 0 d e) = ((Sr d e : ℝ) : EReal)) (j : Fin 64) (e : Fin 128) :
    pay133 n z l (pay131 q w S3) (ix2 j e) = fN Qe Lo Sr Z Nw 2 j e := by
  have h1 : (128 + j.val) / 64 = 2 := by omega
  have h2 : (128 + j.val) % 64 = j := by omega
  have h3 := norm_coe (oN Qe Lo Sr 2 j)
  simp only [oN] at h3
  pointwise [pay133, pay131, k1_pay114]
  simp only [hq, hl, hz, hn, hS3, ← EReal.coe_mul, coe_sum, ← EReal.coe_add, h1, h2, h3, logistic_coe]
  simp only [fN, fin, oN, silu, Nat.zero_mod, Nat.reduceMod, Nat.mul_zero, Nat.zero_add]

include hq hl hz hn in
/-- Head 3's result, in the other chunk. -/
theorem out3_val' (S3 : Vec Ideal S1x128x128 .f32) (hS3 : ∀ d e : Fin 128, S3 (ix3 0 d e) = ((Sr d e : ℝ) : EReal)) (j : Fin 64) (e : Fin 128) :
    k1_pay124 (pay143 n q w l S3) (pay144 z) (ix2 j e) = fN Qe Lo Sr Z Nw 3 j e := by
  have h1 : (192 + j.val) / 64 = 3 := by omega
  have h2 : (192 + j.val) % 64 = j := by omega
  have h3 := norm_coe (oN Qe Lo Sr 3 j)
  simp only [oN] at h3
  pointwise [k1_pay124, pay144, pay143, k1_pay144, k1_pay143]
  simp only [hq, hl, hz, hn, hS3, ← EReal.coe_mul, coe_sum, ← EReal.coe_add, h1, h2, h3, logistic_coe]
  simp only [fN, fin, oN, silu]

end Heads

end Cert.CoreV

end
-- ==== Proof.CoreUnit.lean ====
/- One chunk of 64 tokens of the second call, for the four heads of a head pair: from its input blocks over real numbers to
   what meets the states, and that the states and read-outs it leads to are the recurrence's. -/
module

public import proofs.«01_k».proof.Proof.CoreState

@[expose] public section

set_option maxRecDepth 16384

noncomputable section

namespace Cert.CoreV

open Cert.LayerIdeal Cert.LayerIdeal.Gen Cert.Gdn Idealize.ShloMosaic Idealize.ShloMosaic.TcCoe Idealize.SL.Sem
open scoped BigOperators

/-- What a chunk works on: the masks, the head pair's number, the carried rows, the projection's blocks, the convolution's
weights, the gates' block and the scalars of the four heads. -/
structure Blk where
  m1 : IVec S256x256 1
  m2 : IVec S256x256 1
  L : FVec Ideal S256x256 .f32
  I : FVec Ideal S256x256 .f32
  m5 : IVec S256x512 1
  a : BitVec 32
  i : IVec S1x128 32
  c0 : FVec Ideal S8x512 .f32
  c1 : FVec Ideal S8x512 .f32
  b0 : Vec Ideal S64x768 .bf16
  b1 : Vec Ideal S64x768 .bf16
  w0 : Vec Ideal S1x4x512 .f32
  w1 : Vec Ideal S1x4x512 .f32
  s : FVec Ideal S64x128 .f32
  x00 : Ideal .f32
  x01 : Ideal .f32
  x10 : Ideal .f32
  x11 : Ideal .f32
  y00 : Ideal .f32
  y01 : Ideal .f32
  y10 : Ideal .f32
  y11 : Ideal .f32

namespace Blk

variable (u : Blk)

/-- The first key head's convolved rows. -/
def cv0 := pay56 u.c0 u.b0 u.w0
/-- The second key head's convolved rows. -/
def cv1 := pay56 u.c1 u.b1 u.w1
/-- The keys. -/
def key := pay68 u.cv1 (k1_pay16 u.cv0) (pay67 u.cv0)
/-- The queries. -/
def qry := k1_pay20 u.cv1 (k1_pay17 u.cv0)
/-- The values. -/
def vals := k1_pay21 u.cv0 u.cv1
/-- The write strengths. -/
def rate := k1_pay39 (F := Ideal) (pay72 u.s (pay71 u.a u.i) (FloatOps.ofBits .f32 0#32)) (k1_pay25 u.a u.i u.s) (k1_pay33 u.a u.i u.s) (k1_pay36 u.a u.i u.s)
/-- The first head's log decay. -/
def t0 := k1_pay24 (F := Ideal) u.a u.i u.s u.x00 u.y00
/-- The second head's log decay. -/
def t1 := pay82 (F := Ideal) u.x01 (k1_pay27 u.a u.i u.s u.y01) (k1_pay29 u.a u.i u.s u.y01) (k1_pay30 u.a u.i u.s u.y01) (pay80 u.a u.i u.s u.y01) pay81
/-- The third head's log decay. -/
def t2 := k1_pay84 (F := Ideal) (k1_pay82 u.a u.i u.s) u.x10 u.y10
/-- The log decays. -/
def dec := pay89 (F := Ideal) u.s u.t0 u.t1 u.t2 (FloatOps.ofBits .f32 0#32) (pay87 u.a u.i) u.x11 u.y11
/-- The cumulated log decays. -/
def cm := pay93 (F := Ideal) u.L u.s u.t0 u.t1 u.t2 (FloatOps.ofBits .f32 0#32) (pay87 u.a u.i) u.x11 u.y11
/-- The decays between rows. -/
def df := pay94 (F := Ideal) u.L u.s u.t0 u.t1 u.t2 (FloatOps.ofBits .f32 0#32) (pay87 u.a u.i) u.x11 u.y11
/-- The decays since the start. -/
def ec := pay95 (F := Ideal) u.L u.s u.t0 u.t1 u.t2 (FloatOps.ofBits .f32 0#32) (pay87 u.a u.i) u.x11 u.y11
/-- Head 0's decay over the chunk. -/
def e0 := pay96 (F := Ideal) u.L u.s u.t0 u.t1 u.t2 (FloatOps.ofBits .f32 0#32) (pay87 u.a u.i) u.x11 u.y11
/-- Head 1's decay over the chunk. -/
def e1 := pay97 (F := Ideal) u.L u.s u.t0 u.t1 u.t2 (FloatOps.ofBits .f32 0#32) (pay87 u.a u.i) u.x11 u.y11
/-- Head 2's decay over the chunk. -/
def e2 := k1_pay51 (F := Ideal) (pay98 u.L u.s u.t0 u.t1 u.t2 (FloatOps.ofBits .f32 0#32) (pay87 u.a u.i) u.x11 u.y11)
/-- Head 3's decay over the chunk. -/
def e3 := k1_pay97 u.cm
/-- The decays to the end. -/
def dk := k1_pay52 u.cm
/-- The solved system. -/
def uw := uwv u.m1 u.I u.df u.key u.vals u.rate u.ec
/-- The attention. -/
def att := pay49 u.key u.qry u.df
/-- What the states are read with. -/
def qe := pay51 u.m2 u.qry u.ec u.uw u.att
/-- What the states are updated with. -/
def w2 := k1_pay56 u.m5 u.key u.dk u.uw
/-- The read-out inside the chunk. -/
def lo := pay53 u.m2 u.uw u.att
/-- The first key head's gates. -/
def z0 := pay8 u.b0
/-- The second key head's gates. -/
def z1 := pay8 u.b1

/-- The chunk's inputs are those of the layer: head pair `hp`, first token `T`. -/
structure Ok (u : Blk) (P W : ℕ → ℕ → ℝ) (Al Dt : ℕ → ℝ) (hp T : ℕ) : Prop where
  hhp : hp < 8
  m1 : ∀ r s : Fin 256, u.m1 (ix2 r s) = if r.val / 64 = s.val / 64 ∧ s.val < r.val then 1#1 else 0#1
  m2 : ∀ r s : Fin 256, u.m2 (ix2 r s) = if r.val / 64 = s.val / 64 ∧ s.val ≤ r.val then 1#1 else 0#1
  L : ∀ r s : Fin 256, u.L (ix2 r s) = (((if r.val / 64 = s.val / 64 ∧ s.val ≤ r.val then 1 else 0 : ℝ) : ℝ) : EReal)
  I : ∀ r s : Fin 256, u.I (ix2 r s) = (((if r = s then 1 else 0 : ℝ) : ℝ) : EReal)
  m5 : ∀ (r : Fin 256) (n : Fin 512), u.m5 (ix2 r n) = if r.val / 64 = n.val / 128 then 1#1 else 0#1
  a : u.a = BitVec.ofNat 32 hp
  i : ∀ x : Fin 128, u.i (ix2 0 x) = BitVec.ofNat 32 x.val
  c0 : ∀ (r : Fin 8) (l : Fin 512), 5 ≤ r.val → u.c0 (ix2 r l) = ((pz P (T + (r - 5)) (768 * (2 * hp) + l) : ℝ) : EReal)
  c1 : ∀ (r : Fin 8) (l : Fin 512), 5 ≤ r.val → u.c1 (ix2 r l) = ((pz P (T + (r - 5)) (768 * (2 * hp + 1) + l) : ℝ) : EReal)
  b0 : ∀ (r : Fin 64) (l : Fin 768), u.b0 (ix2 r l) = ((P (T + r) (768 * (2 * hp) + l) : ℝ) : EReal)
  b1 : ∀ (r : Fin 64) (l : Fin 768), u.b1 (ix2 r l) = ((P (T + r) (768 * (2 * hp + 1) + l) : ℝ) : EReal)
  w0 : ∀ (t : Fin 4) (l : Fin 512), u.w0 (ix3 0 t l) = ((W (wch (2 * hp) l) t : ℝ) : EReal)
  w1 : ∀ (t : Fin 4) (l : Fin 512), u.w1 (ix3 0 t l) = ((W (wch (2 * hp + 1) l) t : ℝ) : EReal)
  s : ∀ (r : Fin 64) (l : Fin 128), u.s (ix2 r l) = ((P (T + r) (12288 + l) : ℝ) : EReal)
  x00 : u.x00 = ((-Real.exp (Al (4 * hp + 0)) : ℝ) : EReal)
  x01 : u.x01 = ((-Real.exp (Al (4 * hp + 1)) : ℝ) : EReal)
  x10 : u.x10 = ((-Real.exp (Al (4 * hp + 2)) : ℝ) : EReal)
  x11 : u.x11 = ((-Real.exp (Al (4 * hp + 3)) : ℝ) : EReal)
  y00 : u.y00 = ((Dt (4 * hp + 0) : ℝ) : EReal)
  y01 : u.y01 = ((Dt (4 * hp + 1) : ℝ) : EReal)
  y10 : u.y10 = ((Dt (4 * hp + 2) : ℝ) : EReal)
  y11 : u.y11 = ((Dt (4 * hp + 3) : ℝ) : EReal)

/-- What meets the states, and that it leads to the recurrence's read-outs and states. -/
structure Res (q l : FVec Ideal S256x128 .f32) (w : FVec Ideal S512x256 .f32) (e0 e1 e2 e3 : FVec Ideal S1x1 .f32)
    (P W : ℕ → ℕ → ℝ) (Al Dt : ℕ → ℝ) (hp T : ℕ) (Qe Lo W2 : ℕ → ℕ → ℕ → ℝ) (E : ℕ → ℝ) : Prop where
  q : ∀ (r : Fin 256) (d : Fin 128), q (ix2 r d) = ((Qe (r / 64) (r % 64) d : ℝ) : EReal)
  l : ∀ (r : Fin 256) (d : Fin 128), l (ix2 r d) = ((Lo (r / 64) (r % 64) d : ℝ) : EReal)
  w : ∀ (r : Fin 512) (c : Fin 256), w (ix2 r c) = ((W2 (r / 128) (r % 128) c : ℝ) : EReal)
  e0 : e0 (ix2 0 0) = ((E 0 : ℝ) : EReal)
  e1 : e1 (ix2 0 0) = ((E 1 : ℝ) : EReal)
  e2 : e2 (ix2 0 0) = ((E 2 : ℝ) : EReal)
  e3 : e3 (ix2 0 0) = ((E 3 : ℝ) : EReal)
  out : ∀ b j e, b < 4 → j < 64 → e < 128 → oN Qe Lo (Sh P W Al Dt (4 * hp + b) T) b j e = oh P W Al Dt (4 * hp + b) (T + j) e
  state : ∀ b d e, b < 4 → e < 128 → sN (E b) W2 (Sh P W Al Dt (4 * hp + b) T) b d e = Sh P W Al Dt (4 * hp + b) (T + 64) d e

/-- The exponential of a column's entry at a chunk's last row. -/
theorem last0 (c : FVec Ideal S256x1 .f32) : exp (extractStridedSlice S1x1 ![63, 0] c slices_S256x1_o63_0_S1x1) (ix2 0 0) = Ideal.exp (c (ix2 ⟨63, by omega⟩ 0)) := by
  pointwise []

/-- The second block's last row. -/
theorem last1 (c : FVec Ideal S256x1 .f32) : exp (extractStridedSlice S1x1 ![127, 0] c slices_S256x1_o127_0_S1x1) (ix2 0 0) = Ideal.exp (c (ix2 ⟨127, by omega⟩ 0)) := by
  pointwise []

/-- The third block's last row. -/
theorem last2 (c : FVec Ideal S256x1 .f32) : exp (extractStridedSlice S1x1 ![191, 0] c slices_S256x1_o191_0_S1x1) (ix2 0 0) = Ideal.exp (c (ix2 ⟨191, by omega⟩ 0)) := by
  pointwise []

/-- The exponential of a column less a row. -/
theorem dfv_at (c : FVec Ideal S256x1 .f32) (ρ : FVec Ideal S1x256 .f32) (r s : Fin 256) :
    exp (subf (broadcastTo S256x256 c broadcasts_S256x1_S256x256) (broadcastTo S256x256 ρ broadcasts_S1x256_S256x256)) (ix2 r s)
      = Ideal.exp (c (ix2 r 0) - ρ (ix2 0 s)) := by
  pointwise []

section

variable {u} {P W : ℕ → ℕ → ℝ} {Al Dt : ℕ → ℝ} {hp T : ℕ} (h : u.Ok P W Al Dt hp T)

/-- The convolved rows of a head pair's two key heads. -/
def cc (P W : ℕ → ℕ → ℝ) (hp T : ℕ) (kh j l : ℕ) : ℝ := co P W (2 * hp + kh) (T + j) l

/-- The key, query, value, rate and log decay of a head of the pair at a token of the chunk. -/
def Kb (P W : ℕ → ℕ → ℝ) (hp T b j d : ℕ) : ℝ := kn (cc P W hp T (b / 2) j) d
/-- A head's query. -/
def Qb (P W : ℕ → ℕ → ℝ) (hp T b j d : ℕ) : ℝ := qn (cc P W hp T (b / 2) j) d
/-- A head's value. -/
def Vb (P W : ℕ → ℕ → ℝ) (hp T b j e : ℕ) : ℝ := cc P W hp T (b / 2) j (256 + 128 * (b % 2) + e)
/-- A head's write strength. -/
def Bb (P : ℕ → ℕ → ℝ) (hp T b j : ℕ) : ℝ := sig (P (T + j) (12288 + (4 * (2 * hp + b / 2) + b % 2)))
/-- A head's log decay. -/
def Gb (P : ℕ → ℕ → ℝ) (Al Dt : ℕ → ℝ) (hp T b j : ℕ) : ℝ :=
  -Real.exp (Al (4 * hp + b)) * sp (P (T + j) (12288 + (4 * (2 * hp + b / 2) + 2 + b % 2)) + Dt (4 * hp + b))

/-- A padded row, three on, is the row. -/
theorem pz_row (P : ℕ → ℕ → ℝ) (T r l : ℕ) : pz P (T + (r + 3)) l = P (T + r) l := by
  rw [pz, if_neg (by omega)]
  congr 1

include h

/-- The first key head's convolved rows are the layer's. -/
theorem cv0_val (r : Fin 64) (l : Fin 512) : u.cv0 (ix2 r l) = ((cc P W hp T 0 r l : ℝ) : EReal) := by
  refine (conv_val u.c0 u.b0 u.w0 (fun n l => pz P (T + n) (768 * (2 * hp) + l)) (fun l => W (wch (2 * hp) l)) h.c0 ?_ h.w0 r l).trans ?_
  · intro r l; rw [pz_row, h.b0]
  · simp only [cc, co, Nat.add_zero, Nat.add_assoc]

/-- The second key head's convolved rows are the layer's. -/
theorem cv1_val (r : Fin 64) (l : Fin 512) : u.cv1 (ix2 r l) = ((cc P W hp T 1 r l : ℝ) : EReal) := by
  refine (conv_val u.c1 u.b1 u.w1 (fun n l => pz P (T + n) (768 * (2 * hp + 1) + l)) (fun l => W (wch (2 * hp + 1) l)) h.c1 ?_ h.w1 r l).trans ?_
  · intro r l; rw [pz_row, h.b1]
  · simp only [cc, co, Nat.add_assoc]

/-- The keys are the layer's. -/
theorem key_val (r : Fin 256) (d : Fin 128) : u.key (ix2 r d) = ((Kb P W hp T (r / 64) (r % 64) d : ℝ) : EReal) :=
  keys_val u.cv0 u.cv1 (cc P W hp T) (cv0_val h) (cv1_val h) r d

/-- The queries are the layer's. -/
theorem qry_val (r : Fin 256) (d : Fin 128) : u.qry (ix2 r d) = ((Qb P W hp T (r / 64) (r % 64) d : ℝ) : EReal) :=
  queries_val u.cv0 u.cv1 (cc P W hp T) (cv0_val h) (cv1_val h) r d

/-- The values are the layer's. -/
theorem vals_val (r : Fin 256) (d : Fin 128) : u.vals (ix2 r d) = ((Vb P W hp T (r / 64) (r % 64) d : ℝ) : EReal) :=
  values_val u.cv0 u.cv1 (cc P W hp T) (cv0_val h) (cv1_val h) r d

/-- The write strengths are the layer's. -/
theorem rate_val (r : Fin 256) : u.rate (ix2 r 0) = ((Bb P hp T (r / 64) (r % 64) : ℝ) : EReal) := by
  unfold rate
  rw [h.a]
  exact rates_val hp h.hhp u.i h.i u.s (fun r l => P (T + r) (12288 + l)) h.s r

/-- The log decays are the layer's. -/
theorem dec_val (r : Fin 256) : u.dec (ix2 r 0) = ((Gb P Al Dt hp T (r / 64) (r % 64) : ℝ) : EReal) := by
  unfold dec t0 t1 t2
  rw [h.a]
  exact decays_val hp h.hhp u.i h.i u.s (fun r l => P (T + r) (12288 + l)) h.s (fun b => -Real.exp (Al (4 * hp + b))) (fun b => Dt (4 * hp + b))
    _ _ _ _ _ _ _ _ h.x00 h.x01 h.x10 h.x11 h.y00 h.y01 h.y10 h.y11 r

/-- The cumulated log decays are the layer's. -/
theorem cm_val (r : Fin 256) : u.cm (ix2 r 0) = ((cum (Gb P Al Dt hp T (r / 64)) (r % 64 + 1) : ℝ) : EReal) :=
  cumv_val u.L u.dec (Gb P Al Dt hp T) h.L (dec_val h) r

/-- The decays since the start is the layer's. -/
theorem ec_val (r : Fin 256) : u.ec (ix2 r 0) = ((Real.exp (cum (Gb P Al Dt hp T (r / 64)) (r % 64 + 1)) : ℝ) : EReal) := by
  rw [← exp_coe, ← cm_val h]
  rfl

/-- The decays between rows are the layer's. -/
theorem df_val (r s : Fin 256) : u.df (ix2 r s)
    = ((Real.exp (cum (Gb P Al Dt hp T (r / 64)) (r % 64 + 1) - cum (Gb P Al Dt hp T (s / 64)) (s % 64 + 1)) : ℝ) : EReal) := by
  rw [← exp_coe, EReal.coe_sub, ← cm_val h, ← rowv_val u.L u.dec (Gb P Al Dt hp T) h.L (dec_val h)]
  exact dfv_at (cumv u.L u.dec) (rowv u.L u.dec) r s

/-- The decay at a block's last row. -/
theorem e_aux (r : Fin 256) (b : ℕ) (hr : r.val = 64 * b + 63) : Ideal.exp (u.cm (ix2 r 0)) = ((Real.exp (cum (Gb P Al Dt hp T b) 64) : ℝ) : EReal) := by
  rw [cm_val h, exp_coe, show r.val / 64 = b by omega, show r.val % 64 = 63 by omega]

/-- Head 0's decay over the chunk is the layer's. -/
theorem e0_val : u.e0 (ix2 0 0) = ((Real.exp (cum (Gb P Al Dt hp T 0) 64) : ℝ) : EReal) := by
  exact (last0 u.cm).trans (e_aux h ⟨63, by omega⟩ 0 rfl)

/-- Head 1's decay over the chunk is the layer's. -/
theorem e1_val : u.e1 (ix2 0 0) = ((Real.exp (cum (Gb P Al Dt hp T 1) 64) : ℝ) : EReal) := by
  exact (last1 u.cm).trans (e_aux h ⟨127, by omega⟩ 1 rfl)

/-- Head 2's decay over the chunk is the layer's. -/
theorem e2_val : u.e2 (ix2 0 0) = ((Real.exp (cum (Gb P Al Dt hp T 2) 64) : ℝ) : EReal) := by
  exact (last2 u.cm).trans (e_aux h ⟨191, by omega⟩ 2 rfl)

/-- Head 3's decay over the chunk is the layer's. -/
theorem e3_val : u.e3 (ix2 0 0) = ((Real.exp (cum (Gb P Al Dt hp T 3) 64) : ℝ) : EReal) := by
  refine Eq.trans ?_ (e_aux h ⟨255, by omega⟩ 3 rfl)
  unfold e3
  pointwise [k1_pay97]

/-- The decays to the end is the layer's. -/
theorem dk_val (r : Fin 256) : u.dk (ix2 r 0)
    = ((Real.exp (cum (Gb P Al Dt hp T (r / 64)) 64 - cum (Gb P Al Dt hp T (r / 64)) (r % 64 + 1)) : ℝ) : EReal) := by
  have hr := r.isLt
  unfold dk
  pointwise [k1_pay52]
  simp only [cm_val h]
  by_cases a0 : (r : ℕ) < 64
  · rw [dif_pos a0, ← EReal.coe_sub, exp_coe, show r.val / 64 = 0 by omega]
    rfl
  rw [dif_neg a0]
  by_cases a1 : (r : ℕ) - 64 < 64
  · rw [dif_pos a1, ← EReal.coe_sub, exp_coe, show r.val / 64 = 1 by omega]
    rfl
  rw [dif_neg a1]
  by_cases a2 : (r : ℕ) - 64 - 64 < 64
  · rw [dif_pos a2, ← EReal.coe_sub, exp_coe, show r.val / 64 = 2 by omega]
    rfl
  rw [dif_neg a2, ← EReal.coe_sub, exp_coe, show r.val / 64 = 3 by omega]
  rfl

/-- The chunk's result. -/
theorem res : ∃ (Qe Lo W2 : ℕ → ℕ → ℕ → ℝ) (E : ℕ → ℝ), Res u.qe u.lo u.w2 u.e0 u.e1 u.e2 u.e3 P W Al Dt hp T Qe Lo W2 E := by
  obtain ⟨X, hu, hX⟩ := uwv_val u.m1 u.I u.df u.key u.vals u.rate u.ec (Kb P W hp T) (Vb P W hp T) (Bb P hp T) (Gb P Al Dt hp T)
    h.m1 h.I (df_val h) (key_val h) (vals_val h) (rate_val h) (ec_val h)
  have hol : ∀ r c : Fin 256, pay50 u.m2 u.uw u.att (ix2 r c)
      = ((olR (Kb P W hp T) (Qb P W hp T) X (Gb P Al Dt hp T) (r / 64) (r % 64) c : ℝ) : EReal) :=
    fun r c => olv_val u.m2 u.uw u.df u.key u.qry (Kb P W hp T) (Qb P W hp T) X (Gb P Al Dt hp T) h.m2 (df_val h) (key_val h) (qry_val h) hu r c
  refine ⟨fun b j d => Qb P W hp T b j d * Real.exp (cum (Gb P Al Dt hp T b) (j + 1)) - olR (Kb P W hp T) (Qb P W hp T) X (Gb P Al Dt hp T) b j (128 + d),
    olR (Kb P W hp T) (Qb P W hp T) X (Gb P Al Dt hp T), w2R (Kb P W hp T) X (Gb P Al Dt hp T), fun b => Real.exp (cum (Gb P Al Dt hp T b) 64),
    ?_, ?_, ?_, e0_val h, e1_val h, e2_val h, e3_val h, ?_, ?_⟩
  · intro r d
    unfold qe
    pointwise [pay51]
    rw [hol, qry_val h, ec_val h, ← EReal.coe_mul, ← EReal.coe_sub]
  · intro r d
    unfold lo
    pointwise [pay53]
    rw [hol]
  · exact w2_val u.m5 u.uw u.key u.dk (Kb P W hp T) X (Gb P Al Dt hp T) h.m5 (key_val h) (dk_val h) hu
  all_goals
    intro b
    have e1 : (4 * hp + b) / 2 = 2 * hp + b / 2 := by omega
    have e2 : (4 * hp + b) % 2 = b % 2 := by omega
    have hK : Kb P W hp T b = fun j => keyh P W (4 * hp + b) (T + j) := by
      funext j d; simp only [Kb, keyh, e1]; rfl
    have hQ : Qb P W hp T b = fun j => qryh P W (4 * hp + b) (T + j) := by
      funext j d; simp only [Qb, qryh, e1]; rfl
    have hV : Vb P W hp T b = fun j => valh P W (4 * hp + b) (T + j) := by
      funext j d; simp only [Vb, valh, e1, e2]; rfl
    have hG : Gb P Al Dt hp T b = fun j => gh P Al Dt (4 * hp + b) (T + j) := by
      funext j; simp only [Gb, gh, e1, e2, Nat.add_assoc]
    have hB : Bb P hp T b = fun j => bh P (4 * hp + b) (T + j) := by
      funext j; simp only [Bb, bh, e1, e2, Nat.add_assoc]
  · intro j e hb hj he
    exact chunk_out (qryh P W (4 * hp + b)) (keyh P W (4 * hp + b)) (valh P W (4 * hp + b)) (gh P Al Dt (4 * hp + b)) (bh P (4 * hp + b))
      (Kb P W hp T) (Qb P W hp T) (Vb P W hp T) X (Gb P Al Dt hp T) (Bb P hp T) T b hK hQ hV hG hB (fun j c hj hc => hX b j c hb hj hc) j e hj he
  · intro d e hb he
    exact chunk_state (keyh P W (4 * hp + b)) (valh P W (4 * hp + b)) (gh P Al Dt (4 * hp + b)) (bh P (4 * hp + b))
      (Kb P W hp T) (Vb P W hp T) X (Gb P Al Dt hp T) (Bb P hp T) T b hK hV hG hB (fun j c hj hc => hX b j c hb hj hc) d e he

end

end Blk

end Cert.CoreV

end
-- ==== Proof.CoreTripPieces.lean ====
/- One trip of the second call's chunk loop: the pieces it stores, told by the two chunks it works on. -/
module

public import proofs.«01_k».proof.Proof.CoreUnit
public import proofs.«01_k».proof.Proof.CoreIdealTrip

@[expose] public section

set_option maxRecDepth 16384

noncomputable section

namespace Cert.CoreV

open Cert.LayerIdeal Cert.LayerIdeal.Gen Cert.Gdn Idealize.ShloMosaic Idealize.ShloMosaic.TcCoe Idealize.SL.Sem
open scoped BigOperators

/-- What a trip of the chunk loop runs over: the windows and scratches, the masks and what the input windows hold. -/
structure Env where
  c : Dev nD
  i : grid1.Coords
  arg2 : Memref sig .tc .vmem S512x1536 .bf16
  harg2 : arg2.IsWhole
  arg3 : Memref sig .tc .vmem S512x128 .bf16
  harg3 : arg3.IsWhole
  arg4 : Memref sig .tc .vmem S2x4x512 .f32
  harg4 : arg4.IsWhole
  arg5 : Memref sig .tc .smem S2x32 .f32
  harg5 : arg5.IsWhole
  arg6 : Memref sig .tc .vmem S1x128 .f32
  harg6 : arg6.IsWhole
  arg7 : Memref sig .tc .vmem S512x512 .bf16
  harg7 : arg7.IsWhole
  arg8 : Memref sig .tc .vmem S4x128x128 .f32
  harg8 : arg8.IsWhole
  arg9 : Memref sig .tc .vmem S2x8x512 .f32
  harg9 : arg9.IsWhole
  arg0 : BitVec 32
  v55 : IVec S256x256 1
  v57 : IVec S256x256 1
  v59 : FVec Ideal S256x256 .f32
  v62 : FVec Ideal S256x256 .f32
  v64 : IVec S256x512 32
  v88 : IVec S256x512 32
  c128_i32 : BitVec 32
  v90 : IVec S256x512 32
  v91 : IVec S256x512 32
  v114 : IVec S1x128 32
  v115 : Vec Ideal S1x128 .f32
  X_arg2 : BufTy.Contents (Elt Ideal) arg2.view.ty
  X_arg3 : BufTy.Contents (Elt Ideal) arg3.view.ty
  X_arg4 : BufTy.Contents (Elt Ideal) arg4.view.ty
  X_arg5 : BufTy.Contents (Elt Ideal) arg5.view.ty

namespace Env

variable (v : Env)

/-- The pieces of one trip. -/
abbrev trip (k : Fin k1_t1_loop.trips) (f7 : BufTy.Contents (Elt Ideal) v.arg7.view.ty) (f8 : BufTy.Contents (Elt Ideal) v.arg8.view.ty)
    (f9 : BufTy.Contents (Elt Ideal) v.arg9.view.ty) :=
  tripL_k1_t1 (F := Ideal) Variants.none v.c none v.i v.arg2 v.harg2 v.arg3 v.harg3 v.arg4 v.harg4 v.arg5 v.harg5 v.arg6 v.harg6 v.arg7 v.harg7 v.arg8 v.harg8 v.arg9 v.harg9 v.arg0 v.v55 v.v57 v.v59 v.v62 v.v64 v.v88 v.c128_i32 v.v90 v.v91 v.v114 v.v115 v.X_arg2 v.X_arg3 v.X_arg4 v.X_arg5 k f7 f8 f9

/-- The pieces of the first `n` trips. -/
abbrev pb (G7 : BufTy.Contents (Elt Ideal) v.arg7.view.ty) (G8 : BufTy.Contents (Elt Ideal) v.arg8.view.ty)
    (G9 : BufTy.Contents (Elt Ideal) v.arg9.view.ty) (n : ℕ) :=
  pb_k1_t1 (F := Ideal) Variants.none v.c none v.i v.arg2 v.harg2 v.arg3 v.harg3 v.arg4 v.harg4 v.arg5 v.harg5 v.arg6 v.harg6 v.arg7 v.harg7 v.arg8 v.harg8 v.arg9 v.harg9 v.arg0 v.v55 v.v57 v.v59 v.v62 v.v64 v.v88 v.c128_i32 v.v90 v.v91 v.v114 v.v115 v.X_arg2 v.X_arg3 v.X_arg4 v.X_arg5 G7 G8 G9 n

/-- The blocks of a trip's chunk. -/
def blkA (k : Fin k1_t1_loop.trips) (n : Fin 2) : Vec Ideal S64x768 .bf16 :=
  shapeCast S64x768 (v.arg2.view.readAt (Elt Ideal) (Rect.unit (s := S512x1536) (k1_off1 k (BitVec.ofNat 32 n)) S64x768.size (k1_off1_inb k n)).toLoadRect v.X_arg2) shapeCasts_S64x768_S64x768
/-- The second head's block. -/
def blkB (k : Fin k1_t1_loop.trips) (n : Fin 2) : Vec Ideal S64x768 .bf16 :=
  shapeCast S64x768 (v.arg2.view.readAt (Elt Ideal) (Rect.unit (s := S512x1536) (k1_off2 k (BitVec.ofNat 32 n)) S64x768.size (k1_off2_inb k n)).toLoadRect v.X_arg2) shapeCasts_S64x768_S64x768
/-- The gates' block. -/
def blkG (k : Fin k1_t1_loop.trips) (n : Fin 2) : Vec Ideal S64x128 .bf16 :=
  shapeCast S64x128 (v.arg3.view.readAt (Elt Ideal) (Rect.unit (s := S512x128) (k1_off3 k (BitVec.ofNat 32 n)) S64x128.size (k1_off3_inb k n)).toLoadRect v.X_arg3) shapeCasts_S64x128_S64x128
/-- The first head's weights. -/
def wA : Vec Ideal S1x4x512 .f32 := v.arg4.view.readAt (Elt Ideal) (Rect.unit (s := S2x4x512) ![0, 0, 0] S1x4x512.size inb_S2x4x512_S1x4x512_0_0_0).toLoadRect v.X_arg4
/-- The second head's weights. -/
def wB : Vec Ideal S1x4x512 .f32 := v.arg4.view.readAt (Elt Ideal) (Rect.unit (s := S2x4x512) ![1, 0, 0] S1x4x512.size inb_S2x4x512_S1x4x512_1_0_0).toLoadRect v.X_arg4
/-- A rate of decay. -/
def sx (p q : Fin 2) : Ideal .f32 :=
  v.arg5.view.readAt (Elt Ideal) (Rect.unit (s := S2x32) (k1_off4 v.i (BitVec.ofNat 32 p) (BitVec.ofNat 32 q)) S1x1.size (k1_off4_inb v.i p q)).toLoadRect v.X_arg5 (Shape.Idx.first (numel1_S1x1 ▸ Nat.one_pos))
/-- A time bias. -/
def sy (p q : Fin 2) : Ideal .f32 :=
  v.arg5.view.readAt (Elt Ideal) (Rect.unit (s := S2x32) (k1_off5 v.i (BitVec.ofNat 32 p) (BitVec.ofNat 32 q)) S1x1.size (k1_off5_inb v.i p q)).toLoadRect v.X_arg5 (Shape.Idx.first (numel1_S1x1 ▸ Nat.one_pos))

/-- A chunk of a trip, over what is carried into it. -/
def blk (k : Fin k1_t1_loop.trips) (n : Fin 2) (c0 c1 : FVec Ideal S8x512 .f32) (s : FVec Ideal S64x128 .f32) : Blk where
  m1 := v.v55
  m2 := v.v57
  L := v.v59
  I := v.v62
  m5 := k1_pay1 v.v64 v.v88 v.c128_i32 v.v90 v.v91
  a := v.arg0
  i := v.v114
  c0 := c0
  c1 := c1
  b0 := v.blkA k n
  b1 := v.blkB k n
  w0 := v.wA
  w1 := v.wB
  s := s
  x00 := v.sx 0 0
  x01 := v.sx 0 1
  x10 := v.sx 1 0
  x11 := v.sx 1 1
  y00 := v.sy 0 0
  y01 := v.sy 0 1
  y10 := v.sy 1 0
  y11 := v.sy 1 1

/-- The carried rows and states as read at the trip's start. -/
def cr0 (f9 : BufTy.Contents (Elt Ideal) v.arg9.view.ty) : Vec Ideal S1x8x512 .f32 :=
  v.arg9.view.readAt (Elt Ideal) (Rect.unit (s := S2x8x512) ![0, 0, 0] S1x8x512.size inb_S2x8x512_S1x8x512_0_0_0).toLoadRect f9
/-- The second head's carried rows. -/
def cr1 (f9 : BufTy.Contents (Elt Ideal) v.arg9.view.ty) : Vec Ideal S1x8x512 .f32 :=
  v.arg9.view.readAt (Elt Ideal) (Rect.unit (s := S2x8x512) ![1, 0, 0] S1x8x512.size inb_S2x8x512_S1x8x512_1_0_0).toLoadRect f9
/-- Head 0's state. -/
def st0 (f8 : BufTy.Contents (Elt Ideal) v.arg8.view.ty) : Vec Ideal S1x128x128 .f32 :=
  v.arg8.view.readAt (Elt Ideal) (Rect.unit (s := S4x128x128) ![0, 0, 0] S1x128x128.size inb_S4x128x128_S1x128x128_0_0_0).toLoadRect f8
/-- Head 1's state. -/
def st1 (f8 : BufTy.Contents (Elt Ideal) v.arg8.view.ty) : Vec Ideal S1x128x128 .f32 :=
  v.arg8.view.readAt (Elt Ideal) (Rect.unit (s := S4x128x128) ![1, 0, 0] S1x128x128.size inb_S4x128x128_S1x128x128_1_0_0).toLoadRect f8
/-- Head 2's state. -/
def st2 (f8 : BufTy.Contents (Elt Ideal) v.arg8.view.ty) : Vec Ideal S1x128x128 .f32 :=
  v.arg8.view.readAt (Elt Ideal) (Rect.unit (s := S4x128x128) ![2, 0, 0] S1x128x128.size inb_S4x128x128_S1x128x128_2_0_0).toLoadRect f8
/-- Head 3's state. -/
def st3 (f8 : BufTy.Contents (Elt Ideal) v.arg8.view.ty) : Vec Ideal S1x128x128 .f32 :=
  v.arg8.view.readAt (Elt Ideal) (Rect.unit (s := S4x128x128) ![3, 0, 0] S1x128x128.size inb_S4x128x128_S1x128x128_3_0_0).toLoadRect f8

/-- The trip's two chunks. -/
def bk0 (k : Fin k1_t1_loop.trips) (f9 : BufTy.Contents (Elt Ideal) v.arg9.view.ty) : Blk := v.blk k 0 (k1_pay4 (v.cr0 f9)) (k1_pay4 (v.cr1 f9)) (pay14 (v.blkG k 0))
/-- The second chunk's inputs. -/
def bk1 (k : Fin k1_t1_loop.trips) : Blk := v.blk k 1 (pay7 (v.blkA k 0)) (pay12 (pay4 (v.blkB k 0))) (pay14 (v.blkG k 1))

/-! The values of a trip, in the order they are computed. -/

/-- First chunk: the first key head's convolved rows. -/
def p1 (k : Fin k1_t1_loop.trips) (f9 : BufTy.Contents (Elt Ideal) v.arg9.view.ty) :=
  pay6 (F := Ideal) (v.cr0 f9) (v.blkA k 0) v.wA

/-- First chunk: the second key head's convolved rows. -/
def p5 (k : Fin k1_t1_loop.trips) (f9 : BufTy.Contents (Elt Ideal) v.arg9.view.ty) :=
  pay11 (F := Ideal) (k1_pay4 (v.cr1 f9)) (pay4 (v.blkB k 0)) v.wB

/-- First chunk: the keys. -/
def p12 (k : Fin k1_t1_loop.trips) (f9 : BufTy.Contents (Elt Ideal) v.arg9.view.ty) :=
  pay19 (F := Ideal) (v.p5 k f9) (k1_pay16 (v.p1 k f9)) (pay17 (v.p1 k f9)) pay18

/-- First chunk: the queries. -/
def p13 (k : Fin k1_t1_loop.trips) (f9 : BufTy.Contents (Elt Ideal) v.arg9.view.ty) :=
  k1_pay20 (F := Ideal) (v.p5 k f9) (k1_pay17 (v.p1 k f9))

/-- First chunk: the values. -/
def p14 (k : Fin k1_t1_loop.trips) (f9 : BufTy.Contents (Elt Ideal) v.arg9.view.ty) :=
  k1_pay21 (F := Ideal) (v.p1 k f9) (v.p5 k f9)

/-- First chunk: the gates' block. -/
def p8 (k : Fin k1_t1_loop.trips) :=
  pay14 (F := Ideal) (v.blkG k 0)

/-- First chunk: the write strengths. -/
def p35 (k : Fin k1_t1_loop.trips) :=
  k1_pay39 (F := Ideal) (pay23 (pay22 v.arg0 v.v114 (v.p8 k))) (pay25 v.v114 (v.p8 k) (Scalar.muli (2#32) v.arg0) 0#32) (k1_pay33 v.arg0 v.v114 (v.p8 k)) (k1_pay36 v.arg0 v.v114 (v.p8 k))

/-- First chunk: first head's log decay. -/
def p19 (k : Fin k1_t1_loop.trips) :=
  k1_pay24 (F := Ideal) v.arg0 v.v114 (v.p8 k) (v.sx 0 0) (v.sy 0 0)

/-- First chunk: second head's log decay. -/
def p26 (k : Fin k1_t1_loop.trips) :=
  pay27 (F := Ideal) (v.sx 0 1) (pay26 v.arg0 v.v114 (v.p8 k) (v.sy 0 1))

/-- First chunk: third head's log decay. -/
def p30 (k : Fin k1_t1_loop.trips) :=
  pay31 (F := Ideal) (v.sx 1 0) (k1_pay34 v.arg0 v.v114 (v.p8 k) (v.sy 1 0)) (FloatOps.ofBits .f32 0#32) (pay30 v.arg0 v.v114 (v.p8 k) (v.sy 1 0))

/-- First chunk: the fourth head's lane. -/
def p32 (k : Fin k1_t1_loop.trips) :=
  pay33 (F := Ideal) v.arg0 v.v114 (v.p8 k)

/-- First chunk: the log decays. -/
def pdec (k : Fin k1_t1_loop.trips) :=
  pay35 (F := Ideal) (v.p19 k) (v.p26 k) (v.p30 k) (v.p32 k) (v.sx 1 1) (v.sy 1 1)

/-- First chunk: the cumulated log decays. -/
def p36 (k : Fin k1_t1_loop.trips) :=
  pay39 (F := Ideal) v.v59 (v.p19 k) (v.p26 k) (v.p30 k) (v.p32 k) (v.sx 1 1) (v.sy 1 1)

/-- First chunk: the decays between rows. -/
def p37 (k : Fin k1_t1_loop.trips) :=
  pay40 (F := Ideal) v.v59 (v.p19 k) (v.p26 k) (v.p30 k) (v.p32 k) (v.sx 1 1) (v.sy 1 1)

/-- First chunk: the decays since the start. -/
def p38 (k : Fin k1_t1_loop.trips) :=
  pay41 (F := Ideal) v.v59 (v.p19 k) (v.p26 k) (v.p30 k) (v.p32 k) (v.sx 1 1) (v.sy 1 1)

/-- First chunk: head 0's decay over the chunk. -/
def p39 (k : Fin k1_t1_loop.trips) :=
  pay42 (F := Ideal) v.v59 (v.p19 k) (v.p26 k) (v.p30 k) (v.p32 k) (v.sx 1 1) (v.sy 1 1)

/-- First chunk: head 1's decay over the chunk. -/
def p40 (k : Fin k1_t1_loop.trips) :=
  pay43 (F := Ideal) v.v59 (v.p19 k) (v.p26 k) (v.p30 k) (v.p32 k) (v.sx 1 1) (v.sy 1 1)

/-- First chunk: head 2's decay over the chunk. -/
def p41 (k : Fin k1_t1_loop.trips) :=
  pay44 (F := Ideal) v.v59 (v.p19 k) (v.p26 k) (v.p30 k) (v.p32 k) (v.sx 1 1) (v.sy 1 1)

/-- First chunk: head 3's decay over the chunk. -/
def p42 (k : Fin k1_t1_loop.trips) :=
  pay45 (F := Ideal) v.v59 (v.p19 k) (v.p26 k) (v.p30 k) (v.p32 k) (v.sx 1 1) (v.sy 1 1)

/-- First chunk: the decays to the end. -/
def p44 (k : Fin k1_t1_loop.trips) :=
  pay47 (F := Ideal) (v.p36 k) (pay46 (F := Ideal) v.v59 (v.p19 k) (v.p26 k) (v.p30 k) (v.p32 k) (v.sx 1 1) (v.sy 1 1))

/-- First chunk: the solved system. -/
def p45 (k : Fin k1_t1_loop.trips) (f9 : BufTy.Contents (Elt Ideal) v.arg9.view.ty) :=
  k1_pay53 (F := Ideal) v.v55 v.v62 (v.p12 k f9) (v.p14 k f9) (v.p35 k) (v.p37 k) (v.p38 k)

/-- First chunk: the attention. -/
def p46 (k : Fin k1_t1_loop.trips) (f9 : BufTy.Contents (Elt Ideal) v.arg9.view.ty) :=
  pay49 (F := Ideal) (v.p12 k f9) (v.p13 k f9) (v.p37 k)

/-- First chunk: what the states are read with. -/
def p47 (k : Fin k1_t1_loop.trips) (f9 : BufTy.Contents (Elt Ideal) v.arg9.view.ty) :=
  pay51 (F := Ideal) v.v57 (v.p13 k f9) (v.p38 k) (v.p45 k f9) (v.p46 k f9)

/-- First chunk: what the states are updated with. -/
def p48 (k : Fin k1_t1_loop.trips) (f9 : BufTy.Contents (Elt Ideal) v.arg9.view.ty) :=
  k1_pay56 (F := Ideal) (k1_pay1 v.v64 v.v88 v.c128_i32 v.v90 v.v91) (v.p12 k f9) (v.p44 k) (v.p45 k f9)

/-- First chunk: the read-out inside the chunk. -/
def p49 (k : Fin k1_t1_loop.trips) (f9 : BufTy.Contents (Elt Ideal) v.arg9.view.ty) :=
  pay53 (F := Ideal) v.v57 (v.p45 k f9) (v.p46 k f9)

/-- First chunk: the first key head's gates. -/
def p3 (k : Fin k1_t1_loop.trips) :=
  pay8 (F := Ideal) (v.blkA k 0)

/-- First chunk: the second key head's gates. -/
def p7 (k : Fin k1_t1_loop.trips) :=
  k1_pay62 (F := Ideal) (pay4 (v.blkB k 0))

/-- Second chunk: the first key head's convolved rows. -/
def q50 (k : Fin k1_t1_loop.trips) :=
  pay56 (F := Ideal) (pay7 (v.blkA k 0)) (v.blkA k 1) v.wA

/-- Second chunk: the second key head's convolved rows. -/
def q53 (k : Fin k1_t1_loop.trips) :=
  pay61 (F := Ideal) (pay12 (pay4 (v.blkB k 0))) (v.blkB k 1) v.wB

/-- Second chunk: the keys. -/
def q60 (k : Fin k1_t1_loop.trips) :=
  pay68 (F := Ideal) (v.q53 k) (k1_pay16 (v.q50 k)) (pay67 (v.q50 k))

/-- Second chunk: the queries. -/
def q61 (k : Fin k1_t1_loop.trips) :=
  k1_pay20 (F := Ideal) (v.q53 k) (k1_pay17 (v.q50 k))

/-- Second chunk: the values. -/
def q62 (k : Fin k1_t1_loop.trips) :=
  k1_pay21 (F := Ideal) (v.q50 k) (v.q53 k)

/-- Second chunk: the gates' block. -/
def q56 (k : Fin k1_t1_loop.trips) :=
  pay14 (F := Ideal) (v.blkG k 1)

/-- Second chunk: the write strengths. -/
def q75 (k : Fin k1_t1_loop.trips) :=
  k1_pay39 (F := Ideal) (pay72 (v.q56 k) (pay71 v.arg0 v.v114) (FloatOps.ofBits .f32 0#32)) (k1_pay25 v.arg0 v.v114 (v.q56 k)) (k1_pay33 v.arg0 v.v114 (v.q56 k)) (k1_pay36 v.arg0 v.v114 (v.q56 k))

/-- Second chunk: the first head's log decay. -/
def q64 (k : Fin k1_t1_loop.trips) :=
  k1_pay24 (F := Ideal) v.arg0 v.v114 (v.q56 k) (v.sx 0 0) (v.sy 0 0)

/-- Second chunk: the second head's log decay. -/
def q70 (k : Fin k1_t1_loop.trips) :=
  pay82 (F := Ideal) (v.sx 0 1) (k1_pay27 v.arg0 v.v114 (v.q56 k) (v.sy 0 1)) (k1_pay29 v.arg0 v.v114 (v.q56 k) (v.sy 0 1)) (k1_pay30 v.arg0 v.v114 (v.q56 k) (v.sy 0 1)) (pay80 v.arg0 v.v114 (v.q56 k) (v.sy 0 1)) pay81

/-- Second chunk: the third head's log decay. -/
def q73 (k : Fin k1_t1_loop.trips) :=
  k1_pay84 (F := Ideal) (k1_pay82 v.arg0 v.v114 (v.q56 k)) (v.sx 1 0) (v.sy 1 0)

/-- Second chunk: the cumulated log decays. -/
def q76 (k : Fin k1_t1_loop.trips) :=
  pay93 (F := Ideal) v.v59 (v.q56 k) (v.q64 k) (v.q70 k) (v.q73 k) (FloatOps.ofBits .f32 0#32) (pay87 v.arg0 v.v114) (v.sx 1 1) (v.sy 1 1)

/-- Second chunk: the decays between rows. -/
def q77 (k : Fin k1_t1_loop.trips) :=
  pay94 (F := Ideal) v.v59 (v.q56 k) (v.q64 k) (v.q70 k) (v.q73 k) (FloatOps.ofBits .f32 0#32) (pay87 v.arg0 v.v114) (v.sx 1 1) (v.sy 1 1)

/-- Second chunk: the decays since the start. -/
def q78 (k : Fin k1_t1_loop.trips) :=
  pay95 (F := Ideal) v.v59 (v.q56 k) (v.q64 k) (v.q70 k) (v.q73 k) (FloatOps.ofBits .f32 0#32) (pay87 v.arg0 v.v114) (v.sx 1 1) (v.sy 1 1)

/-- Second chunk: head 0's decay over the chunk. -/
def q79 (k : Fin k1_t1_loop.trips) :=
  pay96 (F := Ideal) v.v59 (v.q56 k) (v.q64 k) (v.q70 k) (v.q73 k) (FloatOps.ofBits .f32 0#32) (pay87 v.arg0 v.v114) (v.sx 1 1) (v.sy 1 1)

/-- Second chunk: head 1's decay over the chunk. -/
def q80 (k : Fin k1_t1_loop.trips) :=
  pay97 (F := Ideal) v.v59 (v.q56 k) (v.q64 k) (v.q70 k) (v.q73 k) (FloatOps.ofBits .f32 0#32) (pay87 v.arg0 v.v114) (v.sx 1 1) (v.sy 1 1)

/-- Second chunk: head 2's decay over the chunk. -/
def q82 (k : Fin k1_t1_loop.trips) :=
  k1_pay51 (F := Ideal) (pay98 (F := Ideal) v.v59 (v.q56 k) (v.q64 k) (v.q70 k) (v.q73 k) (FloatOps.ofBits .f32 0#32) (pay87 v.arg0 v.v114) (v.sx 1 1) (v.sy 1 1))

/-- Second chunk: head 3's decay over the chunk. -/
def q83 (k : Fin k1_t1_loop.trips) :=
  k1_pay97 (F := Ideal) (v.q76 k)

/-- Second chunk: the decays to the end. -/
def q84 (k : Fin k1_t1_loop.trips) :=
  k1_pay52 (F := Ideal) (v.q76 k)

/-- Second chunk: the inverse. -/
def q85 (k : Fin k1_t1_loop.trips) :=
  pay103 (F := Ideal) v.v55 v.v62 (v.q60 k) (v.q75 k) (v.q77 k)

/-- Second chunk: the right side. -/
def q86 (k : Fin k1_t1_loop.trips) :=
  pay104 (F := Ideal) (v.q60 k) (v.q62 k) (v.q75 k) (v.q78 k)

/-- Second chunk: the solved system. -/
def q105 (k : Fin k1_t1_loop.trips) :=
  pay105 (F := Ideal) (v.q85 k) (v.q86 k)

/-- Second chunk: what the states are read with. -/
def q87 (k : Fin k1_t1_loop.trips) :=
  pay107 (F := Ideal) v.v57 (v.q60 k) (v.q61 k) (v.q77 k) (v.q78 k) (v.q85 k) (v.q86 k)

/-- Second chunk: what the states are updated with. -/
def q88 (k : Fin k1_t1_loop.trips) :=
  pay108 (F := Ideal) (k1_pay1 v.v64 v.v88 v.c128_i32 v.v90 v.v91) (v.q60 k) (v.q84 k) (v.q85 k) (v.q86 k)

/-- Second chunk: the read-out inside the chunk. -/
def q89 (k : Fin k1_t1_loop.trips) :=
  pay109 (F := Ideal) v.v57 (v.q60 k) (v.q61 k) (v.q77 k) (v.q85 k) (v.q86 k)

/-- Second chunk: the first key head's gates. -/
def q52 (k : Fin k1_t1_loop.trips) :=
  pay8 (F := Ideal) (v.blkA k 1)

/-- Second chunk: the second key head's gates. -/
def q55 (k : Fin k1_t1_loop.trips) :=
  pay8 (F := Ideal) (v.blkB k 1)

/-- The exponential of the differences of the cumulated decays. -/
def dfw (L : FVec Ideal S256x256 .f32) (d : FVec Ideal S256x1 .f32) : FVec Ideal S256x256 .f32 :=
  exp (subf (broadcastTo S256x256 (cumv L d) broadcasts_S256x1_S256x256) (broadcastTo S256x256 (rowv L d) broadcasts_S1x256_S256x256))

/-! Each is the chunk's own. -/

/-- So the trip computes the first key head's convolved rows. -/
theorem p1_eq (k : Fin k1_t1_loop.trips) (f9 : BufTy.Contents (Elt Ideal) v.arg9.view.ty) : v.p1 k f9 = (v.bk0 k f9).cv0 := rfl

/-- So the trip computes the second key head's convolved rows. -/
theorem p5_eq (k : Fin k1_t1_loop.trips) (f9 : BufTy.Contents (Elt Ideal) v.arg9.view.ty) : v.p5 k f9 = (v.bk0 k f9).cv1 := rfl

/-- So the trip computes the keys. -/
theorem p12_eq (k : Fin k1_t1_loop.trips) (f9 : BufTy.Contents (Elt Ideal) v.arg9.view.ty) : v.p12 k f9 = (v.bk0 k f9).key := by
  unfold p12
  rw [v.p1_eq k f9, v.p5_eq k f9]
  rfl

/-- So the trip computes the queries. -/
theorem p13_eq (k : Fin k1_t1_loop.trips) (f9 : BufTy.Contents (Elt Ideal) v.arg9.view.ty) : v.p13 k f9 = (v.bk0 k f9).qry := by
  unfold p13
  rw [v.p1_eq k f9, v.p5_eq k f9]
  rfl

/-- So the trip computes the values. -/
theorem p14_eq (k : Fin k1_t1_loop.trips) (f9 : BufTy.Contents (Elt Ideal) v.arg9.view.ty) : v.p14 k f9 = (v.bk0 k f9).vals := by
  unfold p14
  rw [v.p1_eq k f9, v.p5_eq k f9]
  rfl

/-- So the trip computes the gates' block. -/
theorem p8_eq (k : Fin k1_t1_loop.trips) (f9 : BufTy.Contents (Elt Ideal) v.arg9.view.ty) : v.p8 k = (v.bk0 k f9).s := rfl

/-- So the trip computes the write strengths. -/
theorem p35_eq (k : Fin k1_t1_loop.trips) (f9 : BufTy.Contents (Elt Ideal) v.arg9.view.ty) : v.p35 k = (v.bk0 k f9).rate := rfl

/-- So the trip computes the log decays. -/
theorem pdec_eq (k : Fin k1_t1_loop.trips) (f9 : BufTy.Contents (Elt Ideal) v.arg9.view.ty) : v.pdec k = (v.bk0 k f9).dec := rfl

/-- So the trip computes the cumulated log decays. -/
theorem p36_eq (k : Fin k1_t1_loop.trips) (f9 : BufTy.Contents (Elt Ideal) v.arg9.view.ty) : v.p36 k = (v.bk0 k f9).cm := congrArg (cumv v.v59) (v.pdec_eq k f9)

/-- So the trip computes the decays between rows. -/
theorem p37_eq (k : Fin k1_t1_loop.trips) (f9 : BufTy.Contents (Elt Ideal) v.arg9.view.ty) : v.p37 k = (v.bk0 k f9).df := congrArg (dfw v.v59) (v.pdec_eq k f9)

/-- So the trip computes the decays since the start. -/
theorem p38_eq (k : Fin k1_t1_loop.trips) (f9 : BufTy.Contents (Elt Ideal) v.arg9.view.ty) : v.p38 k = (v.bk0 k f9).ec := congrArg (fun d => exp (cumv v.v59 d)) (v.pdec_eq k f9)

/-- So the trip computes head 0's decay over the chunk. -/
theorem p39_eq (k : Fin k1_t1_loop.trips) (f9 : BufTy.Contents (Elt Ideal) v.arg9.view.ty) : v.p39 k = (v.bk0 k f9).e0 := by
  show exp (extractStridedSlice S1x1 ![63, 0] (v.p36 k) slices_S256x1_o63_0_S1x1) = _
  rw [v.p36_eq k f9]
  generalize v.bk0 k f9 = u
  rfl

/-- So the trip computes head 1's decay over the chunk. -/
theorem p40_eq (k : Fin k1_t1_loop.trips) (f9 : BufTy.Contents (Elt Ideal) v.arg9.view.ty) : v.p40 k = (v.bk0 k f9).e1 := by
  show exp (extractStridedSlice S1x1 ![127, 0] (v.p36 k) slices_S256x1_o127_0_S1x1) = _
  rw [v.p36_eq k f9]
  generalize v.bk0 k f9 = u
  rfl

/-- So the trip computes head 2's decay over the chunk. -/
theorem p41_eq (k : Fin k1_t1_loop.trips) (f9 : BufTy.Contents (Elt Ideal) v.arg9.view.ty) : v.p41 k = (v.bk0 k f9).e2 := by
  show exp (extractStridedSlice S1x1 ![191, 0] (v.p36 k) slices_S256x1_o191_0_S1x1) = _
  rw [v.p36_eq k f9]
  generalize v.bk0 k f9 = u
  rfl

/-- So the trip computes head 3's decay over the chunk. -/
theorem p42_eq (k : Fin k1_t1_loop.trips) (f9 : BufTy.Contents (Elt Ideal) v.arg9.view.ty) : v.p42 k = (v.bk0 k f9).e3 := congrArg (fun d => k1_pay97 (cumv v.v59 d)) (v.pdec_eq k f9)

/-- So the trip computes the decays to the end. -/
theorem p44_eq (k : Fin k1_t1_loop.trips) (f9 : BufTy.Contents (Elt Ideal) v.arg9.view.ty) : v.p44 k = (v.bk0 k f9).dk := congrArg (fun d => k1_pay52 (cumv v.v59 d)) (v.pdec_eq k f9)

/-- So the trip computes the solved system. -/
theorem p45_eq (k : Fin k1_t1_loop.trips) (f9 : BufTy.Contents (Elt Ideal) v.arg9.view.ty) : v.p45 k f9 = (v.bk0 k f9).uw := by
  unfold p45
  rw [v.p12_eq k f9, v.p14_eq k f9, v.p35_eq k f9, v.p37_eq k f9, v.p38_eq k f9]
  rfl

/-- So the trip computes the attention. -/
theorem p46_eq (k : Fin k1_t1_loop.trips) (f9 : BufTy.Contents (Elt Ideal) v.arg9.view.ty) : v.p46 k f9 = (v.bk0 k f9).att := by
  unfold p46
  rw [v.p12_eq k f9, v.p13_eq k f9, v.p37_eq k f9]
  rfl

/-- So the trip computes what the states are read with. -/
theorem p47_eq (k : Fin k1_t1_loop.trips) (f9 : BufTy.Contents (Elt Ideal) v.arg9.view.ty) : v.p47 k f9 = (v.bk0 k f9).qe := by
  unfold p47
  rw [v.p13_eq k f9, v.p38_eq k f9, v.p45_eq k f9, v.p46_eq k f9]
  rfl

/-- So the trip computes what the states are updated with. -/
theorem p48_eq (k : Fin k1_t1_loop.trips) (f9 : BufTy.Contents (Elt Ideal) v.arg9.view.ty) : v.p48 k f9 = (v.bk0 k f9).w2 := by
  unfold p48
  rw [v.p12_eq k f9, v.p44_eq k f9, v.p45_eq k f9]
  rfl

/-- So the trip computes the read-out inside the chunk. -/
theorem p49_eq (k : Fin k1_t1_loop.trips) (f9 : BufTy.Contents (Elt Ideal) v.arg9.view.ty) : v.p49 k f9 = (v.bk0 k f9).lo := by
  unfold p49
  rw [v.p45_eq k f9, v.p46_eq k f9]
  rfl

/-- So the trip computes the first key head's gates. -/
theorem p3_eq (k : Fin k1_t1_loop.trips) (f9 : BufTy.Contents (Elt Ideal) v.arg9.view.ty) : v.p3 k = (v.bk0 k f9).z0 := rfl

/-- So the trip computes the second key head's gates. -/
theorem p7_eq (k : Fin k1_t1_loop.trips) (f9 : BufTy.Contents (Elt Ideal) v.arg9.view.ty) : v.p7 k = (v.bk0 k f9).z1 := rfl

/-- So the trip computes the first key head's convolved rows. -/
theorem q50_eq (k : Fin k1_t1_loop.trips) : v.q50 k = (v.bk1 k).cv0 := rfl

/-- So the trip computes the second key head's convolved rows. -/
theorem q53_eq (k : Fin k1_t1_loop.trips) : v.q53 k = (v.bk1 k).cv1 := rfl

/-- So the trip computes the keys. -/
theorem q60_eq (k : Fin k1_t1_loop.trips) : v.q60 k = (v.bk1 k).key := by
  unfold q60
  rw [v.q50_eq k, v.q53_eq k]
  rfl

/-- So the trip computes the queries. -/
theorem q61_eq (k : Fin k1_t1_loop.trips) : v.q61 k = (v.bk1 k).qry := by
  unfold q61
  rw [v.q50_eq k, v.q53_eq k]
  rfl

/-- So the trip computes the values. -/
theorem q62_eq (k : Fin k1_t1_loop.trips) : v.q62 k = (v.bk1 k).vals := by
  unfold q62
  rw [v.q50_eq k, v.q53_eq k]
  rfl

/-- So the trip computes the gates' block. -/
theorem q56_eq (k : Fin k1_t1_loop.trips) : v.q56 k = (v.bk1 k).s := rfl

/-- So the trip computes the write strengths. -/
theorem q75_eq (k : Fin k1_t1_loop.trips) : v.q75 k = (v.bk1 k).rate := rfl

/-- So the trip computes the first head's log decay. -/
theorem q64_eq (k : Fin k1_t1_loop.trips) : v.q64 k = (v.bk1 k).t0 := rfl

/-- So the trip computes the second head's log decay. -/
theorem q70_eq (k : Fin k1_t1_loop.trips) : v.q70 k = (v.bk1 k).t1 := rfl

/-- So the trip computes the third head's log decay. -/
theorem q73_eq (k : Fin k1_t1_loop.trips) : v.q73 k = (v.bk1 k).t2 := rfl

/-- So the trip computes the cumulated log decays. -/
theorem q76_eq (k : Fin k1_t1_loop.trips) : v.q76 k = (v.bk1 k).cm := rfl

/-- So the trip computes the decays between rows. -/
theorem q77_eq (k : Fin k1_t1_loop.trips) : v.q77 k = (v.bk1 k).df := rfl

/-- So the trip computes the decays since the start. -/
theorem q78_eq (k : Fin k1_t1_loop.trips) : v.q78 k = (v.bk1 k).ec := rfl

/-- So the trip computes head 0's decay over the chunk. -/
theorem q79_eq (k : Fin k1_t1_loop.trips) : v.q79 k = (v.bk1 k).e0 := rfl

/-- So the trip computes head 1's decay over the chunk. -/
theorem q80_eq (k : Fin k1_t1_loop.trips) : v.q80 k = (v.bk1 k).e1 := rfl

/-- So the trip computes head 2's decay over the chunk. -/
theorem q82_eq (k : Fin k1_t1_loop.trips) : v.q82 k = (v.bk1 k).e2 := rfl

/-- So the trip computes head 3's decay over the chunk. -/
theorem q83_eq (k : Fin k1_t1_loop.trips) : v.q83 k = (v.bk1 k).e3 := rfl

/-- So the trip computes the decays to the end. -/
theorem q84_eq (k : Fin k1_t1_loop.trips) : v.q84 k = (v.bk1 k).dk := rfl

/-- So the trip computes the solved system. -/
theorem q105_eq (k : Fin k1_t1_loop.trips) : v.q105 k = (v.bk1 k).uw := by
  unfold q105 q85 q86
  rw [v.q60_eq k, v.q62_eq k, v.q75_eq k, v.q77_eq k, v.q78_eq k]
  rfl

/-- So the trip computes what the states are read with. -/
theorem q87_eq (k : Fin k1_t1_loop.trips) : v.q87 k = (v.bk1 k).qe := by
  show pay51 v.v57 (v.q61 k) (v.q78 k) (v.q105 k) (pay49 (v.q60 k) (v.q61 k) (v.q77 k)) = _
  rw [v.q105_eq k, v.q60_eq k, v.q61_eq k, v.q77_eq k, v.q78_eq k]
  rfl

/-- So the trip computes what the states are updated with. -/
theorem q88_eq (k : Fin k1_t1_loop.trips) : v.q88 k = (v.bk1 k).w2 := by
  show k1_pay56 (k1_pay1 v.v64 v.v88 v.c128_i32 v.v90 v.v91) (v.q60 k) (v.q84 k) (v.q105 k) = _
  rw [v.q105_eq k, v.q60_eq k, v.q84_eq k]
  rfl

/-- So the trip computes the read-out inside the chunk. -/
theorem q89_eq (k : Fin k1_t1_loop.trips) : v.q89 k = (v.bk1 k).lo := by
  show pay53 v.v57 (v.q105 k) (pay49 (v.q60 k) (v.q61 k) (v.q77 k)) = _
  rw [v.q105_eq k, v.q60_eq k, v.q61_eq k, v.q77_eq k]
  rfl

/-- So the trip computes the first key head's gates. -/
theorem q52_eq (k : Fin k1_t1_loop.trips) : v.q52 k = (v.bk1 k).z0 := rfl

/-- So the trip computes the second key head's gates. -/
theorem q55_eq (k : Fin k1_t1_loop.trips) : v.q55 k = (v.bk1 k).z1 := rfl

section

variable (k : Fin k1_t1_loop.trips) (f7 : BufTy.Contents (Elt Ideal) v.arg7.view.ty) (f8 : BufTy.Contents (Elt Ideal) v.arg8.view.ty)
  (f9 : BufTy.Contents (Elt Ideal) v.arg9.view.ty)

/-- The pieces of the carried rows. -/
theorem trip9 : (v.trip k f7 f8 f9).2.2 =
    [⟨Rect.unit (s := S2x8x512) ![1, 0, 0] S1x8x512.size inb_S2x8x512_S1x8x512_1_0_0, k1_pay112 (pay7 (v.blkB k 1))⟩,
     ⟨Rect.unit (s := S2x8x512) ![0, 0, 0] S1x8x512.size inb_S2x8x512_S1x8x512_0_0_0, k1_pay112 (pay7 (v.blkA k 1))⟩] := by
  unfold trip tripL_k1_t1 trip_k1_t1
  rfl

/-- The pieces of the states. -/
theorem trip8 : (v.trip k f7 f8 f9).2.1 =
    [⟨Rect.unit (s := S4x128x128) ![3, 0, 0] S1x128x128.size inb_S4x128x128_S1x128x128_3_0_0,
      pay148 (v.bk1 k).e3 (v.bk1 k).qe (v.bk1 k).w2 (k1_pay146 (v.bk0 k f9).e3 (v.bk0 k f9).qe (v.bk0 k f9).w2 (v.st3 f8))⟩,
     ⟨Rect.unit (s := S4x128x128) ![2, 0, 0] S1x128x128.size inb_S4x128x128_S1x128x128_2_0_0,
      k1_pay3 (pay136 (v.bk0 k f9).e2 (v.bk1 k).e2 (v.bk1 k).qe (v.bk1 k).w2 (k1_pay114 (v.st2 f8)) (pay130 (v.bk0 k f9).w2) (pay131 (v.bk0 k f9).qe (v.bk0 k f9).w2 (v.st2 f8)))⟩,
     ⟨Rect.unit (s := S4x128x128) ![1, 0, 0] S1x128x128.size inb_S4x128x128_S1x128x128_1_0_0,
      k1_pay132 (v.bk1 k).e1 (v.bk1 k).qe (v.bk1 k).w2 (k1_pay128 (v.bk0 k f9).e1 (v.bk0 k f9).qe (v.bk0 k f9).w2 (v.st1 f8))⟩,
     ⟨Rect.unit (s := S4x128x128) ![0, 0, 0] S1x128x128.size inb_S4x128x128_S1x128x128_0_0_0,
      k1_pay3 (pay119 (v.bk1 k).e0 (v.bk1 k).qe (v.bk1 k).w2 (pay115 (v.bk0 k f9).e0 (v.bk0 k f9).qe (v.bk0 k f9).w2 (v.st0 f8)))⟩] := by
  rw [← v.p39_eq k f9, ← v.p40_eq k f9, ← v.p41_eq k f9, ← v.p42_eq k f9, ← v.p47_eq k f9, ← v.p48_eq k f9, ← v.q79_eq k, ← v.q80_eq k, ← v.q82_eq k, ← v.q83_eq k,
    ← v.q87_eq k, ← v.q88_eq k]
  unfold trip tripL_k1_t1 trip_k1_t1
  rfl

/-- The pieces of the output. -/
theorem trip7 : (v.trip k f7 f8 f9).1 =
    [⟨Rect.unit (s := S512x512) (k1_off9 k 1#32) S64x128.size (k1_off9_inb k 1),
      k1_pay151 (k1_pay2 v.v115) (v.bk1 k).z1 (v.bk1 k).qe (v.bk1 k).w2 (v.bk1 k).lo (k1_pay146 (v.bk0 k f9).e3 (v.bk0 k f9).qe (v.bk0 k f9).w2 (v.st3 f8))⟩,
     ⟨Rect.unit (s := S512x512) (k1_off9 k 0#32) S64x128.size (k1_off9_inb k 0),
      k1_pay124 (pay143 (k1_pay2 v.v115) (v.bk0 k f9).qe (v.bk0 k f9).w2 (v.bk0 k f9).lo (v.st3 f8)) (pay144 (v.bk0 k f9).z1)⟩,
     ⟨Rect.unit (s := S512x512) (k1_off8 k 1#32) S64x128.size (k1_off8_inb k 1),
      pay138 (k1_pay2 v.v115) (v.bk1 k).z1
        (pay135 (v.bk0 k f9).e2 (v.bk1 k).qe (v.bk1 k).w2 (v.bk1 k).lo (k1_pay114 (v.st2 f8)) (pay130 (v.bk0 k f9).w2) (pay131 (v.bk0 k f9).qe (v.bk0 k f9).w2 (v.st2 f8)))
        (pay137 (v.bk0 k f9).e2 (v.bk1 k).qe (v.bk1 k).w2 (v.bk1 k).lo (k1_pay114 (v.st2 f8)) (pay130 (v.bk0 k f9).w2) (pay131 (v.bk0 k f9).qe (v.bk0 k f9).w2 (v.st2 f8)))⟩,
     ⟨Rect.unit (s := S512x512) (k1_off8 k 0#32) S64x128.size (k1_off8_inb k 0),
      pay133 (k1_pay2 v.v115) (v.bk0 k f9).z1 (v.bk0 k f9).lo (pay131 (v.bk0 k f9).qe (v.bk0 k f9).w2 (v.st2 f8))⟩,
     ⟨Rect.unit (s := S512x512) (k1_off7 k 1#32) S64x128.size (k1_off7_inb k 1),
      k1_pay131 (k1_pay2 v.v115) (v.bk1 k).z0 (v.bk1 k).qe (v.bk1 k).w2 (v.bk1 k).lo (k1_pay128 (v.bk0 k f9).e1 (v.bk0 k f9).qe (v.bk0 k f9).w2 (v.st1 f8))⟩,
     ⟨Rect.unit (s := S512x512) (k1_off7 k 0#32) S64x128.size (k1_off7_inb k 0),
      k1_pay129 (k1_pay2 v.v115) (v.bk0 k f9).z0 (v.bk0 k f9).qe (v.bk0 k f9).w2 (v.bk0 k f9).lo (v.st1 f8)⟩,
     ⟨Rect.unit (s := S512x512) (k1_off6 k 1#32) S64x128.size (k1_off6_inb k 1),
      pay120 (k1_pay2 v.v115) (v.bk1 k).z0 (v.bk1 k).qe (v.bk1 k).w2 (v.bk1 k).lo (pay115 (v.bk0 k f9).e0 (v.bk0 k f9).qe (v.bk0 k f9).w2 (v.st0 f8))⟩,
     ⟨Rect.unit (s := S512x512) (k1_off6 k 0#32) S64x128.size (k1_off6_inb k 0),
      k1_pay141 (k1_pay2 v.v115) (v.bk0 k f9).z0 (k1_pay116 (v.bk0 k f9).qe (v.bk0 k f9).w2 (v.bk0 k f9).lo (v.st0 f8)) (pay116 (v.bk0 k f9).qe (v.bk0 k f9).w2 (v.bk0 k f9).lo (v.st0 f8))⟩] := by
  rw [← v.p39_eq k f9, ← v.p40_eq k f9, ← v.p41_eq k f9, ← v.p42_eq k f9, ← v.p47_eq k f9, ← v.p48_eq k f9, ← v.p49_eq k f9, ← v.p3_eq k f9, ← v.p7_eq k f9,
    ← v.q87_eq k, ← v.q88_eq k, ← v.q89_eq k, ← v.q52_eq k, ← v.q55_eq k]
  unfold trip tripL_k1_t1 trip_k1_t1
  rfl

end

end Env

end Cert.CoreV

end
-- ==== Proof.CoreTripReads.lean ====
/- One trip of the second call's chunk loop over real numbers: from the recurrence's states before it to those after it, and
   the rows of the output it stores. -/
module

public import proofs.«01_k».proof.Proof.CoreTripPieces
public import Idealize.ShloMosaic.Lib.WritesUnit
public import Idealize.ShloMosaic.Lib.VecWindow

@[expose] public section

set_option maxRecDepth 16384

noncomputable section

namespace Cert.CoreV

open Cert.LayerIdeal Cert.LayerIdeal.Gen Cert.Gdn Idealize.ShloMosaic Idealize.ShloMosaic.TcCoe Idealize.SL.Sem
open scoped BigOperators

/-! The offsets a trip computes. -/

/-- A point has four trips. -/
theorem trips4 : k1_t1_loop.trips = 4 := by decide +kernel
/-- Where access 1 of a chunk is. -/
theorem off1_eq : ∀ (k : Fin k1_t1_loop.trips) (n : Fin 2), k1_off1 k (BitVec.ofNat 32 n) = ![128 * k.val + 64 * n.val, 0] := by decide +kernel
/-- Where access 2 of a chunk is. -/
theorem off2_eq : ∀ (k : Fin k1_t1_loop.trips) (n : Fin 2), k1_off2 k (BitVec.ofNat 32 n) = ![128 * k.val + 64 * n.val, 768] := by decide +kernel
/-- Where access 3 of a chunk is. -/
theorem off3_eq : ∀ (k : Fin k1_t1_loop.trips) (n : Fin 2), k1_off3 k (BitVec.ofNat 32 n) = ![128 * k.val + 64 * n.val, 0] := by decide +kernel
/-- Where access 6 of a chunk is. -/
theorem off6_eq : ∀ (k : Fin k1_t1_loop.trips) (n : Fin 2), k1_off6 k (BitVec.ofNat 32 n) = ![128 * k.val + 64 * n.val, 0] := by decide +kernel
/-- Where access 7 of a chunk is. -/
theorem off7_eq : ∀ (k : Fin k1_t1_loop.trips) (n : Fin 2), k1_off7 k (BitVec.ofNat 32 n) = ![128 * k.val + 64 * n.val, 128] := by decide +kernel
/-- Where access 8 of a chunk is. -/
theorem off8_eq : ∀ (k : Fin k1_t1_loop.trips) (n : Fin 2), k1_off8 k (BitVec.ofNat 32 n) = ![128 * k.val + 64 * n.val, 256] := by decide +kernel
/-- Where access 9 of a chunk is. -/
theorem off9_eq : ∀ (k : Fin k1_t1_loop.trips) (n : Fin 2), k1_off9 k (BitVec.ofNat 32 n) = ![128 * k.val + 64 * n.val, 384] := by decide +kernel

/-- A head's column, as a number. -/
theorem word_col : ∀ (a : Fin 8) (p q : Fin 2), (Scalar.indexCast (Scalar.addi (Scalar.muli (2#32) (Scalar.addi (Scalar.muli (2#32) (BitVec.ofNat 32 a.val)) (BitVec.ofNat 32 p.val))) (BitVec.ofNat 32 q.val)) : Index).toNat
    = 4 * a.val + 2 * p.val + q.val := by decide +kernel

/-- Where a rate of decay is read. -/
theorem off4_eq (i : grid1.Coords) (p q : Fin 2) : k1_off4 i (BitVec.ofNat 32 p) (BitVec.ofNat 32 q) = ![0, 4 * (i 0).val + 2 * p.val + q.val] :=
  congrArg (fun x => ![0, x]) (word_col (i 0) p q)
/-- Where a time bias is read. -/
theorem off5_eq (i : grid1.Coords) (p q : Fin 2) : k1_off5 i (BitVec.ofNat 32 p) (BitVec.ofNat 32 q) = ![1, 4 * (i 0).val + 2 * p.val + q.val] :=
  congrArg (fun x => ![1, x]) (word_col (i 0) p q)

/-! The small rearrangements. -/

/-- A vector reshaped to its own shape is itself. -/
theorem cast_self {α : Type} {s : Shape} (x : s.Idx → α) (h : s.ShapeCasts s) : shapeCast s x h = x :=
  funext fun i => congrArg x (Shape.reshapeEquiv_self h i)

/-- The norm's weights, unchanged. -/
theorem pay2_at (x : Vec Ideal S1x128 .f32) (e : Fin 128) : k1_pay2 x (ix2 0 e) = x (ix2 0 e) := by pointwise [k1_pay2]
/-- The carried rows, unchanged. -/
theorem pay3_at (x : Vec Ideal S1x8x512 .f32) (r : Fin 8) (l : Fin 512) : k1_pay4 x (ix2 r l) = x (ix3 0 r l) := by pointwise [k1_pay4]
/-- The first head's last rows. -/
theorem pay7_at (x : Vec Ideal S64x768 .bf16) (r : Fin 8) (l : Fin 512) : pay7 x (ix2 r l) = x (ix2 ⟨56 + r, by omega⟩ ⟨l, by omega⟩) := by
  pointwise [pay7, pay5, pay4]
/-- The second head's last rows. -/
theorem pay12_at (x : Vec Ideal S64x768 .bf16) (r : Fin 8) (l : Fin 512) : pay12 (pay4 x) (ix2 r l) = x (ix2 ⟨56 + r, by omega⟩ ⟨l, by omega⟩) := by
  pointwise [pay12, pay10, pay4]
/-- The first head's rows to carry. -/
theorem pay110_at (x : Vec Ideal S64x768 .bf16) (r : Fin 8) (l : Fin 512) : k1_pay112 (pay7 x) (ix3 0 r l) = x (ix2 ⟨56 + r, by omega⟩ ⟨l, by omega⟩) := by
  pointwise [k1_pay112, pay7, pay5, pay4]
/-- The second head's rows to carry. -/
theorem pay111_at (x : Vec Ideal S64x768 .bf16) (r : Fin 8) (l : Fin 512) : k1_pay112 (pay7 x) (ix3 0 r l) = x (ix2 ⟨56 + r, by omega⟩ ⟨l, by omega⟩) := by
  pointwise [k1_pay112, pay7, pay5, pay4]
/-- The gates' columns, first head. -/
theorem pay58_at (x : Vec Ideal S64x768 .bf16) (r : Fin 64) (c : Fin 256) : pay8 x (ix2 r c) = x (ix2 r ⟨512 + c, by omega⟩) := by
  pointwise [pay8, pay4]
/-- The gates' columns, second head. -/
theorem pay63_at (x : Vec Ideal S64x768 .bf16) (r : Fin 64) (c : Fin 256) : pay8 x (ix2 r c) = x (ix2 r ⟨512 + c, by omega⟩) := by
  pointwise [pay8, pay4]
/-- A state, unchanged. -/
theorem pay121_at (x : FVec Ideal S128x128 .f32) (d e : Fin 128) : k1_pay3 x (ix3 0 d e) = x (ix2 d e) := by pointwise [k1_pay3]
/-- The gates' block, first chunk. -/
theorem pay14_at (x : Vec Ideal S64x128 .bf16) (r : Fin 64) (c : Fin 128) : pay14 x (ix2 r c) = x (ix2 r c) := by pointwise [pay14]
/-- The gates' block, second chunk. -/
theorem pay64_at (x : Vec Ideal S64x128 .bf16) (r : Fin 64) (c : Fin 128) : pay14 x (ix2 r c) = x (ix2 r c) := by pointwise [pay14]

namespace Env

/-- A trip's surroundings are those of the layer: head pair `hp`, the windows starting at token `t0`. -/
structure Ok (v : Env) (P W : ℕ → ℕ → ℝ) (Al Dt : ℕ → ℝ) (Nw : ℕ → EReal) (hp t0 : ℕ) : Prop where
  hhp : hp < 8
  m1 : ∀ r s : Fin 256, v.v55 (ix2 r s) = if r.val / 64 = s.val / 64 ∧ s.val < r.val then 1#1 else 0#1
  m2 : ∀ r s : Fin 256, v.v57 (ix2 r s) = if r.val / 64 = s.val / 64 ∧ s.val ≤ r.val then 1#1 else 0#1
  L : ∀ r s : Fin 256, v.v59 (ix2 r s) = (((if r.val / 64 = s.val / 64 ∧ s.val ≤ r.val then 1 else 0 : ℝ) : ℝ) : EReal)
  I : ∀ r s : Fin 256, v.v62 (ix2 r s) = (((if r = s then 1 else 0 : ℝ) : ℝ) : EReal)
  m5 : ∀ (r : Fin 256) (n : Fin 512), k1_pay1 v.v64 v.v88 v.c128_i32 v.v90 v.v91 (ix2 r n) = if r.val / 64 = n.val / 128 then 1#1 else 0#1
  a : v.arg0 = BitVec.ofNat 32 hp
  i0 : (v.i 0).val = hp
  i : ∀ x : Fin 128, v.v114 (ix2 0 x) = BitVec.ofNat 32 x.val
  x2 : ∀ (r : Fin 512) (l : Fin 1536), v.arg2.view.read (Elt Ideal) v.X_arg2 (ix2 r l) = ((P (t0 + r) (1536 * hp + l) : ℝ) : EReal)
  x3 : ∀ (r : Fin 512) (l : Fin 128), v.arg3.view.read (Elt Ideal) v.X_arg3 (ix2 r l) = ((P (t0 + r) (12288 + l) : ℝ) : EReal)
  x4 : ∀ (h : Fin 2) (t : Fin 4) (l : Fin 512), v.arg4.view.read (Elt Ideal) v.X_arg4 (ix3 h t l) = ((W (wch (2 * hp + h) l) t : ℝ) : EReal)
  x5a : ∀ h : Fin 32, v.arg5.view.read (Elt Ideal) v.X_arg5 (ix2 0 h) = ((-Real.exp (Al h) : ℝ) : EReal)
  x5b : ∀ h : Fin 32, v.arg5.view.read (Elt Ideal) v.X_arg5 (ix2 1 h) = ((Dt h : ℝ) : EReal)
  nw : ∀ e : Fin 128, v.v115 (ix2 0 e) = Nw e

/-- The states held are the recurrence's before token `T`. -/
def Inv8 (v : Env) (P W : ℕ → ℕ → ℝ) (Al Dt : ℕ → ℝ) (hp : ℕ) (f8 : BufTy.Contents (Elt Ideal) v.arg8.view.ty) (T : ℕ) : Prop :=
  ∀ (b : Fin 4) (d e : Fin 128), v.arg8.view.read (Elt Ideal) f8 (ix3 b d e) = ((Sh P W Al Dt (4 * hp + b) T d e : ℝ) : EReal)

/-- The rows held are the last ones before token `T`. -/
def Inv9 (v : Env) (P : ℕ → ℕ → ℝ) (hp : ℕ) (f9 : BufTy.Contents (Elt Ideal) v.arg9.view.ty) (T : ℕ) : Prop :=
  ∀ (h : Fin 2) (r : Fin 8) (l : Fin 512), 5 ≤ r.val →
    v.arg9.view.read (Elt Ideal) f9 (ix3 h r l) = ((pz P (T + (r - 5)) (768 * (2 * hp + h) + l) : ℝ) : EReal)

section

variable {v : Env} {P W : ℕ → ℕ → ℝ} {Al Dt : ℕ → ℝ} {Nw : ℕ → EReal} {hp t0 : ℕ} (h : v.Ok P W Al Dt Nw hp t0)

include h

/-- The first head's block. -/
theorem blkA_val (k : Fin k1_t1_loop.trips) (n : Fin 2) (r : Fin 64) (l : Fin 768) :
    v.blkA k n (ix2 r l) = ((P (t0 + 128 * k + 64 * n + r) (768 * (2 * hp) + l) : ℝ) : EReal) := by
  have hk : k.val < 4 := trips4 ▸ k.isLt
  have hn := n.isLt
  unfold blkA
  refine (congrFun (cast_self _ _) _).trans ?_
  rw [View.readAt_unit v.arg2.view v.X_arg2 _ (off1_eq k n) (off1_eq k n ▸ k1_off1_inb k n)]
  refine ((congrArg (v.arg2.view.read (Elt Ideal) v.X_arg2) ?_).trans (h.x2 ⟨128 * k + 64 * n + r, by omega⟩ ⟨l, by omega⟩)).trans ?_
  · funext a
    refine Fin.cases ?_ (fun a => ?_) a
    · exact Fin.ext (by show 128 * k.val + 64 * n.val + 1 * r.val = 128 * k + 64 * n + r; omega)
    · obtain rfl : a = 0 := Subsingleton.elim _ _
      exact Fin.ext (by show 0 + 1 * l.val = l; omega)
  · show ((P (t0 + (128 * k + 64 * n + r)) (1536 * hp + l) : ℝ) : EReal) = _
    rw [show t0 + (128 * k.val + 64 * n.val + r.val) = t0 + 128 * k + 64 * n + r by omega, show 1536 * hp + l.val = 768 * (2 * hp) + l by omega]

/-- The second head's block. -/
theorem blkB_val (k : Fin k1_t1_loop.trips) (n : Fin 2) (r : Fin 64) (l : Fin 768) :
    v.blkB k n (ix2 r l) = ((P (t0 + 128 * k + 64 * n + r) (768 * (2 * hp + 1) + l) : ℝ) : EReal) := by
  have hk : k.val < 4 := trips4 ▸ k.isLt
  have hn := n.isLt
  unfold blkB
  refine (congrFun (cast_self _ _) _).trans ?_
  rw [View.readAt_unit v.arg2.view v.X_arg2 _ (off2_eq k n) (off2_eq k n ▸ k1_off2_inb k n)]
  refine ((congrArg (v.arg2.view.read (Elt Ideal) v.X_arg2) ?_).trans (h.x2 ⟨128 * k + 64 * n + r, by omega⟩ ⟨768 + l, by omega⟩)).trans ?_
  · funext a
    refine Fin.cases ?_ (fun a => ?_) a
    · exact Fin.ext (by show 128 * k.val + 64 * n.val + 1 * r.val = 128 * k + 64 * n + r; omega)
    · obtain rfl : a = 0 := Subsingleton.elim _ _
      exact Fin.ext (by show 768 + 1 * l.val = 768 + l; omega)
  · show ((P (t0 + (128 * k + 64 * n + r)) (1536 * hp + (768 + l)) : ℝ) : EReal) = _
    rw [show t0 + (128 * k.val + 64 * n.val + r.val) = t0 + 128 * k + 64 * n + r by omega, show 1536 * hp + (768 + l.val) = 768 * (2 * hp + 1) + l by omega]

/-- The gates' block. -/
theorem blkG_val (k : Fin k1_t1_loop.trips) (n : Fin 2) (r : Fin 64) (l : Fin 128) :
    v.blkG k n (ix2 r l) = ((P (t0 + 128 * k + 64 * n + r) (12288 + l) : ℝ) : EReal) := by
  have hk : k.val < 4 := trips4 ▸ k.isLt
  have hn := n.isLt
  unfold blkG
  refine (congrFun (cast_self _ _) _).trans ?_
  rw [View.readAt_unit v.arg3.view v.X_arg3 _ (off3_eq k n) (off3_eq k n ▸ k1_off3_inb k n)]
  refine ((congrArg (v.arg3.view.read (Elt Ideal) v.X_arg3) ?_).trans (h.x3 ⟨128 * k + 64 * n + r, by omega⟩ l)).trans ?_
  · funext a
    refine Fin.cases ?_ (fun a => ?_) a
    · exact Fin.ext (by show 128 * k.val + 64 * n.val + 1 * r.val = 128 * k + 64 * n + r; omega)
    · obtain rfl : a = 0 := Subsingleton.elim _ _
      exact Fin.ext (by show 0 + 1 * l.val = l; omega)
  · show ((P (t0 + (128 * k + 64 * n + r)) (12288 + l) : ℝ) : EReal) = _
    rw [show t0 + (128 * k.val + 64 * n.val + r.val) = t0 + 128 * k + 64 * n + r by omega]

/-- The first head's weights. -/
theorem wA_val (t : Fin 4) (l : Fin 512) : v.wA (ix3 0 t l) = ((W (wch (2 * hp) l) t : ℝ) : EReal) := by
  unfold wA
  rw [View.readAt_unit v.arg4.view v.X_arg4 _ rfl inb_S2x4x512_S1x4x512_0_0_0]
  refine (congrArg (v.arg4.view.read (Elt Ideal) v.X_arg4) ?_).trans (h.x4 0 t l)
  funext a
  exact Fin.ext (match a with
    | ⟨0, _⟩ => rfl
    | ⟨1, _⟩ => by show 0 + 1 * t.val = t; omega
    | ⟨2, _⟩ => by show 0 + 1 * l.val = l; omega)

/-- The second head's weights. -/
theorem wB_val (t : Fin 4) (l : Fin 512) : v.wB (ix3 0 t l) = ((W (wch (2 * hp + 1) l) t : ℝ) : EReal) := by
  unfold wB
  rw [View.readAt_unit v.arg4.view v.X_arg4 _ rfl inb_S2x4x512_S1x4x512_1_0_0]
  refine (congrArg (v.arg4.view.read (Elt Ideal) v.X_arg4) ?_).trans (h.x4 1 t l)
  funext a
  exact Fin.ext (match a with
    | ⟨0, _⟩ => rfl
    | ⟨1, _⟩ => by show 0 + 1 * t.val = t; omega
    | ⟨2, _⟩ => by show 0 + 1 * l.val = l; omega)

/-- A rate of decay. -/
theorem sx_val (p q : Fin 2) : v.sx p q = ((-Real.exp (Al (4 * hp + (2 * p + q))) : ℝ) : EReal) := by
  have hhp := h.hhp
  have h0 := h.i0
  unfold sx
  rw [View.readAt_unit v.arg5.view v.X_arg5 _ (off4_eq v.i p q) (off4_eq v.i p q ▸ k1_off4_inb v.i p q)]
  refine (congrArg (v.arg5.view.read (Elt Ideal) v.X_arg5) ?_).trans (h.x5a ⟨4 * hp + (2 * p + q), by omega⟩)
  funext a
  exact Fin.ext (match a with
    | ⟨0, _⟩ => rfl
    | ⟨1, _⟩ => by show 4 * (v.i 0).val + 2 * p.val + q.val + 1 * 0 = 4 * hp + (2 * p + q); omega)

/-- A time bias. -/
theorem sy_val (p q : Fin 2) : v.sy p q = ((Dt (4 * hp + (2 * p + q)) : ℝ) : EReal) := by
  have hhp := h.hhp
  have h0 := h.i0
  unfold sy
  rw [View.readAt_unit v.arg5.view v.X_arg5 _ (off5_eq v.i p q) (off5_eq v.i p q ▸ k1_off5_inb v.i p q)]
  refine (congrArg (v.arg5.view.read (Elt Ideal) v.X_arg5) ?_).trans (h.x5b ⟨4 * hp + (2 * p + q), by omega⟩)
  funext a
  exact Fin.ext (match a with
    | ⟨0, _⟩ => rfl
    | ⟨1, _⟩ => by show 4 * (v.i 0).val + 2 * p.val + q.val + 1 * 0 = 4 * hp + (2 * p + q); omega)

/-- A chunk over the right carried rows is the layer's. -/
theorem blk_ok (k : Fin k1_t1_loop.trips) (n : Fin 2) (c0 c1 : FVec Ideal S8x512 .f32) (s : FVec Ideal S64x128 .f32) (T : ℕ) (hT : T = t0 + 128 * k + 64 * n)
    (h0 : ∀ (r : Fin 8) (l : Fin 512), 5 ≤ r.val → c0 (ix2 r l) = ((pz P (T + (r - 5)) (768 * (2 * hp) + l) : ℝ) : EReal))
    (h1 : ∀ (r : Fin 8) (l : Fin 512), 5 ≤ r.val → c1 (ix2 r l) = ((pz P (T + (r - 5)) (768 * (2 * hp + 1) + l) : ℝ) : EReal))
    (hs : ∀ (r : Fin 64) (l : Fin 128), s (ix2 r l) = v.blkG k n (ix2 r l)) :
    (v.blk k n c0 c1 s).Ok P W Al Dt hp T := by
  subst hT
  exact { hhp := h.hhp, m1 := h.m1, m2 := h.m2, L := h.L, I := h.I, m5 := h.m5, a := h.a, i := h.i, c0 := h0, c1 := h1
          b0 := blkA_val h k n, b1 := blkB_val h k n, w0 := wA_val h, w1 := wB_val h, s := fun r l => (hs r l).trans (blkG_val h k n r l)
          x00 := sx_val h 0 0, x01 := sx_val h 0 1, x10 := sx_val h 1 0, x11 := sx_val h 1 1
          y00 := sy_val h 0 0, y01 := sy_val h 0 1, y10 := sy_val h 1 0, y11 := sy_val h 1 1 }

/-- The first chunk's inputs are the layer's. -/
theorem bk0_ok (k : Fin k1_t1_loop.trips) (f9 : BufTy.Contents (Elt Ideal) v.arg9.view.ty) (h9 : v.Inv9 P hp f9 (t0 + 128 * k)) :
    (v.bk0 k f9).Ok P W Al Dt hp (t0 + 128 * k) := by
  refine blk_ok h k 0 _ _ _ (t0 + 128 * k) (by simp) ?_ ?_ (fun r l => pay14_at _ r l)
  · intro r l hr
    rw [pay3_at]
    unfold cr0
    rw [View.readAt_unit v.arg9.view f9 _ rfl inb_S2x8x512_S1x8x512_0_0_0]
    refine (congrArg (v.arg9.view.read (Elt Ideal) f9) ?_).trans (h9 0 r l hr)
    funext a
    exact Fin.ext (match a with
      | ⟨0, _⟩ => rfl
      | ⟨1, _⟩ => by show 0 + 1 * r.val = r; omega
      | ⟨2, _⟩ => by show 0 + 1 * l.val = l; omega)
  · intro r l hr
    rw [pay3_at]
    unfold cr1
    rw [View.readAt_unit v.arg9.view f9 _ rfl inb_S2x8x512_S1x8x512_1_0_0]
    refine (congrArg (v.arg9.view.read (Elt Ideal) f9) ?_).trans (h9 1 r l hr)
    funext a
    exact Fin.ext (match a with
      | ⟨0, _⟩ => rfl
      | ⟨1, _⟩ => by show 0 + 1 * r.val = r; omega
      | ⟨2, _⟩ => by show 0 + 1 * l.val = l; omega)

omit h in
/-- A padded row inside the last rows. -/
theorem pz_last (P : ℕ → ℕ → ℝ) (T r l : ℕ) (hr : 5 ≤ r) : pz P (T + 64 + (r - 5)) l = P (T + (56 + r)) l := by
  rw [pz, if_neg (by omega)]
  congr 1
  omega

/-- The second chunk's inputs are the layer's. -/
theorem bk1_ok (k : Fin k1_t1_loop.trips) : (v.bk1 k).Ok P W Al Dt hp (t0 + 128 * k + 64) := by
  refine blk_ok h k 1 _ _ _ (t0 + 128 * k + 64) (by simp) ?_ ?_ (fun r l => pay64_at _ r l)
  · intro r l hr
    rw [pay7_at, blkA_val h k 0, pz_last P _ _ _ hr]
    rfl
  · intro r l hr
    rw [pay12_at, blkB_val h k 0, pz_last P _ _ _ hr]
    rfl

/-- After a trip the rows held are the last ones again. -/
theorem inv9_step (k : Fin k1_t1_loop.trips) (f7 : BufTy.Contents (Elt Ideal) v.arg7.view.ty) (f8 : BufTy.Contents (Elt Ideal) v.arg8.view.ty)
    (f9 : BufTy.Contents (Elt Ideal) v.arg9.view.ty) (g : BufTy.Contents (Elt Ideal) v.arg9.view.ty) (M : List (View.Piece (Elt Ideal) S2x8x512 .f32)) :
    v.Inv9 P hp (v.arg9.view.writes (Elt Ideal) g ((v.trip k f7 f8 f9).2.2 ++ M)) (t0 + 128 * k + 128) := by
  intro j r l hr
  rw [v.trip9]
  have hc : ∀ c, ((P (t0 + 128 * k + 64 + (56 + r)) c : ℝ) : EReal) = ((pz P (t0 + 128 * k + 128 + (r - 5)) c : ℝ) : EReal) := by
    intro c
    rw [show t0 + 128 * k.val + 128 = (t0 + 128 * k + 64) + 64 by omega, pz_last P _ _ _ hr]
  match j with
  | ⟨1, _⟩ =>
    refine (View.read_writes_cons_unit_of_mem v.arg9.view g inb_S2x8x512_S1x8x512_1_0_0 _ _ _ (ix3 (0 : Fin 1) r l) rfl ?_).trans ?_
    · intro a
      exact match a with
        | ⟨0, _⟩ => rfl
        | ⟨1, _⟩ => by show r.val = 0 + r; omega
        | ⟨2, _⟩ => by show l.val = 0 + l; omega
    · rw [pay111_at, blkB_val h k 1]
      exact hc _
  | ⟨0, _⟩ =>
    refine (View.read_writes_cons_unit_of_not_mem v.arg9.view g inb_S2x8x512_S1x8x512_1_0_0 _ _ _ rfl (0 : Fin 3) (Or.inl (by show 0 < 1; omega))).trans ?_
    refine (View.read_writes_cons_unit_of_mem v.arg9.view g inb_S2x8x512_S1x8x512_0_0_0 _ _ _ (ix3 (0 : Fin 1) r l) rfl ?_).trans ?_
    · intro a
      exact match a with
        | ⟨0, _⟩ => rfl
        | ⟨1, _⟩ => by show r.val = 0 + r; omega
        | ⟨2, _⟩ => by show l.val = 0 + l; omega
    · rw [pay110_at, blkA_val h k 1]
      exact hc _

omit h in
/-- A read of one head's state. -/
theorem st_val (f8 : BufTy.Contents (Elt Ideal) v.arg8.view.ty) (T : ℕ) (h8 : v.Inv8 P W Al Dt hp f8 T) (d e : Fin 128) :
    v.st0 f8 (ix3 0 d e) = ((Sh P W Al Dt (4 * hp + 0) T d e : ℝ) : EReal) ∧ v.st1 f8 (ix3 0 d e) = ((Sh P W Al Dt (4 * hp + 1) T d e : ℝ) : EReal)
      ∧ v.st2 f8 (ix3 0 d e) = ((Sh P W Al Dt (4 * hp + 2) T d e : ℝ) : EReal) ∧ v.st3 f8 (ix3 0 d e) = ((Sh P W Al Dt (4 * hp + 3) T d e : ℝ) : EReal) := by
  refine ⟨?_, ?_, ?_, ?_⟩
  · unfold st0
    rw [View.readAt_unit v.arg8.view f8 _ rfl inb_S4x128x128_S1x128x128_0_0_0]
    refine (congrArg (v.arg8.view.read (Elt Ideal) f8) ?_).trans (h8 0 d e)
    funext a
    exact Fin.ext (match a with
      | ⟨0, _⟩ => rfl
      | ⟨1, _⟩ => by show 0 + 1 * d.val = d; omega
      | ⟨2, _⟩ => by show 0 + 1 * e.val = e; omega)
  · unfold st1
    rw [View.readAt_unit v.arg8.view f8 _ rfl inb_S4x128x128_S1x128x128_1_0_0]
    refine (congrArg (v.arg8.view.read (Elt Ideal) f8) ?_).trans (h8 1 d e)
    funext a
    exact Fin.ext (match a with
      | ⟨0, _⟩ => rfl
      | ⟨1, _⟩ => by show 0 + 1 * d.val = d; omega
      | ⟨2, _⟩ => by show 0 + 1 * e.val = e; omega)
  · unfold st2
    rw [View.readAt_unit v.arg8.view f8 _ rfl inb_S4x128x128_S1x128x128_2_0_0]
    refine (congrArg (v.arg8.view.read (Elt Ideal) f8) ?_).trans (h8 2 d e)
    funext a
    exact Fin.ext (match a with
      | ⟨0, _⟩ => rfl
      | ⟨1, _⟩ => by show 0 + 1 * d.val = d; omega
      | ⟨2, _⟩ => by show 0 + 1 * e.val = e; omega)
  · unfold st3
    rw [View.readAt_unit v.arg8.view f8 _ rfl inb_S4x128x128_S1x128x128_3_0_0]
    refine (congrArg (v.arg8.view.read (Elt Ideal) f8) ?_).trans (h8 3 d e)
    funext a
    exact Fin.ext (match a with
      | ⟨0, _⟩ => rfl
      | ⟨1, _⟩ => by show 0 + 1 * d.val = d; omega
      | ⟨2, _⟩ => by show 0 + 1 * e.val = e; omega)

end

end Env

end Cert.CoreV

end
-- ==== Proof.CoreTripValue.lean ====
/- One trip of the second call's chunk loop over real numbers: the states after it are the recurrence's, and the rows of the
   output it stores are the layer's; then all its trips. -/
module

public import proofs.«01_k».proof.Proof.CoreTripReads

@[expose] public section

set_option maxRecDepth 16384

noncomputable section

namespace Cert.CoreV

open Cert.LayerIdeal Cert.LayerIdeal.Gen Cert.Gdn Idealize.ShloMosaic Idealize.ShloMosaic.TcCoe Idealize.SL.Sem
open scoped BigOperators

/-- A normalized, gated read-out is the layer's output. -/
theorem fN_outh {P W : ℕ → ℕ → ℝ} {Al Dt : ℕ → ℝ} {Nw : ℕ → EReal} {hp T : ℕ} {Qe Lo : ℕ → ℕ → ℕ → ℝ} {Sr : ℕ → ℕ → ℝ} (b j e : ℕ) (hb : b < 4)
    (hj : j < 64) (he : e < 128) (ho : ∀ b j e, b < 4 → j < 64 → e < 128 → oN Qe Lo (Sh P W Al Dt (4 * hp + b) T) b j e = oh P W Al Dt (4 * hp + b) (T + j) e)
    (hS : Sr = Sh P W Al Dt (4 * hp + b) T) :
    fN Qe Lo Sr (fun j c => P (T + j) (768 * (2 * hp + b / 2) + (512 + c))) Nw b j e = outh P W Al Dt Nw (4 * hp + b) (T + j) e := by
  subst hS
  have hss : ss (oN Qe Lo (Sh P W Al Dt (4 * hp + b) T) b j) = ss (oh P W Al Dt (4 * hp + b) (T + j)) := by
    unfold ss
    exact Finset.sum_congr rfl fun d _ => by rw [ho b j d hb hj d.isLt]
  unfold fN fin outh fin
  rw [hss, ho b j e hb hj he]
  have h1 : 768 * (2 * hp + b / 2) + (512 + (128 * (b % 2) + e)) = 768 * ((4 * hp + b) / 2) + 512 + 128 * ((4 * hp + b) % 2) + e := by omega
  rw [← h1]

/-- Reading through a stored block of 64 rows and 128 columns. -/
theorem read_block (v : View sig .tc .vmem S512x512 .bf16) (g : BufTy.Contents (Elt Ideal) v.ty) (off : Fin 2 → ℕ) (inb : ∀ a, off a + S64x128.size a ≤ S512x512.size a)
    (a b : ℕ) (ho : off = ![64 * a, 128 * b]) (w : FVec Ideal S64x128 .bf16) (M : List (View.Piece (Elt Ideal) S512x512 .bf16)) (r c : Fin 512) :
    v.read (Elt Ideal) (v.writes (Elt Ideal) g (⟨Rect.unit (s := S512x512) off S64x128.size inb, w⟩ :: M)) (ix2 r c)
      = if r.val / 64 = a ∧ c.val / 128 = b then w (ix2 ⟨r % 64, Nat.mod_lt _ (by decide)⟩ ⟨c % 128, Nat.mod_lt _ (by decide)⟩)
        else v.read (Elt Ideal) (v.writes (Elt Ideal) g M) (ix2 r c) := by
  by_cases h : r.val / 64 = a ∧ c.val / 128 = b
  · rw [if_pos h]
    refine View.read_writes_cons_unit_of_mem v g inb _ _ _ (ix2 (⟨r % 64, Nat.mod_lt _ (by decide)⟩ : Fin 64) (⟨c % 128, Nat.mod_lt _ (by decide)⟩ : Fin 128)) ho ?_
    intro x
    exact match x with
      | ⟨0, _⟩ => by show r.val = 64 * a + r % 64; omega
      | ⟨1, _⟩ => by show c.val = 128 * b + c % 128; omega
  · rw [if_neg h]
    by_cases h1 : r.val / 64 = a
    · refine View.read_writes_cons_unit_of_not_mem v g inb _ _ _ ho (1 : Fin 2) ?_
      show c.val < 128 * b ∨ 128 * b + 128 ≤ c.val
      have : c.val / 128 ≠ b := fun h2 => h ⟨h1, h2⟩
      omega
    · refine View.read_writes_cons_unit_of_not_mem v g inb _ _ _ ho (0 : Fin 2) ?_
      show r.val < 64 * a ∨ 64 * a + 64 ≤ r.val
      omega

namespace Env

/-- A chunk's first row. -/
theorem rows_eq (k n c : ℕ) : (![128 * k + 64 * n, c] : Fin 2 → ℕ) = ![64 * (2 * k + n), c] := by
  rw [show 128 * k + 64 * n = 64 * (2 * k + n) by omega]

section

variable {v : Env} {P W : ℕ → ℕ → ℝ} {Al Dt : ℕ → ℝ} {Nw : ℕ → EReal} {hp t0 : ℕ} (h : v.Ok P W Al Dt Nw hp t0)

include h

/-- The first chunk's first gates. -/
theorem z0_val (k : Fin k1_t1_loop.trips) (f9 : BufTy.Contents (Elt Ideal) v.arg9.view.ty) (r : Fin 64) (c : Fin 256) :
    (v.bk0 k f9).z0 (ix2 r c) = ((P (t0 + 128 * k + r) (768 * (2 * hp) + (512 + c)) : ℝ) : EReal) := by
  refine (pay58_at (v.blkA k 0) r c).trans ((blkA_val h k 0 r ⟨512 + c, by omega⟩).trans ?_)
  rfl

/-- The first chunk's second gates. -/
theorem z1_val (k : Fin k1_t1_loop.trips) (f9 : BufTy.Contents (Elt Ideal) v.arg9.view.ty) (r : Fin 64) (c : Fin 256) :
    (v.bk0 k f9).z1 (ix2 r c) = ((P (t0 + 128 * k + r) (768 * (2 * hp + 1) + (512 + c)) : ℝ) : EReal) := by
  refine (pay63_at (v.blkB k 0) r c).trans ((blkB_val h k 0 r ⟨512 + c, by omega⟩).trans ?_)
  rfl

/-- The second chunk's first gates. -/
theorem z0_val' (k : Fin k1_t1_loop.trips) (r : Fin 64) (c : Fin 256) :
    (v.bk1 k).z0 (ix2 r c) = ((P (t0 + 128 * k + 64 + r) (768 * (2 * hp) + (512 + c)) : ℝ) : EReal) := by
  refine (pay58_at (v.blkA k 1) r c).trans ((blkA_val h k 1 r ⟨512 + c, by omega⟩).trans ?_)
  rfl

/-- The second chunk's second gates. -/
theorem z1_val' (k : Fin k1_t1_loop.trips) (r : Fin 64) (c : Fin 256) :
    (v.bk1 k).z1 (ix2 r c) = ((P (t0 + 128 * k + 64 + r) (768 * (2 * hp + 1) + (512 + c)) : ℝ) : EReal) := by
  refine (pay63_at (v.blkB k 1) r c).trans ((blkB_val h k 1 r ⟨512 + c, by omega⟩).trans ?_)
  rfl

/-- The norm's weights. -/
theorem nw_val (e : Fin 128) : k1_pay2 v.v115 (ix2 0 e) = Nw e := (pay2_at _ e).trans (h.nw e)

variable (k : Fin k1_t1_loop.trips) (f8 : BufTy.Contents (Elt Ideal) v.arg8.view.ty) (f9 : BufTy.Contents (Elt Ideal) v.arg9.view.ty)
  (h8 : v.Inv8 P W Al Dt hp f8 (t0 + 128 * k)) (h9 : v.Inv9 P hp f9 (t0 + 128 * k))

include h8 h9

/-- The states between a trip's two chunks. -/
theorem mid_val :
    (∀ d e : Fin 128, pay115 (v.bk0 k f9).e0 (v.bk0 k f9).qe (v.bk0 k f9).w2 (v.st0 f8) (ix2 d e) = ((Sh P W Al Dt (4 * hp + 0) (t0 + 128 * k + 64) d e : ℝ) : EReal))
    ∧ (∀ d e : Fin 128, k1_pay128 (v.bk0 k f9).e1 (v.bk0 k f9).qe (v.bk0 k f9).w2 (v.st1 f8) (ix2 d e) = ((Sh P W Al Dt (4 * hp + 1) (t0 + 128 * k + 64) d e : ℝ) : EReal))
    ∧ (∀ d e : Fin 128, pay132 (v.bk0 k f9).e2 (k1_pay114 (v.st2 f8)) (pay130 (v.bk0 k f9).w2) (pay131 (v.bk0 k f9).qe (v.bk0 k f9).w2 (v.st2 f8)) (ix2 d e) = ((Sh P W Al Dt (4 * hp + 2) (t0 + 128 * k + 64) d e : ℝ) : EReal))
    ∧ (∀ d e : Fin 128, k1_pay146 (v.bk0 k f9).e3 (v.bk0 k f9).qe (v.bk0 k f9).w2 (v.st3 f8) (ix2 d e) = ((Sh P W Al Dt (4 * hp + 3) (t0 + 128 * k + 64) d e : ℝ) : EReal)) := by
  obtain ⟨Qe, Lo, W2, E, R⟩ := Blk.res (bk0_ok h k f9 h9)
  generalize v.bk0 k f9 = u at *
  refine ⟨fun d e => ?_, fun d e => ?_, fun d e => ?_, fun d e => ?_⟩
  · exact (state0_val' _ _ _ _ _ _ R.e0 R.w _ (fun d e => (st_val f8 _ h8 d e).1) d e).trans (congrArg _ (R.state 0 d e (by decide) e.isLt))
  · exact (state1_val' _ _ _ _ _ _ R.e1 R.w _ (fun d e => (st_val f8 _ h8 d e).2.1) d e).trans (congrArg _ (R.state 1 d e (by decide) e.isLt))
  · exact (state2_val _ _ _ _ _ _ R.e2 R.w _ (fun d e => (st_val f8 _ h8 d e).2.2.1) d e).trans (congrArg _ (R.state 2 d e (by decide) e.isLt))
  · exact (state3_val' _ _ _ _ _ _ R.e3 R.w _ (fun d e => (st_val f8 _ h8 d e).2.2.2) d e).trans (congrArg _ (R.state 3 d e (by decide) e.isLt))

/-- After a trip the states held are the recurrence's again. -/
theorem inv8_step (f7 : BufTy.Contents (Elt Ideal) v.arg7.view.ty) (g : BufTy.Contents (Elt Ideal) v.arg8.view.ty) (M : List (View.Piece (Elt Ideal) S4x128x128 .f32)) :
    v.Inv8 P W Al Dt hp (v.arg8.view.writes (Elt Ideal) g ((v.trip k f7 f8 f9).2.1 ++ M)) (t0 + 128 * k + 128) := by
  obtain ⟨m0, m1, m2, m3⟩ := mid_val h k f8 f9 h8 h9
  obtain ⟨Qe, Lo, W2, E, R⟩ := Blk.res (bk1_ok h k)
  intro b d e
  rw [v.trip8]
  generalize pay115 (v.bk0 k f9).e0 (v.bk0 k f9).qe (v.bk0 k f9).w2 (v.st0 f8) = s0 at *
  generalize k1_pay128 (v.bk0 k f9).e1 (v.bk0 k f9).qe (v.bk0 k f9).w2 (v.st1 f8) = s1 at *
  generalize k1_pay146 (v.bk0 k f9).e3 (v.bk0 k f9).qe (v.bk0 k f9).w2 (v.st3 f8) = s3 at *
  generalize v.bk1 k = u at *
  have hx : ∀ (n : ℕ) (b : Fin 4), b.val = n → ∀ a : Fin 3, ((ix3 b d e : S4x128x128.Idx) a).val = (![n, 0, 0] : Fin 3 → ℕ) a + ((ix3 (0 : Fin 1) d e : S1x128x128.Idx) a).val := by
    intro n b hb a
    exact match a with
      | ⟨0, _⟩ => by show b.val = n + 0; omega
      | ⟨1, _⟩ => by show d.val = 0 + d; omega
      | ⟨2, _⟩ => by show e.val = 0 + e; omega
  match b with
  | ⟨3, _⟩ =>
    refine (View.read_writes_cons_unit_of_mem v.arg8.view g inb_S4x128x128_S1x128x128_3_0_0 _ _ _ (ix3 (0 : Fin 1) d e) rfl (hx 3 _ rfl)).trans ?_
    exact (state3_val _ _ _ _ _ _ _ R.e3 R.w m3 d e).trans (congrArg _ (R.state 3 d e (by decide) e.isLt))
  | ⟨2, _⟩ =>
    refine (View.read_writes_cons_unit_of_not_mem v.arg8.view g inb_S4x128x128_S1x128x128_3_0_0 _ _ _ rfl (0 : Fin 3) (Or.inl (by show 2 < 3; omega))).trans ?_
    refine (View.read_writes_cons_unit_of_mem v.arg8.view g inb_S4x128x128_S1x128x128_2_0_0 _ _ _ (ix3 (0 : Fin 1) d e) rfl (hx 2 _ rfl)).trans ?_
    exact (state2_val' _ _ _ _ _ _ R.e2 R.w _ _ _ _ m2 d e).trans (congrArg _ (R.state 2 d e (by decide) e.isLt))
  | ⟨1, _⟩ =>
    refine (View.read_writes_cons_unit_of_not_mem v.arg8.view g inb_S4x128x128_S1x128x128_3_0_0 _ _ _ rfl (0 : Fin 3) (Or.inl (by show 1 < 3; omega))).trans ?_
    refine (View.read_writes_cons_unit_of_not_mem v.arg8.view g inb_S4x128x128_S1x128x128_2_0_0 _ _ _ rfl (0 : Fin 3) (Or.inl (by show 1 < 2; omega))).trans ?_
    refine (View.read_writes_cons_unit_of_mem v.arg8.view g inb_S4x128x128_S1x128x128_1_0_0 _ _ _ (ix3 (0 : Fin 1) d e) rfl (hx 1 _ rfl)).trans ?_
    exact (state1_val _ _ _ _ _ _ _ R.e1 R.w m1 d e).trans (congrArg _ (R.state 1 d e (by decide) e.isLt))
  | ⟨0, _⟩ =>
    refine (View.read_writes_cons_unit_of_not_mem v.arg8.view g inb_S4x128x128_S1x128x128_3_0_0 _ _ _ rfl (0 : Fin 3) (Or.inl (by show 0 < 3; omega))).trans ?_
    refine (View.read_writes_cons_unit_of_not_mem v.arg8.view g inb_S4x128x128_S1x128x128_2_0_0 _ _ _ rfl (0 : Fin 3) (Or.inl (by show 0 < 2; omega))).trans ?_
    refine (View.read_writes_cons_unit_of_not_mem v.arg8.view g inb_S4x128x128_S1x128x128_1_0_0 _ _ _ rfl (0 : Fin 3) (Or.inl (by show 0 < 1; omega))).trans ?_
    refine (View.read_writes_cons_unit_of_mem v.arg8.view g inb_S4x128x128_S1x128x128_0_0_0 _ _ _ (ix3 (0 : Fin 1) d e) rfl (hx 0 _ rfl)).trans ?_
    rw [pay121_at]
    exact (state0_val _ _ _ _ _ _ _ R.e0 R.w m0 d e).trans (congrArg _ (R.state 0 d e (by decide) e.isLt))

/-- The output after a trip: the trip's 128 rows are the layer's, the others are as before. -/
theorem out_step (f7 : BufTy.Contents (Elt Ideal) v.arg7.view.ty) (g : BufTy.Contents (Elt Ideal) v.arg7.view.ty) (M : List (View.Piece (Elt Ideal) S512x512 .bf16)) (r c : Fin 512) :
    v.arg7.view.read (Elt Ideal) (v.arg7.view.writes (Elt Ideal) g ((v.trip k f7 f8 f9).1 ++ M)) (ix2 r c)
      = if r.val / 128 = k.val then outh P W Al Dt Nw (4 * hp + c / 128) (t0 + r) (c % 128)
        else v.arg7.view.read (Elt Ideal) (v.arg7.view.writes (Elt Ideal) g M) (ix2 r c) := by
  obtain ⟨m0, m1, m2, m3⟩ := mid_val h k f8 f9 h8 h9
  obtain ⟨Qe, Lo, W2, E, R⟩ := Blk.res (bk1_ok h k)
  obtain ⟨Qe', Lo', W2', E', R'⟩ := Blk.res (bk0_ok h k f9 h9)
  have y0 := z0_val' h k
  have y1 := z1_val' h k
  have x0 := z0_val h k f9
  have x1 := z1_val h k f9
  have n := nw_val h
  have s0 : ∀ d e, v.st0 f8 (ix3 0 d e) = _ := fun d e => (st_val f8 _ h8 d e).1
  have s1 : ∀ d e, v.st1 f8 (ix3 0 d e) = _ := fun d e => (st_val f8 _ h8 d e).2.1
  have s2 : ∀ d e, v.st2 f8 (ix3 0 d e) = _ := fun d e => (st_val f8 _ h8 d e).2.2.1
  have s3 : ∀ d e, v.st3 f8 (ix3 0 d e) = _ := fun d e => (st_val f8 _ h8 d e).2.2.2
  rw [v.trip7]
  rw [List.cons_append, List.cons_append, List.cons_append, List.cons_append, List.cons_append, List.cons_append, List.cons_append, List.cons_append, List.nil_append]
  generalize pay115 (v.bk0 k f9).e0 (v.bk0 k f9).qe (v.bk0 k f9).w2 (v.st0 f8) = t0' at *
  generalize k1_pay128 (v.bk0 k f9).e1 (v.bk0 k f9).qe (v.bk0 k f9).w2 (v.st1 f8) = t1' at *
  generalize k1_pay146 (v.bk0 k f9).e3 (v.bk0 k f9).qe (v.bk0 k f9).w2 (v.st3 f8) = t3' at *
  generalize v.bk1 k = u at *
  generalize v.bk0 k f9 = u' at *
  generalize v.st0 f8 = q0 at *
  generalize v.st1 f8 = q1 at *
  generalize v.st2 f8 = q2 at *
  generalize v.st3 f8 = q3 at *
  rw [read_block _ g (k1_off9 k 1#32) (k1_off9_inb k 1) (2 * k + 1) 3 ((off9_eq k 1).trans (rows_eq k 1 384)),
    read_block _ g (k1_off9 k 0#32) (k1_off9_inb k 0) (2 * k + 0) 3 ((off9_eq k 0).trans (rows_eq k 0 384)),
    read_block _ g (k1_off8 k 1#32) (k1_off8_inb k 1) (2 * k + 1) 2 ((off8_eq k 1).trans (rows_eq k 1 256)),
    read_block _ g (k1_off8 k 0#32) (k1_off8_inb k 0) (2 * k + 0) 2 ((off8_eq k 0).trans (rows_eq k 0 256)),
    read_block _ g (k1_off7 k 1#32) (k1_off7_inb k 1) (2 * k + 1) 1 ((off7_eq k 1).trans (rows_eq k 1 128)),
    read_block _ g (k1_off7 k 0#32) (k1_off7_inb k 0) (2 * k + 0) 1 ((off7_eq k 0).trans (rows_eq k 0 128)),
    read_block _ g (k1_off6 k 1#32) (k1_off6_inb k 1) (2 * k + 1) 0 ((off6_eq k 1).trans (rows_eq k 1 0)),
    read_block _ g (k1_off6 k 0#32) (k1_off6_inb k 0) (2 * k + 0) 0 ((off6_eq k 0).trans (rows_eq k 0 0))]
  by_cases hr : r.val / 128 = k.val
  swap
  · rw [if_neg hr, if_neg (by omega), if_neg (by omega), if_neg (by omega), if_neg (by omega), if_neg (by omega), if_neg (by omega), if_neg (by omega), if_neg (by omega)]
  rw [if_pos hr]
  have hc : c.val / 128 = 0 ∨ c.val / 128 = 1 ∨ c.val / 128 = 2 ∨ c.val / 128 = 3 := by omega
  have he : c.val % 128 < 128 := by omega
  have hj : r.val % 64 < 64 := by omega
  rcases (by omega : r.val / 64 = 2 * k.val + 0 ∨ r.val / 64 = 2 * k.val + 1) with hu | hu
  · have ht : t0 + r.val = t0 + 128 * k + r % 64 := by omega
    rw [ht]
    rcases hc with hb | hb | hb | hb <;> simp only [hu, hb]
    · simp only [Nat.add_zero, and_self, if_true, Nat.left_eq_add, Nat.reduceEqDiff, and_false, false_and, if_false, and_true, one_ne_zero, OfNat.zero_ne_ofNat, OfNat.one_ne_ofNat, OfNat.ofNat_ne_zero, zero_ne_one]
      exact (out0_val' _ _ _ _ _ _ _ (fun j c => P (t0 + 128 * k + j) (768 * (2 * hp + 0 / 2) + (512 + c))) _ _ R'.q R'.l x0 n _ s0 ⟨_, hj⟩ ⟨_, he⟩).trans
        ((fN_outh 0 _ _ (by decide) hj he R'.out rfl))
    · simp only [Nat.add_zero, and_self, if_true, Nat.left_eq_add, Nat.reduceEqDiff, and_false, false_and, if_false, and_true, one_ne_zero, OfNat.zero_ne_ofNat, OfNat.one_ne_ofNat, OfNat.ofNat_ne_zero, zero_ne_one]
      exact (out1_val' _ _ _ _ _ _ _ (fun j c => P (t0 + 128 * k + j) (768 * (2 * hp + 1 / 2) + (512 + c))) _ _ R'.q R'.l x0 n _ s1 ⟨_, hj⟩ ⟨_, he⟩).trans
        ((fN_outh 1 _ _ (by decide) hj he R'.out rfl))
    · simp only [Nat.add_zero, and_self, if_true, Nat.left_eq_add, Nat.reduceEqDiff, and_false, false_and, if_false, and_true, one_ne_zero, OfNat.zero_ne_ofNat, OfNat.one_ne_ofNat, OfNat.ofNat_ne_zero, zero_ne_one]
      exact (out2_val _ _ _ _ _ _ _ (fun j c => P (t0 + 128 * k + j) (768 * (2 * hp + 2 / 2) + (512 + c))) _ _ R'.q R'.l x1 n _ s2 ⟨_, hj⟩ ⟨_, he⟩).trans
        ((fN_outh 2 _ _ (by decide) hj he R'.out rfl))
    · simp only [Nat.add_zero, and_self, if_true, Nat.left_eq_add, Nat.reduceEqDiff, and_false, false_and, if_false, and_true, one_ne_zero, OfNat.zero_ne_ofNat, OfNat.one_ne_ofNat, OfNat.ofNat_ne_zero, zero_ne_one]
      exact (out3_val' _ _ _ _ _ _ _ (fun j c => P (t0 + 128 * k + j) (768 * (2 * hp + 3 / 2) + (512 + c))) _ _ R'.q R'.l x1 n _ s3 ⟨_, hj⟩ ⟨_, he⟩).trans
        ((fN_outh 3 _ _ (by decide) hj he R'.out rfl))
  · have ht : t0 + r.val = t0 + 128 * k + 64 + r % 64 := by omega
    rw [ht]
    rcases hc with hb | hb | hb | hb <;> simp only [hu, hb]
    · simp only [Nat.add_zero, and_self, if_true, Nat.add_eq_left, Nat.reduceEqDiff, and_false, false_and, if_false, and_true, one_ne_zero, OfNat.zero_ne_ofNat, OfNat.one_ne_ofNat, OfNat.ofNat_ne_zero, zero_ne_one]
      exact (out0_val _ _ _ _ _ _ _ _ (fun j c => P (t0 + 128 * k + 64 + j) (768 * (2 * hp + 0 / 2) + (512 + c))) _ _ R.q R.l y0 n m0 ⟨_, hj⟩ ⟨_, he⟩).trans
        ((fN_outh 0 _ _ (by decide) hj he R.out rfl))
    · simp only [Nat.add_zero, and_self, if_true, Nat.add_eq_left, Nat.reduceEqDiff, and_false, false_and, if_false, and_true, one_ne_zero, OfNat.zero_ne_ofNat, OfNat.one_ne_ofNat, OfNat.ofNat_ne_zero, zero_ne_one]
      exact (out1_val _ _ _ _ _ _ _ _ (fun j c => P (t0 + 128 * k + 64 + j) (768 * (2 * hp + 1 / 2) + (512 + c))) _ _ R.q R.l y0 n m1 ⟨_, hj⟩ ⟨_, he⟩).trans
        ((fN_outh 1 _ _ (by decide) hj he R.out rfl))
    · simp only [Nat.add_zero, and_self, if_true, Nat.add_eq_left, Nat.reduceEqDiff, and_false, false_and, if_false, and_true, one_ne_zero, OfNat.zero_ne_ofNat, OfNat.one_ne_ofNat, OfNat.ofNat_ne_zero, zero_ne_one]
      exact (out2_val' _ _ _ _ _ _ _ (fun j c => P (t0 + 128 * k + 64 + j) (768 * (2 * hp + 2 / 2) + (512 + c))) _ _ R.q R.l y1 n _ _ _ _ m2 ⟨_, hj⟩ ⟨_, he⟩).trans
        ((fN_outh 2 _ _ (by decide) hj he R.out rfl))
    · simp only [Nat.add_zero, and_self, if_true, Nat.add_eq_left, Nat.reduceEqDiff, and_false, false_and, if_false, and_true, one_ne_zero, OfNat.zero_ne_ofNat, OfNat.one_ne_ofNat, OfNat.ofNat_ne_zero, zero_ne_one]
      exact (out3_val _ _ _ _ _ _ _ _ (fun j c => P (t0 + 128 * k + 64 + j) (768 * (2 * hp + 3 / 2) + (512 + c))) _ _ R.q R.l y1 n m3 ⟨_, hj⟩ ⟨_, he⟩).trans
        ((fN_outh 3 _ _ (by decide) hj he R.out rfl))

end

/-- The trips: from the recurrence's states before the windows' first token, after `n` trips those before the next token, and
the layer's output in the rows gone over. -/
theorem trips_val {v : Env} {P W : ℕ → ℕ → ℝ} {Al Dt : ℕ → ℝ} {Nw : ℕ → EReal} {hp t0 : ℕ} (h : v.Ok P W Al Dt Nw hp t0)
    (G7 : BufTy.Contents (Elt Ideal) v.arg7.view.ty) (G8 : BufTy.Contents (Elt Ideal) v.arg8.view.ty) (G9 : BufTy.Contents (Elt Ideal) v.arg9.view.ty)
    (h8 : v.Inv8 P W Al Dt hp G8 t0) (h9 : v.Inv9 P hp G9 t0) (n : ℕ) (hn : n ≤ k1_t1_loop.trips) :
    v.Inv8 P W Al Dt hp (v.arg8.view.writes (Elt Ideal) G8 (v.pb G7 G8 G9 n).2.1) (t0 + 128 * n)
    ∧ v.Inv9 P hp (v.arg9.view.writes (Elt Ideal) G9 (v.pb G7 G8 G9 n).2.2) (t0 + 128 * n)
    ∧ ∀ (g : BufTy.Contents (Elt Ideal) v.arg7.view.ty) (r c : Fin 512), r.val < 128 * n →
      v.arg7.view.read (Elt Ideal) (v.arg7.view.writes (Elt Ideal) g (v.pb G7 G8 G9 n).1) (ix2 r c) = outh P W Al Dt Nw (4 * hp + c / 128) (t0 + r) (c % 128) := by
  induction n with
  | zero => exact ⟨h8, h9, fun g r c hr => absurd hr (by omega)⟩
  | succ n ih =>
    obtain ⟨i8, i9, i7⟩ := ih (by omega)
    have e := pb_k1_t1_succ (F := Ideal) Variants.none v.c none v.i v.arg2 v.harg2 v.arg3 v.harg3 v.arg4 v.harg4 v.arg5 v.harg5 v.arg6 v.harg6 v.arg7 v.harg7 v.arg8 v.harg8 v.arg9 v.harg9 v.arg0 v.v55 v.v57 v.v59 v.v62 v.v64 v.v88 v.c128_i32 v.v90 v.v91 v.v114 v.v115 v.X_arg2 v.X_arg3 v.X_arg4 v.X_arg5 G7 G8 G9 ⟨n, by omega⟩
    have e' : v.pb G7 G8 G9 (n + 1) = _ := e
    rw [e']
    refine ⟨?_, ?_, ?_⟩
    · exact inv8_step h ⟨n, by omega⟩ _ _ i8 i9 _ _ _
    · exact inv9_step h ⟨n, by omega⟩ _ _ _ _ _
    · intro g r c hr
      refine (out_step h ⟨n, by omega⟩ _ _ i8 i9 _ g _ r c).trans ?_
      by_cases hk : r.val / 128 = n
      · exact if_pos hk
      · exact (if_neg hk).trans (i7 g r c (by omega))

end Env

end Cert.CoreV

end
-- ==== Proof.CoreMasks.lean ====
/- The second call's masks, entry by entry. -/
module

public import proofs.«01_k».proof.Proof.CoreUnit

@[expose] public section

set_option maxRecDepth 16384

noncomputable section

namespace Cert.CoreV

open Cert.LayerIdeal Cert.LayerIdeal.Gen Cert.Gdn Idealize.ShloMosaic Idealize.ShloMosaic.TcCoe Idealize.SL.Sem
open scoped BigOperators

/-- A row's number. -/
def i0 : IVec S256x256 32 := iota .tc S256x256 32 [0] iota_S256x256_d0_w32

/-- A column's number. -/
def i1 : IVec S256x256 32 := iota .tc S256x256 32 [1] iota_S256x256_d1_w32

/-- The row's number. -/
theorem i0_at (r s : Fin 256) : i0 (ix2 r s) = BitVec.ofNat 32 r := by
  pointwise [i0]

/-- The column's number. -/
theorem i1_at (r s : Fin 256) : i1 (ix2 r s) = BitVec.ofNat 32 s := by
  pointwise [i1]

/-- A row's block. -/
theorem rowblock (r s : Fin 256) : k1_pay154 (ix2 r s) = BitVec.ofNat 32 (r / 64) := by
  pointwise [k1_pay154]
  revert r
  decide +kernel

/-- Equality of small words. -/
theorem flag_eq (a b : ℕ) (ha : a < 512) (hb : b < 512) : IntOp.cmpi .eq (BitVec.ofNat 32 a) (BitVec.ofNat 32 b) = if a = b then 1#1 else 0#1 := by
  have : (BitVec.ofNat 32 a == BitVec.ofNat 32 b) = decide (a = b) := by
    by_cases h : a = b
    · subst h; simp
    · rw [decide_eq_false h]
      refine beq_false_of_ne fun h' => h ?_
      have := congrArg BitVec.toNat h'
      rw [BitVec.toNat_ofNat, BitVec.toNat_ofNat] at this
      omega
  show BitVec.ofBool (BitVec.ofNat 32 a == BitVec.ofNat 32 b) = _
  rw [this]
  by_cases h : a = b <;> simp [h]

/-- A small word, read signed. -/
theorem toInt_nat (a : ℕ) (ha : a < 512) : (BitVec.ofNat 32 a).toInt = (a : ℤ) := by
  have h : (BitVec.ofNat 32 a).toNat = a := by rw [BitVec.toNat_ofNat]; omega
  rw [BitVec.toInt_eq_toNat_of_lt (by omega), h]

/-- Signed order of small words. -/
theorem slt_nat (a b : ℕ) (ha : a < 512) (hb : b < 512) : (BitVec.ofNat 32 a).slt (BitVec.ofNat 32 b) = decide (a < b) := by
  rw [BitVec.slt, toInt_nat a ha, toInt_nat b hb]
  simp

/-- Greater, of small words. -/
theorem flag_sgt (a b : ℕ) (ha : a < 512) (hb : b < 512) : IntOp.cmpi .sgt (BitVec.ofNat 32 a) (BitVec.ofNat 32 b) = if b < a then 1#1 else 0#1 := by
  show BitVec.ofBool ((BitVec.ofNat 32 b).slt (BitVec.ofNat 32 a)) = _
  rw [slt_nat b a hb ha]
  by_cases h : b < a <;> simp [h]

/-- At least, of small words. -/
theorem flag_sge (a b : ℕ) (ha : a < 512) (hb : b < 512) : IntOp.cmpi .sge (BitVec.ofNat 32 a) (BitVec.ofNat 32 b) = if b ≤ a then 1#1 else 0#1 := by
  show BitVec.ofBool ((BitVec.ofNat 32 b).sle (BitVec.ofNat 32 a)) = _
  rw [BitVec.sle, toInt_nat a ha, toInt_nat b hb]
  by_cases h : b ≤ a <;> simp [h]

/-- Both of two flags. -/
theorem flag_and (p q : Prop) [Decidable p] [Decidable q] : IntOp.andi (if p then 1#1 else 0#1) (if q then 1#1 else 0#1) = if p ∧ q then 1#1 else 0#1 := by
  by_cases hp : p <;> by_cases hq : q <;> simp [hp, hq] <;> rfl

/-- Rows and columns of one block. -/
theorem same_block (r s : Fin 256) : k1_pay157 i1 k1_pay154 64#32 k1_pay155 k1_pay156 1#32 (ix2 r s) = if r.val / 64 = s.val / 64 then 1#1 else 0#1 := by
  have hr := r.isLt
  have hs := s.isLt
  rw [← flag_eq (r.val / 64) (s.val / 64) (by omega) (by omega)]
  pointwise [k1_pay157, k1_pay155, k1_pay156, i1]
  rw [rowblock]
  refine congrArg (IntOp.cmpi .eq _) ?_
  clear hs hr
  revert s
  decide +kernel

/-- The strict mask. -/
theorem strict_mask (r s : Fin 256) : k1_pay158 i0 i1 k1_pay154 64#32 k1_pay155 k1_pay156 1#32 (ix2 r s)
    = if r.val / 64 = s.val / 64 ∧ s.val < r.val then 1#1 else 0#1 := by
  pointwise [k1_pay158]
  rw [same_block, i0_at, i1_at, flag_sgt r.val s.val (by omega) (by omega), flag_and]

/-- The mask. -/
theorem full_mask (r s : Fin 256) : k1_pay159 i0 i1 k1_pay154 64#32 k1_pay155 k1_pay156 1#32 (ix2 r s)
    = if r.val / 64 = s.val / 64 ∧ s.val ≤ r.val then 1#1 else 0#1 := by
  pointwise [k1_pay159]
  rw [same_block, i0_at, i1_at, flag_sge r.val s.val (by omega) (by omega), flag_and]

/-- A flag as a number. -/
theorem ofInt_flag (p : Prop) [Decidable p] : FloatOps.sitofp (F := Ideal) FTy.f32 (BitVec.setWidth 32 (if p then 1#1 else 0#1)) = (((if p then 1 else 0 : ℝ) : ℝ) : EReal) := by
  by_cases hp : p
  · rw [if_pos hp, if_pos hp]
    show (((BitVec.setWidth 32 1#1).toInt : ℝ) : EReal) = _
    rw [show (BitVec.setWidth 32 1#1).toInt = 1 by decide]; norm_num
  · rw [if_neg hp, if_neg hp]
    show (((BitVec.setWidth 32 0#1).toInt : ℝ) : EReal) = _
    rw [show (BitVec.setWidth 32 0#1).toInt = 0 by decide]; norm_num

/-- The mask as numbers. -/
theorem float_mask (r s : Fin 256) : k1_pay160 (F := Ideal) i0 i1 k1_pay154 64#32 k1_pay155 k1_pay156 1#32 (ix2 r s)
    = (((if r.val / 64 = s.val / 64 ∧ s.val ≤ r.val then 1 else 0 : ℝ) : ℝ) : EReal) := by
  pointwise [k1_pay160]
  rw [full_mask]
  exact ofInt_flag _

/-- The identity. -/
theorem id_mask (r s : Fin 256) : k1_pay161 (F := Ideal) i0 i1 (ix2 r s) = (((if r = s then 1 else 0 : ℝ) : ℝ) : EReal) := by
  pointwise [k1_pay161]
  rw [i0_at, i1_at, flag_eq r.val s.val (by omega) (by omega), ofInt_flag]
  simp only [Fin.ext_iff]

/-- The wide mask. -/
theorem wide_mask (r : Fin 256) (n : Fin 512) : k1_pay1 (iota .tc S256x512 32 [1] iota_S256x512_d1_w32) k1_pay162 128#32 k1_pay163 k1_pay164 (ix2 r n)
    = if r.val / 64 = n.val / 128 then 1#1 else 0#1 := by
  have h : k1_pay162 (ix2 r n) = BitVec.ofNat 32 (r / 64) := by
    pointwise [k1_pay162]
    revert r
    decide +kernel
  have hr := r.isLt
  have hn := n.isLt
  rw [← flag_eq (r.val / 64) (n.val / 128) (by omega) (by omega)]
  pointwise [k1_pay1, k1_pay163, k1_pay164]
  rw [h]
  refine congrArg (IntOp.cmpi .eq _) ?_
  clear hn hr h
  revert n
  decide +kernel

end Cert.CoreV

end
-- ==== Proof.CoreIdealValueCopy.lean ====
/- The run of the second call of `LayerIdeal` read at its result: each block as the body of its grid point leaves it. -/
module

public import proofs.«01_k».proof.Proof.CoreIdealFrameCopy
public import Idealize.ShloMosaic.Lib.Pipeline.Value

@[expose] public section

noncomputable section

namespace Cert.LayerIdeal.Value

open Cert.LayerIdeal Cert.LayerIdeal.Gen Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

/-! ## Blockwise: what each point writes back, and the final array block by block -/

/-- WHAT POINT `t` WRITES BACK to output window 5's array: the run's contents for that window after the body (`Gen.outsAt1`: its component 0), read through the window's block. -/
theorem flushed5 (c : Dev nD) (t : Fin cfg1.N) :
    (dat1 V c).flushed 5 t = (cfg1.win 5).cut (grid1.coords t) ((outsAt1 V c t.val t.isLt).1) := by
  show (cfg1.win 5).cut (grid1.coords t) ((dat1 V c).after 5 t) = _
  rw [after1_5]

/-- … so at a point where case A runs, what its write-back would write is that case's NAMED TERM for the window (`Gen.out1_A_5`: the pieces
    its run found, read back) at the point's memrefs and input blocks, and for an output the case reads back what the point before left (`Gen.outsAt1` at `t - 1`) — by the frame's rewriting lemma for the case. -/
theorem flushed5_A (c : Dev nD) (t : Fin cfg1.N) (h0 : t.val % 8 = 0) :
    (dat1 V c).flushed 5 t = (cfg1.win 5).cut (grid1.coords t) (out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) ((hcond1_0 t).mpr h0) (X1_0 V c t) (iblk V c 1 t) (iblk V c 2 t) (iblk V c 3 t) (iblk V c 4 t)) := by
  simp only [flushed5, outsAt0_A V c t h0]

/-- … so at a point where case B runs, what its write-back would write is that case's NAMED TERM for the window (`Gen.out1_B_5`: the pieces
    its run found, read back) at the point's memrefs and input blocks, and for an output the case reads back what the point before left (`Gen.outsAt1` at `t - 1`) — by the frame's rewriting lemma for the case. -/
theorem flushed5_B (c : Dev nD) (t : Fin cfg1.N) (h0 : ¬t.val % 8 = 0) :
    (dat1 V c).flushed 5 t = (cfg1.win 5).cut (grid1.coords t) (out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 ((hcond1_0 t).mp h)) (X1_0 V c t) (iblk V c 1 t) (iblk V c 2 t) (iblk V c 3 t) (iblk V c 4 t) (outsAt1 V c (t.val - 1) (Nat.lt_of_le_of_lt (Nat.sub_le _ _) t.isLt)).2.1 (outsAt1 V c (t.val - 1) (Nat.lt_of_le_of_lt (Nat.sub_le _ _) t.isLt)).2.2) := by
  simp only [flushed5, outsAt0_B V c t h0]

/-- The index map sends distinct grid points to distinct block indices (decided over the 64 points). -/
theorem idx_inj5 : ∀ t t' : Fin cfg1.N, win1_5.index t = win1_5.index t' → t = t' :=
  (by decide +kernel : ∀ t t' : Fin grid1.N, win1_5.index t = win1_5.index t' → t = t')

/-- So two flushing points' blocks share no array index. -/
theorem disjoint5 : ∀ t t' : Fin cfg1.N, (cfg1.win 5).flush t = true → (cfg1.win 5).flush t' = true → t ≠ t' →
    Disjoint ((cfg1.win 5).blk t).view.set ((cfg1.win 5).blk t').view.set :=
  fun t t' _ _ hne => (cfg1.win 5).disjoint_blk fun h => hne (idx_inj5 t t' h)

/-- BLOCK `t` OF THE FINAL ARRAY, read back through the window, is what point `t` wrote back (`flushed5`), for every
    point that writes back: no other point's block meets it. -/
theorem blocks5 (c : Dev nD) (t : Fin cfg1.N) (hf : (cfg1.win 5).flush t = true) :
    ((cfg1.win 5).blk t).view.read (Elt F) ((dat1 V c).arrAt 5 cfg1.N) = (dat1 V c).flushed 5 t :=
  (dat1 V c).read_blk_arrAt_eq_flushed 5 disjoint5 cfg1.N t t.isLt hf

/-- An index that no flushing point's block covers keeps output window 5's array contents at region entry. -/
theorem entry5 (c : Dev nD) (i : S4096x4096.Idx) (h : ∀ t : Fin cfg1.N, (cfg1.win 5).flush t = true → i ∉ ((cfg1.win 5).blk t).view.set) :
    (dat1 V c).arrAt 5 cfg1.N i = V c (Pipeline.arrRef spec1 5) i := by
  rw [(dat1 V c).arrAt_apply_of_forall_not_mem 5 cfg1.N i (fun t _ hf => h t hf), A_eq]

/-! ## Carried scratch 0: what each point leaves in it, and its fold -/

/-- What point `n` leaves in carried scratch 0, over what the point before left in it (`acc`): the case the conditions'
    closed forms select at `n`, the frame's own term for it (`Gen.sout1_κ_0`; anything else the case takes of the point
    before, another carried scratch or an output it reads back, stays `Gen.outsAt1`'s at `n - 1`); a case at the points ≡ 0 (mod 8)
    stores the scratch whole without reading what it held, and `acc` does not enter there (nor where no point meets the
    conditions: `acc`, never read). -/
def scAt1_0 (c : Dev nD) (n : ℕ) (hb : n < cfg1.N) (acc : Vec F S4x128x128 .f32) : Vec F S4x128x128 .f32 :=
  if h0 : n % 8 = 0 then
    sout1_A_0 c (grid1.coords (⟨n, hb⟩ : Fin cfg1.N)) (ms1_0 (⟨n, hb⟩ : Fin cfg1.N)) (hs1_0 (⟨n, hb⟩ : Fin cfg1.N)) (ms1_1 (⟨n, hb⟩ : Fin cfg1.N)) (hs1_1 (⟨n, hb⟩ : Fin cfg1.N)) (ms1_2 (⟨n, hb⟩ : Fin cfg1.N)) (hs1_2 (⟨n, hb⟩ : Fin cfg1.N)) (ms1_3 (⟨n, hb⟩ : Fin cfg1.N)) (hs1_3 (⟨n, hb⟩ : Fin cfg1.N)) (ms1_4 (⟨n, hb⟩ : Fin cfg1.N)) (hs1_4 (⟨n, hb⟩ : Fin cfg1.N)) (ms1_5 (⟨n, hb⟩ : Fin cfg1.N)) (hs1_5 (⟨n, hb⟩ : Fin cfg1.N)) scM1_0 (Memref.isWhole_whole _) scM1_1 (Memref.isWhole_whole _) ((hcond1_0 (⟨n, hb⟩ : Fin cfg1.N)).mpr h0) (X1_0 V c (⟨n, hb⟩ : Fin cfg1.N)) (iblk V c 1 (⟨n, hb⟩ : Fin cfg1.N)) (iblk V c 2 (⟨n, hb⟩ : Fin cfg1.N)) (iblk V c 3 (⟨n, hb⟩ : Fin cfg1.N)) (iblk V c 4 (⟨n, hb⟩ : Fin cfg1.N))
  else
    sout1_B_0 c (grid1.coords (⟨n, hb⟩ : Fin cfg1.N)) (ms1_0 (⟨n, hb⟩ : Fin cfg1.N)) (hs1_0 (⟨n, hb⟩ : Fin cfg1.N)) (ms1_1 (⟨n, hb⟩ : Fin cfg1.N)) (hs1_1 (⟨n, hb⟩ : Fin cfg1.N)) (ms1_2 (⟨n, hb⟩ : Fin cfg1.N)) (hs1_2 (⟨n, hb⟩ : Fin cfg1.N)) (ms1_3 (⟨n, hb⟩ : Fin cfg1.N)) (hs1_3 (⟨n, hb⟩ : Fin cfg1.N)) (ms1_4 (⟨n, hb⟩ : Fin cfg1.N)) (hs1_4 (⟨n, hb⟩ : Fin cfg1.N)) (ms1_5 (⟨n, hb⟩ : Fin cfg1.N)) (hs1_5 (⟨n, hb⟩ : Fin cfg1.N)) scM1_0 (Memref.isWhole_whole _) scM1_1 (Memref.isWhole_whole _) (fun h => h0 ((hcond1_0 (⟨n, hb⟩ : Fin cfg1.N)).mp h)) (X1_0 V c (⟨n, hb⟩ : Fin cfg1.N)) (iblk V c 1 (⟨n, hb⟩ : Fin cfg1.N)) (iblk V c 2 (⟨n, hb⟩ : Fin cfg1.N)) (iblk V c 3 (⟨n, hb⟩ : Fin cfg1.N)) (iblk V c 4 (⟨n, hb⟩ : Fin cfg1.N)) acc (outsAt1 V c ((⟨n, hb⟩ : Fin cfg1.N).val - 1) (Nat.lt_of_le_of_lt (Nat.sub_le _ _) (⟨n, hb⟩ : Fin cfg1.N).isLt)).2.2

/-- WHAT CARRIED SCRATCH 0 HOLDS after point `t`: the fold of its run up to `t`, from the reset at the run's first point
    `8·(t / 8)`. -/
theorem soutsAt1_0_eq (c : Dev nD) (t : Fin cfg1.N) :
    (outsAt1 V c t.val t.isLt).2.1 = Pipeline.accAt (fun n h => scAt1_0 V c n h (VS1_0.read (Elt F) VS1_0.junk)) (scAt1_0 V c) (8 * (t.val / 8)) (t.val % 8)
      (by have h1 := t.isLt; have h2 := Nat.div_add_mod t.val 8; omega) :=
  Pipeline.eq_accAt_of_mod (fun n h => (outsAt1 V c n h).2.1) 8 (fun n h => scAt1_0 V c n h (VS1_0.read (Elt F) VS1_0.junk)) (scAt1_0 V c)
    (fun n h hn => by
      have hN := lt_of_lt_of_eq h (show cfg1.N = 64 from N_1)
      by_cases h0 : n % 8 = 0
      all_goals first | (exfalso; omega) | (rw [outsAt0_A V c ⟨n, h⟩ h0]; dsimp only; unfold scAt1_0; rw [dif_pos h0] <;> try rfl) | (rw [outsAt0_B V c ⟨n, h⟩ h0]; dsimp only; unfold scAt1_0; rw [dif_neg h0] <;> try rfl))
    (fun n h hn => by
      have hN := lt_of_lt_of_eq h (show cfg1.N = 64 from N_1)
      by_cases h0 : (n + 1) % 8 = 0
      all_goals first | (exfalso; omega) | (rw [outsAt0_A V c ⟨n + 1, h⟩ h0]; dsimp only; unfold scAt1_0; rw [dif_pos h0] <;> try rfl) | (rw [outsAt0_B V c ⟨n + 1, h⟩ h0]; dsimp only; unfold scAt1_0; rw [dif_neg h0] <;> try rfl))
    (by decide) t.val t.isLt _

/-! ## Carried scratch 1: what each point leaves in it, and its fold -/

/-- What point `n` leaves in carried scratch 1, over what the point before left in it (`acc`): the case the conditions'
    closed forms select at `n`, the frame's own term for it (`Gen.sout1_κ_1`; anything else the case takes of the point
    before, another carried scratch or an output it reads back, stays `Gen.outsAt1`'s at `n - 1`); a case at the points ≡ 0 (mod 8)
    stores the scratch whole without reading what it held, and `acc` does not enter there (nor where no point meets the
    conditions: `acc`, never read). -/
def scAt1_1 (c : Dev nD) (n : ℕ) (hb : n < cfg1.N) (acc : Vec F S2x8x512 .f32) : Vec F S2x8x512 .f32 :=
  if h0 : n % 8 = 0 then
    sout1_A_1 c (grid1.coords (⟨n, hb⟩ : Fin cfg1.N)) (ms1_0 (⟨n, hb⟩ : Fin cfg1.N)) (hs1_0 (⟨n, hb⟩ : Fin cfg1.N)) (ms1_1 (⟨n, hb⟩ : Fin cfg1.N)) (hs1_1 (⟨n, hb⟩ : Fin cfg1.N)) (ms1_2 (⟨n, hb⟩ : Fin cfg1.N)) (hs1_2 (⟨n, hb⟩ : Fin cfg1.N)) (ms1_3 (⟨n, hb⟩ : Fin cfg1.N)) (hs1_3 (⟨n, hb⟩ : Fin cfg1.N)) (ms1_4 (⟨n, hb⟩ : Fin cfg1.N)) (hs1_4 (⟨n, hb⟩ : Fin cfg1.N)) (ms1_5 (⟨n, hb⟩ : Fin cfg1.N)) (hs1_5 (⟨n, hb⟩ : Fin cfg1.N)) scM1_0 (Memref.isWhole_whole _) scM1_1 (Memref.isWhole_whole _) ((hcond1_0 (⟨n, hb⟩ : Fin cfg1.N)).mpr h0) (X1_0 V c (⟨n, hb⟩ : Fin cfg1.N)) (iblk V c 1 (⟨n, hb⟩ : Fin cfg1.N)) (iblk V c 2 (⟨n, hb⟩ : Fin cfg1.N)) (iblk V c 3 (⟨n, hb⟩ : Fin cfg1.N)) (iblk V c 4 (⟨n, hb⟩ : Fin cfg1.N))
  else
    sout1_B_1 c (grid1.coords (⟨n, hb⟩ : Fin cfg1.N)) (ms1_0 (⟨n, hb⟩ : Fin cfg1.N)) (hs1_0 (⟨n, hb⟩ : Fin cfg1.N)) (ms1_1 (⟨n, hb⟩ : Fin cfg1.N)) (hs1_1 (⟨n, hb⟩ : Fin cfg1.N)) (ms1_2 (⟨n, hb⟩ : Fin cfg1.N)) (hs1_2 (⟨n, hb⟩ : Fin cfg1.N)) (ms1_3 (⟨n, hb⟩ : Fin cfg1.N)) (hs1_3 (⟨n, hb⟩ : Fin cfg1.N)) (ms1_4 (⟨n, hb⟩ : Fin cfg1.N)) (hs1_4 (⟨n, hb⟩ : Fin cfg1.N)) (ms1_5 (⟨n, hb⟩ : Fin cfg1.N)) (hs1_5 (⟨n, hb⟩ : Fin cfg1.N)) scM1_0 (Memref.isWhole_whole _) scM1_1 (Memref.isWhole_whole _) (fun h => h0 ((hcond1_0 (⟨n, hb⟩ : Fin cfg1.N)).mp h)) (X1_0 V c (⟨n, hb⟩ : Fin cfg1.N)) (iblk V c 1 (⟨n, hb⟩ : Fin cfg1.N)) (iblk V c 2 (⟨n, hb⟩ : Fin cfg1.N)) (iblk V c 3 (⟨n, hb⟩ : Fin cfg1.N)) (iblk V c 4 (⟨n, hb⟩ : Fin cfg1.N)) (outsAt1 V c ((⟨n, hb⟩ : Fin cfg1.N).val - 1) (Nat.lt_of_le_of_lt (Nat.sub_le _ _) (⟨n, hb⟩ : Fin cfg1.N).isLt)).2.1 acc

/-- WHAT CARRIED SCRATCH 1 HOLDS after point `t`: the fold of its run up to `t`, from the reset at the run's first point
    `8·(t / 8)`. -/
theorem soutsAt1_1_eq (c : Dev nD) (t : Fin cfg1.N) :
    (outsAt1 V c t.val t.isLt).2.2 = Pipeline.accAt (fun n h => scAt1_1 V c n h (VS1_1.read (Elt F) VS1_1.junk)) (scAt1_1 V c) (8 * (t.val / 8)) (t.val % 8)
      (by have h1 := t.isLt; have h2 := Nat.div_add_mod t.val 8; omega) :=
  Pipeline.eq_accAt_of_mod (fun n h => (outsAt1 V c n h).2.2) 8 (fun n h => scAt1_1 V c n h (VS1_1.read (Elt F) VS1_1.junk)) (scAt1_1 V c)
    (fun n h hn => by
      have hN := lt_of_lt_of_eq h (show cfg1.N = 64 from N_1)
      by_cases h0 : n % 8 = 0
      all_goals first | (exfalso; omega) | (rw [outsAt0_A V c ⟨n, h⟩ h0]; dsimp only; unfold scAt1_1; rw [dif_pos h0] <;> try rfl) | (rw [outsAt0_B V c ⟨n, h⟩ h0]; dsimp only; unfold scAt1_1; rw [dif_neg h0] <;> try rfl))
    (fun n h hn => by
      have hN := lt_of_lt_of_eq h (show cfg1.N = 64 from N_1)
      by_cases h0 : (n + 1) % 8 = 0
      all_goals first | (exfalso; omega) | (rw [outsAt0_A V c ⟨n + 1, h⟩ h0]; dsimp only; unfold scAt1_1; rw [dif_pos h0] <;> try rfl) | (rw [outsAt0_B V c ⟨n + 1, h⟩ h0]; dsimp only; unfold scAt1_1; rw [dif_neg h0] <;> try rfl))
    (by decide) t.val t.isLt _

/-! ## The carried state as one fold: the named outputs and the carried scratch, from the first point -/

/-- What the fold starts from: NOTHING NAMED, each named output's and carried scratch's buffer read at junk. No case
    computes from it: the first point's case stores what it names before reading; only an output that case leaves
    idle keeps its junk component. -/
def junk1 : Vec F S512x512 .bf16 × Vec F S4x128x128 .f32 × Vec F S2x8x512 .f32 :=
  ((VO1_5.read (Elt F) VO1_5.junk, VS1_0.read (Elt F) VS1_0.junk, VS1_1.read (Elt F) VS1_1.junk) : Vec F S512x512 .bf16 × Vec F S4x128x128 .f32 × Vec F S2x8x512 .f32)

/-- THE STEP: what point `n` leaves in the named outputs and the carried scratch (`Gen.outsAt1`'s tuple), over what the
    point before left (`acc`) — `Gen.outsAt1`'s own successor arm: the case the closed forms select at `n`, its named
    terms at the point's memrefs and input blocks; whatever the case reads back, takes by name or carries idle is read
    off `acc`. An assignment of the conditions no point meets is no case (`False.elim`). -/
def stAt1 (c : Dev nD) (n : ℕ) (hb : n < cfg1.N) (acc : Vec F S512x512 .bf16 × Vec F S4x128x128 .f32 × Vec F S2x8x512 .f32) : Vec F S512x512 .bf16 × Vec F S4x128x128 .f32 × Vec F S2x8x512 .f32 :=
  if h0 : n % 8 = 0 then
    (out1_A_5 c (grid1.coords (⟨n, hb⟩ : Fin cfg1.N)) (ms1_0 (⟨n, hb⟩ : Fin cfg1.N)) (hs1_0 (⟨n, hb⟩ : Fin cfg1.N)) (ms1_1 (⟨n, hb⟩ : Fin cfg1.N)) (hs1_1 (⟨n, hb⟩ : Fin cfg1.N)) (ms1_2 (⟨n, hb⟩ : Fin cfg1.N)) (hs1_2 (⟨n, hb⟩ : Fin cfg1.N)) (ms1_3 (⟨n, hb⟩ : Fin cfg1.N)) (hs1_3 (⟨n, hb⟩ : Fin cfg1.N)) (ms1_4 (⟨n, hb⟩ : Fin cfg1.N)) (hs1_4 (⟨n, hb⟩ : Fin cfg1.N)) (ms1_5 (⟨n, hb⟩ : Fin cfg1.N)) (hs1_5 (⟨n, hb⟩ : Fin cfg1.N)) scM1_0 (Memref.isWhole_whole _) scM1_1 (Memref.isWhole_whole _) ((hcond1_0 (⟨n, hb⟩ : Fin cfg1.N)).mpr h0) (X1_0 V c (⟨n, hb⟩ : Fin cfg1.N)) (iblk V c 1 (⟨n, hb⟩ : Fin cfg1.N)) (iblk V c 2 (⟨n, hb⟩ : Fin cfg1.N)) (iblk V c 3 (⟨n, hb⟩ : Fin cfg1.N)) (iblk V c 4 (⟨n, hb⟩ : Fin cfg1.N)), sout1_A_0 c (grid1.coords (⟨n, hb⟩ : Fin cfg1.N)) (ms1_0 (⟨n, hb⟩ : Fin cfg1.N)) (hs1_0 (⟨n, hb⟩ : Fin cfg1.N)) (ms1_1 (⟨n, hb⟩ : Fin cfg1.N)) (hs1_1 (⟨n, hb⟩ : Fin cfg1.N)) (ms1_2 (⟨n, hb⟩ : Fin cfg1.N)) (hs1_2 (⟨n, hb⟩ : Fin cfg1.N)) (ms1_3 (⟨n, hb⟩ : Fin cfg1.N)) (hs1_3 (⟨n, hb⟩ : Fin cfg1.N)) (ms1_4 (⟨n, hb⟩ : Fin cfg1.N)) (hs1_4 (⟨n, hb⟩ : Fin cfg1.N)) (ms1_5 (⟨n, hb⟩ : Fin cfg1.N)) (hs1_5 (⟨n, hb⟩ : Fin cfg1.N)) scM1_0 (Memref.isWhole_whole _) scM1_1 (Memref.isWhole_whole _) ((hcond1_0 (⟨n, hb⟩ : Fin cfg1.N)).mpr h0) (X1_0 V c (⟨n, hb⟩ : Fin cfg1.N)) (iblk V c 1 (⟨n, hb⟩ : Fin cfg1.N)) (iblk V c 2 (⟨n, hb⟩ : Fin cfg1.N)) (iblk V c 3 (⟨n, hb⟩ : Fin cfg1.N)) (iblk V c 4 (⟨n, hb⟩ : Fin cfg1.N)), sout1_A_1 c (grid1.coords (⟨n, hb⟩ : Fin cfg1.N)) (ms1_0 (⟨n, hb⟩ : Fin cfg1.N)) (hs1_0 (⟨n, hb⟩ : Fin cfg1.N)) (ms1_1 (⟨n, hb⟩ : Fin cfg1.N)) (hs1_1 (⟨n, hb⟩ : Fin cfg1.N)) (ms1_2 (⟨n, hb⟩ : Fin cfg1.N)) (hs1_2 (⟨n, hb⟩ : Fin cfg1.N)) (ms1_3 (⟨n, hb⟩ : Fin cfg1.N)) (hs1_3 (⟨n, hb⟩ : Fin cfg1.N)) (ms1_4 (⟨n, hb⟩ : Fin cfg1.N)) (hs1_4 (⟨n, hb⟩ : Fin cfg1.N)) (ms1_5 (⟨n, hb⟩ : Fin cfg1.N)) (hs1_5 (⟨n, hb⟩ : Fin cfg1.N)) scM1_0 (Memref.isWhole_whole _) scM1_1 (Memref.isWhole_whole _) ((hcond1_0 (⟨n, hb⟩ : Fin cfg1.N)).mpr h0) (X1_0 V c (⟨n, hb⟩ : Fin cfg1.N)) (iblk V c 1 (⟨n, hb⟩ : Fin cfg1.N)) (iblk V c 2 (⟨n, hb⟩ : Fin cfg1.N)) (iblk V c 3 (⟨n, hb⟩ : Fin cfg1.N)) (iblk V c 4 (⟨n, hb⟩ : Fin cfg1.N)))
  else
    (out1_B_5 c (grid1.coords (⟨n, hb⟩ : Fin cfg1.N)) (ms1_0 (⟨n, hb⟩ : Fin cfg1.N)) (hs1_0 (⟨n, hb⟩ : Fin cfg1.N)) (ms1_1 (⟨n, hb⟩ : Fin cfg1.N)) (hs1_1 (⟨n, hb⟩ : Fin cfg1.N)) (ms1_2 (⟨n, hb⟩ : Fin cfg1.N)) (hs1_2 (⟨n, hb⟩ : Fin cfg1.N)) (ms1_3 (⟨n, hb⟩ : Fin cfg1.N)) (hs1_3 (⟨n, hb⟩ : Fin cfg1.N)) (ms1_4 (⟨n, hb⟩ : Fin cfg1.N)) (hs1_4 (⟨n, hb⟩ : Fin cfg1.N)) (ms1_5 (⟨n, hb⟩ : Fin cfg1.N)) (hs1_5 (⟨n, hb⟩ : Fin cfg1.N)) scM1_0 (Memref.isWhole_whole _) scM1_1 (Memref.isWhole_whole _) (fun h => h0 ((hcond1_0 (⟨n, hb⟩ : Fin cfg1.N)).mp h)) (X1_0 V c (⟨n, hb⟩ : Fin cfg1.N)) (iblk V c 1 (⟨n, hb⟩ : Fin cfg1.N)) (iblk V c 2 (⟨n, hb⟩ : Fin cfg1.N)) (iblk V c 3 (⟨n, hb⟩ : Fin cfg1.N)) (iblk V c 4 (⟨n, hb⟩ : Fin cfg1.N)) acc.2.1 acc.2.2, sout1_B_0 c (grid1.coords (⟨n, hb⟩ : Fin cfg1.N)) (ms1_0 (⟨n, hb⟩ : Fin cfg1.N)) (hs1_0 (⟨n, hb⟩ : Fin cfg1.N)) (ms1_1 (⟨n, hb⟩ : Fin cfg1.N)) (hs1_1 (⟨n, hb⟩ : Fin cfg1.N)) (ms1_2 (⟨n, hb⟩ : Fin cfg1.N)) (hs1_2 (⟨n, hb⟩ : Fin cfg1.N)) (ms1_3 (⟨n, hb⟩ : Fin cfg1.N)) (hs1_3 (⟨n, hb⟩ : Fin cfg1.N)) (ms1_4 (⟨n, hb⟩ : Fin cfg1.N)) (hs1_4 (⟨n, hb⟩ : Fin cfg1.N)) (ms1_5 (⟨n, hb⟩ : Fin cfg1.N)) (hs1_5 (⟨n, hb⟩ : Fin cfg1.N)) scM1_0 (Memref.isWhole_whole _) scM1_1 (Memref.isWhole_whole _) (fun h => h0 ((hcond1_0 (⟨n, hb⟩ : Fin cfg1.N)).mp h)) (X1_0 V c (⟨n, hb⟩ : Fin cfg1.N)) (iblk V c 1 (⟨n, hb⟩ : Fin cfg1.N)) (iblk V c 2 (⟨n, hb⟩ : Fin cfg1.N)) (iblk V c 3 (⟨n, hb⟩ : Fin cfg1.N)) (iblk V c 4 (⟨n, hb⟩ : Fin cfg1.N)) acc.2.1 acc.2.2, sout1_B_1 c (grid1.coords (⟨n, hb⟩ : Fin cfg1.N)) (ms1_0 (⟨n, hb⟩ : Fin cfg1.N)) (hs1_0 (⟨n, hb⟩ : Fin cfg1.N)) (ms1_1 (⟨n, hb⟩ : Fin cfg1.N)) (hs1_1 (⟨n, hb⟩ : Fin cfg1.N)) (ms1_2 (⟨n, hb⟩ : Fin cfg1.N)) (hs1_2 (⟨n, hb⟩ : Fin cfg1.N)) (ms1_3 (⟨n, hb⟩ : Fin cfg1.N)) (hs1_3 (⟨n, hb⟩ : Fin cfg1.N)) (ms1_4 (⟨n, hb⟩ : Fin cfg1.N)) (hs1_4 (⟨n, hb⟩ : Fin cfg1.N)) (ms1_5 (⟨n, hb⟩ : Fin cfg1.N)) (hs1_5 (⟨n, hb⟩ : Fin cfg1.N)) scM1_0 (Memref.isWhole_whole _) scM1_1 (Memref.isWhole_whole _) (fun h => h0 ((hcond1_0 (⟨n, hb⟩ : Fin cfg1.N)).mp h)) (X1_0 V c (⟨n, hb⟩ : Fin cfg1.N)) (iblk V c 1 (⟨n, hb⟩ : Fin cfg1.N)) (iblk V c 2 (⟨n, hb⟩ : Fin cfg1.N)) (iblk V c 3 (⟨n, hb⟩ : Fin cfg1.N)) (iblk V c 4 (⟨n, hb⟩ : Fin cfg1.N)) acc.2.1 acc.2.2)

/-- `stAt1` at a point of case A: that case's contents. -/
theorem stAt0_A (c : Dev nD) (t : Fin cfg1.N) (acc : Vec F S512x512 .bf16 × Vec F S4x128x128 .f32 × Vec F S2x8x512 .f32) (h0 : t.val % 8 = 0) :
    stAt1 V c t.val t.isLt acc = (out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) ((hcond1_0 t).mpr h0) (X1_0 V c t) (iblk V c 1 t) (iblk V c 2 t) (iblk V c 3 t) (iblk V c 4 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) ((hcond1_0 t).mpr h0) (X1_0 V c t) (iblk V c 1 t) (iblk V c 2 t) (iblk V c 3 t) (iblk V c 4 t), sout1_A_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) ((hcond1_0 t).mpr h0) (X1_0 V c t) (iblk V c 1 t) (iblk V c 2 t) (iblk V c 3 t) (iblk V c 4 t)) :=
  (dif_pos h0).trans rfl

/-- `stAt1` at a point of case B: that case's contents, over `acc`. -/
theorem stAt0_B (c : Dev nD) (t : Fin cfg1.N) (acc : Vec F S512x512 .bf16 × Vec F S4x128x128 .f32 × Vec F S2x8x512 .f32) (h0 : ¬t.val % 8 = 0) :
    stAt1 V c t.val t.isLt acc = (out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 ((hcond1_0 t).mp h)) (X1_0 V c t) (iblk V c 1 t) (iblk V c 2 t) (iblk V c 3 t) (iblk V c 4 t) acc.2.1 acc.2.2, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 ((hcond1_0 t).mp h)) (X1_0 V c t) (iblk V c 1 t) (iblk V c 2 t) (iblk V c 3 t) (iblk V c 4 t) acc.2.1 acc.2.2, sout1_B_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 ((hcond1_0 t).mp h)) (X1_0 V c t) (iblk V c 1 t) (iblk V c 2 t) (iblk V c 3 t) (iblk V c 4 t) acc.2.1 acc.2.2) :=
  (dif_neg h0).trans rfl

/-- The recursion's successor step is `stAt1`, by definition. -/
theorem outsAt0_succ (c : Dev nD) (n : ℕ) (hn : n + 1 < cfg1.N) :
    outsAt1 V c (n + 1) hn = stAt1 V c (n + 1) hn (outsAt1 V c n (Nat.lt_of_succ_lt hn)) := rfl

/-- At the first point the recursion is `stAt1` from `junk1`: its case (case A) reads nothing back. -/
theorem outsAt0_zero (c : Dev nD) (hn : 0 < cfg1.N) : outsAt1 V c 0 hn = stAt1 V c 0 hn junk1 := by
  rw [stAt0_A V c ⟨0, hn⟩ _ (Nat.zero_mod _)]
  rfl

/-- WHAT THE NAMED OUTPUTS AND THE CARRIED SCRATCH HOLD after point `n`: the fold of `stAt1` from the first point,
    started at `junk1` (by `eq_accAt_of_mod` at one run spanning the grid,
    without enumerating the points). -/
theorem outsAt0_sweep (c : Dev nD) (n : ℕ) (hn : n < cfg1.N) :
    outsAt1 V c n hn = Pipeline.accAt (fun n h => stAt1 V c n h junk1) (stAt1 V c) 0 n (by omega) := by
  have hN := lt_of_lt_of_eq hn (show cfg1.N = 64 from N_1)
  have e := Pipeline.eq_accAt_of_mod (fun n h => outsAt1 V c n h) 64 (fun n h => stAt1 V c n h junk1) (stAt1 V c)
    (fun n h _ => by
      have hN := lt_of_lt_of_eq h (show cfg1.N = 64 from N_1)
      obtain rfl : n = 0 := by omega
      exact outsAt0_zero V c h)
    (fun n h _ => outsAt0_succ V c n h)
    (by decide) n hn (by have := Nat.div_add_mod n 64; omega)
  have hd : n / 64 = 0 := Nat.div_eq_of_lt hN
  have hm : n % 64 = n := Nat.mod_eq_of_lt hN
  simpa only [hd, hm, Nat.mul_zero] using e

/-! ## Accumulated: each named output's array, the carried state's fold read at the window's flushing points -/

/-- Two folds from the first point of equal length are one (the bound's proof does not enter). -/
theorem fold0_congr (c : Dev nD) : ∀ (j : ℕ) (h : 0 + j < cfg1.N) (j' : ℕ) (h' : 0 + j' < cfg1.N), j = j' →
    Pipeline.accAt (fun n h => stAt1 V c n h junk1) (stAt1 V c) 0 j h = Pipeline.accAt (fun n h => stAt1 V c n h junk1) (stAt1 V c) 0 j' h' := by
  intro j h j' h' hj; subst hj; rfl

/-! ## Output window 5 -/

/-- The block of the array that holds index `i`, numbered in the order the points write the blocks back (one per point),
    `i`'s place in it, and the point that writes it back. -/
abbrev run5Of (i : S4096x4096.Idx) : ℕ := 1 * ((i 0).val / 512 - 0) + 8 * ((i 1).val / 512 - 0)
set_option backward.proofsInPublic true in
/-- An index's place in its block. -/
abbrev loc5Of (i : S4096x4096.Idx) : S512x512.Idx := fun a => match a with
  | ⟨0, _⟩ => ⟨(i 0).val % 512, Nat.mod_lt _ (by decide)⟩
  | ⟨1, _⟩ => ⟨(i 1).val % 512, Nat.mod_lt _ (by decide)⟩
/-- The point that writes an index's block. -/
abbrev pt5Of (i : S4096x4096.Idx) : ℕ := run5Of i

/-- WHAT THE ARRAY ENDS HOLDING at index `i` inside the box the flushing blocks fill: output 5's component of the carried
    state's fold at the point that writes `i`'s block back, at `i`'s place in the block. `G5` states the array's contents
    only inside the box. -/
def G5 (c : Dev nD) : Buf (Elt F) ((c : Thread nD τ).loc main_v21) := fun i =>
  if h : pt5Of i < cfg1.N then
    (Pipeline.accAt (fun n h => stAt1 V c n h junk1) (stAt1 V c) 0 (pt5Of i) (by omega)).1 (loc5Of i)
  else V c (Pipeline.arrRef spec1 5) i

/-- The index map, decided over the grid: output window 5's block indices stay in the box, and the block number
    read off them is the point's (`t`). -/
theorem idx_facts5 : ∀ t : Fin cfg1.N, 0 ≤ win1_5.index t (0 : Fin 2) ∧ win1_5.index t (0 : Fin 2) ≤ 7
    ∧ 0 ≤ win1_5.index t (1 : Fin 2) ∧ win1_5.index t (1 : Fin 2) ≤ 7
    ∧ 1 * (win1_5.index t (0 : Fin 2) - 0) + 8 * (win1_5.index t (1 : Fin 2) - 0) = t.val :=
  (by decide +kernel : ∀ t : Fin grid1.N, _)

/-- Every block of the box is SOME flushing point's: `onto5Pt`, the point that writes back the block at place `q` of the box. -/
abbrev onto5Pt (q0 : Fin 8) (q1 : Fin 8) : Fin grid1.N :=
  ⟨1 * q0.val + 8 * q1.val, lt_of_lt_of_eq (by omega) N_1.symm⟩
/-- Every block of the result is written at its point. -/
theorem idx_onto5 : ∀ (q0 : Fin 8) (q1 : Fin 8), ∃ t : Fin cfg1.N, (cfg1.win 5).flush t = true ∧ win1_5.index t = ![q0.val + 0, q1.val + 0] :=
  fun q0 q1 => ⟨onto5Pt q0 q1, (by decide +kernel : ∀ (q0 : Fin 8) (q1 : Fin 8), win1_5.flush (onto5Pt q0 q1) = true ∧ win1_5.index (onto5Pt q0 q1) = ![q0.val + 0, q1.val + 0]) q0 q1⟩

/-- WHAT A FLUSHING POINT `t` WRITES BACK is block `t` of `G5`: output 5's component of the fold up to `t`. -/
theorem flushed5_eq (c : Dev nD) (t : Fin cfg1.N) (hf : (cfg1.win 5).flush t = true) :
    (dat1 V c).flushed 5 t = ((cfg1.win 5).blk t).view.read (Elt F) (G5 V c) := by
  show (cfg1.win 5).cut (grid1.coords t) ((dat1 V c).after 5 t) = _
  rw [after1_5, outsAt0_sweep]
  obtain ⟨e0, e1, e2⟩ := idx_facts5 t
  funext y
  have hy0 : (y 0).val < 512 := (y 0).isLt
  have hy1 : (y 1).val < 512 := (y 1).isLt
  have hb0 : (((cfg1.win 5).blk t).view.emb y 0).val = win1_5.index t (0 : Fin 2) * 512 + 1 * (y 0).val := rfl
  have hb1 : (((cfg1.win 5).blk t).view.emb y 1).val = win1_5.index t (1 : Fin 2) * 512 + 1 * (y 1).val := rfl
  have hr : run5Of (((cfg1.win 5).blk t).view.emb y) = t.val := by
    show 1 * ((((cfg1.win 5).blk t).view.emb y 0).val / 512 - 0) + 8 * ((((cfg1.win 5).blk t).view.emb y 1).val / 512 - 0) = _
    rw [hb0, hb1]
    rw [show (win1_5.index t (0 : Fin 2) * 512 + 1 * (y 0).val) / 512 = win1_5.index t (0 : Fin 2) from by omega]; rw [show (win1_5.index t (1 : Fin 2) * 512 + 1 * (y 1).val) / 512 = win1_5.index t (1 : Fin 2) from by omega]
    omega
  have hl : loc5Of (((cfg1.win 5).blk t).view.emb y) = (cfg1.win 5).xinj (grid1.coords t) y := by
    funext a; apply Fin.ext
    match a with
    | ⟨0, _⟩ => show (((cfg1.win 5).blk t).view.emb y 0).val % 512 = (y 0).val; rw [hb0]; omega
    | ⟨1, _⟩ => show (((cfg1.win 5).blk t).view.emb y 1).val % 512 = (y 1).val; rw [hb1]; omega
  have hp : pt5Of (((cfg1.win 5).blk t).view.emb y) = t.val := by
    exact hr
  show (Pipeline.accAt (fun n h => stAt1 V c n h junk1) (stAt1 V c) 0 t.val _).1 ((cfg1.win 5).xinj (grid1.coords t) y) = G5 V c (((cfg1.win 5).blk t).view.emb y)
  unfold G5
  rw [dif_pos (by rw [hp]; exact t.isLt), hl, fold0_congr V c _ _ _ _ hp.symm]

/-- An index of the array is in point `t`'s block iff each coordinate is in the block's range on its axis. -/
theorem mem_blk5 (t : Fin cfg1.N) (i : S4096x4096.Idx) :
    i ∈ ((cfg1.win 5).blk t).view.set ↔ ∀ a : Fin 2, win1_5.index t a * S512x512.size a ≤ (i a).val ∧ (i a).val < win1_5.index t a * S512x512.size a + S512x512.size a := by
  show i ∈ ((View.whole main_v21).slice (win1_5.rect t)).set ↔ _
  rw [View.set_slice_whole, Rect.mem_set_unit]
  exact Iff.rfl

/-- THE COVERED INDICES: in some flushing point's block iff inside the box those blocks fill. -/
theorem covered_iff5 (i : S4096x4096.Idx) :
    (∃ t : Fin cfg1.N, (cfg1.win 5).flush t = true ∧ i ∈ ((cfg1.win 5).blk t).view.set) ↔ 0 ≤ (i 0).val ∧ (i 0).val < 4096 ∧ 0 ≤ (i 1).val ∧ (i 1).val < 4096 := by
  constructor
  · rintro ⟨t, -, hi⟩
    rw [mem_blk5] at hi
    have b0 : win1_5.index t (0 : Fin 2) * 512 ≤ (i 0).val ∧ (i 0).val < win1_5.index t (0 : Fin 2) * 512 + 512 := hi 0
    have b1 : win1_5.index t (1 : Fin 2) * 512 ≤ (i 1).val ∧ (i 1).val < win1_5.index t (1 : Fin 2) * 512 + 512 := hi 1
    obtain ⟨e0, e1, e2⟩ := idx_facts5 t
    omega
  · intro h
    have hi0 : (i 0).val < 4096 := (i 0).isLt
    have hi1 : (i 1).val < 4096 := (i 1).isLt
    obtain ⟨t, hft, ht⟩ := idx_onto5 ⟨(i 0).val / 512 - 0, by omega⟩ ⟨(i 1).val / 512 - 0, by omega⟩
    have q0 : win1_5.index t (0 : Fin 2) = (i 0).val / 512 - 0 + 0 := congrFun ht 0
    have q1 : win1_5.index t (1 : Fin 2) = (i 1).val / 512 - 0 + 0 := congrFun ht 1
    refine ⟨t, hft, ?_⟩
    rw [mem_blk5]
    intro a
    match a with
    | ⟨0, _⟩ => show win1_5.index t (0 : Fin 2) * 512 ≤ (i 0).val ∧ (i 0).val < win1_5.index t (0 : Fin 2) * 512 + 512; omega
    | ⟨1, _⟩ => show win1_5.index t (1 : Fin 2) * 512 ≤ (i 1).val ∧ (i 1).val < win1_5.index t (1 : Fin 2) * 512 + 512; omega

/-- THE ARRAY after the run: `G5` (the flushing blocks tile it). -/
theorem final5 (c : Dev nD) : (dat1 V c).arrAt 5 cfg1.N = G5 V c :=
  (dat1 V c).arrAt_eq_of_cover 5 _ (fun t hf => flushed5_eq V c t hf) (fun i => (covered_iff5 i).2 (by
    have h0 : (i 0).val < 4096 := (i 0).isLt; have h1 : (i 1).val < 4096 := (i 1).isLt; omega))

end Cert.LayerIdeal.Value

end
-- ==== Proof.CoreHost.lean ====
/- What the second call's windows hold at a grid point, over real numbers: the projection's blocks, the convolution's weights
   by key head, the gates' scalars and the norm's weights. -/
module

public import proofs.«01_k».proof.Proof.CoreSpec
public import proofs.«01_k».proof.Proof.CoreIdealValueCopy
public import Idealize.ShloMosaic.Lib.Pointwise
public import Idealize.ShloMosaic.Lib.Tactic.CleanTypes

@[expose] public section

set_option maxRecDepth 16384

noncomputable section

namespace Cert.CoreV

open Cert.LayerIdeal Cert.LayerIdeal.Gen Cert.Gdn Idealize.ShloMosaic Idealize.ShloMosaic.TcCoe Idealize.SL.Sem
open scoped BigOperators

variable (V : (c : Dev nD) → (b : Ref sig .tc) → Buf (Elt Ideal) ((c : Thread nD τ).loc b)) (c : Dev nD)

/-- What the call's arrays hold, in numbers: the projection, the convolution's weights by key head, the gates' scalars and the norm's weights. -/
structure Ins (P W : ℕ → ℕ → ℝ) (Al Dt : ℕ → ℝ) (Nw : ℕ → EReal) : Prop where
  p : ∀ (t : Fin 4096) (j : Fin 12544), (V c main_v3 : Vec Ideal S4096x12544 .bf16) (ix2 t j) = ((P t j : ℝ) : EReal)
  w : ∀ (h : Fin 16) (k : Fin 4) (l : Fin 512), (V c main_v14 : Vec Ideal S16x4x512 .f32) (ix3 h k l) = ((W (wch h l) k : ℝ) : EReal)
  al : ∀ h : Fin 32, (V c main_v19 : Vec Ideal S2x32 .f32) (ix2 0 h) = ((-Real.exp (Al h) : ℝ) : EReal)
  dt : ∀ h : Fin 32, (V c main_v19 : Vec Ideal S2x32 .f32) (ix2 1 h) = ((Dt h : ℝ) : EReal)
  nw : ∀ e : Fin 128, (V c main_v20 : Vec Ideal S1x128 .f32) (ix2 0 e) = Nw e

/-- Where the windows' blocks stand at a grid point, and the point's coordinates. -/
theorem idx_facts : ∀ t : Fin cfg1.N, win1_0.index t (0 : Fin 2) = t.val % 8 ∧ win1_0.index t (1 : Fin 2) = t.val / 8
    ∧ win1_1.index t (0 : Fin 2) = t.val % 8 ∧ win1_1.index t (1 : Fin 2) = 96
    ∧ win1_2.index t (0 : Fin 3) = t.val / 8 ∧ win1_2.index t (1 : Fin 3) = 0 ∧ win1_2.index t (2 : Fin 3) = 0
    ∧ win1_3.index t (0 : Fin 2) = 0 ∧ win1_3.index t (1 : Fin 2) = 0
    ∧ win1_4.index t (0 : Fin 2) = 0 ∧ win1_4.index t (1 : Fin 2) = 0
    ∧ (grid1.coords t 0).val = t.val / 8 :=
  (by decide +kernel : ∀ t : Fin grid1.N, _)

/-- No block sticks out of the array. -/
theorem clip_facts : ∀ t : Fin cfg1.N, ∀ a : Fin 2, win1_0.clip (grid1.coords t) a = none :=
  (by decide +kernel : ∀ t : Fin grid1.N, _)

variable {V c} {P W : ℕ → ℕ → ℝ} {Al Dt : ℕ → ℝ} {Nw : ℕ → EReal} (I : Ins V c P W Al Dt Nw) (t : Fin cfg1.N)

include I

/-- The projection's block. -/
theorem x0_val (r : Fin 512) (l : Fin 1536) :
    (X1_0 V c t : Vec Ideal S512x1536 .bf16) (ix2 r l) = ((P (512 * (t.val % 8) + r) (1536 * (t.val / 8) + l) : ℝ) : EReal) := by
  obtain ⟨a0, a1, b0, b1, c0, c1, c2, d0, d1, e0, e1, f0⟩ := idx_facts t
  have ht : t.val < 64 := lt_of_lt_of_eq t.isLt N_1
  have hmv : ∀ y : S512x1536.Idx, (cfg1.win 0).moved (cfg1.grid.coords t) y = true := fun y => ((cfg1.win 0).moved_iff _ y).mpr fun a => by
    have := (y a).isLt; unfold Pipeline.Window.xsize; rw [clip_facts t a]; exact this
  have e : (X1_0 V c t : Vec Ideal S512x1536 .bf16) (ix2 r l) = V c main_v3 (((cfg1.win 0).blk t).view.emb fun a => ⟨((ix2 r l : S512x1536.Idx) a).val, ((cfg1.win 0).moved_iff _ (ix2 r l)).mp (hmv (ix2 r l)) a⟩) := dif_pos (hmv (ix2 r l))
  rw [e]
  refine Eq.trans ?_ (I.p ⟨512 * (t.val % 8) + r, by omega⟩ ⟨1536 * (t.val / 8) + l, by omega⟩)
  congr 1
  funext a; apply Fin.ext
  match a with
  | ⟨0, _⟩ => show win1_0.index t (0 : Fin 2) * 512 + 1 * r.val = 512 * (t.val % 8) + r; omega
  | ⟨1, _⟩ => show win1_0.index t (1 : Fin 2) * 1536 + 1 * l.val = 1536 * (t.val / 8) + l; omega

/-- The gates' block. -/
theorem x1_val (r : Fin 512) (l : Fin 128) :
    (iblk V c 1 t : Vec Ideal S512x128 .bf16) (ix2 r l) = ((P (512 * (t.val % 8) + r) (12288 + l) : ℝ) : EReal) := by
  obtain ⟨a0, a1, b0, b1, c0, c1, c2, d0, d1, e0, e1, f0⟩ := idx_facts t
  refine Eq.trans ?_ (I.p ⟨512 * (t.val % 8) + r, by omega⟩ ⟨12288 + l, by omega⟩)
  show V c main_v3 (((cfg1.win 1).blk t).view.emb (ix2 r l)) = _
  congr 1
  funext a; apply Fin.ext
  match a with
  | ⟨0, _⟩ => show win1_1.index t (0 : Fin 2) * 512 + 1 * r.val = 512 * (t.val % 8) + r; omega
  | ⟨1, _⟩ => show win1_1.index t (1 : Fin 2) * 128 + 1 * l.val = 12288 + l; omega

/-- The convolution's weights of a head pair. -/
theorem x2_val (h : Fin 2) (k : Fin 4) (l : Fin 512) :
    (iblk V c 2 t : Vec Ideal S2x4x512 .f32) (ix3 h k l) = ((W (wch (2 * (t.val / 8) + h) l) k : ℝ) : EReal) := by
  obtain ⟨a0, a1, b0, b1, c0, c1, c2, d0, d1, e0, e1, f0⟩ := idx_facts t
  have ht : t.val < 64 := lt_of_lt_of_eq t.isLt N_1
  refine Eq.trans ?_ (I.w ⟨2 * (t.val / 8) + h, by omega⟩ k l)
  show V c main_v14 (((cfg1.win 2).blk t).view.emb (ix3 h k l)) = _
  congr 1
  funext a; apply Fin.ext
  match a with
  | ⟨0, _⟩ => show win1_2.index t (0 : Fin 3) * 2 + 1 * h.val = 2 * (t.val / 8) + h; omega
  | ⟨1, _⟩ => show win1_2.index t (1 : Fin 3) * 4 + 1 * k.val = k; omega
  | ⟨2, _⟩ => show win1_2.index t (2 : Fin 3) * 512 + 1 * l.val = l; omega

omit I in
/-- The scalars' block is the whole array. -/
theorem x3_eq (r : Fin 2) (h : Fin 32) : (iblk V c 3 t : Vec Ideal S2x32 .f32) (ix2 r h) = (V c main_v19 : Vec Ideal S2x32 .f32) (ix2 r h) := by
  obtain ⟨a0, a1, b0, b1, c0, c1, c2, d0, d1, e0, e1, f0⟩ := idx_facts t
  show V c main_v19 (((cfg1.win 3).blk t).view.emb (ix2 r h)) = _
  congr 1
  funext a; apply Fin.ext
  match a with
  | ⟨0, _⟩ => show win1_3.index t (0 : Fin 2) * 2 + 1 * r.val = r; omega
  | ⟨1, _⟩ => show win1_3.index t (1 : Fin 2) * 32 + 1 * h.val = h; omega

/-- The rates of decay. -/
theorem x3a_val (h : Fin 32) : (iblk V c 3 t : Vec Ideal S2x32 .f32) (ix2 0 h) = ((-Real.exp (Al h) : ℝ) : EReal) :=
  (x3_eq t 0 h).trans (I.al h)

/-- The time biases. -/
theorem x3b_val (h : Fin 32) : (iblk V c 3 t : Vec Ideal S2x32 .f32) (ix2 1 h) = ((Dt h : ℝ) : EReal) :=
  (x3_eq t 1 h).trans (I.dt h)

/-- The norm's weights. -/
theorem x4_val (e : Fin 128) : (iblk V c 4 t : Vec Ideal S1x128 .f32) (ix2 0 e) = Nw e := by
  obtain ⟨a0, a1, b0, b1, c0, c1, c2, d0, d1, e0, e1, f0⟩ := idx_facts t
  refine Eq.trans ?_ (I.nw e)
  show V c main_v20 (((cfg1.win 4).blk t).view.emb (ix2 0 e)) = _
  congr 1
  funext a; apply Fin.ext
  match a with
  | ⟨0, _⟩ => show win1_4.index t (0 : Fin 2) * 1 + 1 * 0 = 0; omega
  | ⟨1, _⟩ => show win1_4.index t (1 : Fin 2) * 128 + 1 * e.val = e; omega

end Cert.CoreV

end
-- ==== Proof.CoreGrid.lean ====
/- The second call point by point over real numbers: after each grid point the states and rows carried are the recurrence's,
   and the point's block of the result is the layer's. -/
module

public import proofs.«01_k».proof.Proof.CoreTripValue
public import proofs.«01_k».proof.Proof.CoreMasks
public import proofs.«01_k».proof.Proof.CoreHost

@[expose] public section

set_option maxRecDepth 16384

noncomputable section

namespace Cert.CoreV

open Cert.LayerIdeal Cert.LayerIdeal.Gen Cert.Gdn Idealize.ShloMosaic Idealize.ShloMosaic.TcCoe Idealize.SL.Sem
open Cert.LayerIdeal.Value
open scoped BigOperators

namespace Env

section

variable {v : Env} {P W : ℕ → ℕ → ℝ} {Al Dt : ℕ → ℝ} {Nw : ℕ → EReal} {hp t0 : ℕ} (h : v.Ok P W Al Dt Nw hp t0)
  (G7 : BufTy.Contents (Elt Ideal) v.arg7.view.ty) (G8 : BufTy.Contents (Elt Ideal) v.arg8.view.ty) (G9 : BufTy.Contents (Elt Ideal) v.arg9.view.ty)
  (h8 : v.Inv8 P W Al Dt hp G8 t0) (h9 : v.Inv9 P hp G9 t0)

include h h8 h9

/-- After all trips, whatever the scratches held before: the carried states and rows, and the output's block. -/
theorem trips_end :
    (∀ (g : BufTy.Contents (Elt Ideal) v.arg8.view.ty) (M : List (View.Piece (Elt Ideal) S4x128x128 .f32)),
      v.Inv8 P W Al Dt hp (v.arg8.view.writes (Elt Ideal) g ((v.pb G7 G8 G9 k1_t1_loop.trips).2.1 ++ M)) (t0 + 512))
    ∧ (∀ (g : BufTy.Contents (Elt Ideal) v.arg9.view.ty) (M : List (View.Piece (Elt Ideal) S2x8x512 .f32)),
      v.Inv9 P hp (v.arg9.view.writes (Elt Ideal) g ((v.pb G7 G8 G9 k1_t1_loop.trips).2.2 ++ M)) (t0 + 512))
    ∧ ∀ (g : BufTy.Contents (Elt Ideal) v.arg7.view.ty) (r c : Fin 512),
      v.arg7.view.read (Elt Ideal) (v.arg7.view.writes (Elt Ideal) g (v.pb G7 G8 G9 k1_t1_loop.trips).1) (ix2 r c) = outh P W Al Dt Nw (4 * hp + c / 128) (t0 + r) (c % 128) := by
  have h3 : 3 < k1_t1_loop.trips := by rw [trips4]; decide
  obtain ⟨i8, i9, -⟩ := trips_val h G7 G8 G9 h8 h9 3 h3.le
  have e := pb_k1_t1_succ (F := Ideal) Variants.none v.c none v.i v.arg2 v.harg2 v.arg3 v.harg3 v.arg4 v.harg4 v.arg5 v.harg5 v.arg6 v.harg6 v.arg7 v.harg7 v.arg8 v.harg8 v.arg9 v.harg9 v.arg0 v.v55 v.v57 v.v59 v.v62 v.v64 v.v88 v.c128_i32 v.v90 v.v91 v.v114 v.v115 v.X_arg2 v.X_arg3 v.X_arg4 v.X_arg5 G7 G8 G9 ⟨3, h3⟩
  have e' : v.pb G7 G8 G9 k1_t1_loop.trips = _ := (congrArg (v.pb G7 G8 G9) trips4).trans e
  refine ⟨fun g M => ?_, fun g M => ?_, fun g r c => ?_⟩
  · rw [e']
    dsimp only
    rw [List.append_assoc]
    exact inv8_step h ⟨3, h3⟩ _ _ i8 i9 _ _ _
  · rw [e']
    dsimp only
    rw [List.append_assoc]
    exact inv9_step h ⟨3, h3⟩ _ _ _ _ _
  · exact (trips_val h G7 G8 G9 h8 h9 _ le_rfl).2.2 g r c (by rw [trips4]; exact r.isLt)

end

end Env

section

variable (c : Dev nD) (i : grid1.Coords) (arg2 : Memref sig .tc .vmem S512x1536 .bf16) (harg2 : arg2.IsWhole) (arg3 : Memref sig .tc .vmem S512x128 .bf16) (harg3 : arg3.IsWhole) (arg4 : Memref sig .tc .vmem S2x4x512 .f32) (harg4 : arg4.IsWhole) (arg5 : Memref sig .tc .smem S2x32 .f32) (harg5 : arg5.IsWhole) (arg6 : Memref sig .tc .vmem S1x128 .f32) (harg6 : arg6.IsWhole) (arg7 : Memref sig .tc .vmem S512x512 .bf16) (harg7 : arg7.IsWhole) (arg8 : Memref sig .tc .vmem S4x128x128 .f32) (harg8 : arg8.IsWhole) (arg9 : Memref sig .tc .vmem S2x8x512 .f32) (harg9 : arg9.IsWhole)
    (x0 : Vec Ideal S512x1536 .bf16) (x1 : Vec Ideal S512x128 .bf16) (x2 : Vec Ideal S2x4x512 .f32) (x3 : Vec Ideal S2x32 .f32) (x4 : Vec Ideal S1x128 .f32)

/-- A trip's surroundings at a grid point, over the blocks its windows hold. -/
def mkEnv : Env where
  c := c
  i := i
  arg2 := arg2
  harg2 := harg2
  arg3 := arg3
  harg3 := harg3
  arg4 := arg4
  harg4 := harg4
  arg5 := arg5
  harg5 := harg5
  arg6 := arg6
  harg6 := harg6
  arg7 := arg7
  harg7 := harg7
  arg8 := arg8
  harg8 := harg8
  arg9 := arg9
  harg9 := harg9
  arg0 := BitVec.ofNat 32 (i 0).val
  v55 := k1_pay158 i0 i1 k1_pay154 64#32 k1_pay155 k1_pay156 1#32
  v57 := k1_pay159 i0 i1 k1_pay154 64#32 k1_pay155 k1_pay156 1#32
  v59 := k1_pay160 i0 i1 k1_pay154 64#32 k1_pay155 k1_pay156 1#32
  v62 := k1_pay161 i0 i1
  v64 := iota .tc S256x512 32 [1] iota_S256x512_d1_w32
  v88 := k1_pay162
  c128_i32 := 128#32
  v90 := k1_pay163
  v91 := k1_pay164
  v114 := iota .tc S1x128 32 [1] iota_S1x128_d1_w32
  v115 := arg6.view.readAt (Elt Ideal) (Rect.unit (s := S1x128) ![0, 0] S1x128.size inb_S1x128_S1x128_0_0).toLoadRect (harg6.unread x4)
  X_arg2 := harg2.unread x0
  X_arg3 := harg3.unread x1
  X_arg4 := harg4.unread x2
  X_arg5 := harg5.unread x3

/-- The lanes' numbers. -/
theorem iota_lane (x : Fin 128) : (iota .tc S1x128 32 [1] iota_S1x128_d1_w32 : IVec S1x128 32) (ix2 0 x) = BitVec.ofNat 32 x.val := by pointwise

/-- Blocks with the layer's numbers make the trips' surroundings the layer's. -/
theorem mkEnv_ok {P W : ℕ → ℕ → ℝ} {Al Dt : ℕ → ℝ} {Nw : ℕ → EReal} {hp t0 : ℕ} (hhp : hp < 8) (hi : (i 0).val = hp)
    (h0 : ∀ (r : Fin 512) (l : Fin 1536), x0 (ix2 r l) = ((P (t0 + r) (1536 * hp + l) : ℝ) : EReal))
    (h1 : ∀ (r : Fin 512) (l : Fin 128), x1 (ix2 r l) = ((P (t0 + r) (12288 + l) : ℝ) : EReal))
    (h2 : ∀ (h : Fin 2) (t : Fin 4) (l : Fin 512), x2 (ix3 h t l) = ((W (wch (2 * hp + h) l) t : ℝ) : EReal))
    (h3a : ∀ h : Fin 32, x3 (ix2 0 h) = ((-Real.exp (Al h) : ℝ) : EReal))
    (h3b : ∀ h : Fin 32, x3 (ix2 1 h) = ((Dt h : ℝ) : EReal))
    (h4 : ∀ e : Fin 128, x4 (ix2 0 e) = Nw e) :
    (mkEnv c i arg2 harg2 arg3 harg3 arg4 harg4 arg5 harg5 arg6 harg6 arg7 harg7 arg8 harg8 arg9 harg9 x0 x1 x2 x3 x4).Ok P W Al Dt Nw hp t0 where
  hhp := hhp
  m1 := strict_mask
  m2 := full_mask
  L := float_mask
  I := id_mask
  m5 := wide_mask
  a := congrArg (BitVec.ofNat 32) hi
  i0 := hi
  i := iota_lane
  x2 := fun r l => (congrFun (harg2.read_unread x0) _).trans (h0 r l)
  x3 := fun r l => (congrFun (harg3.read_unread x1) _).trans (h1 r l)
  x4 := fun h t l => (congrFun (harg4.read_unread x2) _).trans (h2 h t l)
  x5a := fun h => (congrFun (harg5.read_unread x3) _).trans (h3a h)
  x5b := fun h => (congrFun (harg5.read_unread x3) _).trans (h3b h)
  nw := fun e => by
    show arg6.view.readAt (Elt Ideal) (Rect.unit (s := S1x128) ![0, 0] S1x128.size inb_S1x128_S1x128_0_0).toLoadRect (harg6.unread x4) (ix2 0 e) = _
    rw [View.readAt_unit arg6.view (harg6.unread x4) _ rfl inb_S1x128_S1x128_0_0, harg6.read_unread]
    refine (congrArg x4 ?_).trans (h4 e)
    funext a
    exact Fin.ext (match a with
      | ⟨0, _⟩ => rfl
      | ⟨1, _⟩ => by show 0 + 1 * e.val = e; omega)

end

/-- What a point's result and scratches hold, for head pair `hp` and the tokens from `t0`: the layer's. -/
structure Good (P W : ℕ → ℕ → ℝ) (Al Dt : ℕ → ℝ) (Nw : ℕ → EReal) (hp t0 : ℕ) (o : Vec Ideal S512x512 .bf16 × Vec Ideal S4x128x128 .f32 × Vec Ideal S2x8x512 .f32) : Prop where
  out : ∀ r c : Fin 512, o.1 (ix2 r c) = outh P W Al Dt Nw (4 * hp + c / 128) (t0 + r) (c % 128)
  st : ∀ (b : Fin 4) (d e : Fin 128), o.2.1 (ix3 b d e) = ((Sh P W Al Dt (4 * hp + b) (t0 + 512) d e : ℝ) : EReal)
  row : ∀ (h : Fin 2) (r : Fin 8) (l : Fin 512), 5 ≤ r.val → o.2.2 (ix3 h r l) = ((pz P (t0 + 512 + (r - 5)) (768 * (2 * hp + h) + l) : ℝ) : EReal)

/-- The zeros stored first. -/
theorem zero8 (x : S4x128x128.Idx) : k1_pay152 (F := Ideal) x = ((0 : ℝ) : EReal) := by
  pointwise [k1_pay152]
  exact EReal.coe_zero.symm

/-- The cleared scratch is zero. -/
theorem zero9 (x : S2x8x512.Idx) : k1_pay153 (F := Ideal) x = ((0 : ℝ) : EReal) := by
  pointwise [k1_pay153]
  exact EReal.coe_zero.symm

variable {V : (c : Dev nD) → (b : Ref sig .tc) → Buf (Elt Ideal) ((c : Thread nD τ).loc b)} {c : Dev nD} {P W : ℕ → ℕ → ℝ} {Al Dt : ℕ → ℝ} {Nw : ℕ → EReal} (I : Ins V c P W Al Dt Nw) (t : Fin cfg1.N)

include I

/-- A point's surroundings are the layer's. -/
theorem env_ok : (mkEnv c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (X1_0 V c t) (iblk V c 1 t) (iblk V c 2 t) (iblk V c 3 t) (iblk V c 4 t)).Ok P W Al Dt Nw (t.val / 8) (512 * (t.val % 8)) := by
  have ht : t.val < 64 := lt_of_lt_of_eq t.isLt N_1
  obtain ⟨a0, a1, b0, b1, c0, c1, c2, d0, d1, e0, e1, f0⟩ := idx_facts t
  exact mkEnv_ok c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (X1_0 V c t) (iblk V c 1 t) (iblk V c 2 t) (iblk V c 3 t) (iblk V c 4 t) (by omega) f0 (x0_val I t) (x1_val I t) (x2_val I t) (x3a_val I t) (x3b_val I t) (x4_val I t)

/-- A head pair's first point. -/
theorem good_A (h0 : t.val % 8 = 0) : Good P W Al Dt Nw (t.val / 8) 0 (outsAt1 V c t.val t.isLt) := by
  have ok := env_ok I t
  rw [h0] at ok
  rw [outsAt0_A V c t h0]
  have i8 : (mkEnv c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (X1_0 V c t) (iblk V c 1 t) (iblk V c 2 t) (iblk V c 3 t) (iblk V c 4 t)).Inv8 P W Al Dt (t.val / 8) (scM1_0.view.writes (Elt Ideal) scM1_0.view.junk kernelRun1_A.sl.HS0_1) (512 * 0) := by
    intro b d e
    refine (View.read_writes_cons_unit_of_mem scM1_0.view _ inb_S4x128x128_S4x128x128_0_0_0 _ [] _ (ix3 b d e) rfl ?_).trans (zero8 _)
    intro a
    exact match a with
      | ⟨0, _⟩ => by show b.val = 0 + b; omega
      | ⟨1, _⟩ => by show d.val = 0 + d; omega
      | ⟨2, _⟩ => by show e.val = 0 + e; omega
  have i9 : (mkEnv c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (X1_0 V c t) (iblk V c 1 t) (iblk V c 2 t) (iblk V c 3 t) (iblk V c 4 t)).Inv9 P (t.val / 8) (scM1_1.view.writes (Elt Ideal) scM1_1.view.junk kernelRun1_A.sl.HS1_1) (512 * 0) := by
    intro h r l hr
    refine (View.read_writes_cons_unit_of_mem scM1_1.view _ inb_S2x8x512_S2x8x512_0_0_0 _ [] _ (ix3 h r l) rfl ?_).trans ((zero9 _).trans ?_)
    · intro a
      exact match a with
        | ⟨0, _⟩ => by show h.val = 0 + h; omega
        | ⟨1, _⟩ => by show r.val = 0 + r; omega
        | ⟨2, _⟩ => by show l.val = 0 + l; omega
    · rw [pz, if_pos (by omega)]
  obtain ⟨e8, e9, e7⟩ := Env.trips_end ok (ms1_5 t).view.junk _ _ i8 i9
  refine ⟨fun r c => ?_, fun b d e => ?_, fun h r l hr => ?_⟩
  · refine Eq.trans ?_ (e7 (ms1_5 t).view.junk r c)
    unfold out1_A_5
    rw [View.read_writes_junk_eq_canon]
    exact (congrFun (View.read_writes_junk_eq_canon _ _) _).symm
  · exact e8 _ _ b d e
  · exact e9 _ _ h r l hr

/-- A later point of a head pair, over what the point before left. -/
theorem good_B (h0 : ¬t.val % 8 = 0) (hg : Good P W Al Dt Nw (t.val / 8) (512 * (t.val % 8 - 1)) (outsAt1 V c (t.val - 1) (Nat.lt_of_le_of_lt (Nat.sub_le _ _) t.isLt))) :
    Good P W Al Dt Nw (t.val / 8) (512 * (t.val % 8)) (outsAt1 V c t.val t.isLt) := by
  have ok := env_ok I t
  rw [outsAt0_B V c t h0]
  generalize outsAt1 V c (t.val - 1) (Nat.lt_of_le_of_lt (Nat.sub_le _ _) t.isLt) = o at hg ⊢
  have hT : 512 * (t.val % 8 - 1) + 512 = 512 * (t.val % 8) := by omega
  have i8 : (mkEnv c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (X1_0 V c t) (iblk V c 1 t) (iblk V c 2 t) (iblk V c 3 t) (iblk V c 4 t)).Inv8 P W Al Dt (t.val / 8) ((Memref.isWhole_whole cc1_scratch0 : scM1_0.IsWhole).unread o.2.1) (512 * (t.val % 8)) := by
    intro b d e
    rw [← hT]
    exact (congrFun ((Memref.isWhole_whole cc1_scratch0 : scM1_0.IsWhole).read_unread o.2.1) _).trans (hg.st b d e)
  have i9 : (mkEnv c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (X1_0 V c t) (iblk V c 1 t) (iblk V c 2 t) (iblk V c 3 t) (iblk V c 4 t)).Inv9 P (t.val / 8) ((Memref.isWhole_whole cc1_scratch1 : scM1_1.IsWhole).unread o.2.2) (512 * (t.val % 8)) := by
    intro h r l hr
    rw [← hT]
    exact (congrFun ((Memref.isWhole_whole cc1_scratch1 : scM1_1.IsWhole).read_unread o.2.2) _).trans (hg.row h r l hr)
  obtain ⟨e8, e9, e7⟩ := Env.trips_end ok (ms1_5 t).view.junk _ _ i8 i9
  refine ⟨fun r c => ?_, fun b d e => ?_, fun h r l hr => ?_⟩
  · refine Eq.trans ?_ (e7 (ms1_5 t).view.junk r c)
    unfold out1_B_5
    rw [View.read_writes_junk_eq_canon]
    exact (congrFun (View.read_writes_junk_eq_canon _ _) _).symm
  · have := e8 VS1_0.junk [] b d e
    rw [List.append_nil] at this
    exact this
  · have := e9 VS1_1.junk [] h r l hr
    rw [List.append_nil] at this
    exact this

/-- Every point. -/
theorem good (n : ℕ) (hn : n < cfg1.N) : Good P W Al Dt Nw (n / 8) (512 * (n % 8)) (outsAt1 V c n hn) := by
  induction n with
  | zero => exact good_A I ⟨0, hn⟩ rfl
  | succ n ih =>
    by_cases h0 : (n + 1) % 8 = 0
    · rw [h0]
      exact good_A I ⟨n + 1, hn⟩ h0
    · refine good_B I ⟨n + 1, hn⟩ h0 ?_
      have := ih (by omega)
      have e1 : (n + 1) / 8 = n / 8 := by omega
      have e2 : (n + 1) % 8 - 1 = n % 8 := by omega
      show Good P W Al Dt Nw ((n + 1) / 8) (512 * ((n + 1) % 8 - 1)) _
      rw [e1, e2]
      exact this

/-- The call's result. -/
theorem result (t : Fin 4096) (j : Fin 4096) : (G5 V c : Vec Ideal S4096x4096 .bf16) (ix2 t j) = outh P W Al Dt Nw (j / 128) t (j % 128) := by
  have hj := j.isLt
  have htt := t.isLt
  have hp : pt5Of (ix2 t j) = t.val / 512 + 8 * (j.val / 512) := by
    show 1 * (t.val / 512 - 0) + 8 * (j.val / 512 - 0) = _
    omega
  have hlt : pt5Of (ix2 t j) < cfg1.N := by rw [hp, show cfg1.N = 64 from N_1]; omega
  have e : (G5 V c : Vec Ideal S4096x4096 .bf16) (ix2 t j) = (outsAt1 V c (pt5Of (ix2 t j)) hlt).1 (loc5Of (ix2 t j)) := by
    rw [outsAt0_sweep]
    exact dif_pos hlt
  rw [e]
  generalize pt5Of (ix2 t j) = n at hp hlt
  have g := (good I n hlt).out ⟨t % 512, by omega⟩ ⟨j % 512, by omega⟩
  have hl : loc5Of (ix2 t j) = (ix2 ⟨t % 512, by omega⟩ ⟨j % 512, by omega⟩ : S512x512.Idx) := by
    funext a
    exact match a with
      | ⟨0, _⟩ => rfl
      | ⟨1, _⟩ => rfl
  rw [hl, g]
  have e1 : 4 * (n / 8) + j.val % 512 / 128 = j / 128 := by omega
  have e2 : 512 * (n % 8) + t.val % 512 = t := by omega
  have e3 : j.val % 512 % 128 = j % 128 := by omega
  dsimp only
  rw [e1, e2, e3]

end Cert.CoreV

end
-- ==== Proof.LayerHost.lean ====
/- What the host's operations hand to the three calls, and what the whole layer's result holds, over real numbers. -/
module

public import proofs.«01_k».proof.Proof.LayerIdealRun
public import proofs.«01_k».proof.Proof.InValue
public import proofs.«01_k».proof.Proof.OutValue
public import proofs.«01_k».proof.Proof.CoreGrid
public import Idealize.ShloMosaic.Lib.Pointwise
public import Idealize.ShloMosaic.Lib.Tactic.CleanTypes

@[expose] public section

set_option maxRecDepth 16384

noncomputable section

namespace Cert.LayerIdeal.Host

open Cert.LayerIdeal Cert.LayerIdeal.Gen Cert.LayerIdeal.Run Cert.Gdn
open Idealize.ShloMosaic Idealize.ShloMosaic.TcCoe
open scoped BigOperators

variable (m : (ℓ : Loc nD τ sig) → Buf (Elt Ideal) ℓ) (c : Dev nD)

/-! ## Before the first call -/

/-- The tokens as the first call finds them. -/
theorem V3_x : (V3 m c main_v2 : Vec Ideal S4096x2048 .bf16) = (m ((c : Thread nD τ).loc main_arg0) : Vec Ideal S4096x2048 .f32) := by
  simp only [V3, V2, V1, V0, hostOps0, hostOps0_1, hostOps0_2, List.flatten_cons, List.flatten_nil, List.append_nil, List.cons_append,
      List.nil_append, StableHlo.TRef.binary, StableHlo.TRef.unary, StableHlo.TRef.toBuf, StableHlo.TRef.ofBuf, cast_eq]
  after_results
  rfl

/-- The weights padded to the columns of the grid. -/
def wPad (w : Vec Ideal S2048x12352 .f32) : Vec Ideal S2048x12544 .bf16 := fun i =>
  if h : (i 1).val < 12352 then w (ix2 (i 0) ⟨(i 1).val, h⟩) else 0

/-- The weights as the first call finds them: padded with zero columns. -/
theorem V3_w : (V3 m c main_v1 : Vec Ideal S2048x12544 .bf16) = wPad (m ((c : Thread nD τ).loc main_arg1)) := by
  simp only [V3, V2, V1, V0, hostOps0, hostOps0_1, hostOps0_2, List.flatten_cons, List.flatten_nil, List.append_nil, List.cons_append,
      List.nil_append, StableHlo.TRef.binary, StableHlo.TRef.unary, StableHlo.TRef.toBuf, StableHlo.TRef.ofBuf, cast_eq]
  after_results
  funext i
  unfold wPad
  clean_types
  pointwise
  have hz : FloatOps.sitofp (F := Ideal) FTy.bf16 0#32 = (0 : EReal) := by
    show ((((0#32).toInt : ℝ)) : EReal) = 0
    simp
  rw [hz]

/-- Argument 2 is as launched when the first call has returned. -/
theorem W4_arg2 : W4 m c main_arg2 = m ((c : Thread nD τ).loc main_arg2) := by
  rw [← V4_eq]
  exact (V4_of m (outs m) c main_arg2 (by decide)).trans <| (V3_of m c main_arg2 (by decide)).trans <| (V2_of m c main_arg2 (by decide)).trans (V1_of m c main_arg2 (by decide))

/-- Argument 3 is as launched when the first call has returned. -/
theorem W4_arg3 : W4 m c main_arg3 = m ((c : Thread nD τ).loc main_arg3) := by
  rw [← V4_eq]
  exact (V4_of m (outs m) c main_arg3 (by decide)).trans <| (V3_of m c main_arg3 (by decide)).trans <| (V2_of m c main_arg3 (by decide)).trans (V1_of m c main_arg3 (by decide))

/-- Argument 4 is as launched when the first call has returned. -/
theorem W4_arg4 : W4 m c main_arg4 = m ((c : Thread nD τ).loc main_arg4) := by
  rw [← V4_eq]
  exact (V4_of m (outs m) c main_arg4 (by decide)).trans <| (V3_of m c main_arg4 (by decide)).trans <| (V2_of m c main_arg4 (by decide)).trans (V1_of m c main_arg4 (by decide))

/-- Argument 5 is as launched when the first call has returned. -/
theorem W4_arg5 : W4 m c main_arg5 = m ((c : Thread nD τ).loc main_arg5) := by
  rw [← V4_eq]
  exact (V4_of m (outs m) c main_arg5 (by decide)).trans <| (V3_of m c main_arg5 (by decide)).trans <| (V2_of m c main_arg5 (by decide)).trans (V1_of m c main_arg5 (by decide))

/-- Argument 6 is as launched when the first call has returned. -/
theorem W4_arg6 : W4 m c main_arg6 = m ((c : Thread nD τ).loc main_arg6) := by
  rw [← V4_eq]
  exact (V4_of m (outs m) c main_arg6 (by decide)).trans <| (V3_of m c main_arg6 (by decide)).trans <| (V2_of m c main_arg6 (by decide)).trans (V1_of m c main_arg6 (by decide))

/-! ## Between the first call and the second -/

/-- The three parts of the weights by key head, joined. -/
def convCat (a b : Vec Ideal S16x4x128 .f32) (d : Vec Ideal S16x4x256 .f32) : Vec Ideal S16x4x512 .f32 :=
  concatenate S16x4x512 2 [⟨S16x4x128, a⟩, ⟨S16x4x128, b⟩, ⟨S16x4x256, d⟩] concatenates_S16x4x128_S16x4x128_S16x4x256_S16x4x512_d2

/-- The join of equal parts. -/
theorem convCat_congr {a a' b b' : Vec Ideal S16x4x128 .f32} {d d' : Vec Ideal S16x4x256 .f32} (ha : a = a') (hb : b = b') (hd : d = d') :
    concatenate S16x4x512 2 [⟨S16x4x128, a⟩, ⟨S16x4x128, b⟩, ⟨S16x4x256, d⟩] concatenates_S16x4x128_S16x4x128_S16x4x256_S16x4x512_d2 = convCat a' b' d' := by
  subst ha hb hd
  rfl

/-- The weights by key head, from the weights by channel. -/
def convParts (w : Vec Ideal S8192x4 .f32) : Vec Ideal S16x4x512 .f32 :=
  convCat
    (transpose S16x4x128 [1, 0, 2] (shapeCast S4x16x128 (extractStridedSlice S4x2048 ![0, 0] (transpose S4x8192 [1, 0] w transposes_S8192x4_S4x8192_1_0) slices_S4x8192_S4x2048_0_0) shapeCasts_S4x2048_S4x16x128) transposes_S4x16x128_S16x4x128_1_0_2)
    (transpose S16x4x128 [1, 0, 2] (shapeCast S4x16x128 (extractStridedSlice S4x2048 ![0, 2048] (transpose S4x8192 [1, 0] w transposes_S8192x4_S4x8192_1_0) slices_S4x8192_S4x2048_0_2048) shapeCasts_S4x2048_S4x16x128) transposes_S4x16x128_S16x4x128_1_0_2)
    (transpose S16x4x256 [1, 0, 2] (shapeCast S4x16x256 (extractStridedSlice S4x4096 ![0, 4096] (transpose S4x8192 [1, 0] w transposes_S8192x4_S4x8192_1_0) slices_S4x8192_S4x4096_0_4096) shapeCasts_S4x4096_S4x16x256) transposes_S4x16x256_S16x4x256_1_0_2)

/-- The weights by key head read the channel's weights. -/
theorem convParts_at (w : Vec Ideal S8192x4 .f32) (h : Fin 16) (t : Fin 4) (l : Fin 512) :
    convParts w (ix3 h t l) = w (ix2 ⟨wch h l, by unfold wch; split_ifs <;> omega⟩ t) := by
  pointwise [convParts, convCat]
  by_cases h1 : l.val < 128
  · rw [dif_pos h1]
    congr 2
    exact Fin.ext (by show _ = wch h l; unfold wch; rw [if_pos h1]; dsimp only; omega)
  · rw [dif_neg h1]
    by_cases h2 : l.val < 256
    · rw [dif_pos (by omega)]
      congr 2
      exact Fin.ext (by show _ = wch h l; unfold wch; rw [if_neg h1, if_pos h2]; dsimp only; omega)
    · rw [dif_neg (by omega)]
      congr 2
      exact Fin.ext (by show _ = wch h l; unfold wch; rw [if_neg h1, if_neg h2]; dsimp only; omega)

/-- The convolution's weights as the host leaves them. -/
theorem after_conv (V : Valuation τ sig (Elt Ideal)) : (StableHlo.after hostOps1 V main_v14 : Vec Ideal S16x4x512 .f32) = convParts (V main_arg2) := by
  simp only [hostOps1, List.flatten_cons, List.flatten_nil, List.append_nil, List.cons_append,
      List.nil_append, StableHlo.TRef.binary, StableHlo.TRef.unary, StableHlo.TRef.toBuf, StableHlo.TRef.ofBuf, cast_eq]
  after_results
  dsimp only [Matrix.cons_val_zero, Matrix.cons_val_one, Matrix.cons_val]
  unfold convParts
  refine convCat_congr ?_ ?_ ?_
  · after_results
    rfl
  · after_results
    rfl
  · after_results
    rfl

/-- The gates' scalars as the host leaves them. -/
theorem after_gate (V : Valuation τ sig (Elt Ideal)) (r : Fin 2) (h : Fin 32) :
    (StableHlo.after hostOps1 V main_v19 : Vec Ideal S2x32 .f32) (ix2 r h)
      = if r.val = 0 then -Ideal.exp ((V main_arg3 : Vec Ideal S32 .f32) (ix1 h)) else (V main_arg4 : Vec Ideal S32 .f32) (ix1 h) := by
  simp only [hostOps1, List.flatten_cons, List.flatten_nil, List.append_nil, List.cons_append,
      List.nil_append, StableHlo.TRef.binary, StableHlo.TRef.unary, StableHlo.TRef.toBuf, StableHlo.TRef.ofBuf, cast_eq]
  after_results
  clean_types
  pointwise
  by_cases h0 : r.val = 0
  · rw [if_pos h0, dif_pos (by omega)]
  · rw [if_neg h0, dif_neg (by omega)]

/-- The norm's weights as the host leaves them. -/
theorem after_norm (V : Valuation τ sig (Elt Ideal)) (e : Fin 128) :
    (StableHlo.after hostOps1 V main_v20 : Vec Ideal S1x128 .f32) (ix2 0 e) = (V main_arg5 : Vec Ideal S128 .f32) (ix1 e) := by
  simp only [hostOps1, List.flatten_cons, List.flatten_nil, List.append_nil, List.cons_append,
      List.nil_append, StableHlo.TRef.binary, StableHlo.TRef.unary, StableHlo.TRef.toBuf, StableHlo.TRef.ofBuf, cast_eq]
  after_results
  clean_types
  pointwise

/-- The projection as the second call finds it: the first call's result. -/
theorem W5_v3 : W5 m c main_v3 = X4 m c := by
  rw [← V5_eq]
  refine (V5_of m (outs m) c main_v3 (by decide)).trans ?_
  rw [V4_eq]
  exact Function.update_self _ _ _

/-- The normalized heads as the third call finds them: the second call's result. -/
theorem W7_v21 : W7 m c main_v21 = X6 m c := by
  rw [← V7_eq]
  refine (V7_of m (outs m) c main_v21 (by decide)).trans ?_
  rw [V6_eq]
  exact Function.update_self _ _ _

/-- The last weights as the third call finds them. -/
theorem W7_v22 : (W7 m c main_v22 : Vec Ideal S4096x2048 .bf16) = (m ((c : Thread nD τ).loc main_arg6) : Vec Ideal S4096x2048 .f32) := by
  have h : W6 m c main_arg6 = m ((c : Thread nD τ).loc main_arg6) := by
    rw [← V6_eq]
    refine (V6_of m (outs m) c main_arg6 (by decide)).trans <| (V5_of m (outs m) c main_arg6 (by decide)).trans ?_
    rw [V4_eq]
    exact W4_arg6 m c
  rw [← h, W7]
  generalize W6 m c = V
  simp only [hostOps2]
  after_results
  rfl

/-! ## The numbers the second call works on -/

/-- The first five arguments are these numbers, the sixth these values. -/
structure Nums (x : ℕ → ℕ → ℝ) (w : ℕ → ℕ → ℝ) (cw : ℕ → ℕ → ℝ) (al dt : ℕ → ℝ) (nw : ℕ → EReal) : Prop where
  x : ∀ (t : Fin 4096) (k : Fin 2048), (m ((c : Thread nD τ).loc main_arg0) : Vec Ideal S4096x2048 .f32) (ix2 t k) = ((x t k : ℝ) : EReal)
  w : ∀ (k : Fin 2048) (j : Fin 12352), (m ((c : Thread nD τ).loc main_arg1) : Vec Ideal S2048x12352 .f32) (ix2 k j) = ((w k j : ℝ) : EReal)
  cw : ∀ (j : Fin 8192) (k : Fin 4), (m ((c : Thread nD τ).loc main_arg2) : Vec Ideal S8192x4 .f32) (ix2 j k) = ((cw j k : ℝ) : EReal)
  al : ∀ h : Fin 32, (m ((c : Thread nD τ).loc main_arg3) : Vec Ideal S32 .f32) (ix1 h) = ((al h : ℝ) : EReal)
  dt : ∀ h : Fin 32, (m ((c : Thread nD τ).loc main_arg4) : Vec Ideal S32 .f32) (ix1 h) = ((dt h : ℝ) : EReal)
  nw : ∀ e : Fin 128, (m ((c : Thread nD τ).loc main_arg5) : Vec Ideal S128 .f32) (ix1 e) = nw e

/-- The projection's number at a token and a column, zero beyond the weights' columns. -/
def proj (x w : ℕ → ℕ → ℝ) (t j : ℕ) : ℝ := if j < 12352 then ∑ k : Fin 2048, x t k * w k j else 0

variable {m c} {x w cw : ℕ → ℕ → ℝ} {al dt : ℕ → ℝ} {nw : ℕ → EReal}

/-- The first call's result over the numbers. -/
theorem X4_at (N : Nums m c x w cw al dt nw) (t : Fin 4096) (j : Fin 12544) :
    (X4 m c : Vec Ideal S4096x12544 .bf16) (ix2 t j) = ((proj x w t j : ℝ) : EReal) := by
  have e : X4 m c = Cert.LayerIdeal.In.G (V3 m c main_v2) (V3 m c main_v1) := Cert.LayerIdeal.In.final (fun c b => V3 m c b) c
  have key : ∀ (X : Vec Ideal S4096x2048 .bf16) (Y : Vec Ideal S2048x12352 .f32), (∀ (t : Fin 4096) (k : Fin 2048), X (ix2 t k) = ((x t k : ℝ) : EReal)) →
      (∀ (k : Fin 2048) (j : Fin 12352), Y (ix2 k j) = ((w k j : ℝ) : EReal)) → Cert.LayerIdeal.In.G X (wPad Y) (ix2 t j) = ((proj x w t j : ℝ) : EReal) := by
    intro X Y hX hY
    show ∑ k : Fin 2048, X (ix2 t k) * wPad Y (ix2 k j) = _
    unfold proj
    by_cases hj : j.val < 12352
    · rw [if_pos hj, ← coe_sum]
      refine Finset.sum_congr rfl fun k _ => ?_
      rw [EReal.coe_mul, ← hX t k, ← hY k ⟨j.val, hj⟩]
      exact congrArg (_ * ·) (dif_pos hj)
    · rw [if_neg hj]
      refine (Finset.sum_eq_zero fun k _ => ?_).trans EReal.coe_zero.symm
      exact (congrArg (_ * ·) (dif_neg hj)).trans (mul_zero _)
  rw [e, V3_x, V3_w]
  exact key _ _ N.x N.w

/-- The second call's arrays are these numbers. -/
theorem ins (N : Nums m c x w cw al dt nw) : Cert.CoreV.Ins (fun c b => W5 m c b) c (proj x w) cw al dt nw where
  p t j := by
    show (W5 m c main_v3 : Vec Ideal S4096x12544 .bf16) (ix2 t j) = _
    rw [W5_v3]
    exact X4_at N t j
  w h k l := by
    show (StableHlo.after hostOps1 (W4 m c) main_v14 : Vec Ideal S16x4x512 .f32) (ix3 h k l) = _
    rw [after_conv, W4_arg2, convParts_at]
    exact N.cw _ k
  al h := by
    refine (after_gate (W4 m c) 0 h).trans ?_
    refine (if_pos rfl).trans ?_
    rw [W4_arg3, N.al h, exp_coe, ← EReal.coe_neg]
  dt h := by
    refine (after_gate (W4 m c) 1 h).trans ?_
    refine (if_neg (by decide)).trans ?_
    rw [W4_arg4]
    exact N.dt h
  nw e := by
    refine (after_norm (W4 m c) e).trans ?_
    rw [W4_arg5]
    exact N.nw e

/-- The layer's result over the numbers. -/
theorem X8_at (N : Nums m c x w cw al dt nw) (o : Vec Ideal S4096x2048 .f32) (ho : m ((c : Thread nD τ).loc main_arg6) = o) (t : Fin 4096) (j : Fin 2048) :
    (X8 m c : Vec Ideal S4096x2048 .f32) (ix2 t j) = ∑ k : Fin 4096, outh (proj x w) cw al dt nw (k / 128) t (k % 128) * o (ix2 k j) := by
  have e : X8 m c = Cert.LayerIdeal.Out.G (W7 m c main_v21) (W7 m c main_v22) := Cert.LayerIdeal.Out.final (fun c b => W7 m c b) c
  have e6 : X6 m c = Cert.LayerIdeal.Value.G5 (fun c b => W5 m c b) c := Cert.LayerIdeal.Value.final5 (fun c b => W5 m c b) c
  have key : ∀ (X : Vec Ideal S4096x4096 .bf16), (∀ k : Fin 4096, X (ix2 t k) = outh (proj x w) cw al dt nw (k / 128) t (k % 128)) →
      Cert.LayerIdeal.Out.G X o (ix2 t j) = ∑ k : Fin 4096, outh (proj x w) cw al dt nw (k / 128) t (k % 128) * o (ix2 k j) := by
    intro X hX
    show ∑ k : Fin 4096, X (ix2 t k) * o (ix2 k j) = _
    exact Finset.sum_congr rfl fun k _ => congrArg (· * o (ix2 k j)) (hX k)
  rw [e, W7_v22, W7_v21, e6, ho]
  exact key _ fun k => Cert.CoreV.result (ins N) t k

end Cert.LayerIdeal.Host

end
-- ==== Proof.RefStepRun.lean ====
/- The run of the reference, stated over one step of its token loop: the results are those of the step applied 4096 times to the state before the loop. -/
module

public import proofs.«01_k».proof.Proof.Gen.LayerReferenceIdeal.Run
public import proofs.«01_k».proof.Proof.Gen.LayerReferenceIdeal.Step

@[expose] public section

noncomputable section

namespace Cert.LayerReferenceIdeal.StepRun

open Idealize.ShloMosaic Idealize.ShloMosaic.TcCoe Idealize.SL.Sem Idealize.ShloMosaic.StableHlo
open Cert.LayerReferenceIdeal Cert.LayerReferenceIdeal.Gen Cert.LayerReferenceIdeal.Value
open Cert.LayerReferenceIdeal.Step (State step init)

variable {F : FTy → Type} [FloatOps F]

variable (V0 : Valuation τ sig (Elt F)) (s : State F) (j : ℕ)

/-- The valuation holds the state, the set-up values and the trip's number. -/
structure Holds : Prop where
  f_6 : V0 (Proc.devRef .tc main_v93_6) = s.main_v93_6
  f_7 : V0 (Proc.devRef .tc main_v93_7) = s.main_v93_7
  f_0 : V0 (Proc.devRef .tc main_v93_0) = s.main_v93_0
  f_1 : V0 (Proc.devRef .tc main_v93_1) = s.main_v93_1
  f_2 : V0 (Proc.devRef .tc main_v93_2) = s.main_v93_2
  f_3 : V0 (Proc.devRef .tc main_v93_3) = s.main_v93_3
  f_4 : V0 (Proc.devRef .tc main_v93_4) = s.main_v93_4
  n_5 : V0 (Proc.devRef .tc main_v93_5) = constantI S_ 32 (BitVec.ofNat 32 j)

variable {V0 s j}

set_option maxRecDepth 8192 in
/-- Operation 0 of the step. -/
theorem al_0 (h : Holds V0 s j) : (constantI S_ 32 0#32 : (Proc.devRef .tc main_while0b_call3_c : DevRef τ sig).ty.Contents (Elt F)) = Cert.LayerReferenceIdeal.Step.b0 j s := by
  unfold Cert.LayerReferenceIdeal.Step.b0
  rfl
set_option maxRecDepth 8192 in
/-- Operation 1 of the step. -/
theorem al_1 (h : Holds V0 s j) : (constantI S_ 32 0#32 : (Proc.devRef .tc main_while0b_call3_c_0 : DevRef τ sig).ty.Contents (Elt F)) = Cert.LayerReferenceIdeal.Step.b1 j s := by
  unfold Cert.LayerReferenceIdeal.Step.b1
  rfl
set_option maxRecDepth 8192 in
/-- Operation 2 of the step. -/
theorem al_2 (h : Holds V0 s j) : (Host.dynamicSlice S1x32x128 (V0 (Proc.devRef .tc main_v93_0)) (fun k => (((![V0 (Proc.devRef .tc main_v93_5), constantI S_ 32 0#32, constantI S_ 32 0#32] : Fin 3 → (⟨S_, .i32⟩ : BufTy).Contents (Elt F))) k (Shape.Idx.first h_S_)).toInt) sliceFits_S4096x32x128_S1x32x128 : (Proc.devRef .tc main_while0b_call3_v0 : DevRef τ sig).ty.Contents (Elt F)) = Cert.LayerReferenceIdeal.Step.b2 j s := by
  unfold Cert.LayerReferenceIdeal.Step.b2
  rw [← al_0 h, ← al_1 h, h.f_0, h.n_5]
  try rfl
set_option maxRecDepth 8192 in
/-- Operation 3 of the step. -/
theorem al_3 (h : Holds V0 s j) : (shapeCast S32x128 (Host.dynamicSlice S1x32x128 (V0 (Proc.devRef .tc main_v93_0)) (fun k => (((![V0 (Proc.devRef .tc main_v93_5), constantI S_ 32 0#32, constantI S_ 32 0#32] : Fin 3 → (⟨S_, .i32⟩ : BufTy).Contents (Elt F))) k (Shape.Idx.first h_S_)).toInt) sliceFits_S4096x32x128_S1x32x128) shapeCasts_S1x32x128_S32x128 : (Proc.devRef .tc main_while0b_v116 : DevRef τ sig).ty.Contents (Elt F)) = Cert.LayerReferenceIdeal.Step.b3 j s := by
  unfold Cert.LayerReferenceIdeal.Step.b3
  rw [← al_2 h]
  try rfl
set_option maxRecDepth 8192 in
/-- Operation 4 of the step. -/
theorem al_4 (h : Holds V0 s j) : (constantI S_ 32 0#32 : (Proc.devRef .tc main_while0b_call4_c : DevRef τ sig).ty.Contents (Elt F)) = Cert.LayerReferenceIdeal.Step.b4 j s := by
  unfold Cert.LayerReferenceIdeal.Step.b4
  rfl
set_option maxRecDepth 8192 in
/-- Operation 5 of the step. -/
theorem al_5 (h : Holds V0 s j) : (constantI S_ 32 0#32 : (Proc.devRef .tc main_while0b_call4_c_0 : DevRef τ sig).ty.Contents (Elt F)) = Cert.LayerReferenceIdeal.Step.b5 j s := by
  unfold Cert.LayerReferenceIdeal.Step.b5
  rfl
set_option maxRecDepth 8192 in
/-- Operation 6 of the step. -/
theorem al_6 (h : Holds V0 s j) : (Host.dynamicSlice S1x32x128 (V0 (Proc.devRef .tc main_v93_1)) (fun k => (((![V0 (Proc.devRef .tc main_v93_5), constantI S_ 32 0#32, constantI S_ 32 0#32] : Fin 3 → (⟨S_, .i32⟩ : BufTy).Contents (Elt F))) k (Shape.Idx.first h_S_)).toInt) sliceFits_S4096x32x128_S1x32x128 : (Proc.devRef .tc main_while0b_call4_v0 : DevRef τ sig).ty.Contents (Elt F)) = Cert.LayerReferenceIdeal.Step.b6 j s := by
  unfold Cert.LayerReferenceIdeal.Step.b6
  rw [← al_4 h, ← al_5 h, h.f_1, h.n_5]
  try rfl
set_option maxRecDepth 8192 in
/-- Operation 7 of the step. -/
theorem al_7 (h : Holds V0 s j) : (res_main_while0b_v117 V0 : (Proc.devRef .tc main_while0b_v117 : DevRef τ sig).ty.Contents (Elt F)) = Cert.LayerReferenceIdeal.Step.b7 j s := by
  unfold res_main_while0b_v117 Cert.LayerReferenceIdeal.Step.b7
  rw [← al_6 h]
  try rfl
set_option maxRecDepth 8192 in
/-- Operation 8 of the step. -/
theorem al_8 (h : Holds V0 s j) : (constantI S_ 32 0#32 : (Proc.devRef .tc main_while0b_call5_c : DevRef τ sig).ty.Contents (Elt F)) = Cert.LayerReferenceIdeal.Step.b8 j s := by
  unfold Cert.LayerReferenceIdeal.Step.b8
  rfl
set_option maxRecDepth 8192 in
/-- Operation 9 of the step. -/
theorem al_9 (h : Holds V0 s j) : (constantI S_ 32 0#32 : (Proc.devRef .tc main_while0b_call5_c_0 : DevRef τ sig).ty.Contents (Elt F)) = Cert.LayerReferenceIdeal.Step.b9 j s := by
  unfold Cert.LayerReferenceIdeal.Step.b9
  rfl
set_option maxRecDepth 8192 in
/-- Operation 10 of the step. -/
theorem al_10 (h : Holds V0 s j) : (Host.dynamicSlice S1x32x128 (V0 (Proc.devRef .tc main_v93_2)) (fun k => (((![V0 (Proc.devRef .tc main_v93_5), constantI S_ 32 0#32, constantI S_ 32 0#32] : Fin 3 → (⟨S_, .i32⟩ : BufTy).Contents (Elt F))) k (Shape.Idx.first h_S_)).toInt) sliceFits_S4096x32x128_S1x32x128 : (Proc.devRef .tc main_while0b_call5_v0 : DevRef τ sig).ty.Contents (Elt F)) = Cert.LayerReferenceIdeal.Step.b10 j s := by
  unfold Cert.LayerReferenceIdeal.Step.b10
  rw [← al_8 h, ← al_9 h, h.f_2, h.n_5]
  try rfl
set_option maxRecDepth 8192 in
/-- Operation 11 of the step. -/
theorem al_11 (h : Holds V0 s j) : (shapeCast S32x128 (Host.dynamicSlice S1x32x128 (V0 (Proc.devRef .tc main_v93_2)) (fun k => (((![V0 (Proc.devRef .tc main_v93_5), constantI S_ 32 0#32, constantI S_ 32 0#32] : Fin 3 → (⟨S_, .i32⟩ : BufTy).Contents (Elt F))) k (Shape.Idx.first h_S_)).toInt) sliceFits_S4096x32x128_S1x32x128) shapeCasts_S1x32x128_S32x128 : (Proc.devRef .tc main_while0b_v118 : DevRef τ sig).ty.Contents (Elt F)) = Cert.LayerReferenceIdeal.Step.b11 j s := by
  unfold Cert.LayerReferenceIdeal.Step.b11
  rw [← al_10 h]
  try rfl
set_option maxRecDepth 8192 in
/-- Operation 12 of the step. -/
theorem al_12 (h : Holds V0 s j) : (constantI S_ 32 0#32 : (Proc.devRef .tc main_while0b_call6_c : DevRef τ sig).ty.Contents (Elt F)) = Cert.LayerReferenceIdeal.Step.b12 j s := by
  unfold Cert.LayerReferenceIdeal.Step.b12
  rfl
set_option maxRecDepth 8192 in
/-- Operation 13 of the step. -/
theorem al_13 (h : Holds V0 s j) : (Host.dynamicSlice S1x32 (V0 (Proc.devRef .tc main_v93_3)) (fun k => (((![V0 (Proc.devRef .tc main_v93_5), constantI S_ 32 0#32] : Fin 2 → (⟨S_, .i32⟩ : BufTy).Contents (Elt F))) k (Shape.Idx.first h_S_)).toInt) sliceFits_S4096x32_S1x32 : (Proc.devRef .tc main_while0b_call6_v0 : DevRef τ sig).ty.Contents (Elt F)) = Cert.LayerReferenceIdeal.Step.b13 j s := by
  unfold Cert.LayerReferenceIdeal.Step.b13
  rw [← al_12 h, h.f_3, h.n_5]
  try rfl
set_option maxRecDepth 8192 in
/-- Operation 14 of the step. -/
theorem al_14 (h : Holds V0 s j) : (shapeCast S32 (Host.dynamicSlice S1x32 (V0 (Proc.devRef .tc main_v93_3)) (fun k => (((![V0 (Proc.devRef .tc main_v93_5), constantI S_ 32 0#32] : Fin 2 → (⟨S_, .i32⟩ : BufTy).Contents (Elt F))) k (Shape.Idx.first h_S_)).toInt) sliceFits_S4096x32_S1x32) shapeCasts_S1x32_S32 : (Proc.devRef .tc main_while0b_v119 : DevRef τ sig).ty.Contents (Elt F)) = Cert.LayerReferenceIdeal.Step.b14 j s := by
  unfold Cert.LayerReferenceIdeal.Step.b14
  rw [← al_13 h]
  try rfl
set_option maxRecDepth 8192 in
/-- Operation 15 of the step. -/
theorem al_15 (h : Holds V0 s j) : (constantI S_ 32 0#32 : (Proc.devRef .tc main_while0b_call7_c : DevRef τ sig).ty.Contents (Elt F)) = Cert.LayerReferenceIdeal.Step.b15 j s := by
  unfold Cert.LayerReferenceIdeal.Step.b15
  rfl
set_option maxRecDepth 8192 in
/-- Operation 16 of the step. -/
theorem al_16 (h : Holds V0 s j) : (Host.dynamicSlice S1x32 (V0 (Proc.devRef .tc main_v93_4)) (fun k => (((![V0 (Proc.devRef .tc main_v93_5), constantI S_ 32 0#32] : Fin 2 → (⟨S_, .i32⟩ : BufTy).Contents (Elt F))) k (Shape.Idx.first h_S_)).toInt) sliceFits_S4096x32_S1x32 : (Proc.devRef .tc main_while0b_call7_v0 : DevRef τ sig).ty.Contents (Elt F)) = Cert.LayerReferenceIdeal.Step.b16 j s := by
  unfold Cert.LayerReferenceIdeal.Step.b16
  rw [← al_15 h, h.f_4, h.n_5]
  try rfl
set_option maxRecDepth 8192 in
/-- Operation 17 of the step. -/
theorem al_17 (h : Holds V0 s j) : (shapeCast S32 (Host.dynamicSlice S1x32 (V0 (Proc.devRef .tc main_v93_4)) (fun k => (((![V0 (Proc.devRef .tc main_v93_5), constantI S_ 32 0#32] : Fin 2 → (⟨S_, .i32⟩ : BufTy).Contents (Elt F))) k (Shape.Idx.first h_S_)).toInt) sliceFits_S4096x32_S1x32) shapeCasts_S1x32_S32 : (Proc.devRef .tc main_while0b_v120 : DevRef τ sig).ty.Contents (Elt F)) = Cert.LayerReferenceIdeal.Step.b17 j s := by
  unfold Cert.LayerReferenceIdeal.Step.b17
  rw [← al_16 h]
  try rfl
set_option maxRecDepth 8192 in
/-- Operation 18 of the step. -/
theorem al_18 (h : Holds V0 s j) : (Host.exp (shapeCast S32 (Host.dynamicSlice S1x32 (V0 (Proc.devRef .tc main_v93_3)) (fun k => (((![V0 (Proc.devRef .tc main_v93_5), constantI S_ 32 0#32] : Fin 2 → (⟨S_, .i32⟩ : BufTy).Contents (Elt F))) k (Shape.Idx.first h_S_)).toInt) sliceFits_S4096x32_S1x32) shapeCasts_S1x32_S32) : (Proc.devRef .tc main_while0b_v121 : DevRef τ sig).ty.Contents (Elt F)) = Cert.LayerReferenceIdeal.Step.b18 j s := by
  unfold Cert.LayerReferenceIdeal.Step.b18
  rw [← al_14 h]
  try rfl
set_option maxRecDepth 8192 in
/-- Operation 19 of the step. -/
theorem al_19 (h : Holds V0 s j) : (broadcastInDim S32x1x1 ![0] bcast_S32_S32x1x1_0 (Host.exp (shapeCast S32 (Host.dynamicSlice S1x32 (V0 (Proc.devRef .tc main_v93_3)) (fun k => (((![V0 (Proc.devRef .tc main_v93_5), constantI S_ 32 0#32] : Fin 2 → (⟨S_, .i32⟩ : BufTy).Contents (Elt F))) k (Shape.Idx.first h_S_)).toInt) sliceFits_S4096x32_S1x32) shapeCasts_S1x32_S32)) : (Proc.devRef .tc main_while0b_v122 : DevRef τ sig).ty.Contents (Elt F)) = Cert.LayerReferenceIdeal.Step.b19 j s := by
  unfold Cert.LayerReferenceIdeal.Step.b19
  rw [← al_18 h]
  try rfl
set_option maxRecDepth 8192 in
/-- Operation 20 of the step. -/
theorem al_20 (h : Holds V0 s j) : (broadcastInDim S32x128x128 ![0, 1, 2] bcast_S32x1x1_S32x128x128_0_1_2 (broadcastInDim S32x1x1 ![0] bcast_S32_S32x1x1_0 (Host.exp (shapeCast S32 (Host.dynamicSlice S1x32 (V0 (Proc.devRef .tc main_v93_3)) (fun k => (((![V0 (Proc.devRef .tc main_v93_5), constantI S_ 32 0#32] : Fin 2 → (⟨S_, .i32⟩ : BufTy).Contents (Elt F))) k (Shape.Idx.first h_S_)).toInt) sliceFits_S4096x32_S1x32) shapeCasts_S1x32_S32))) : (Proc.devRef .tc main_while0b_v123 : DevRef τ sig).ty.Contents (Elt F)) = Cert.LayerReferenceIdeal.Step.b20 j s := by
  unfold Cert.LayerReferenceIdeal.Step.b20
  rw [← al_19 h]
  try rfl
set_option maxRecDepth 8192 in
/-- Operation 21 of the step. -/
theorem al_21 (h : Holds V0 s j) : (res_main_while0b_v124 V0 : (Proc.devRef .tc main_while0b_v124 : DevRef τ sig).ty.Contents (Elt F)) = Cert.LayerReferenceIdeal.Step.b21 j s := by
  unfold res_main_while0b_v124 Cert.LayerReferenceIdeal.Step.b21
  rw [← al_20 h, h.f_6]
  try rfl
set_option maxRecDepth 8192 in
/-- Operation 22 of the step. -/
theorem al_22 (h : Holds V0 s j) : (Host.dotGeneral dot_S32x128_S32x128x128_S32x128_1_1_n_2_0_0 none (res_main_while0b_v117 V0) (res_main_while0b_v124 V0) : (Proc.devRef .tc main_while0b_v125 : DevRef τ sig).ty.Contents (Elt F)) = Cert.LayerReferenceIdeal.Step.b22 j s := by
  unfold Cert.LayerReferenceIdeal.Step.b22
  rw [← al_7 h, ← al_21 h]
  try rfl
set_option maxRecDepth 8192 in
/-- Operation 23 of the step. -/
theorem al_23 (h : Holds V0 s j) : (subf (shapeCast S32x128 (Host.dynamicSlice S1x32x128 (V0 (Proc.devRef .tc main_v93_2)) (fun k => (((![V0 (Proc.devRef .tc main_v93_5), constantI S_ 32 0#32, constantI S_ 32 0#32] : Fin 3 → (⟨S_, .i32⟩ : BufTy).Contents (Elt F))) k (Shape.Idx.first h_S_)).toInt) sliceFits_S4096x32x128_S1x32x128) shapeCasts_S1x32x128_S32x128) (Host.dotGeneral dot_S32x128_S32x128x128_S32x128_1_1_n_2_0_0 none (res_main_while0b_v117 V0) (res_main_while0b_v124 V0)) : (Proc.devRef .tc main_while0b_v126 : DevRef τ sig).ty.Contents (Elt F)) = Cert.LayerReferenceIdeal.Step.b23 j s := by
  unfold Cert.LayerReferenceIdeal.Step.b23
  rw [← al_11 h, ← al_22 h]
  try rfl
set_option maxRecDepth 8192 in
/-- Operation 24 of the step. -/
theorem al_24 (h : Holds V0 s j) : (broadcastInDim S32x1 ![0] bcast_S32_S32x1_0 (shapeCast S32 (Host.dynamicSlice S1x32 (V0 (Proc.devRef .tc main_v93_4)) (fun k => (((![V0 (Proc.devRef .tc main_v93_5), constantI S_ 32 0#32] : Fin 2 → (⟨S_, .i32⟩ : BufTy).Contents (Elt F))) k (Shape.Idx.first h_S_)).toInt) sliceFits_S4096x32_S1x32) shapeCasts_S1x32_S32) : (Proc.devRef .tc main_while0b_v127 : DevRef τ sig).ty.Contents (Elt F)) = Cert.LayerReferenceIdeal.Step.b24 j s := by
  unfold Cert.LayerReferenceIdeal.Step.b24
  rw [← al_17 h]
  try rfl
set_option maxRecDepth 8192 in
/-- Operation 25 of the step. -/
theorem al_25 (h : Holds V0 s j) : (broadcastInDim S32x128 ![0, 1] bcast_S32x1_S32x128_0_1 (broadcastInDim S32x1 ![0] bcast_S32_S32x1_0 (shapeCast S32 (Host.dynamicSlice S1x32 (V0 (Proc.devRef .tc main_v93_4)) (fun k => (((![V0 (Proc.devRef .tc main_v93_5), constantI S_ 32 0#32] : Fin 2 → (⟨S_, .i32⟩ : BufTy).Contents (Elt F))) k (Shape.Idx.first h_S_)).toInt) sliceFits_S4096x32_S1x32) shapeCasts_S1x32_S32)) : (Proc.devRef .tc main_while0b_v128 : DevRef τ sig).ty.Contents (Elt F)) = Cert.LayerReferenceIdeal.Step.b25 j s := by
  unfold Cert.LayerReferenceIdeal.Step.b25
  rw [← al_24 h]
  try rfl
set_option maxRecDepth 8192 in
/-- Operation 26 of the step. -/
theorem al_26 (h : Holds V0 s j) : (mulf (subf (shapeCast S32x128 (Host.dynamicSlice S1x32x128 (V0 (Proc.devRef .tc main_v93_2)) (fun k => (((![V0 (Proc.devRef .tc main_v93_5), constantI S_ 32 0#32, constantI S_ 32 0#32] : Fin 3 → (⟨S_, .i32⟩ : BufTy).Contents (Elt F))) k (Shape.Idx.first h_S_)).toInt) sliceFits_S4096x32x128_S1x32x128) shapeCasts_S1x32x128_S32x128) (Host.dotGeneral dot_S32x128_S32x128x128_S32x128_1_1_n_2_0_0 none (res_main_while0b_v117 V0) (res_main_while0b_v124 V0))) (broadcastInDim S32x128 ![0, 1] bcast_S32x1_S32x128_0_1 (broadcastInDim S32x1 ![0] bcast_S32_S32x1_0 (shapeCast S32 (Host.dynamicSlice S1x32 (V0 (Proc.devRef .tc main_v93_4)) (fun k => (((![V0 (Proc.devRef .tc main_v93_5), constantI S_ 32 0#32] : Fin 2 → (⟨S_, .i32⟩ : BufTy).Contents (Elt F))) k (Shape.Idx.first h_S_)).toInt) sliceFits_S4096x32_S1x32) shapeCasts_S1x32_S32))) : (Proc.devRef .tc main_while0b_v129 : DevRef τ sig).ty.Contents (Elt F)) = Cert.LayerReferenceIdeal.Step.b26 j s := by
  unfold Cert.LayerReferenceIdeal.Step.b26
  rw [← al_23 h, ← al_25 h]
  try rfl
set_option maxRecDepth 8192 in
/-- Operation 27 of the step. -/
theorem al_27 (h : Holds V0 s j) : (broadcastInDim S32x128x1 ![0, 1] bcast_S32x128_S32x128x1_0_1 (res_main_while0b_v117 V0) : (Proc.devRef .tc main_while0b_v130 : DevRef τ sig).ty.Contents (Elt F)) = Cert.LayerReferenceIdeal.Step.b27 j s := by
  unfold Cert.LayerReferenceIdeal.Step.b27
  rw [← al_7 h]
  try rfl
set_option maxRecDepth 8192 in
/-- Operation 28 of the step. -/
theorem al_28 (h : Holds V0 s j) : (broadcastInDim S32x1x128 ![0, 2] bcast_S32x128_S32x1x128_0_2 (mulf (subf (shapeCast S32x128 (Host.dynamicSlice S1x32x128 (V0 (Proc.devRef .tc main_v93_2)) (fun k => (((![V0 (Proc.devRef .tc main_v93_5), constantI S_ 32 0#32, constantI S_ 32 0#32] : Fin 3 → (⟨S_, .i32⟩ : BufTy).Contents (Elt F))) k (Shape.Idx.first h_S_)).toInt) sliceFits_S4096x32x128_S1x32x128) shapeCasts_S1x32x128_S32x128) (Host.dotGeneral dot_S32x128_S32x128x128_S32x128_1_1_n_2_0_0 none (res_main_while0b_v117 V0) (res_main_while0b_v124 V0))) (broadcastInDim S32x128 ![0, 1] bcast_S32x1_S32x128_0_1 (broadcastInDim S32x1 ![0] bcast_S32_S32x1_0 (shapeCast S32 (Host.dynamicSlice S1x32 (V0 (Proc.devRef .tc main_v93_4)) (fun k => (((![V0 (Proc.devRef .tc main_v93_5), constantI S_ 32 0#32] : Fin 2 → (⟨S_, .i32⟩ : BufTy).Contents (Elt F))) k (Shape.Idx.first h_S_)).toInt) sliceFits_S4096x32_S1x32) shapeCasts_S1x32_S32)))) : (Proc.devRef .tc main_while0b_v131 : DevRef τ sig).ty.Contents (Elt F)) = Cert.LayerReferenceIdeal.Step.b28 j s := by
  unfold Cert.LayerReferenceIdeal.Step.b28
  rw [← al_26 h]
  try rfl
set_option maxRecDepth 8192 in
/-- Operation 29 of the step. -/
theorem al_29 (h : Holds V0 s j) : (broadcastInDim S32x128x128 ![0, 1, 2] bcast_S32x128x1_S32x128x128_0_1_2 (broadcastInDim S32x128x1 ![0, 1] bcast_S32x128_S32x128x1_0_1 (res_main_while0b_v117 V0)) : (Proc.devRef .tc main_while0b_v132 : DevRef τ sig).ty.Contents (Elt F)) = Cert.LayerReferenceIdeal.Step.b29 j s := by
  unfold Cert.LayerReferenceIdeal.Step.b29
  rw [← al_27 h]
  try rfl
set_option maxRecDepth 8192 in
/-- Operation 30 of the step. -/
theorem al_30 (h : Holds V0 s j) : (broadcastInDim S32x128x128 ![0, 1, 2] bcast_S32x1x128_S32x128x128_0_1_2 (broadcastInDim S32x1x128 ![0, 2] bcast_S32x128_S32x1x128_0_2 (mulf (subf (shapeCast S32x128 (Host.dynamicSlice S1x32x128 (V0 (Proc.devRef .tc main_v93_2)) (fun k => (((![V0 (Proc.devRef .tc main_v93_5), constantI S_ 32 0#32, constantI S_ 32 0#32] : Fin 3 → (⟨S_, .i32⟩ : BufTy).Contents (Elt F))) k (Shape.Idx.first h_S_)).toInt) sliceFits_S4096x32x128_S1x32x128) shapeCasts_S1x32x128_S32x128) (Host.dotGeneral dot_S32x128_S32x128x128_S32x128_1_1_n_2_0_0 none (res_main_while0b_v117 V0) (res_main_while0b_v124 V0))) (broadcastInDim S32x128 ![0, 1] bcast_S32x1_S32x128_0_1 (broadcastInDim S32x1 ![0] bcast_S32_S32x1_0 (shapeCast S32 (Host.dynamicSlice S1x32 (V0 (Proc.devRef .tc main_v93_4)) (fun k => (((![V0 (Proc.devRef .tc main_v93_5), constantI S_ 32 0#32] : Fin 2 → (⟨S_, .i32⟩ : BufTy).Contents (Elt F))) k (Shape.Idx.first h_S_)).toInt) sliceFits_S4096x32_S1x32) shapeCasts_S1x32_S32))))) : (Proc.devRef .tc main_while0b_v133 : DevRef τ sig).ty.Contents (Elt F)) = Cert.LayerReferenceIdeal.Step.b30 j s := by
  unfold Cert.LayerReferenceIdeal.Step.b30
  rw [← al_28 h]
  try rfl
set_option maxRecDepth 8192 in
/-- Operation 31 of the step. -/
theorem al_31 (h : Holds V0 s j) : (mulf (broadcastInDim S32x128x128 ![0, 1, 2] bcast_S32x128x1_S32x128x128_0_1_2 (broadcastInDim S32x128x1 ![0, 1] bcast_S32x128_S32x128x1_0_1 (res_main_while0b_v117 V0))) (broadcastInDim S32x128x128 ![0, 1, 2] bcast_S32x1x128_S32x128x128_0_1_2 (broadcastInDim S32x1x128 ![0, 2] bcast_S32x128_S32x1x128_0_2 (mulf (subf (shapeCast S32x128 (Host.dynamicSlice S1x32x128 (V0 (Proc.devRef .tc main_v93_2)) (fun k => (((![V0 (Proc.devRef .tc main_v93_5), constantI S_ 32 0#32, constantI S_ 32 0#32] : Fin 3 → (⟨S_, .i32⟩ : BufTy).Contents (Elt F))) k (Shape.Idx.first h_S_)).toInt) sliceFits_S4096x32x128_S1x32x128) shapeCasts_S1x32x128_S32x128) (Host.dotGeneral dot_S32x128_S32x128x128_S32x128_1_1_n_2_0_0 none (res_main_while0b_v117 V0) (res_main_while0b_v124 V0))) (broadcastInDim S32x128 ![0, 1] bcast_S32x1_S32x128_0_1 (broadcastInDim S32x1 ![0] bcast_S32_S32x1_0 (shapeCast S32 (Host.dynamicSlice S1x32 (V0 (Proc.devRef .tc main_v93_4)) (fun k => (((![V0 (Proc.devRef .tc main_v93_5), constantI S_ 32 0#32] : Fin 2 → (⟨S_, .i32⟩ : BufTy).Contents (Elt F))) k (Shape.Idx.first h_S_)).toInt) sliceFits_S4096x32_S1x32) shapeCasts_S1x32_S32)))))) : (Proc.devRef .tc main_while0b_v134 : DevRef τ sig).ty.Contents (Elt F)) = Cert.LayerReferenceIdeal.Step.b31 j s := by
  unfold Cert.LayerReferenceIdeal.Step.b31
  rw [← al_29 h, ← al_30 h]
  try rfl
set_option maxRecDepth 8192 in
/-- Operation 32 of the step. -/
theorem al_32 (h : Holds V0 s j) : (res_main_while0b_v135 V0 : (Proc.devRef .tc main_while0b_v135 : DevRef τ sig).ty.Contents (Elt F)) = Cert.LayerReferenceIdeal.Step.b32 j s := by
  unfold res_main_while0b_v135 Cert.LayerReferenceIdeal.Step.b32
  rw [← al_21 h, ← al_31 h]
  try rfl
set_option maxRecDepth 8192 in
/-- Operation 33 of the step. -/
theorem al_33 (h : Holds V0 s j) : (Host.dotGeneral dot_S32x128_S32x128x128_S32x128_1_1_n_2_0_0 none (shapeCast S32x128 (Host.dynamicSlice S1x32x128 (V0 (Proc.devRef .tc main_v93_0)) (fun k => (((![V0 (Proc.devRef .tc main_v93_5), constantI S_ 32 0#32, constantI S_ 32 0#32] : Fin 3 → (⟨S_, .i32⟩ : BufTy).Contents (Elt F))) k (Shape.Idx.first h_S_)).toInt) sliceFits_S4096x32x128_S1x32x128) shapeCasts_S1x32x128_S32x128) (res_main_while0b_v135 V0) : (Proc.devRef .tc main_while0b_v136 : DevRef τ sig).ty.Contents (Elt F)) = Cert.LayerReferenceIdeal.Step.b33 j s := by
  unfold Cert.LayerReferenceIdeal.Step.b33
  rw [← al_3 h, ← al_32 h]
  try rfl
set_option maxRecDepth 8192 in
/-- Operation 34 of the step. -/
theorem al_34 (h : Holds V0 s j) : (broadcastInDim S1x32x128 ![1, 2] bcast_S32x128_S1x32x128_1_2 (Host.dotGeneral dot_S32x128_S32x128x128_S32x128_1_1_n_2_0_0 none (shapeCast S32x128 (Host.dynamicSlice S1x32x128 (V0 (Proc.devRef .tc main_v93_0)) (fun k => (((![V0 (Proc.devRef .tc main_v93_5), constantI S_ 32 0#32, constantI S_ 32 0#32] : Fin 3 → (⟨S_, .i32⟩ : BufTy).Contents (Elt F))) k (Shape.Idx.first h_S_)).toInt) sliceFits_S4096x32x128_S1x32x128) shapeCasts_S1x32x128_S32x128) (res_main_while0b_v135 V0)) : (Proc.devRef .tc main_while0b_call8_v0 : DevRef τ sig).ty.Contents (Elt F)) = Cert.LayerReferenceIdeal.Step.b34 j s := by
  unfold Cert.LayerReferenceIdeal.Step.b34
  rw [← al_33 h]
  try rfl
set_option maxRecDepth 8192 in
/-- Operation 35 of the step. -/
theorem al_35 (h : Holds V0 s j) : (constantI S_ 32 0#32 : (Proc.devRef .tc main_while0b_call8_c : DevRef τ sig).ty.Contents (Elt F)) = Cert.LayerReferenceIdeal.Step.b35 j s := by
  unfold Cert.LayerReferenceIdeal.Step.b35
  rfl
set_option maxRecDepth 8192 in
/-- Operation 36 of the step. -/
theorem al_36 (h : Holds V0 s j) : (constantI S_ 32 0#32 : (Proc.devRef .tc main_while0b_call8_c_0 : DevRef τ sig).ty.Contents (Elt F)) = Cert.LayerReferenceIdeal.Step.b36 j s := by
  unfold Cert.LayerReferenceIdeal.Step.b36
  rfl
set_option maxRecDepth 8192 in
/-- Operation 37 of the step. -/
theorem al_37 (h : Holds V0 s j) : (Host.dynamicUpdateSlice (V0 (Proc.devRef .tc main_v93_7)) (broadcastInDim S1x32x128 ![1, 2] bcast_S32x128_S1x32x128_1_2 (Host.dotGeneral dot_S32x128_S32x128x128_S32x128_1_1_n_2_0_0 none (shapeCast S32x128 (Host.dynamicSlice S1x32x128 (V0 (Proc.devRef .tc main_v93_0)) (fun k => (((![V0 (Proc.devRef .tc main_v93_5), constantI S_ 32 0#32, constantI S_ 32 0#32] : Fin 3 → (⟨S_, .i32⟩ : BufTy).Contents (Elt F))) k (Shape.Idx.first h_S_)).toInt) sliceFits_S4096x32x128_S1x32x128) shapeCasts_S1x32x128_S32x128) (res_main_while0b_v135 V0))) (fun k => (((![V0 (Proc.devRef .tc main_v93_5), constantI S_ 32 0#32, constantI S_ 32 0#32] : Fin 3 → (⟨S_, .i32⟩ : BufTy).Contents (Elt F))) k (Shape.Idx.first h_S_)).toInt) updateFits_S4096x32x128_S1x32x128 : (Proc.devRef .tc main_while0b_v137 : DevRef τ sig).ty.Contents (Elt F)) = Cert.LayerReferenceIdeal.Step.b37 j s := by
  unfold Cert.LayerReferenceIdeal.Step.b37
  rw [← al_34 h, ← al_35 h, ← al_36 h, h.f_7, h.n_5]
  try rfl

/-! One trip's step of the carried values is `step`, field by field; a counter steps to the next number. -/

/-- The step's new state. -/
theorem step_6 (h : Holds V0 s j) : step_main_v93_6 V0 = (step j s).main_v93_6 := by
  unfold step_main_v93_6 Cert.LayerReferenceIdeal.Step.step
  show id (res_main_while0b_v135 V0) = _
  rw [al_32 h]
  try rfl
/-- The step's new read-outs. -/
theorem step_7 (h : Holds V0 s j) : step_main_v93_7 V0 = (step j s).main_v93_7 := by
  unfold step_main_v93_7 Cert.LayerReferenceIdeal.Step.step
  show id (Host.dynamicUpdateSlice (V0 (Proc.devRef .tc main_v93_7)) (broadcastInDim S1x32x128 ![1, 2] bcast_S32x128_S1x32x128_1_2 (Host.dotGeneral dot_S32x128_S32x128x128_S32x128_1_1_n_2_0_0 none (shapeCast S32x128 (Host.dynamicSlice S1x32x128 (V0 (Proc.devRef .tc main_v93_0)) (fun k => (((![V0 (Proc.devRef .tc main_v93_5), constantI S_ 32 0#32, constantI S_ 32 0#32] : Fin 3 → (⟨S_, .i32⟩ : BufTy).Contents (Elt F))) k (Shape.Idx.first h_S_)).toInt) sliceFits_S4096x32x128_S1x32x128) shapeCasts_S1x32x128_S32x128) (res_main_while0b_v135 V0))) (fun k => (((![V0 (Proc.devRef .tc main_v93_5), constantI S_ 32 0#32, constantI S_ 32 0#32] : Fin 3 → (⟨S_, .i32⟩ : BufTy).Contents (Elt F))) k (Shape.Idx.first h_S_)).toInt) updateFits_S4096x32x128_S1x32x128) = _
  refine Eq.trans ?_ (al_37 h)
  try rfl
/-- The step counts on. -/
theorem step_5 (h : Holds V0 s j) : step_main_v93_5 V0 = constantI S_ 32 (BitVec.ofNat 32 (j + 1)) := by
  unfold step_main_v93_5
  rw [h.n_5]
  funext i
  show BitVec.ofNat 32 j + 1#32 = BitVec.ofNat 32 (j + 1)
  simp only [BitVec.ofNat_add]

set_option maxRecDepth 8192 in
/-- What the operations after the loop make, of the state and the arguments they read. -/
theorem out_main_v115_holds (h : Holds V0 s j) {x0 : (⟨S4096x2048, .f32⟩ : BufTy).Contents (Elt F)} (h0 : V0 (Proc.devRef .tc main_arg0) = x0) {x1 : (⟨S2048x12352, .f32⟩ : BufTy).Contents (Elt F)} (h1 : V0 (Proc.devRef .tc main_arg1) = x1) {x5 : (⟨S128, .f32⟩ : BufTy).Contents (Elt F)} (h5 : V0 (Proc.devRef .tc main_arg5) = x5) {x6 : (⟨S4096x2048, .f32⟩ : BufTy).Contents (Elt F)} (h6 : V0 (Proc.devRef .tc main_arg6) = x6) :
    out_main_v115 V0 = Cert.LayerReferenceIdeal.Step.R_main_v115 s x0 x1 x5 x6 := by
  unfold out_main_v115 Cert.LayerReferenceIdeal.Step.R_main_v115
  rw [h.f_7, h0, h1, h5, h6]
  try rfl

/-- One trip keeps the valuation holding: `step` of the state, the same set-up values, the next number. -/
theorem holds_step (h : Holds V0 s j) : Holds (STEP V0) (step j s) (j + 1) where
  f_6 := (STEP_main_v93_6 V0).trans (step_6 h)
  f_7 := (STEP_main_v93_7 V0).trans (step_7 h)
  n_5 := (STEP_main_v93_5 V0).trans (step_5 h)
  f_0 := (STEP_main_v93_0 V0).trans h.f_0
  f_1 := (STEP_main_v93_1 V0).trans h.f_1
  f_2 := (STEP_main_v93_2 V0).trans h.f_2
  f_3 := (STEP_main_v93_3 V0).trans h.f_3
  f_4 := (STEP_main_v93_4 V0).trans h.f_4

/-- The state the first trip starts from, of the memory the run starts from. -/
abbrev initState (m : (ℓ : Loc nD τ sig) → Buf (Elt F) ℓ) (c : Dev nD) : State F :=
  init (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))

variable (m : (ℓ : Loc nD τ sig) → Buf (Elt F) ℓ) (c : Dev nD)

set_option maxRecDepth 65536 in
set_option maxHeartbeats 700000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `LayerReferenceIdeal` terminates with each result at its field of state
    number 4096 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v115) = Cert.LayerReferenceIdeal.Step.R_main_v115 (it c 4096) (m ((c.tc : Thread nD τ).loc main_arg0)) (m ((c.tc : Thread nD τ).loc main_arg1)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    have hk := holds_iter m c (it c) (h0 c) (hs c) 4096
    ⟨(h c).1.trans (out_main_v115_holds hk (iter_main_arg0 m c 4096) (iter_main_arg1 m c 4096) (iter_main_arg5 m c 4096) (iter_main_arg6 m c 4096)), (h c).2⟩) (Value.run m ρ)

end Cert.LayerReferenceIdeal.StepRun

end
-- ==== Proof.RefPre.lean ====
/- The reference before its token loop, over real numbers: the convolved and gated channels, the normalized
   queries and keys, the values, the rates and the log decays. -/
module

public import proofs.«01_k».proof.Proof.CoreSpec
public import proofs.«01_k».proof.Proof.RefStepRun
public import Idealize.ShloMosaic.Lib.Pointwise
public import Idealize.ShloMosaic.Lib.Tactic.CleanTypes

@[expose] public section

set_option maxRecDepth 16384

noncomputable section

namespace Cert.RefV

open Cert.LayerReferenceIdeal Cert.LayerReferenceIdeal.Gen Cert.LayerReferenceIdeal.Step Cert.Gdn Idealize.ShloMosaic Idealize.ShloMosaic.TcCoe
open scoped BigOperators

/-- The reference's arguments are these numbers. -/
structure In (x0 : Vec Ideal S4096x2048 .f32) (x0' : Vec Ideal S2048x12352 .f32) (x1 : Vec Ideal S8192x4 .f32) (x2 x3 : Vec Ideal S32 .f32)
    (P W : ℕ → ℕ → ℝ) (Al Dt : ℕ → ℝ) : Prop where
  p : ∀ (t : Fin 4096) (j : Fin 12352), ∑ k : Fin 2048, x0 (ix2 t k) * x0' (ix2 k j) = ((P t j : ℝ) : EReal)
  w : ∀ (j : Fin 8192) (t : Fin 4), x1 (ix2 j t) = ((W j t : ℝ) : EReal)
  al : ∀ h : Fin 32, x2 (ix1 h) = ((Al h : ℝ) : EReal)
  dt : ∀ h : Fin 32, x3 (ix1 h) = ((Dt h : ℝ) : EReal)

/-- The projection's column of a convolution channel. -/
def col (j : ℕ) : ℕ :=
  if j < 2048 then 768 * (j / 128) + j % 128 else if j < 4096 then 768 * ((j - 2048) / 128) + 128 + (j - 2048) % 128 else 768 * ((j - 4096) / 256) + 256 + (j - 4096) % 256

/-- A key head's channels read the key head's columns. -/
theorem col_wch (kh l : ℕ) (hk : kh < 16) (hl : l < 512) : col (wch kh l) = 768 * kh + l := by
  unfold wch col
  split_ifs <;> omega

/-- A key head's channels are channels. -/
theorem wch_lt (kh l : ℕ) (hk : kh < 16) (hl : l < 512) : wch kh l < 8192 := by
  unfold wch
  split_ifs <;> omega

/-- A matrix read at equal indices. -/
theorem at2 {α : Type} {n0 n1 : ℕ} (X : (⟨2, ![n0, n1]⟩ : Shape).Idx → α) {a a' : Fin n0} {b b' : Fin n1} (ha : a.val = a'.val) (hb : b.val = b'.val) :
    X (ix2 a b) = X (ix2 a' b') := by
  rw [Fin.ext ha, Fin.ext hb]

/-- A rank-three array read at equal indices. -/
theorem at3 {α : Type} {n0 n1 n2 : ℕ} (X : (⟨3, ![n0, n1, n2]⟩ : Shape).Idx → α) {a a' : Fin n0} {b b' : Fin n1} {d d' : Fin n2} (ha : a.val = a'.val) (hb : b.val = b'.val) (hd : d.val = d'.val) :
    X (ix3 a b d) = X (ix3 a' b' d') := by
  rw [Fin.ext ha, Fin.ext hb, Fin.ext hd]

/-- The gated sum at a real number. -/
theorem silu_coe (x : ℝ) : ((x : ℝ) : EReal) * Ideal.div 1 (1 + Ideal.exp (-((x : ℝ) : EReal))) = ((silu x : ℝ) : EReal) := by
  rw [sig_div, ← EReal.coe_mul, silu]

variable {x0 : Vec Ideal S4096x2048 .f32} {x0' : Vec Ideal S2048x12352 .f32} {x1 : Vec Ideal S8192x4 .f32} {x2 x3 : Vec Ideal S32 .f32} {P W : ℕ → ℕ → ℝ} {Al Dt : ℕ → ℝ}
  (I : In x0 x0' x1 x2 x3 P W Al Dt)

include I

/-- The projection. -/
theorem v0_val (t : Fin 4096) (j : Fin 12352) : (A_main_v0 x0 x0' x1 x2 x3 : Vec Ideal S4096x12352 .f32) (ix2 t j) = ((P t j : ℝ) : EReal) := by
  refine Eq.trans ?_ (I.p t j)
  pointwise [A_main_v0]

/-- The projection by key head. -/
theorem v3_val (t : Fin 4096) (h : Fin 16) (l : Fin 768) : (A_main_v3 x0 x0' x1 x2 x3 : Vec Ideal S4096x16x768 .f32) (ix3 t h l) = ((P t (768 * h + l) : ℝ) : EReal) := by
  refine Eq.trans ?_ (v0_val I t ⟨768 * h + l, by omega⟩)
  unfold A_main_v3 A_main_v1
  generalize A_main_v0 x0 x0' x1 x2 x3 = X
  pointwise
  congr 2
  exact Fin.ext (by dsimp only; omega)

/-- The values' columns by head. -/
theorem v7_val (t : Fin 4096) (h : Fin 32) (e : Fin 128) : (A_main_v7 x0 x0' x1 x2 x3 : Vec Ideal S4096x32x128 .f32) (ix3 t h e) = ((P t (768 * (h / 2) + 256 + 128 * (h % 2) + e) : ℝ) : EReal) := by
  have key : (A_main_v7 x0 x0' x1 x2 x3 : Vec Ideal S4096x32x128 .f32) (ix3 t h e) = (A_main_v3 x0 x0' x1 x2 x3 : Vec Ideal S4096x16x768 .f32) (ix3 t ⟨h / 2, by omega⟩ ⟨256 + 128 * (h % 2) + e, by omega⟩) := by
    unfold A_main_v7 A_main_v6
    generalize A_main_v3 x0 x0' x1 x2 x3 = X
    pointwise
    congr 2 <;> exact Fin.ext (by dsimp only; omega)
  rw [key, v3_val I]
  congr 2
  dsimp only
  omega

/-- The joined channels read the projection's columns. -/
theorem v16_val (t : Fin 4096) (j : Fin 8192) : (A_main_v16 x0 x0' x1 x2 x3 : Vec Ideal S4096x8192 .f32) (ix2 t j) = ((P t (col j) : ℝ) : EReal) := by
  have k5 : ∀ (h : Fin 16) (d : Fin 128), (A_main_v4 x0 x0' x1 x2 x3 : Vec Ideal S4096x16x128 .f32) (ix3 t h d) = ((P t (768 * h + d) : ℝ) : EReal) := by
    intro h d
    refine Eq.trans ?_ (v3_val I t h ⟨d, by omega⟩)
    unfold A_main_v4
    generalize A_main_v3 x0 x0' x1 x2 x3 = X
    pointwise
  have k6 : ∀ (h : Fin 16) (d : Fin 128), (A_main_v5 x0 x0' x1 x2 x3 : Vec Ideal S4096x16x128 .f32) (ix3 t h d) = ((P t (768 * h + (128 + d)) : ℝ) : EReal) := by
    intro h d
    refine Eq.trans ?_ (v3_val I t h ⟨128 + d, by omega⟩)
    unfold A_main_v5
    generalize A_main_v3 x0 x0' x1 x2 x3 = X
    pointwise
  have k8 := fun h e => v7_val I t h e
  unfold A_main_v16 A_main_v13 A_main_v14 A_main_v15
  generalize A_main_v4 x0 x0' x1 x2 x3 = X5 at k5 ⊢
  generalize A_main_v5 x0 x0' x1 x2 x3 = X6 at k6 ⊢
  generalize A_main_v7 x0 x0' x1 x2 x3 = X8 at k8 ⊢
  pointwise
  unfold col
  by_cases h1 : j.val < 2048
  · rw [dif_pos h1, if_pos h1]
    refine Eq.trans ?_ (k5 ⟨j / 128, by omega⟩ ⟨j % 128, by omega⟩)
    congr 2 <;> exact Fin.ext (by dsimp only; omega)
  · rw [dif_neg h1, if_neg h1]
    by_cases h2 : j.val < 4096
    · rw [dif_pos (by omega), if_pos h2]
      refine Eq.trans ?_ ((k6 ⟨(j - 2048) / 128, by omega⟩ ⟨(j - 2048) % 128, by omega⟩).trans ?_)
      · exact at3 X6 rfl (by dsimp only) (by dsimp only)
      · congr 2; dsimp only; omega
    · rw [dif_neg (by omega), if_neg h2]
      refine Eq.trans ?_ ((k8 ⟨(j - 4096) / 128, by omega⟩ ⟨(j - 4096) % 128, by omega⟩).trans ?_)
      · exact at3 X8 rfl (by dsimp only; omega) (by dsimp only; omega)
      · exact congrArg (fun n => ((P t n : ℝ) : EReal)) (by dsimp only; omega)

/-- The channels with three rows of zeros before. -/
theorem v17_val (n : Fin 4099) (j : Fin 8192) : (A_main_v17 x0 x0' x1 x2 x3 : Vec Ideal S4099x8192 .f32) (ix2 n j) = ((pz P n (col j) : ℝ) : EReal) := by
  have k := fun t => v16_val I t j
  unfold A_main_v17
  generalize A_main_v16 x0 x0' x1 x2 x3 = X at k ⊢
  pointwise [K_main_call0_v0, K_main_c]
  unfold pz
  by_cases h1 : n.val < 3
  · rw [if_pos h1, dif_neg (by omega)]
    show (((0#32 : BitVec 32).toInt : ℝ) : EReal) = _
    simp
  · rw [if_neg h1, dif_pos (by omega)]
    refine Eq.trans ?_ (k ⟨n - 3, by omega⟩)
    congr 2

/-- The convolved and gated channels. -/
theorem v47_val (t : Fin 4096) (j : Fin 8192) : (A_main_v47 x0 x0' x1 x2 x3 : Vec Ideal S4096x8192 .f32) (ix2 t j) = ((conv4 (W j) (fun n => pz P (t + n) (col j)) : ℝ) : EReal) := by
  have k := fun n => v17_val I n j
  have h47 : (A_main_v46 x0 x0' x1 x2 x3 : Vec Ideal S4096x8192 .f32) (ix2 t j) = ((W j 0 * pz P (t + 0) (col j) + W j 1 * pz P (t + 1) (col j) + W j 2 * pz P (t + 2) (col j) + W j 3 * pz P (t + 3) (col j) : ℝ) : EReal) := by
    unfold A_main_v46 A_main_v45 A_main_v44 A_main_v43 A_main_v42 A_main_v41 A_main_v40 A_main_v39 A_main_v38 A_main_v37 A_main_v36 A_main_v35 A_main_v34 A_main_v33 A_main_v32 A_main_v31 A_main_v30 A_main_v29 A_main_v28 A_main_v27 A_main_v26 A_main_v25 A_main_v23 A_main_v22 A_main_v21 A_main_v20 A_main_v19 A_main_v18
    generalize A_main_v17 x0 x0' x1 x2 x3 = X at k ⊢
    pointwise [K_main_v24, K_main_cst]
    have e0 : X (ix2 ⟨t, by omega⟩ j) = ((pz P t (col j) : ℝ) : EReal) := k ⟨t, by omega⟩
    have e1 : X (ix2 ⟨1 + t, by omega⟩ j) = ((pz P (t + 1) (col j) : ℝ) : EReal) := (k ⟨1 + t, by omega⟩).trans (congrArg (fun n => ((pz P n (col j) : ℝ) : EReal)) (Nat.add_comm 1 t))
    have e2 : X (ix2 ⟨2 + t, by omega⟩ j) = ((pz P (t + 2) (col j) : ℝ) : EReal) := (k ⟨2 + t, by omega⟩).trans (congrArg (fun n => ((pz P n (col j) : ℝ) : EReal)) (Nat.add_comm 2 t))
    have e3 : X (ix2 ⟨3 + t, by omega⟩ j) = ((pz P (t + 3) (col j) : ℝ) : EReal) := (k ⟨3 + t, by omega⟩).trans (congrArg (fun n => ((pz P n (col j) : ℝ) : EReal)) (Nat.add_comm 3 t))
    have w0 : x1 (ix2 j 0) = ((W j 0 : ℝ) : EReal) := I.w j 0
    have w1 : x1 (ix2 j 1) = ((W j 1 : ℝ) : EReal) := I.w j 1
    have w2 : x1 (ix2 j 2) = ((W j 2 : ℝ) : EReal) := I.w j 2
    have w3 : x1 (ix2 j 3) = ((W j 3 : ℝ) : EReal) := I.w j 3
    refine (congrArg₂ (· + ·) (congrArg₂ (· + ·) (congrArg₂ (· + ·) (congrArg₂ (· * ·) w0 e0) (congrArg₂ (· * ·) w1 e1)) (congrArg₂ (· * ·) w2 e2)) (congrArg₂ (· * ·) w3 e3)).trans ?_
    simp only [← EReal.coe_mul, ← EReal.coe_add]
  unfold A_main_v47 A_main_call1_v5 A_main_call1_v3 A_main_call1_v1 A_main_call1_v0
  generalize A_main_v46 x0 x0' x1 x2 x3 = X at h47 ⊢
  pointwise [K_main_call1_v2, K_main_call1_cst, K_main_call1_v4, K_main_call1_cst_0]
  rw [h47]
  exact silu_coe _

/-- A key head's convolved columns. -/
theorem v47_co (t : Fin 4096) (kh l : ℕ) (hk : kh < 16) (hl : l < 512) : (A_main_v47 x0 x0' x1 x2 x3 : Vec Ideal S4096x8192 .f32) (ix2 t ⟨wch kh l, wch_lt kh l hk hl⟩) = ((co P W kh t l : ℝ) : EReal) := by
  rw [v47_val I, co]
  dsimp only
  rw [col_wch kh l hk hl]

/-- The queries by head before they are normalized. -/
theorem v70_val (t : Fin 4096) (h : Fin 32) (d : Fin 128) : (A_main_v70 x0 x0' x1 x2 x3 : Vec Ideal S4096x32x128 .f32) (ix3 t h d) = ((co P W (h / 2) t d : ℝ) : EReal) := by
  refine Eq.trans ?_ (v47_co I t (h / 2) d (by omega) (by omega))
  unfold A_main_v70 A_main_v69 A_main_v49 A_main_v48
  generalize A_main_v47 x0 x0' x1 x2 x3 = X
  pointwise
  refine at2 X (by dsimp only) ?_
  dsimp only
  unfold wch
  rw [if_pos d.isLt]
  omega

/-- The keys by head before they are normalized. -/
theorem v72_val (t : Fin 4096) (h : Fin 32) (d : Fin 128) : (A_main_v72 x0 x0' x1 x2 x3 : Vec Ideal S4096x32x128 .f32) (ix3 t h d) = ((co P W (h / 2) t (128 + d) : ℝ) : EReal) := by
  refine Eq.trans ?_ (v47_co I t (h / 2) (128 + d) (by omega) (by omega))
  unfold A_main_v72 A_main_v71 A_main_v51 A_main_v50
  generalize A_main_v47 x0 x0' x1 x2 x3 = X
  pointwise
  refine at2 X (by dsimp only) ?_
  dsimp only
  unfold wch
  rw [if_neg (by omega), if_pos (by omega)]
  omega

/-- The values by head. -/
theorem v53_val (t : Fin 4096) (h : Fin 32) (e : Fin 128) : (A_main_v53 x0 x0' x1 x2 x3 : Vec Ideal S4096x32x128 .f32) (ix3 t h e) = ((valh P W h t e : ℝ) : EReal) := by
  refine Eq.trans ?_ (v47_co I t (h / 2) (256 + 128 * (h % 2) + e) (by omega) (by omega))
  unfold A_main_v53 A_main_v52
  generalize A_main_v47 x0 x0' x1 x2 x3 = X
  pointwise
  refine at2 X (by dsimp only) ?_
  dsimp only
  unfold wch
  rw [if_neg (by omega), if_neg (by omega)]
  omega

/-- The normalized and scaled queries. -/
theorem v82_val (t : Fin 4096) (h : Fin 32) (d : Fin 128) : (A_main_v82 x0 x0' x1 x2 x3 : Vec Ideal S4096x32x128 .f32) (ix3 t h d) = ((qryh P W h t d : ℝ) : EReal) := by
  have k := fun d => v70_val I t h d
  unfold A_main_v82 A_main_v80 A_main_v79 A_main_v78 A_main_v77 A_main_v75 A_main_v74 A_main_v73
  generalize A_main_v70 x0 x0' x1 x2 x3 = X at k ⊢
  pointwise [K_main_v81, K_main_cst_4, K_main_v76, K_main_cst_3, K_main_cst_2]
  simp only [k]
  rw [ofBits_eps, ofBits_qs]
  simp only [← EReal.coe_mul, coe_sum]
  rw [rsqrt_sum, ← EReal.coe_mul, ← EReal.coe_mul]
  rfl

/-- The normalized keys. -/
theorem v90_val (t : Fin 4096) (h : Fin 32) (d : Fin 128) : (A_main_v90 x0 x0' x1 x2 x3 : Vec Ideal S4096x32x128 .f32) (ix3 t h d) = ((keyh P W h t d : ℝ) : EReal) := by
  have k := fun d => v72_val I t h d
  unfold A_main_v90 A_main_v89 A_main_v88 A_main_v87 A_main_v85 A_main_v84 A_main_v83
  generalize A_main_v72 x0 x0' x1 x2 x3 = X at k ⊢
  pointwise [K_main_v86, K_main_cst_6, K_main_cst_5]
  simp only [k]
  rw [ofBits_eps]
  simp only [← EReal.coe_mul, coe_sum]
  rw [rsqrt_sum fun d => co P W (h / 2) t (128 + d), ← EReal.coe_mul]
  rfl

/-- The rates. -/
theorem v59_val (t : Fin 4096) (h : Fin 32) : (A_main_v59 x0 x0' x1 x2 x3 : Vec Ideal S4096x32 .f32) (ix2 t h) = ((bh P h t : ℝ) : EReal) := by
  have key : (A_main_v10 x0 x0' x1 x2 x3 : Vec Ideal S4096x32 .f32) (ix2 t h) = ((P t (12288 + 4 * (h / 2) + h % 2) : ℝ) : EReal) := by
    refine Eq.trans ?_ (v0_val I t ⟨12288 + 4 * (h / 2) + h % 2, by omega⟩)
    unfold A_main_v10 A_main_v9 A_main_v8 A_main_v2
    generalize A_main_v0 x0 x0' x1 x2 x3 = X
    pointwise
    refine at2 X (by dsimp only) (by dsimp only; omega)
  unfold A_main_v59 A_main_v57 A_main_v55 A_main_v54
  generalize A_main_v10 x0 x0' x1 x2 x3 = X at key ⊢
  pointwise [K_main_v56, K_main_cst_0, K_main_v58, K_main_cst_1]
  rw [key]
  exact sig_div _

/-- The log decays. -/
theorem v68_val (t : Fin 4096) (h : Fin 32) : (A_main_v68 x0 x0' x1 x2 x3 : Vec Ideal S4096x32 .f32) (ix2 t h) = ((gh P Al Dt h t : ℝ) : EReal) := by
  have key : (A_main_v64 x0 x0' x1 x2 x3 : Vec Ideal S4096x32 .f32) (ix2 t h) = ((P t (12288 + 4 * (h / 2) + 2 + h % 2) + Dt h : ℝ) : EReal) := by
    rw [EReal.coe_add, ← I.dt h]
    refine Eq.trans ?_ (congrArg (· + x3 (ix1 h)) (v0_val I t ⟨12288 + 4 * (h / 2) + 2 + h % 2, by omega⟩))
    unfold A_main_v64 A_main_v63 A_main_v62 A_main_v12 A_main_v11 A_main_v8 A_main_v2
    generalize A_main_v0 x0 x0' x1 x2 x3 = X
    pointwise
    refine congrArg (· + x3 (ix1 h)) (at2 X (by dsimp only) (by dsimp only; omega))
  have al := I.al h
  unfold A_main_v68 A_main_v67 A_main_v66 A_main_v65 A_main_call2_v11 A_main_call2_v10 A_main_call2_v9 A_main_call2_v8 A_main_call2_v7 A_main_call2_v6 A_main_call2_v4 A_main_call2_v3 A_main_call2_v1 A_main_v61 A_main_v60
  generalize A_main_v64 x0 x0' x1 x2 x3 = X at key ⊢
  pointwise [K_main_call2_v0, K_main_call2_v2, K_main_call2_v5, K_main_call2_cst]
  rw [key]
  rw [if_neg (by simp), al, exp_coe, ← EReal.coe_neg]
  have e := sp_coe (P t (12288 + 4 * (h / 2) + 2 + h % 2) + Dt h)
  rw [zero_sub] at e
  exact (congrArg (_ * ·) e).trans (EReal.coe_mul _ _).symm

end Cert.RefV

end
-- ==== Proof.RefLoop.lean ====
/- The reference over real numbers: the token loop is the recurrence and the closing operations are the gated
   norm, so its result is the layer's. -/
module

public import proofs.«01_k».proof.Proof.RefPre
public import Idealize.ShloMosaic.Lib.DynamicIndex

@[expose] public section

set_option maxRecDepth 16384

noncomputable section

namespace Cert.RefV

open Cert.LayerReferenceIdeal Cert.LayerReferenceIdeal.Gen Cert.LayerReferenceIdeal.Step Cert.Gdn Idealize.ShloMosaic Idealize.ShloMosaic.TcCoe
open scoped BigOperators

/-- Starts of a slice at row `j` of a rank-three array. -/
theorem start3 (j : ℕ) (hj : j < 4096) (a : Fin 3) :
    (((![(constantI S_ 32 (BitVec.ofNat 32 j) : (⟨S_, .i32⟩ : BufTy).Contents (Elt Ideal)), constantI S_ 32 0#32, constantI S_ 32 0#32] : Fin 3 → (⟨S_, .i32⟩ : BufTy).Contents (Elt Ideal))) a (Shape.Idx.first h_S_)).toInt = ((![j, 0, 0] : Fin 3 → ℕ) a : ℤ) := by
  match a with
  | ⟨0, _⟩ => exact toInt_ofNat_of_lt (by omega)
  | ⟨1, _⟩ => rfl
  | ⟨2, _⟩ => rfl

/-- Starts of a slice at row `j` of a matrix. -/
theorem start2 (j : ℕ) (hj : j < 4096) (a : Fin 2) :
    (((![(constantI S_ 32 (BitVec.ofNat 32 j) : (⟨S_, .i32⟩ : BufTy).Contents (Elt Ideal)), constantI S_ 32 0#32] : Fin 2 → (⟨S_, .i32⟩ : BufTy).Contents (Elt Ideal))) a (Shape.Idx.first h_S_)).toInt = ((![j, 0] : Fin 2 → ℕ) a : ℤ) := by
  match a with
  | ⟨0, _⟩ => exact toInt_ofNat_of_lt (by omega)
  | ⟨1, _⟩ => rfl

/-- Row `j` of a rank-three array. -/
theorem row3 (X : Vec Ideal S4096x32x128 .f32) (st : Fin 3 → ℤ) (j : ℕ) (hj : j < 4096) (hst : ∀ a, st a = ((![j, 0, 0] : Fin 3 → ℕ) a : ℤ)) (h : Fin 32) (d : Fin 128) :
    Host.dynamicSlice S1x32x128 X st sliceFits_S4096x32x128_S1x32x128 (ix3 0 h d) = X (ix3 ⟨j, hj⟩ h d) := by
  rw [Host.dynamicSlice_apply]
  congr 1
  funext a
  apply Fin.ext
  have hc : ∀ a : Fin 3, Host.clampedStart S4096x32x128 S1x32x128 sliceFits_S4096x32x128_S1x32x128.1 st a = (![j, 0, 0] : Fin 3 → ℕ) a := by
    intro a
    refine Host.clampedStart_of_le _ _ _ _ (hst a) ?_
    match a with
    | ⟨0, _⟩ => show j + 1 ≤ 4096; omega
    | ⟨1, _⟩ => show 0 + 32 ≤ 32; omega
    | ⟨2, _⟩ => show 0 + 128 ≤ 128; omega
  show Host.clampedStart S4096x32x128 S1x32x128 sliceFits_S4096x32x128_S1x32x128.1 st a + _ = _
  rw [hc a]
  match a with
  | ⟨0, _⟩ => show j + 0 = j; omega
  | ⟨1, _⟩ => show 0 + h.val = h; omega
  | ⟨2, _⟩ => show 0 + d.val = d; omega

/-- Row `j` of a matrix. -/
theorem row2 (X : Vec Ideal S4096x32 .f32) (st : Fin 2 → ℤ) (j : ℕ) (hj : j < 4096) (hst : ∀ a, st a = ((![j, 0] : Fin 2 → ℕ) a : ℤ)) (h : Fin 32) :
    Host.dynamicSlice S1x32 X st sliceFits_S4096x32_S1x32 (ix2 0 h) = X (ix2 ⟨j, hj⟩ h) := by
  rw [Host.dynamicSlice_apply]
  congr 1
  funext a
  apply Fin.ext
  have hc : ∀ a : Fin 2, Host.clampedStart S4096x32 S1x32 sliceFits_S4096x32_S1x32.1 st a = (![j, 0] : Fin 2 → ℕ) a := by
    intro a
    refine Host.clampedStart_of_le _ _ _ _ (hst a) ?_
    match a with
    | ⟨0, _⟩ => show j + 1 ≤ 4096; omega
    | ⟨1, _⟩ => show 0 + 32 ≤ 32; omega
  show Host.clampedStart S4096x32 S1x32 sliceFits_S4096x32_S1x32.1 st a + _ = _
  rw [hc a]
  match a with
  | ⟨0, _⟩ => show j + 0 = j; omega
  | ⟨1, _⟩ => show 0 + h.val = h; omega

/-- An array with row `j` replaced. -/
theorem put3 (X : Vec Ideal S4096x32x128 .f32) (Y : Vec Ideal S1x32x128 .f32) (st : Fin 3 → ℤ) (j : ℕ) (hj : j < 4096) (hst : ∀ a, st a = ((![j, 0, 0] : Fin 3 → ℕ) a : ℤ)) (t : Fin 4096) (h : Fin 32) (d : Fin 128) :
    Host.dynamicUpdateSlice X Y st updateFits_S4096x32x128_S1x32x128 (ix3 t h d) = if t.val = j then Y (ix3 0 h d) else X (ix3 t h d) := by
  have hc : ∀ a : Fin 3, Host.clampedStart S4096x32x128 S1x32x128 updateFits_S4096x32x128_S1x32x128.1 st a = (![j, 0, 0] : Fin 3 → ℕ) a := by
    intro a
    refine Host.clampedStart_of_le _ _ _ _ (hst a) ?_
    match a with
    | ⟨0, _⟩ => show j + 1 ≤ 4096; omega
    | ⟨1, _⟩ => show 0 + 32 ≤ 32; omega
    | ⟨2, _⟩ => show 0 + 128 ≤ 128; omega
  rw [Host.dynamicUpdateSlice_apply]
  by_cases ht : t.val = j
  · rw [if_pos ht, dif_pos]
    · congr 1
      funext b
      apply Fin.ext
      match b with
      | ⟨0, _⟩ => show t.val - Host.clampedStart S4096x32x128 S1x32x128 updateFits_S4096x32x128_S1x32x128.1 st 0 = 0; rw [hc 0]; show t.val - j = 0; omega
      | ⟨1, _⟩ => show h.val - Host.clampedStart S4096x32x128 S1x32x128 updateFits_S4096x32x128_S1x32x128.1 st 1 = h.val; rw [hc 1]; show h.val - 0 = h; omega
      | ⟨2, _⟩ => show d.val - Host.clampedStart S4096x32x128 S1x32x128 updateFits_S4096x32x128_S1x32x128.1 st 2 = d.val; rw [hc 2]; show d.val - 0 = d; omega
    · intro a
      rw [hc a]
      match a with
      | ⟨0, _⟩ => show j ≤ t.val ∧ t.val < j + 1; omega
      | ⟨1, _⟩ => show 0 ≤ h.val ∧ h.val < 0 + 32; omega
      | ⟨2, _⟩ => show 0 ≤ d.val ∧ d.val < 0 + 128; omega
  · rw [if_neg ht, dif_neg]
    intro H
    have := H 0
    rw [hc 0] at this
    have : j ≤ t.val ∧ t.val < j + 1 := this
    omega

/-- A batched product of rows with matrices. -/
theorem dot_val (x : Vec Ideal S32x128 .f32) (y : Vec Ideal S32x128x128 .f32) (h : Fin 32) (e : Fin 128) :
    Host.dotGeneral (F := Ideal) (φ₁ := .f32) (φ₂ := .f32) dot_S32x128_S32x128x128_S32x128_1_1_n_2_0_0 none x y (ix2 h e) = ∑ d : Fin 128, x (ix2 h d) * y (ix3 h d e) := by
  pointwise

/-- What the state of the loop holds after `n` tokens. -/
structure Good (P W : ℕ → ℕ → ℝ) (Al Dt : ℕ → ℝ) (n : ℕ) (s : State Ideal) : Prop where
  q : ∀ (t : Fin 4096) (h : Fin 32) (d : Fin 128), (s.main_v93_0 : Vec Ideal S4096x32x128 .f32) (ix3 t h d) = ((qryh P W h t d : ℝ) : EReal)
  k : ∀ (t : Fin 4096) (h : Fin 32) (d : Fin 128), (s.main_v93_1 : Vec Ideal S4096x32x128 .f32) (ix3 t h d) = ((keyh P W h t d : ℝ) : EReal)
  v : ∀ (t : Fin 4096) (h : Fin 32) (e : Fin 128), (s.main_v93_2 : Vec Ideal S4096x32x128 .f32) (ix3 t h e) = ((valh P W h t e : ℝ) : EReal)
  g : ∀ (t : Fin 4096) (h : Fin 32), (s.main_v93_3 : Vec Ideal S4096x32 .f32) (ix2 t h) = ((gh P Al Dt h t : ℝ) : EReal)
  b : ∀ (t : Fin 4096) (h : Fin 32), (s.main_v93_4 : Vec Ideal S4096x32 .f32) (ix2 t h) = ((bh P h t : ℝ) : EReal)
  st : ∀ (h : Fin 32) (d e : Fin 128), (s.main_v93_6 : Vec Ideal S32x128x128 .f32) (ix3 h d e) = ((Sh P W Al Dt h n d e : ℝ) : EReal)
  o : ∀ (t : Fin 4096) (h : Fin 32) (e : Fin 128), t.val < n → (s.main_v93_7 : Vec Ideal S4096x32x128 .f32) (ix3 t h e) = ((oh P W Al Dt h t e : ℝ) : EReal)

variable {P W : ℕ → ℕ → ℝ} {Al Dt : ℕ → ℝ}

/-- One token. -/
theorem good_step {n : ℕ} (hn : n < 4096) {s : State Ideal} (G : Good P W Al Dt n s) : Good P W Al Dt (n + 1) (step n s) := by
  have e3 : ∀ (h : Fin 32) (d : Fin 128), (b3 n s : Vec Ideal S32x128 .f32) (ix2 h d) = ((qryh P W h n d : ℝ) : EReal) := by
    intro h d
    refine Eq.trans ?_ ((show (b2 n s : Vec Ideal S1x32x128 .f32) (ix3 0 h d) = _ from row3 s.main_v93_0 _ n hn (start3 n hn) h d).trans (G.q ⟨n, hn⟩ h d))
    unfold b3
    generalize b2 n s = X
    pointwise
  have e7 : ∀ (h : Fin 32) (d : Fin 128), (b7 n s : Vec Ideal S32x128 .f32) (ix2 h d) = ((keyh P W h n d : ℝ) : EReal) := by
    intro h d
    refine Eq.trans ?_ ((show (b6 n s : Vec Ideal S1x32x128 .f32) (ix3 0 h d) = _ from row3 s.main_v93_1 _ n hn (start3 n hn) h d).trans (G.k ⟨n, hn⟩ h d))
    unfold b7
    generalize b6 n s = X
    pointwise
  have e11 : ∀ (h : Fin 32) (d : Fin 128), (b11 n s : Vec Ideal S32x128 .f32) (ix2 h d) = ((valh P W h n d : ℝ) : EReal) := by
    intro h d
    refine Eq.trans ?_ ((show (b10 n s : Vec Ideal S1x32x128 .f32) (ix3 0 h d) = _ from row3 s.main_v93_2 _ n hn (start3 n hn) h d).trans (G.v ⟨n, hn⟩ h d))
    unfold b11
    generalize b10 n s = X
    pointwise
  have e14 : ∀ (h : Fin 32), (b14 n s : Vec Ideal S32 .f32) (ix1 h) = ((gh P Al Dt h n : ℝ) : EReal) := by
    intro h
    refine Eq.trans ?_ ((show (b13 n s : Vec Ideal S1x32 .f32) (ix2 0 h) = _ from row2 s.main_v93_3 _ n hn (start2 n hn) h).trans (G.g ⟨n, hn⟩ h))
    unfold b14
    generalize b13 n s = X
    pointwise
  have e17 : ∀ (h : Fin 32), (b17 n s : Vec Ideal S32 .f32) (ix1 h) = ((bh P h n : ℝ) : EReal) := by
    intro h
    refine Eq.trans ?_ ((show (b16 n s : Vec Ideal S1x32 .f32) (ix2 0 h) = _ from row2 s.main_v93_4 _ n hn (start2 n hn) h).trans (G.b ⟨n, hn⟩ h))
    unfold b17
    generalize b16 n s = X
    pointwise
  have e21 : ∀ (h : Fin 32) (d e : Fin 128), (b21 n s : Vec Ideal S32x128x128 .f32) (ix3 h d e) = ((Real.exp (gh P Al Dt h n) * Sh P W Al Dt h n d e : ℝ) : EReal) := by
    intro h d e
    unfold b21 b20 b19 b18
    generalize b14 n s = X at e14 ⊢
    pointwise
    rw [G.st, e14, exp_coe, ← EReal.coe_mul, mul_comm]
  have e26 : ∀ (h : Fin 32) (e : Fin 128), (b26 n s : Vec Ideal S32x128 .f32) (ix2 h e) = ((upd (keyh P W h n) (valh P W h n) (gh P Al Dt h n) (bh P h n) (Sh P W Al Dt h n) e : ℝ) : EReal) := by
    intro h e
    have e22 : (b22 n s : Vec Ideal S32x128 .f32) (ix2 h e) = ((∑ d : Fin 128, keyh P W h n d * (Real.exp (gh P Al Dt h n) * Sh P W Al Dt h n d e) : ℝ) : EReal) := by
      unfold b22
      rw [dot_val]
      simp only [e7, e21]
      simp only [← EReal.coe_mul, coe_sum]
    unfold b26 b25 b24 b23
    generalize b22 n s = X at e22 ⊢
    generalize b11 n s = X1 at e11 ⊢
    generalize b17 n s = X2 at e17 ⊢
    pointwise
    rw [e22, e11, e17, ← EReal.coe_sub, ← EReal.coe_mul, mul_comm]
    rfl
  have e32 : ∀ (h : Fin 32) (d e : Fin 128), (b32 n s : Vec Ideal S32x128x128 .f32) (ix3 h d e) = ((Sh P W Al Dt h (n + 1) d e : ℝ) : EReal) := by
    intro h d e
    unfold b32 b31 b30 b29 b28 b27
    generalize b21 n s = X at e21 ⊢
    generalize b7 n s = X1 at e7 ⊢
    generalize b26 n s = X2 at e26 ⊢
    pointwise
    rw [e21, e7, e26, ← EReal.coe_mul, ← EReal.coe_add]
    rfl
  have e33 : ∀ (h : Fin 32) (e : Fin 128), (b33 n s : Vec Ideal S32x128 .f32) (ix2 h e) = ((oh P W Al Dt h n e : ℝ) : EReal) := by
    intro h e
    unfold b33
    rw [dot_val]
    simp only [e3, e32]
    simp only [← EReal.coe_mul, coe_sum]
    rfl
  refine ⟨G.q, G.k, G.v, G.g, G.b, e32, fun t h e ht => ?_⟩
  refine (put3 s.main_v93_7 (b34 n s) _ n hn (start3 n hn) t h e).trans ?_
  by_cases h1 : t.val = n
  · rw [if_pos h1]
    unfold b34
    generalize b33 n s = X at e33 ⊢
    pointwise
    rw [e33, h1]
  · rw [if_neg h1]
    exact G.o t h e (by omega)

/-- Before the first token. -/
theorem good_init {x0 : Vec Ideal S4096x2048 .f32} {x0' : Vec Ideal S2048x12352 .f32} {x1 : Vec Ideal S8192x4 .f32} {x2 x3 : Vec Ideal S32 .f32} (I : In x0 x0' x1 x2 x3 P W Al Dt) :
    Good P W Al Dt 0 (init x0 x0' x1 x2 x3) where
  q := v82_val I
  k := v90_val I
  v := v53_val I
  g := v68_val I
  b := v59_val I
  st := fun h d e => by
    show (K_main_v91 (F := Ideal) : Vec Ideal S32x128x128 .f32) (ix3 h d e) = ((0 : ℝ) : EReal)
    pointwise [K_main_v91, K_main_cst_7]
    exact EReal.coe_zero.symm
  o := fun t h e ht => absurd ht (Nat.not_lt_zero _)

/-- Every number of tokens. -/
theorem good_iter {it : ℕ → State Ideal} (h0 : Good P W Al Dt 0 (it 0)) (hs : ∀ n, it (n + 1) = step n (it n)) (n : ℕ) (hn : n ≤ 4096) :
    Good P W Al Dt n (it n) := by
  induction n with
  | zero => exact h0
  | succ n ih =>
    rw [hs]
    exact good_step (by omega) (ih (by omega))

/-- The closing operations: the gated norm, then the product with the last weights. -/
theorem final {s : State Ideal} (G : Good P W Al Dt 4096 s) {x0 : Vec Ideal S4096x2048 .f32} {x0' : Vec Ideal S2048x12352 .f32} {x1 : Vec Ideal S8192x4 .f32} {x2 x3 : Vec Ideal S32 .f32}
    (I : In x0 x0' x1 x2 x3 P W Al Dt) {x4 : Vec Ideal S128 .f32} {x5 : Vec Ideal S4096x2048 .f32} {Nw : ℕ → EReal}
    (h4 : ∀ e : Fin 128, x4 (ix1 e) = Nw e) (t : Fin 4096) (j : Fin 2048) :
    (R_main_v115 s x0 x0' x4 x5 : Vec Ideal S4096x2048 .f32) (ix2 t j) = ∑ k : Fin 4096, outh P W Al Dt Nw (k / 128) t (k % 128) * x5 (ix2 k j) := by
  have o := fun h e => G.o t h e t.isLt
  unfold R_main_v115
  generalize s.main_v93_7 = X at o ⊢
  pointwise
  refine Finset.sum_congr rfl fun k _ => congrArg (· * x5 (ix2 k j)) ?_
  have hk := k.isLt
  have z : ∑ i : Fin 2048, x0 (ix2 t i) * x0' (ix2 i ⟨k / 128 / 2 * 768 + (512 + (k / 128 % 2 * 128 + k % 128)), by omega⟩) = ((P t (768 * (k / 128 / 2) + 512 + 128 * (k / 128 % 2) + k % 128) : ℝ) : EReal) :=
    (I.p t _).trans (congrArg (fun n => ((P t n : ℝ) : EReal)) (by dsimp only; omega))
  simp only [o]
  rw [ofBits_eps, ofBits_128]
  simp only [← EReal.coe_mul, coe_sum]
  rw [div_coe _ _ (by norm_num)]
  refine (congrArg₂ (· * ·) (congrArg₂ (· * ·) (congrArg (_ * ·) (rsqrt_coe _ (div_nonneg (ss_nonneg (oh P W Al Dt (k / 128) t)) (by norm_num)))) (h4 ⟨k % 128, by omega⟩)) ((congrArg (fun a => a * Ideal.div 1 (1 + Ideal.exp (-a))) z).trans (silu_coe _))).trans ?_
  simp only [← EReal.coe_mul]
  rfl

end Cert.RefV

end
-- ==== Proof.LayerClaims.lean ====
/- The claims about the whole layer: its frames, and that the kernel and the reference end with the same array where the arguments are numbers. -/
module

public import proofs.«01_k».proof.Defs
public import proofs.«01_k».proof.Proof.LayerRun
public import proofs.«01_k».proof.Proof.LayerHost
public import proofs.«01_k».proof.Proof.RefLoop
public import proofs.«01_k».proof.Proof.Gen.Pre_finite
public import Idealize.ShloMosaic.Lib.ReduceAll
public import Idealize.ShloMosaic.Adequacy
public import Idealize.ShloMosaic.Init

@[expose] public section

set_option maxRecDepth 16384

noncomputable section

namespace Cert.Proof

open Idealize.ShloMosaic Idealize.ShloMosaic.TcCoe Idealize.SL.Sem
open scoped BigOperators

/-! ## Frames -/

/-- The layer runs, keeps its arguments, and leaves every counter at zero, at the machine's floats. -/
theorem frame_Layer : Cert.quiescent_Layer (hLayer := Cert.Layer.Gen.facts) := fun m ρ _ =>
  (θ_run Cert.Layer.defs _ _).mono (fun _ h => ⟨fun c => (h.1 c).2, h.2⟩) (Cert.Layer.Run.run (F := Bits) m ρ)

/-- The same of the idealized layer. -/
theorem frame_LayerIdeal : Cert.quiescent_LayerIdeal (hLayerIdeal := Cert.LayerIdeal.Gen.facts) := fun m ρ _ =>
  (θ_run Cert.LayerIdeal.defs _ _).mono (fun _ h => ⟨fun c => (h.1 c).2, h.2⟩) (Cert.LayerIdeal.Run.run (F := Ideal) m ρ)

/-- The same of the reference, which declares no semaphore. -/
theorem frame_LayerReferenceIdeal : Cert.quiescent_LayerReferenceIdeal (hLayerReferenceIdeal := Cert.LayerReferenceIdeal.Gen.facts) := by
  intro m ρ _
  exact (θ_run Cert.LayerReferenceIdeal.defs _ _).mono (fun r h => ⟨fun c => (h c).2,
      Idealize.ShloMosaic.sem_eq_zero_of_no_sems (by decide) r.2⟩)
    (Cert.LayerReferenceIdeal.Value.run (F := Ideal) m ρ)

/-- The idealized layer's frame under the condition. -/
theorem frame_LayerIdeal_finite : Cert.quiescent_LayerIdeal_pre_finite (hLayerIdeal := Cert.LayerIdeal.Gen.facts) (hPre_finite := Cert.Pre_finite.Gen.facts) :=
  fun m g _ => frame_LayerIdeal m g trivial

/-- The reference's frame under the condition. -/
theorem frame_LayerReferenceIdeal_finite : Cert.quiescent_LayerReferenceIdeal_pre_finite (hLayerReferenceIdeal := Cert.LayerReferenceIdeal.Gen.facts) (hPre_finite := Cert.Pre_finite.Gen.facts) :=
  fun m g _ => frame_LayerReferenceIdeal m g trivial

/-! ## The condition -/

/-- A value whose absolute value is below infinity is its real number. -/
theorem real_of_lt (x : EReal) (h : Ideal.cmp .olt (max x (-x)) (Ideal.ofBits .f32 0x7F800000#32) = 1#1) : x = ((x.toReal : ℝ) : EReal) := by
  have e : Ideal.ofBits .f32 0x7F800000#32 = ⊤ := by simp [Ideal.ofBits, Ideal.ieee]
  rw [e] at h
  have h1 : max x (-x) < ⊤ := by
    by_contra hn
    have : Ideal.cmp .olt (max x (-x)) ⊤ = 0#1 := by
      show BitVec.ofBool (decide (max x (-x) < ⊤)) = 0#1
      rw [decide_eq_false hn]
      rfl
    rw [this] at h
    exact absurd h (by decide)
  refine (EReal.coe_toReal ?_ ?_).symm
  · rintro rfl
    simp at h1
  · rintro rfl
    simp at h1

/-- A scalar has one index. -/
instance : Subsingleton Cert.Pre_finite.S_.Idx := ⟨fun a b => funext fun k => k.elim0⟩

section

attribute [local instance] Cert.Pre_finite.Gen.facts

open Cert.Pre_finite in
/-- Where the condition holds, the first five arguments' entries are numbers. -/
theorem real_args (x0 : FVec Ideal S4096x2048 .f32) (x1 : FVec Ideal S2048x12352 .f32) (x2 : FVec Ideal S8192x4 .f32) (x3 x4 : FVec Ideal S32 .f32)
    (x5 : FVec Ideal S128 .f32) (x6 : FVec Ideal S4096x2048 .f32) (h : Cert.Pre_finite.fn (F := Ideal) x0 x1 x2 x3 x4 x5 x6 = fun _ => 1#1) :
    (∀ i, x0 i = (((x0 i).toReal : ℝ) : EReal)) ∧ (∀ i, x1 i = (((x1 i).toReal : ℝ) : EReal)) ∧ (∀ i, x2 i = (((x2 i).toReal : ℝ) : EReal))
      ∧ (∀ i, x3 i = (((x3 i).toReal : ℝ) : EReal)) ∧ ∀ i, x4 i = (((x4 i).toReal : ℝ) : EReal) := by
  have h0 := congrFun h (Shape.Idx.first (by decide))
  obtain ⟨h1, a4⟩ := IntOp.andi_eq_one.1 h0
  obtain ⟨h2, a3⟩ := IntOp.andi_eq_one.1 h1
  obtain ⟨h3, a2⟩ := IntOp.andi_eq_one.1 h2
  obtain ⟨a0, a1⟩ := IntOp.andi_eq_one.1 h3
  exact ⟨fun i => real_of_lt _ (Host.reduce_andi_all _ _ _ _ _ a0 i), fun i => real_of_lt _ (Host.reduce_andi_all _ _ _ _ _ a1 i),
    fun i => real_of_lt _ (Host.reduce_andi_all _ _ _ _ _ a2 i), fun i => real_of_lt _ (Host.reduce_andi_all _ _ _ _ _ a3 i),
    fun i => real_of_lt _ (Host.reduce_andi_all _ _ _ _ _ a4 i)⟩

end

/-! ## The values -/

/-- The reference's state after `n` tokens. -/
def refState (m : (ℓ : Loc Cert.LayerReferenceIdeal.nD Cert.LayerReferenceIdeal.τ Cert.LayerReferenceIdeal.sig) → Buf (Elt Ideal) ℓ) (c : Dev Cert.LayerReferenceIdeal.nD) : ℕ → Cert.LayerReferenceIdeal.Step.State Ideal
  | 0 => Cert.LayerReferenceIdeal.StepRun.initState m c
  | n + 1 => Cert.LayerReferenceIdeal.Step.step n (refState m c n)

/-- The projection as the reference sums it is the number the kernel's first call makes. -/
theorem proj_sum {X : Vec Ideal Cert.LayerReferenceIdeal.S4096x2048 .f32} {Y : Vec Ideal Cert.LayerReferenceIdeal.S2048x12352 .f32} {x w : ℕ → ℕ → ℝ}
    (hX : ∀ (t : Fin 4096) (k : Fin 2048), X (ix2 t k) = ((x t k : ℝ) : EReal)) (hY : ∀ (k : Fin 2048) (j : Fin 12352), Y (ix2 k j) = ((w k j : ℝ) : EReal))
    (t : Fin 4096) (j : Fin 12352) : ∑ k : Fin 2048, X (ix2 t k) * Y (ix2 k j) = ((Cert.LayerIdeal.Host.proj x w t j : ℝ) : EReal) := by
  unfold Cert.LayerIdeal.Host.proj
  rw [if_pos j.isLt, ← Cert.Gdn.coe_sum]
  exact Finset.sum_congr rfl fun k _ => by rw [EReal.coe_mul, hX, hY]

/-- The chunked kernel and the token recurrence end with the same array. -/
theorem algebraic_Layer : Cert.algebraic_LayerIdeal_LayerReferenceIdeal_pre_finite (hLayerIdeal := Cert.LayerIdeal.Gen.facts) (hLayerReferenceIdeal := Cert.LayerReferenceIdeal.Gen.facts) (hPre_finite := Cert.Pre_finite.Gen.facts) := by
  intro m g m' g' hpre hag
  refine ⟨fun c => Cert.LayerIdeal.Run.X8 m c, (θ_run Cert.LayerIdeal.defs _ _).mono (fun _ h => h.1) (Cert.LayerIdeal.Run.run (F := Ideal) m g), ?_⟩
  refine (θ_run Cert.LayerReferenceIdeal.defs _ _).mono (fun r h c => ⟨(h c).1.trans ?_, (h c).2⟩)
    (Cert.LayerReferenceIdeal.StepRun.run_iter (F := Ideal) m' g' (refState m') (fun _ => rfl) (fun _ _ => rfl))
  obtain ⟨r0, r1, r2, r3, r4⟩ := real_args _ _ _ _ _ _ _ (hpre c)
  obtain ⟨g0, g1, g2, g3, g4, g5, g6⟩ := hag c
  have ofNat_val : ∀ {n : ℕ} [NeZero n] (t : Fin n), Fin.ofNat n t.val = t := fun t => Fin.ext (Nat.mod_eq_of_lt t.isLt)
  have N : Cert.LayerIdeal.Host.Nums m c
      (fun t j => ((m ((c.tc : Thread Cert.LayerIdeal.nD Cert.LayerIdeal.τ).loc Cert.LayerIdeal.main_arg0) : Vec Ideal Cert.LayerIdeal.S4096x2048 .f32) (ix2 (Fin.ofNat 4096 t) (Fin.ofNat 2048 j))).toReal)
      (fun t j => ((m ((c.tc : Thread Cert.LayerIdeal.nD Cert.LayerIdeal.τ).loc Cert.LayerIdeal.main_arg1) : Vec Ideal Cert.LayerIdeal.S2048x12352 .f32) (ix2 (Fin.ofNat 2048 t) (Fin.ofNat 12352 j))).toReal)
      (fun t j => ((m ((c.tc : Thread Cert.LayerIdeal.nD Cert.LayerIdeal.τ).loc Cert.LayerIdeal.main_arg2) : Vec Ideal Cert.LayerIdeal.S8192x4 .f32) (ix2 (Fin.ofNat 8192 t) (Fin.ofNat 4 j))).toReal)
      (fun h => ((m ((c.tc : Thread Cert.LayerIdeal.nD Cert.LayerIdeal.τ).loc Cert.LayerIdeal.main_arg3) : Vec Ideal Cert.LayerIdeal.S32 .f32) (ix1 (Fin.ofNat 32 h))).toReal)
      (fun h => ((m ((c.tc : Thread Cert.LayerIdeal.nD Cert.LayerIdeal.τ).loc Cert.LayerIdeal.main_arg4) : Vec Ideal Cert.LayerIdeal.S32 .f32) (ix1 (Fin.ofNat 32 h))).toReal)
      (fun e => (m ((c.tc : Thread Cert.LayerIdeal.nD Cert.LayerIdeal.τ).loc Cert.LayerIdeal.main_arg5) : Vec Ideal Cert.LayerIdeal.S128 .f32) (ix1 (Fin.ofNat 128 e))) :=
    ⟨fun t j => by rw [ofNat_val, ofNat_val]; exact r0 _, fun k j => by rw [ofNat_val, ofNat_val]; exact r1 _, fun j t => by rw [ofNat_val, ofNat_val]; exact r2 _,
     fun h => by rw [ofNat_val]; exact r3 _, fun h => by rw [ofNat_val]; exact r4 _, fun e => by rw [ofNat_val]⟩
  funext i
  obtain ⟨t, j, rfl⟩ : ∃ (t : Fin 4096) (j : Fin 2048), i = (ix2 t j : Cert.LayerIdeal.S4096x2048.Idx) := ⟨i 0, i 1, by
    funext a
    exact match a with
      | ⟨0, _⟩ => rfl
      | ⟨1, _⟩ => rfl⟩
  refine Eq.trans ?_ (Cert.LayerIdeal.Host.X8_at N _ rfl t j).symm
  rw [g0, g1, g5, g6]
  refine Cert.RefV.final ?_ ⟨proj_sum N.x N.w, N.cw, N.al, N.dt⟩ N.nw t j
  refine Cert.RefV.good_iter ?_ (fun _ => rfl) 4096 le_rfl
  show Cert.RefV.Good _ _ _ _ 0 (Cert.LayerReferenceIdeal.StepRun.initState m' c)
  unfold Cert.LayerReferenceIdeal.StepRun.initState
  rw [g0, g1, g2, g3, g4]
  exact Cert.RefV.good_init ⟨proj_sum N.x N.w, N.cw, N.al, N.dt⟩

end Cert.Proof

end
-- ==== Proof.InProjValue.lean ====
/- The first call: what the blocked projection leaves in its result, and that this is the padded product. -/
module

public import proofs.«01_k».proof.Proof.Gen.InProjIdeal.Value
public import proofs.«01_k».proof.Proof.Gen.InProjReferenceIdeal.Run
public import proofs.«01_k».proof.Proof.Gen.InProjReferenceIdeal.Read
public import Idealize.ShloMosaic.Lib.Pointwise
public import Idealize.ShloMosaic.Lib.Tactic.CleanTypes

@[expose] public section

set_option maxRecDepth 16384

noncomputable section

namespace Cert.InProjIdeal.Hand

open Cert.InProjIdeal Cert.InProjIdeal.Gen Cert.InProjIdeal.Value Idealize.ShloMosaic Idealize.ShloMosaic.TcCoe Idealize.SL.Sem
open Idealize.ShloMosaic.Pipeline (Dat)
open scoped BigOperators

variable (m : (ℓ : Loc nD τ sig) → Buf (Elt Ideal) ℓ)

/-- One block's payload is the product of its two blocks. -/
theorem pay_apply (x : Vec Ideal S512x2048 .bf16) (w : Vec Ideal S2048x896 .bf16) (r : Fin 512) (l : Fin 896) :
    k0_pay1 (F := Ideal) x w (ix2 r l) = ∑ k : Fin 2048, x (ix2 r k) * w (ix2 k l) := by
  pointwise [k0_pay1]

/-- What the body leaves in its output block: the product of the blocks. -/
theorem out_apply (x : Vec Ideal S512x2048 .bf16) (w : Vec Ideal S2048x896 .bf16) (r : Fin 512) (l : Fin 896) :
    out0_2 (F := Ideal) x w (ix2 r l) = ∑ k : Fin 2048, x (ix2 r k) * w (ix2 k l) := by
  unfold out0_2
  have h0 : (![0, 0] : Fin 2 → ℕ) = fun _ => 0 := by decide
  rw [View.canon_unit_zero h0, View.ld_unit_zero h0, View.ld_unit_zero h0, pay_apply]

/-- The left operand as the region finds it: the hidden states. -/
theorem V_x (c : Dev nD) : V m c main_v2 = m ((c : Thread nD τ).loc main_arg0) := by
  simp only [V, hostOps0, hostOps0_1, hostOps0_2, List.flatten_cons, List.flatten_nil, List.append_nil, List.cons_append,
      List.nil_append, StableHlo.TRef.binary, StableHlo.TRef.unary, StableHlo.TRef.toBuf, StableHlo.TRef.ofBuf, cast_eq]
  after_results
  rfl

/-- The weights padded to the columns of the grid. -/
def wPad (w : Vec Ideal S2048x12352 .f32) : Vec Ideal S2048x12544 .bf16 := fun i =>
  if h : (i 1).val < 12352 then w (ix2 (i 0) ⟨(i 1).val, h⟩) else 0

/-- The right operand as the region finds it: the padded weights. -/
theorem V_w (c : Dev nD) : V m c main_v1 = wPad (m ((c : Thread nD τ).loc main_arg1)) := by
  simp only [V, hostOps0, hostOps0_1, hostOps0_2, List.flatten_cons, List.flatten_nil, List.append_nil, List.cons_append,
      List.nil_append, StableHlo.TRef.binary, StableHlo.TRef.unary, StableHlo.TRef.toBuf, StableHlo.TRef.ofBuf, cast_eq]
  after_results
  funext i
  unfold wPad
  clean_types
  pointwise
  have hz : FloatOps.sitofp (F := Ideal) FTy.bf16 0#32 = (0 : EReal) := by
    show ((((0#32).toInt : ℝ)) : EReal) = 0
    simp
  rw [hz]

/-- The result array: the padded product. -/
def G (x : Vec Ideal S4096x2048 .f32) (w : Vec Ideal S2048x12352 .f32) : Vec Ideal S4096x12544 .bf16 := fun i =>
  ∑ k : Fin 2048, x (ix2 (i 0) k) * wPad w (ix2 k (i 1))

/-- Where the three windows' blocks stand at a grid point. -/
theorem idx_facts : ∀ t : Fin cfg0.N, win0_0.index t (0 : Fin 2) = win0_2.index t (0 : Fin 2) ∧ win0_0.index t (1 : Fin 2) = 0
    ∧ win0_1.index t (0 : Fin 2) = 0 ∧ win0_1.index t (1 : Fin 2) = win0_2.index t (1 : Fin 2) :=
  (by decide +kernel : ∀ t : Fin grid0.N, _)

/-- Each block of the result is some point's. -/
abbrev pt (q0 : Fin 8) (q1 : Fin 14) : Fin grid0.N := ⟨q0.val + 8 * q1.val, lt_of_lt_of_eq (by omega) N_0.symm⟩
/-- Every block of the result is written at its point. -/
theorem idx_onto : ∀ (q0 : Fin 8) (q1 : Fin 14), win0_2.flush (pt q0 q1) = true ∧ win0_2.index (pt q0 q1) = ![q0.val, q1.val] := by
  decide +kernel

/-- The row block of the left operand at a grid point. -/
theorem iblk_x (c : Dev nD) (t : Fin cfg0.N) (r : Fin 512) (k : Fin 2048) (hr : win0_2.index t (0 : Fin 2) * 512 + r.val < 4096) :
    (iblk m c 0 t : Vec Ideal S512x2048 .f32) (ix2 r k) = m ((c : Thread nD τ).loc main_arg0) (ix2 ⟨win0_2.index t (0 : Fin 2) * 512 + r.val, hr⟩ k) := by
  obtain ⟨e0, e1, e2, e3⟩ := idx_facts t
  show V m c main_v2 (((cfg0.win 0).blk t).view.emb (ix2 r k)) = _
  rw [V_x]
  congr 1
  funext a; apply Fin.ext
  match a with
  | ⟨0, _⟩ => show win0_0.index t (0 : Fin 2) * 512 + 1 * r.val = win0_2.index t (0 : Fin 2) * 512 + r.val; rw [e0]; omega
  | ⟨1, _⟩ => show win0_0.index t (1 : Fin 2) * 2048 + 1 * k.val = k.val; rw [e1]; omega

/-- The column block of the padded right operand at a grid point. -/
theorem iblk_w (c : Dev nD) (t : Fin cfg0.N) (k : Fin 2048) (l : Fin 896) (hl : win0_2.index t (1 : Fin 2) * 896 + l.val < 12544) :
    (iblk m c 1 t : Vec Ideal S2048x896 .bf16) (ix2 k l)
      = wPad (m ((c : Thread nD τ).loc main_arg1)) (ix2 k ⟨win0_2.index t (1 : Fin 2) * 896 + l.val, hl⟩) := by
  obtain ⟨e0, e1, e2, e3⟩ := idx_facts t
  show V m c main_v1 (((cfg0.win 1).blk t).view.emb (ix2 k l)) = _
  rw [V_w]
  congr 1
  funext a; apply Fin.ext
  match a with
  | ⟨0, _⟩ => show win0_1.index t (0 : Fin 2) * 2048 + 1 * k.val = k.val; rw [e2]; omega
  | ⟨1, _⟩ => show win0_1.index t (1 : Fin 2) * 896 + 1 * l.val = win0_2.index t (1 : Fin 2) * 896 + l.val; rw [e3]; omega

/-- Where a point's block of the result stands. -/
theorem emb_out (t : Fin cfg0.N) (r : Fin 512) (l : Fin 896) (hr : win0_2.index t (0 : Fin 2) * 512 + r.val < 4096)
    (hl : win0_2.index t (1 : Fin 2) * 896 + l.val < 12544) :
    ((cfg0.win 2).blk t).view.emb (ix2 r l)
      = (ix2 ⟨win0_2.index t (0 : Fin 2) * 512 + r.val, hr⟩ ⟨win0_2.index t (1 : Fin 2) * 896 + l.val, hl⟩ : S4096x12544.Idx) := by
  funext a; apply Fin.ext
  match a with
  | ⟨0, _⟩ => show win0_2.index t (0 : Fin 2) * 512 + 1 * r.val = win0_2.index t (0 : Fin 2) * 512 + r.val; omega
  | ⟨1, _⟩ => show win0_2.index t (1 : Fin 2) * 896 + 1 * l.val = win0_2.index t (1 : Fin 2) * 896 + l.val; omega

/-- The blocks of the result lie within it. -/
theorem idx_bound : ∀ t : Fin cfg0.N, win0_2.index t (0 : Fin 2) < 8 ∧ win0_2.index t (1 : Fin 2) < 14 :=
  (by decide +kernel : ∀ t : Fin grid0.N, _)

/-- What a point writes back is its block of the padded product. -/
theorem flushed_eq (c : Dev nD) (t : Fin cfg0.N) :
    (dats m 0 c).flushed 2 t = ((cfg0.win 2).blk t).view.read (Elt Ideal)
      (G (m ((c : Thread nD τ).loc main_arg0)) (m ((c : Thread nD τ).loc main_arg1))) := by
  rw [flushed2]
  obtain ⟨b0, b1⟩ := idx_bound t
  funext y
  obtain ⟨r, l, rfl⟩ : ∃ (r : Fin 512) (l : Fin 896), y = ix2 r l :=
    ⟨y 0, y 1, by funext a; match a with | ⟨0, _⟩ => rfl | ⟨1, _⟩ => rfl⟩
  have hr : win0_2.index t (0 : Fin 2) * 512 + r.val < 4096 := by have := r.isLt; omega
  have hl : win0_2.index t (1 : Fin 2) * 896 + l.val < 12544 := by have := l.isLt; omega
  refine Eq.trans (b := out0_2 (F := Ideal) (iblk m c 0 t) (iblk m c 1 t) (ix2 r l)) rfl ?_
  refine (out_apply _ _ _ _).trans ?_
  refine Eq.trans ?_ (congrArg (G (m ((c : Thread nD τ).loc main_arg0)) (m ((c : Thread nD τ).loc main_arg1))) (emb_out t r l hr hl)).symm
  refine Finset.sum_congr rfl fun k _ => ?_
  rw [iblk_x m c t r k hr, iblk_w m c t k l hl]; rfl

/-- An index is in a point's block when its coordinates are in the block's ranges. -/
theorem mem_blk (t : Fin cfg0.N) (i : S4096x12544.Idx) :
    i ∈ ((cfg0.win 2).blk t).view.set ↔ ∀ a : Fin 2, win0_2.index t a * S512x896.size a ≤ (i a).val ∧ (i a).val < win0_2.index t a * S512x896.size a + S512x896.size a := by
  show i ∈ ((View.whole main_v3).slice (win0_2.rect t)).set ↔ _
  rw [View.set_slice_whole, Rect.mem_set_unit]
  exact Iff.rfl

/-- The array after the run is the padded product. -/
theorem final (c : Dev nD) : (dats m 0 c).arrAt 2 cfg0.N = G (m ((c : Thread nD τ).loc main_arg0)) (m ((c : Thread nD τ).loc main_arg1)) :=
  (dats m 0 c).arrAt_eq_of_cover 2 _ (fun t _ => flushed_eq m c t) (fun i => by
    have h0 : (i 0).val < 4096 := (i 0).isLt
    have h1 : (i 1).val < 12544 := (i 1).isLt
    obtain ⟨hf, hi⟩ := idx_onto ⟨(i 0).val / 512, by omega⟩ ⟨(i 1).val / 896, by omega⟩
    refine ⟨_, hf, ?_⟩
    rw [mem_blk]
    have q0 : win0_2.index (pt ⟨(i 0).val / 512, by omega⟩ ⟨(i 1).val / 896, by omega⟩) (0 : Fin 2) = (i 0).val / 512 := congrFun hi 0
    have q1 : win0_2.index (pt ⟨(i 0).val / 512, by omega⟩ ⟨(i 1).val / 896, by omega⟩) (1 : Fin 2) = (i 1).val / 896 := congrFun hi 1
    intro a
    match a with
    | ⟨0, _⟩ => show win0_2.index _ (0 : Fin 2) * 512 ≤ (i 0).val ∧ (i 0).val < win0_2.index _ (0 : Fin 2) * 512 + 512; omega
    | ⟨1, _⟩ => show win0_2.index _ (1 : Fin 2) * 896 ≤ (i 1).val ∧ (i 1).val < win0_2.index _ (1 : Fin 2) * 896 + 896; omega)

/-- The reference's padded product is the same array: in the added columns every term of the kernel's sum is a product with zero. -/
theorem ref_eq (x : Vec Ideal S4096x2048 .f32) (w : Vec Ideal S2048x12352 .f32) :
    Cert.InProjReferenceIdeal.Read.val_main_v2 (F := Ideal) x w = G x w := by
  funext i
  have hz : FloatOps.sitofp (F := Ideal) FTy.f32 0#32 = (0 : EReal) := by
    show ((((0#32).toInt : ℝ)) : EReal) = 0
    simp
  have e : Cert.InProjReferenceIdeal.Read.val_main_v2 (F := Ideal) x w i
      = if h : (i 1).val < 12352 then ∑ k : Fin 2048, x (ix2 (i 0) k) * w (ix2 k ⟨(i 1).val, h⟩) else 0 := by
    rw [← hz]
    unfold Cert.InProjReferenceIdeal.Read.val_main_v2 Cert.InProjReferenceIdeal.Read.val_main_v1
      Cert.InProjReferenceIdeal.Read.val_main_call0_v0 Cert.InProjReferenceIdeal.Read.val_main_c Cert.InProjReferenceIdeal.Read.val_main_v0
    pointwise
  rw [e]
  unfold G wPad
  by_cases h : (i 1).val < 12352
  · rw [dif_pos h]
    refine Finset.sum_congr rfl fun k _ => ?_
    show _ = x (ix2 (i 0) k) * (if h : (i 1).val < 12352 then w (ix2 k ⟨(i 1).val, h⟩) else 0)
    rw [dif_pos h]
  · rw [dif_neg h]
    symm
    refine Finset.sum_eq_zero fun k _ => ?_
    show x (ix2 (i 0) k) * (if h : (i 1).val < 12352 then w (ix2 k ⟨(i 1).val, h⟩) else 0) = 0
    rw [dif_neg h]
    exact mul_zero _

end Cert.InProjIdeal.Hand
end
-- ==== Proof.InProjClaims.lean ====
/- The claims about the first call: its frames, and that it and its reference end with the same array. -/
module

public import proofs.«01_k».proof.Defs
public import proofs.«01_k».proof.Proof.Gen.InProj.Frame
public import proofs.«01_k».proof.Proof.InProjValue
public import Idealize.ShloMosaic.Adequacy
public import Idealize.ShloMosaic.Init

@[expose] public section

noncomputable section

namespace Cert.Proof

open Idealize.ShloMosaic Idealize.SL.Sem

/-- The call runs, keeps its arguments, and leaves every counter at zero, at the machine's floats. -/
theorem frame_InProj : Cert.quiescent_InProj (hInProj := Cert.InProj.Gen.facts) := fun m ρ _ => Cert.InProj.Gen.frame m ρ

/-- The same of the idealized call. -/
theorem frame_InProjIdeal : Cert.quiescent_InProjIdeal (hInProjIdeal := Cert.InProjIdeal.Gen.facts) := fun m ρ _ => Cert.InProjIdeal.Gen.frame m ρ

/-- The same of the reference, which declares no semaphore. -/
theorem frame_InProjReferenceIdeal : Cert.quiescent_InProjReferenceIdeal (hInProjReferenceIdeal := Cert.InProjReferenceIdeal.Gen.facts) := by
  intro m ρ _
  exact (θ_run Cert.InProjReferenceIdeal.defs _ _).mono (fun r h => ⟨fun c => (h c).2,
      Idealize.ShloMosaic.sem_eq_zero_of_no_sems (by decide) r.2⟩)
    (Cert.InProjReferenceIdeal.Value.run (F := Ideal) m ρ)

/-- Both programs end with the product of the two argument arrays. -/
theorem algebraic_InProj : Cert.algebraic_InProjIdeal_InProjReferenceIdeal (hInProjIdeal := Cert.InProjIdeal.Gen.facts) (hInProjReferenceIdeal := Cert.InProjReferenceIdeal.Gen.facts) := by
  intro m g m' g' _ hag
  refine ⟨fun c => Cert.InProjIdeal.Hand.G (m ((c.tc : Thread Cert.InProjIdeal.nD Cert.InProjIdeal.τ).loc Cert.InProjIdeal.main_arg0)) (m ((c.tc : Thread Cert.InProjIdeal.nD Cert.InProjIdeal.τ).loc Cert.InProjIdeal.main_arg1)), ?_, ?_⟩
  · exact (θ_run Cert.InProjIdeal.defs _ _).mono (fun r h c => ⟨(h c).1.trans (Cert.InProjIdeal.Hand.final m c), (h c).2⟩)
      (Cert.InProjIdeal.Value.run_blocks (F := Ideal) m g)
  · refine (θ_run Cert.InProjReferenceIdeal.defs _ _).mono (fun r h c => ⟨?_, (h c).2⟩)
      (Cert.InProjReferenceIdeal.Value.run (F := Ideal) m' g')
    refine ((h c).1.trans (Cert.InProjReferenceIdeal.Read.val_main_v2_eq _ _)).trans ?_
    rw [(hag c).1, (hag c).2]
    exact Cert.InProjIdeal.Hand.ref_eq _ _

end Cert.Proof
end
-- ==== Proof.OutProjValue.lean ====
/- The last call: what the blocked projection leaves in its result, and that this is the product. -/
module

public import proofs.«01_k».proof.Proof.Gen.OutProjIdeal.Value
public import proofs.«01_k».proof.Proof.Gen.OutProjReferenceIdeal.Run
public import proofs.«01_k».proof.Proof.Gen.OutProjReferenceIdeal.Read
public import Idealize.ShloMosaic.Lib.Pointwise
public import Idealize.ShloMosaic.Lib.Tactic.CleanTypes

@[expose] public section

set_option maxRecDepth 16384

noncomputable section

namespace Cert.OutProjIdeal.Hand

open Cert.OutProjIdeal Cert.OutProjIdeal.Gen Cert.OutProjIdeal.Value Idealize.ShloMosaic Idealize.ShloMosaic.TcCoe Idealize.SL.Sem
open Idealize.ShloMosaic.Pipeline (Dat)
open scoped BigOperators

variable (m : (ℓ : Loc nD τ sig) → Buf (Elt Ideal) ℓ)

/-- One block's payload is the product of its two blocks. -/
theorem pay_apply (x : Vec Ideal S512x4096 .bf16) (w : Vec Ideal S4096x512 .bf16) (r : Fin 512) (l : Fin 512) :
    k0_pay1 (F := Ideal) x w (ix2 r l) = ∑ k : Fin 4096, x (ix2 r k) * w (ix2 k l) := by
  pointwise [k0_pay1]

/-- What the body leaves in its output block: the product of the blocks. -/
theorem out_apply (x : Vec Ideal S512x4096 .bf16) (w : Vec Ideal S4096x512 .bf16) (r : Fin 512) (l : Fin 512) :
    out0_2 (F := Ideal) x w (ix2 r l) = ∑ k : Fin 4096, x (ix2 r k) * w (ix2 k l) := by
  unfold out0_2
  have h0 : (![0, 0] : Fin 2 → ℕ) = fun _ => 0 := by decide
  rw [View.canon_unit_zero h0, View.ld_unit_zero h0, View.ld_unit_zero h0, pay_apply]

/-- The left operand as the region finds it: the argument. -/
theorem V_x (c : Dev nD) : V m c main_arg0 = m ((c : Thread nD τ).loc main_arg0) := by
  simp only [V, hostOps0]
  after_results

/-- The right operand as the region finds it: the weights. -/
theorem V_w (c : Dev nD) : V m c main_v0 = (m ((c : Thread nD τ).loc main_arg1) : Vec Ideal S4096x2048 .f32) := by
  simp only [V, hostOps0]
  after_results
  rfl

/-- The result array: the product. -/
def G (x : Vec Ideal S4096x4096 .bf16) (w : Vec Ideal S4096x2048 .f32) : Vec Ideal S4096x2048 .f32 := fun i =>
  ∑ k : Fin 4096, x (ix2 (i 0) k) * w (ix2 k (i 1))

/-- Where the three windows' blocks stand at a grid point. -/
theorem idx_facts : ∀ t : Fin cfg0.N, win0_0.index t (0 : Fin 2) = win0_2.index t (0 : Fin 2) ∧ win0_0.index t (1 : Fin 2) = 0
    ∧ win0_1.index t (0 : Fin 2) = 0 ∧ win0_1.index t (1 : Fin 2) = win0_2.index t (1 : Fin 2) :=
  (by decide +kernel : ∀ t : Fin grid0.N, _)

/-- Each block of the result is some point's. -/
abbrev pt (q0 : Fin 8) (q1 : Fin 4) : Fin grid0.N := ⟨q0.val + 8 * q1.val, lt_of_lt_of_eq (by omega) N_0.symm⟩
/-- Every block of the result is written at its point. -/
theorem idx_onto : ∀ (q0 : Fin 8) (q1 : Fin 4), win0_2.flush (pt q0 q1) = true ∧ win0_2.index (pt q0 q1) = ![q0.val, q1.val] := by
  decide +kernel

/-- The row block of the left operand at a grid point. -/
theorem iblk_x (c : Dev nD) (t : Fin cfg0.N) (r : Fin 512) (k : Fin 4096) (hr : win0_2.index t (0 : Fin 2) * 512 + r.val < 4096) :
    (iblk m c 0 t : Vec Ideal S512x4096 .bf16) (ix2 r k) = m ((c : Thread nD τ).loc main_arg0) (ix2 ⟨win0_2.index t (0 : Fin 2) * 512 + r.val, hr⟩ k) := by
  obtain ⟨e0, e1, e2, e3⟩ := idx_facts t
  show V m c main_arg0 (((cfg0.win 0).blk t).view.emb (ix2 r k)) = _
  rw [V_x]
  congr 1
  funext a; apply Fin.ext
  match a with
  | ⟨0, _⟩ => show win0_0.index t (0 : Fin 2) * 512 + 1 * r.val = win0_2.index t (0 : Fin 2) * 512 + r.val; rw [e0]; omega
  | ⟨1, _⟩ => show win0_0.index t (1 : Fin 2) * 4096 + 1 * k.val = k.val; rw [e1]; omega

/-- The column block of the right operand at a grid point. -/
theorem iblk_w (c : Dev nD) (t : Fin cfg0.N) (k : Fin 4096) (l : Fin 512) (hl : win0_2.index t (1 : Fin 2) * 512 + l.val < 2048) :
    (iblk m c 1 t : Vec Ideal S4096x512 .bf16) (ix2 k l)
      = m ((c : Thread nD τ).loc main_arg1) (ix2 k ⟨win0_2.index t (1 : Fin 2) * 512 + l.val, hl⟩) := by
  obtain ⟨e0, e1, e2, e3⟩ := idx_facts t
  show V m c main_v0 (((cfg0.win 1).blk t).view.emb (ix2 k l)) = _
  rw [V_w]
  congr 1
  funext a; apply Fin.ext
  match a with
  | ⟨0, _⟩ => show win0_1.index t (0 : Fin 2) * 4096 + 1 * k.val = k.val; rw [e2]; omega
  | ⟨1, _⟩ => show win0_1.index t (1 : Fin 2) * 512 + 1 * l.val = win0_2.index t (1 : Fin 2) * 512 + l.val; rw [e3]; omega

/-- Where a point's block of the result stands. -/
theorem emb_out (t : Fin cfg0.N) (r : Fin 512) (l : Fin 512) (hr : win0_2.index t (0 : Fin 2) * 512 + r.val < 4096)
    (hl : win0_2.index t (1 : Fin 2) * 512 + l.val < 2048) :
    ((cfg0.win 2).blk t).view.emb (ix2 r l)
      = (ix2 ⟨win0_2.index t (0 : Fin 2) * 512 + r.val, hr⟩ ⟨win0_2.index t (1 : Fin 2) * 512 + l.val, hl⟩ : S4096x2048.Idx) := by
  funext a; apply Fin.ext
  match a with
  | ⟨0, _⟩ => show win0_2.index t (0 : Fin 2) * 512 + 1 * r.val = win0_2.index t (0 : Fin 2) * 512 + r.val; omega
  | ⟨1, _⟩ => show win0_2.index t (1 : Fin 2) * 512 + 1 * l.val = win0_2.index t (1 : Fin 2) * 512 + l.val; omega

/-- The blocks of the result lie within it. -/
theorem idx_bound : ∀ t : Fin cfg0.N, win0_2.index t (0 : Fin 2) < 8 ∧ win0_2.index t (1 : Fin 2) < 4 :=
  (by decide +kernel : ∀ t : Fin grid0.N, _)

/-- What a point writes back is its block of the product. -/
theorem flushed_eq (c : Dev nD) (t : Fin cfg0.N) :
    (dats m 0 c).flushed 2 t = ((cfg0.win 2).blk t).view.read (Elt Ideal)
      (G (m ((c : Thread nD τ).loc main_arg0)) (m ((c : Thread nD τ).loc main_arg1))) := by
  rw [flushed2]
  obtain ⟨b0, b1⟩ := idx_bound t
  funext y
  obtain ⟨r, l, rfl⟩ : ∃ (r : Fin 512) (l : Fin 512), y = ix2 r l :=
    ⟨y 0, y 1, by funext a; match a with | ⟨0, _⟩ => rfl | ⟨1, _⟩ => rfl⟩
  have hr : win0_2.index t (0 : Fin 2) * 512 + r.val < 4096 := by have := r.isLt; omega
  have hl : win0_2.index t (1 : Fin 2) * 512 + l.val < 2048 := by have := l.isLt; omega
  refine Eq.trans (b := out0_2 (F := Ideal) (iblk m c 0 t) (iblk m c 1 t) (ix2 r l)) rfl ?_
  refine (out_apply _ _ _ _).trans ?_
  refine Eq.trans ?_ (congrArg (G (m ((c : Thread nD τ).loc main_arg0)) (m ((c : Thread nD τ).loc main_arg1))) (emb_out t r l hr hl)).symm
  refine Finset.sum_congr rfl fun k _ => ?_
  rw [iblk_x m c t r k hr, iblk_w m c t k l hl]; rfl

/-- An index is in a point's block when its coordinates are in the block's ranges. -/
theorem mem_blk (t : Fin cfg0.N) (i : S4096x2048.Idx) :
    i ∈ ((cfg0.win 2).blk t).view.set ↔ ∀ a : Fin 2, win0_2.index t a * S512x512.size a ≤ (i a).val ∧ (i a).val < win0_2.index t a * S512x512.size a + S512x512.size a := by
  show i ∈ ((View.whole main_v1).slice (win0_2.rect t)).set ↔ _
  rw [View.set_slice_whole, Rect.mem_set_unit]
  exact Iff.rfl

/-- The array after the run is the product. -/
theorem final (c : Dev nD) : (dats m 0 c).arrAt 2 cfg0.N = G (m ((c : Thread nD τ).loc main_arg0)) (m ((c : Thread nD τ).loc main_arg1)) :=
  (dats m 0 c).arrAt_eq_of_cover 2 _ (fun t _ => flushed_eq m c t) (fun i => by
    have h0 : (i 0).val < 4096 := (i 0).isLt
    have h1 : (i 1).val < 2048 := (i 1).isLt
    obtain ⟨hf, hi⟩ := idx_onto ⟨(i 0).val / 512, by omega⟩ ⟨(i 1).val / 512, by omega⟩
    refine ⟨_, hf, ?_⟩
    rw [mem_blk]
    have q0 : win0_2.index (pt ⟨(i 0).val / 512, by omega⟩ ⟨(i 1).val / 512, by omega⟩) (0 : Fin 2) = (i 0).val / 512 := congrFun hi 0
    have q1 : win0_2.index (pt ⟨(i 0).val / 512, by omega⟩ ⟨(i 1).val / 512, by omega⟩) (1 : Fin 2) = (i 1).val / 512 := congrFun hi 1
    intro a
    match a with
    | ⟨0, _⟩ => show win0_2.index _ (0 : Fin 2) * 512 ≤ (i 0).val ∧ (i 0).val < win0_2.index _ (0 : Fin 2) * 512 + 512; omega
    | ⟨1, _⟩ => show win0_2.index _ (1 : Fin 2) * 512 ≤ (i 1).val ∧ (i 1).val < win0_2.index _ (1 : Fin 2) * 512 + 512; omega)

/-- The reference's product is the same array. -/
theorem ref_eq (x : Vec Ideal S4096x4096 .bf16) (w : Vec Ideal S4096x2048 .f32) :
    Cert.OutProjReferenceIdeal.Read.val_main_v1 (F := Ideal) x w = G x w := by
  funext i
  unfold G Cert.OutProjReferenceIdeal.Read.val_main_v1 Cert.OutProjReferenceIdeal.Read.val_main_v0
  pointwise

end Cert.OutProjIdeal.Hand
end
-- ==== Proof.OutProjClaims.lean ====
/- The claims about the last call: its frames, and that it and its reference end with the same array. -/
module

public import proofs.«01_k».proof.Defs
public import proofs.«01_k».proof.Proof.Gen.OutProj.Frame
public import proofs.«01_k».proof.Proof.OutProjValue
public import Idealize.ShloMosaic.Adequacy
public import Idealize.ShloMosaic.Init

@[expose] public section

noncomputable section

namespace Cert.Proof

open Idealize.ShloMosaic Idealize.SL.Sem

/-- The call runs, keeps its arguments, and leaves every counter at zero, at the machine's floats. -/
theorem frame_OutProj : Cert.quiescent_OutProj (hOutProj := Cert.OutProj.Gen.facts) := fun m ρ _ => Cert.OutProj.Gen.frame m ρ

/-- The same of the idealized call. -/
theorem frame_OutProjIdeal : Cert.quiescent_OutProjIdeal (hOutProjIdeal := Cert.OutProjIdeal.Gen.facts) := fun m ρ _ => Cert.OutProjIdeal.Gen.frame m ρ

/-- The same of the reference, which declares no semaphore. -/
theorem frame_OutProjReferenceIdeal : Cert.quiescent_OutProjReferenceIdeal (hOutProjReferenceIdeal := Cert.OutProjReferenceIdeal.Gen.facts) := by
  intro m ρ _
  exact (θ_run Cert.OutProjReferenceIdeal.defs _ _).mono (fun r h => ⟨fun c => (h c).2,
      Idealize.ShloMosaic.sem_eq_zero_of_no_sems (by decide) r.2⟩)
    (Cert.OutProjReferenceIdeal.Value.run (F := Ideal) m ρ)

/-- Both programs end with the product of the two argument arrays. -/
theorem algebraic_OutProj : Cert.algebraic_OutProjIdeal_OutProjReferenceIdeal (hOutProjIdeal := Cert.OutProjIdeal.Gen.facts) (hOutProjReferenceIdeal := Cert.OutProjReferenceIdeal.Gen.facts) := by
  intro m g m' g' _ hag
  refine ⟨fun c => Cert.OutProjIdeal.Hand.G (m ((c.tc : Thread Cert.OutProjIdeal.nD Cert.OutProjIdeal.τ).loc Cert.OutProjIdeal.main_arg0)) (m ((c.tc : Thread Cert.OutProjIdeal.nD Cert.OutProjIdeal.τ).loc Cert.OutProjIdeal.main_arg1)), ?_, ?_⟩
  · exact (θ_run Cert.OutProjIdeal.defs _ _).mono (fun r h c => ⟨(h c).1.trans (Cert.OutProjIdeal.Hand.final m c), (h c).2⟩)
      (Cert.OutProjIdeal.Value.run_blocks (F := Ideal) m g)
  · refine (θ_run Cert.OutProjReferenceIdeal.defs _ _).mono (fun r h c => ⟨?_, (h c).2⟩)
      (Cert.OutProjReferenceIdeal.Value.run (F := Ideal) m' g')
    refine ((h c).1.trans (Cert.OutProjReferenceIdeal.Read.val_main_v1_eq _ _)).trans ?_
    rw [(hag c).1, (hag c).2]
    exact Cert.OutProjIdeal.Hand.ref_eq _ _

end Cert.Proof
end
-- ==== Proof.lean ====
/- The claims about the whole layer and about its two projections, put together: each part is proved in its own module. -/
module

public import proofs.«01_k».proof.Defs
public import proofs.«01_k».proof.Proof.LayerClaims
public import proofs.«01_k».proof.Proof.InProjClaims
public import proofs.«01_k».proof.Proof.OutProjClaims

@[expose] public section

noncomputable section

namespace Cert.Proof

/-- Everything claimed. -/
theorem claim : Cert.Claim := ⟨Cert.Layer.Gen.facts, Cert.LayerIdeal.Gen.facts, Cert.LayerReferenceIdeal.Gen.facts,
  Cert.InProj.Gen.facts, Cert.InProjIdeal.Gen.facts, Cert.InProjReferenceIdeal.Gen.facts,
  Cert.OutProj.Gen.facts, Cert.OutProjIdeal.Gen.facts, Cert.OutProjReferenceIdeal.Gen.facts, Cert.Pre_finite.Gen.facts,
  frame_Layer, frame_LayerIdeal, frame_LayerIdeal_finite, frame_LayerReferenceIdeal, frame_LayerReferenceIdeal_finite,
  frame_InProj, frame_InProjIdeal, frame_InProjReferenceIdeal, frame_OutProj, frame_OutProjIdeal, frame_OutProjReferenceIdeal,
  trivial, algebraic_Layer, trivial, algebraic_InProj, trivial, algebraic_OutProj⟩

end Cert.Proof

end
